-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainRefIdeal (m : (ℓ : Loc Cert.PlainRefIdeal.nD Cert.PlainRefIdeal.τ Cert.PlainRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_PlainF (m : (ℓ : Loc Cert.PlainF.nD Cert.PlainF.τ Cert.PlainF.sig) → Buf (Elt Bits) ℓ) : Prop :=
  True

def Pre_PlainFIdeal (m : (ℓ : Loc Cert.PlainFIdeal.nD Cert.PlainFIdeal.τ Cert.PlainFIdeal.sig) → Buf (Elt Ideal) ℓ) : Prop :=
  True

def Pre_PlainFRefIdeal (m : (ℓ : Loc Cert.PlainFRefIdeal.nD Cert.PlainFRefIdeal.τ Cert.PlainFRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFRefIdeal (m : (ℓ : Loc Cert.AttnFRefIdeal.nD Cert.AttnFRefIdeal.τ Cert.AttnFRefIdeal.sig) → Buf (Elt Ideal) ℓ) : Prop :=
  True

def Pre_HgrnF (m : (ℓ : Loc Cert.HgrnF.nD Cert.HgrnF.τ Cert.HgrnF.sig) → Buf (Elt Bits) ℓ) : Prop :=
  True

def Pre_HgrnFIdeal (m : (ℓ : Loc Cert.HgrnFIdeal.nD Cert.HgrnFIdeal.τ Cert.HgrnFIdeal.sig) → Buf (Elt Ideal) ℓ) : Prop :=
  True

def Pre_HgrnFRefIdeal (m : (ℓ : Loc Cert.HgrnFRefIdeal.nD Cert.HgrnFRefIdeal.τ Cert.HgrnFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_GdnF (m : (ℓ : Loc Cert.GdnF.nD Cert.GdnF.τ Cert.GdnF.sig) → Buf (Elt Bits) ℓ) : Prop :=
  True

def Pre_GdnFIdeal (m : (ℓ : Loc Cert.GdnFIdeal.nD Cert.GdnFIdeal.τ Cert.GdnFIdeal.sig) → Buf (Elt Ideal) ℓ) : Prop :=
  True

def Pre_GdnFRefIdeal (m : (ℓ : Loc Cert.GdnFRefIdeal.nD Cert.GdnFRefIdeal.τ Cert.GdnFRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamMeta (m : (ℓ : Loc Cert.AdamMeta.nD Cert.AdamMeta.τ Cert.AdamMeta.sig) → Buf (Elt Bits) ℓ) : Prop :=
  True

def Pre_AdamMetaIdeal (m : (ℓ : Loc Cert.AdamMetaIdeal.nD Cert.AdamMetaIdeal.τ Cert.AdamMetaIdeal.sig) → Buf (Elt Ideal) ℓ) : Prop :=
  True

def Pre_AdamMetaRefIdeal (m : (ℓ : Loc Cert.AdamMetaRefIdeal.nD Cert.AdamMetaRefIdeal.τ Cert.AdamMetaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7)
      ∧ r.2.mem ((c.tc : Thread Cert.Gate.nD Cert.Gate.τ).loc Cert.Gate.main_arg8) = m ((c.tc : Thread Cert.Gate.nD Cert.Gate.τ).loc Cert.Gate.main_arg8))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
      ∧ r.2.mem ((c.tc : Thread Cert.GateIdeal.nD Cert.GateIdeal.τ).loc Cert.GateIdeal.main_arg8) = m ((c.tc : Thread Cert.GateIdeal.nD Cert.GateIdeal.τ).loc Cert.GateIdeal.main_arg8))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7)
      ∧ r.2.mem ((c.tc : Thread Cert.GateRefIdeal.nD Cert.GateRefIdeal.τ).loc Cert.GateRefIdeal.main_arg8) = m ((c.tc : Thread Cert.GateRefIdeal.nD Cert.GateRefIdeal.τ).loc Cert.GateRefIdeal.main_arg8))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4)
      ∧ r.2.mem ((c.tc : Thread Cert.Plain.nD Cert.Plain.τ).loc Cert.Plain.main_arg5) = m ((c.tc : Thread Cert.Plain.nD Cert.Plain.τ).loc Cert.Plain.main_arg5)
      ∧ r.2.mem ((c.tc : Thread Cert.Plain.nD Cert.Plain.τ).loc Cert.Plain.main_arg6) = m ((c.tc : Thread Cert.Plain.nD Cert.Plain.τ).loc Cert.Plain.main_arg6)
      ∧ r.2.mem ((c.tc : Thread Cert.Plain.nD Cert.Plain.τ).loc Cert.Plain.main_arg7) = m ((c.tc : Thread Cert.Plain.nD Cert.Plain.τ).loc Cert.Plain.main_arg7)
      ∧ r.2.mem ((c.tc : Thread Cert.Plain.nD Cert.Plain.τ).loc Cert.Plain.main_arg8) = m ((c.tc : Thread Cert.Plain.nD Cert.Plain.τ).loc Cert.Plain.main_arg8))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
      ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
      ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8))
      ∧ r.2.sem = fun _ => 0)

def quiescent_PlainRefIdeal [hPlainRefIdeal : Cert.PlainRefIdeal.Facts] : Prop :=
  ∀ (m : (ℓ : Loc Cert.PlainRefIdeal.nD Cert.PlainRefIdeal.τ Cert.PlainRefIdeal.sig) → Buf (Elt Ideal) ℓ) (g : Dev Cert.PlainRefIdeal.nD → PrngReg), Pre_PlainRefIdeal m →
    θ_run (Cert.PlainRefIdeal.defs (F := Ideal)) (onTc (τ := Cert.PlainRefIdeal.τ) (Cert.PlainRefIdeal.main (F := Ideal))) ⟨m, fun _ => 0, g⟩ (fun r => (∀ c : Dev Cert.PlainRefIdeal.nD,
      r.2.mem ((c.tc : Thread Cert.PlainRefIdeal.nD Cert.PlainRefIdeal.τ).loc Cert.PlainRefIdeal.main_arg0) = m ((c.tc : Thread Cert.PlainRefIdeal.nD Cert.PlainRefIdeal.τ).loc Cert.PlainRefIdeal.main_arg0)
      ∧ r.2.mem ((c.tc : Thread Cert.PlainRefIdeal.nD Cert.PlainRefIdeal.τ).loc Cert.PlainRefIdeal.main_arg1) = m ((c.tc : Thread Cert.PlainRefIdeal.nD Cert.PlainRefIdeal.τ).loc Cert.PlainRefIdeal.main_arg1)
      ∧ r.2.mem ((c.tc : Thread Cert.PlainRefIdeal.nD Cert.PlainRefIdeal.τ).loc Cert.PlainRefIdeal.main_arg2) = m ((c.tc : Thread Cert.PlainRefIdeal.nD Cert.PlainRefIdeal.τ).loc Cert.PlainRefIdeal.main_arg2)
      ∧ r.2.mem ((c.tc : Thread Cert.PlainRefIdeal.nD Cert.PlainRefIdeal.τ).loc Cert.PlainRefIdeal.main_arg3) = m ((c.tc : Thread Cert.PlainRefIdeal.nD Cert.PlainRefIdeal.τ).loc Cert.PlainRefIdeal.main_arg3)
      ∧ r.2.mem ((c.tc : Thread Cert.PlainRefIdeal.nD Cert.PlainRefIdeal.τ).loc Cert.PlainRefIdeal.main_arg4) = m ((c.tc : Thread Cert.PlainRefIdeal.nD Cert.PlainRefIdeal.τ).loc Cert.PlainRefIdeal.main_arg4)
      ∧ r.2.mem ((c.tc : Thread Cert.PlainRefIdeal.nD Cert.PlainRefIdeal.τ).loc Cert.PlainRefIdeal.main_arg5) = m ((c.tc : Thread Cert.PlainRefIdeal.nD Cert.PlainRefIdeal.τ).loc Cert.PlainRefIdeal.main_arg5)
      ∧ r.2.mem ((c.tc : Thread Cert.PlainRefIdeal.nD Cert.PlainRefIdeal.τ).loc Cert.PlainRefIdeal.main_arg6) = m ((c.tc : Thread Cert.PlainRefIdeal.nD Cert.PlainRefIdeal.τ).loc Cert.PlainRefIdeal.main_arg6)
      ∧ r.2.mem ((c.tc : Thread Cert.PlainRefIdeal.nD Cert.PlainRefIdeal.τ).loc Cert.PlainRefIdeal.main_arg7) = m ((c.tc : Thread Cert.PlainRefIdeal.nD Cert.PlainRefIdeal.τ).loc Cert.PlainRefIdeal.main_arg7)
      ∧ r.2.mem ((c.tc : Thread Cert.PlainRefIdeal.nD Cert.PlainRefIdeal.τ).loc Cert.PlainRefIdeal.main_arg8) = m ((c.tc : Thread Cert.PlainRefIdeal.nD Cert.PlainRefIdeal.τ).loc Cert.PlainRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6)
      ∧ r.2.mem ((c.tc : Thread Cert.Hgrn.nD Cert.Hgrn.τ).loc Cert.Hgrn.main_arg7) = m ((c.tc : Thread Cert.Hgrn.nD Cert.Hgrn.τ).loc Cert.Hgrn.main_arg7)
      ∧ r.2.mem ((c.tc : Thread Cert.Hgrn.nD Cert.Hgrn.τ).loc Cert.Hgrn.main_arg8) = m ((c.tc : Thread Cert.Hgrn.nD Cert.Hgrn.τ).loc Cert.Hgrn.main_arg8))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
      ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7)
      ∧ r.2.mem ((c.tc : Thread Cert.HgrnIdeal.nD Cert.HgrnIdeal.τ).loc Cert.HgrnIdeal.main_arg8) = m ((c.tc : Thread Cert.HgrnIdeal.nD Cert.HgrnIdeal.τ).loc Cert.HgrnIdeal.main_arg8))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5)
      ∧ r.2.mem ((c.tc : Thread Cert.HgrnRefIdeal.nD Cert.HgrnRefIdeal.τ).loc Cert.HgrnRefIdeal.main_arg6) = m ((c.tc : Thread Cert.HgrnRefIdeal.nD Cert.HgrnRefIdeal.τ).loc Cert.HgrnRefIdeal.main_arg6)
      ∧ r.2.mem ((c.tc : Thread Cert.HgrnRefIdeal.nD Cert.HgrnRefIdeal.τ).loc Cert.HgrnRefIdeal.main_arg7) = m ((c.tc : Thread Cert.HgrnRefIdeal.nD Cert.HgrnRefIdeal.τ).loc Cert.HgrnRefIdeal.main_arg7)
      ∧ r.2.mem ((c.tc : Thread Cert.HgrnRefIdeal.nD Cert.HgrnRefIdeal.τ).loc Cert.HgrnRefIdeal.main_arg8) = m ((c.tc : Thread Cert.HgrnRefIdeal.nD Cert.HgrnRefIdeal.τ).loc Cert.HgrnRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1)
      ∧ r.2.mem ((c.tc : Thread Cert.GateF.nD Cert.GateF.τ).loc Cert.GateF.main_arg2) = m ((c.tc : Thread Cert.GateF.nD Cert.GateF.τ).loc Cert.GateF.main_arg2)
      ∧ r.2.mem ((c.tc : Thread Cert.GateF.nD Cert.GateF.τ).loc Cert.GateF.main_arg3) = m ((c.tc : Thread Cert.GateF.nD Cert.GateF.τ).loc Cert.GateF.main_arg3)
      ∧ r.2.mem ((c.tc : Thread Cert.GateF.nD Cert.GateF.τ).loc Cert.GateF.main_arg4) = m ((c.tc : Thread Cert.GateF.nD Cert.GateF.τ).loc Cert.GateF.main_arg4)
      ∧ r.2.mem ((c.tc : Thread Cert.GateF.nD Cert.GateF.τ).loc Cert.GateF.main_arg5) = m ((c.tc : Thread Cert.GateF.nD Cert.GateF.τ).loc Cert.GateF.main_arg5)
      ∧ r.2.mem ((c.tc : Thread Cert.GateF.nD Cert.GateF.τ).loc Cert.GateF.main_arg6) = m ((c.tc : Thread Cert.GateF.nD Cert.GateF.τ).loc Cert.GateF.main_arg6)
      ∧ r.2.mem ((c.tc : Thread Cert.GateF.nD Cert.GateF.τ).loc Cert.GateF.main_arg7) = m ((c.tc : Thread Cert.GateF.nD Cert.GateF.τ).loc Cert.GateF.main_arg7))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
      ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2)
      ∧ r.2.mem ((c.tc : Thread Cert.GateFIdeal.nD Cert.GateFIdeal.τ).loc Cert.GateFIdeal.main_arg3) = m ((c.tc : Thread Cert.GateFIdeal.nD Cert.GateFIdeal.τ).loc Cert.GateFIdeal.main_arg3)
      ∧ r.2.mem ((c.tc : Thread Cert.GateFIdeal.nD Cert.GateFIdeal.τ).loc Cert.GateFIdeal.main_arg4) = m ((c.tc : Thread Cert.GateFIdeal.nD Cert.GateFIdeal.τ).loc Cert.GateFIdeal.main_arg4)
      ∧ r.2.mem ((c.tc : Thread Cert.GateFIdeal.nD Cert.GateFIdeal.τ).loc Cert.GateFIdeal.main_arg5) = m ((c.tc : Thread Cert.GateFIdeal.nD Cert.GateFIdeal.τ).loc Cert.GateFIdeal.main_arg5)
      ∧ r.2.mem ((c.tc : Thread Cert.GateFIdeal.nD Cert.GateFIdeal.τ).loc Cert.GateFIdeal.main_arg6) = m ((c.tc : Thread Cert.GateFIdeal.nD Cert.GateFIdeal.τ).loc Cert.GateFIdeal.main_arg6)
      ∧ r.2.mem ((c.tc : Thread Cert.GateFIdeal.nD Cert.GateFIdeal.τ).loc Cert.GateFIdeal.main_arg7) = m ((c.tc : Thread Cert.GateFIdeal.nD Cert.GateFIdeal.τ).loc Cert.GateFIdeal.main_arg7))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1)
      ∧ r.2.mem ((c.tc : Thread Cert.GateFRefIdeal.nD Cert.GateFRefIdeal.τ).loc Cert.GateFRefIdeal.main_arg2) = m ((c.tc : Thread Cert.GateFRefIdeal.nD Cert.GateFRefIdeal.τ).loc Cert.GateFRefIdeal.main_arg2)
      ∧ r.2.mem ((c.tc : Thread Cert.GateFRefIdeal.nD Cert.GateFRefIdeal.τ).loc Cert.GateFRefIdeal.main_arg3) = m ((c.tc : Thread Cert.GateFRefIdeal.nD Cert.GateFRefIdeal.τ).loc Cert.GateFRefIdeal.main_arg3)
      ∧ r.2.mem ((c.tc : Thread Cert.GateFRefIdeal.nD Cert.GateFRefIdeal.τ).loc Cert.GateFRefIdeal.main_arg4) = m ((c.tc : Thread Cert.GateFRefIdeal.nD Cert.GateFRefIdeal.τ).loc Cert.GateFRefIdeal.main_arg4)
      ∧ r.2.mem ((c.tc : Thread Cert.GateFRefIdeal.nD Cert.GateFRefIdeal.τ).loc Cert.GateFRefIdeal.main_arg5) = m ((c.tc : Thread Cert.GateFRefIdeal.nD Cert.GateFRefIdeal.τ).loc Cert.GateFRefIdeal.main_arg5)
      ∧ r.2.mem ((c.tc : Thread Cert.GateFRefIdeal.nD Cert.GateFRefIdeal.τ).loc Cert.GateFRefIdeal.main_arg6) = m ((c.tc : Thread Cert.GateFRefIdeal.nD Cert.GateFRefIdeal.τ).loc Cert.GateFRefIdeal.main_arg6)
      ∧ r.2.mem ((c.tc : Thread Cert.GateFRefIdeal.nD Cert.GateFRefIdeal.τ).loc Cert.GateFRefIdeal.main_arg7) = m ((c.tc : Thread Cert.GateFRefIdeal.nD Cert.GateFRefIdeal.τ).loc Cert.GateFRefIdeal.main_arg7))
      ∧ r.2.sem = fun _ => 0)

def quiescent_PlainF [hPlainF : Cert.PlainF.Facts] : Prop :=
  ∀ (m : (ℓ : Loc Cert.PlainF.nD Cert.PlainF.τ Cert.PlainF.sig) → Buf (Elt Bits) ℓ) (g : Dev Cert.PlainF.nD → PrngReg), Pre_PlainF m →
    θ_run (Cert.PlainF.defs (F := Bits)) (onTc (τ := Cert.PlainF.τ) (Cert.PlainF.main (F := Bits))) ⟨m, fun _ => 0, g⟩ (fun r => (∀ c : Dev Cert.PlainF.nD,
      r.2.mem ((c.tc : Thread Cert.PlainF.nD Cert.PlainF.τ).loc Cert.PlainF.main_arg0) = m ((c.tc : Thread Cert.PlainF.nD Cert.PlainF.τ).loc Cert.PlainF.main_arg0)
      ∧ r.2.mem ((c.tc : Thread Cert.PlainF.nD Cert.PlainF.τ).loc Cert.PlainF.main_arg1) = m ((c.tc : Thread Cert.PlainF.nD Cert.PlainF.τ).loc Cert.PlainF.main_arg1)
      ∧ r.2.mem ((c.tc : Thread Cert.PlainF.nD Cert.PlainF.τ).loc Cert.PlainF.main_arg2) = m ((c.tc : Thread Cert.PlainF.nD Cert.PlainF.τ).loc Cert.PlainF.main_arg2)
      ∧ r.2.mem ((c.tc : Thread Cert.PlainF.nD Cert.PlainF.τ).loc Cert.PlainF.main_arg3) = m ((c.tc : Thread Cert.PlainF.nD Cert.PlainF.τ).loc Cert.PlainF.main_arg3)
      ∧ r.2.mem ((c.tc : Thread Cert.PlainF.nD Cert.PlainF.τ).loc Cert.PlainF.main_arg4) = m ((c.tc : Thread Cert.PlainF.nD Cert.PlainF.τ).loc Cert.PlainF.main_arg4)
      ∧ r.2.mem ((c.tc : Thread Cert.PlainF.nD Cert.PlainF.τ).loc Cert.PlainF.main_arg5) = m ((c.tc : Thread Cert.PlainF.nD Cert.PlainF.τ).loc Cert.PlainF.main_arg5)
      ∧ r.2.mem ((c.tc : Thread Cert.PlainF.nD Cert.PlainF.τ).loc Cert.PlainF.main_arg6) = m ((c.tc : Thread Cert.PlainF.nD Cert.PlainF.τ).loc Cert.PlainF.main_arg6))
      ∧ r.2.sem = fun _ => 0)

def quiescent_PlainFIdeal [hPlainFIdeal : Cert.PlainFIdeal.Facts] : Prop :=
  ∀ (m : (ℓ : Loc Cert.PlainFIdeal.nD Cert.PlainFIdeal.τ Cert.PlainFIdeal.sig) → Buf (Elt Ideal) ℓ) (g : Dev Cert.PlainFIdeal.nD → PrngReg), Pre_PlainFIdeal m →
    θ_run (Cert.PlainFIdeal.defs (F := Ideal)) (onTc (τ := Cert.PlainFIdeal.τ) (Cert.PlainFIdeal.main (F := Ideal))) ⟨m, fun _ => 0, g⟩ (fun r => (∀ c : Dev Cert.PlainFIdeal.nD,
      r.2.mem ((c.tc : Thread Cert.PlainFIdeal.nD Cert.PlainFIdeal.τ).loc Cert.PlainFIdeal.main_arg0) = m ((c.tc : Thread Cert.PlainFIdeal.nD Cert.PlainFIdeal.τ).loc Cert.PlainFIdeal.main_arg0)
      ∧ r.2.mem ((c.tc : Thread Cert.PlainFIdeal.nD Cert.PlainFIdeal.τ).loc Cert.PlainFIdeal.main_arg1) = m ((c.tc : Thread Cert.PlainFIdeal.nD Cert.PlainFIdeal.τ).loc Cert.PlainFIdeal.main_arg1)
      ∧ r.2.mem ((c.tc : Thread Cert.PlainFIdeal.nD Cert.PlainFIdeal.τ).loc Cert.PlainFIdeal.main_arg2) = m ((c.tc : Thread Cert.PlainFIdeal.nD Cert.PlainFIdeal.τ).loc Cert.PlainFIdeal.main_arg2)
      ∧ r.2.mem ((c.tc : Thread Cert.PlainFIdeal.nD Cert.PlainFIdeal.τ).loc Cert.PlainFIdeal.main_arg3) = m ((c.tc : Thread Cert.PlainFIdeal.nD Cert.PlainFIdeal.τ).loc Cert.PlainFIdeal.main_arg3)
      ∧ r.2.mem ((c.tc : Thread Cert.PlainFIdeal.nD Cert.PlainFIdeal.τ).loc Cert.PlainFIdeal.main_arg4) = m ((c.tc : Thread Cert.PlainFIdeal.nD Cert.PlainFIdeal.τ).loc Cert.PlainFIdeal.main_arg4)
      ∧ r.2.mem ((c.tc : Thread Cert.PlainFIdeal.nD Cert.PlainFIdeal.τ).loc Cert.PlainFIdeal.main_arg5) = m ((c.tc : Thread Cert.PlainFIdeal.nD Cert.PlainFIdeal.τ).loc Cert.PlainFIdeal.main_arg5)
      ∧ r.2.mem ((c.tc : Thread Cert.PlainFIdeal.nD Cert.PlainFIdeal.τ).loc Cert.PlainFIdeal.main_arg6) = m ((c.tc : Thread Cert.PlainFIdeal.nD Cert.PlainFIdeal.τ).loc Cert.PlainFIdeal.main_arg6))
      ∧ r.2.sem = fun _ => 0)

def quiescent_PlainFRefIdeal [hPlainFRefIdeal : Cert.PlainFRefIdeal.Facts] : Prop :=
  ∀ (m : (ℓ : Loc Cert.PlainFRefIdeal.nD Cert.PlainFRefIdeal.τ Cert.PlainFRefIdeal.sig) → Buf (Elt Ideal) ℓ) (g : Dev Cert.PlainFRefIdeal.nD → PrngReg), Pre_PlainFRefIdeal m →
    θ_run (Cert.PlainFRefIdeal.defs (F := Ideal)) (onTc (τ := Cert.PlainFRefIdeal.τ) (Cert.PlainFRefIdeal.main (F := Ideal))) ⟨m, fun _ => 0, g⟩ (fun r => (∀ c : Dev Cert.PlainFRefIdeal.nD,
      r.2.mem ((c.tc : Thread Cert.PlainFRefIdeal.nD Cert.PlainFRefIdeal.τ).loc Cert.PlainFRefIdeal.main_arg0) = m ((c.tc : Thread Cert.PlainFRefIdeal.nD Cert.PlainFRefIdeal.τ).loc Cert.PlainFRefIdeal.main_arg0)
      ∧ r.2.mem ((c.tc : Thread Cert.PlainFRefIdeal.nD Cert.PlainFRefIdeal.τ).loc Cert.PlainFRefIdeal.main_arg1) = m ((c.tc : Thread Cert.PlainFRefIdeal.nD Cert.PlainFRefIdeal.τ).loc Cert.PlainFRefIdeal.main_arg1)
      ∧ r.2.mem ((c.tc : Thread Cert.PlainFRefIdeal.nD Cert.PlainFRefIdeal.τ).loc Cert.PlainFRefIdeal.main_arg2) = m ((c.tc : Thread Cert.PlainFRefIdeal.nD Cert.PlainFRefIdeal.τ).loc Cert.PlainFRefIdeal.main_arg2)
      ∧ r.2.mem ((c.tc : Thread Cert.PlainFRefIdeal.nD Cert.PlainFRefIdeal.τ).loc Cert.PlainFRefIdeal.main_arg3) = m ((c.tc : Thread Cert.PlainFRefIdeal.nD Cert.PlainFRefIdeal.τ).loc Cert.PlainFRefIdeal.main_arg3)
      ∧ r.2.mem ((c.tc : Thread Cert.PlainFRefIdeal.nD Cert.PlainFRefIdeal.τ).loc Cert.PlainFRefIdeal.main_arg4) = m ((c.tc : Thread Cert.PlainFRefIdeal.nD Cert.PlainFRefIdeal.τ).loc Cert.PlainFRefIdeal.main_arg4)
      ∧ r.2.mem ((c.tc : Thread Cert.PlainFRefIdeal.nD Cert.PlainFRefIdeal.τ).loc Cert.PlainFRefIdeal.main_arg5) = m ((c.tc : Thread Cert.PlainFRefIdeal.nD Cert.PlainFRefIdeal.τ).loc Cert.PlainFRefIdeal.main_arg5)
      ∧ r.2.mem ((c.tc : Thread Cert.PlainFRefIdeal.nD Cert.PlainFRefIdeal.τ).loc Cert.PlainFRefIdeal.main_arg6) = m ((c.tc : Thread Cert.PlainFRefIdeal.nD Cert.PlainFRefIdeal.τ).loc Cert.PlainFRefIdeal.main_arg6))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1)
      ∧ r.2.mem ((c.tc : Thread Cert.AttnF.nD Cert.AttnF.τ).loc Cert.AttnF.main_arg2) = m ((c.tc : Thread Cert.AttnF.nD Cert.AttnF.τ).loc Cert.AttnF.main_arg2)
      ∧ r.2.mem ((c.tc : Thread Cert.AttnF.nD Cert.AttnF.τ).loc Cert.AttnF.main_arg3) = m ((c.tc : Thread Cert.AttnF.nD Cert.AttnF.τ).loc Cert.AttnF.main_arg3)
      ∧ r.2.mem ((c.tc : Thread Cert.AttnF.nD Cert.AttnF.τ).loc Cert.AttnF.main_arg4) = m ((c.tc : Thread Cert.AttnF.nD Cert.AttnF.τ).loc Cert.AttnF.main_arg4))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
      ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
      ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
      ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1)
      ∧ r.2.mem ((c.tc : Thread Cert.AttnFRefIdeal.nD Cert.AttnFRefIdeal.τ).loc Cert.AttnFRefIdeal.main_arg2) = m ((c.tc : Thread Cert.AttnFRefIdeal.nD Cert.AttnFRefIdeal.τ).loc Cert.AttnFRefIdeal.main_arg2)
      ∧ r.2.mem ((c.tc : Thread Cert.AttnFRefIdeal.nD Cert.AttnFRefIdeal.τ).loc Cert.AttnFRefIdeal.main_arg3) = m ((c.tc : Thread Cert.AttnFRefIdeal.nD Cert.AttnFRefIdeal.τ).loc Cert.AttnFRefIdeal.main_arg3)
      ∧ r.2.mem ((c.tc : Thread Cert.AttnFRefIdeal.nD Cert.AttnFRefIdeal.τ).loc Cert.AttnFRefIdeal.main_arg4) = m ((c.tc : Thread Cert.AttnFRefIdeal.nD Cert.AttnFRefIdeal.τ).loc Cert.AttnFRefIdeal.main_arg4))
      ∧ r.2.sem = fun _ => 0)

def quiescent_HgrnF [hHgrnF : Cert.HgrnF.Facts] : Prop :=
  ∀ (m : (ℓ : Loc Cert.HgrnF.nD Cert.HgrnF.τ Cert.HgrnF.sig) → Buf (Elt Bits) ℓ) (g : Dev Cert.HgrnF.nD → PrngReg), Pre_HgrnF m →
    θ_run (Cert.HgrnF.defs (F := Bits)) (onTc (τ := Cert.HgrnF.τ) (Cert.HgrnF.main (F := Bits))) ⟨m, fun _ => 0, g⟩ (fun r => (∀ c : Dev Cert.HgrnF.nD,
      r.2.mem ((c.tc : Thread Cert.HgrnF.nD Cert.HgrnF.τ).loc Cert.HgrnF.main_arg0) = m ((c.tc : Thread Cert.HgrnF.nD Cert.HgrnF.τ).loc Cert.HgrnF.main_arg0)
      ∧ r.2.mem ((c.tc : Thread Cert.HgrnF.nD Cert.HgrnF.τ).loc Cert.HgrnF.main_arg1) = m ((c.tc : Thread Cert.HgrnF.nD Cert.HgrnF.τ).loc Cert.HgrnF.main_arg1)
      ∧ r.2.mem ((c.tc : Thread Cert.HgrnF.nD Cert.HgrnF.τ).loc Cert.HgrnF.main_arg2) = m ((c.tc : Thread Cert.HgrnF.nD Cert.HgrnF.τ).loc Cert.HgrnF.main_arg2)
      ∧ r.2.mem ((c.tc : Thread Cert.HgrnF.nD Cert.HgrnF.τ).loc Cert.HgrnF.main_arg3) = m ((c.tc : Thread Cert.HgrnF.nD Cert.HgrnF.τ).loc Cert.HgrnF.main_arg3))
      ∧ r.2.sem = fun _ => 0)

def quiescent_HgrnFIdeal [hHgrnFIdeal : Cert.HgrnFIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2)
      ∧ r.2.mem ((c.tc : Thread Cert.HgrnFIdeal.nD Cert.HgrnFIdeal.τ).loc Cert.HgrnFIdeal.main_arg3) = m ((c.tc : Thread Cert.HgrnFIdeal.nD Cert.HgrnFIdeal.τ).loc Cert.HgrnFIdeal.main_arg3))
      ∧ r.2.sem = fun _ => 0)

def quiescent_HgrnFRefIdeal [hHgrnFRefIdeal : Cert.HgrnFRefIdeal.Facts] : Prop :=
  ∀ (m : (ℓ : Loc Cert.HgrnFRefIdeal.nD Cert.HgrnFRefIdeal.τ Cert.HgrnFRefIdeal.sig) → Buf (Elt Ideal) ℓ) (g : Dev Cert.HgrnFRefIdeal.nD → PrngReg), Pre_HgrnFRefIdeal m →
    θ_run (Cert.HgrnFRefIdeal.defs (F := Ideal)) (onTc (τ := Cert.HgrnFRefIdeal.τ) (Cert.HgrnFRefIdeal.main (F := Ideal))) ⟨m, fun _ => 0, g⟩ (fun r => (∀ c : Dev Cert.HgrnFRefIdeal.nD,
      r.2.mem ((c.tc : Thread Cert.HgrnFRefIdeal.nD Cert.HgrnFRefIdeal.τ).loc Cert.HgrnFRefIdeal.main_arg0) = m ((c.tc : Thread Cert.HgrnFRefIdeal.nD Cert.HgrnFRefIdeal.τ).loc Cert.HgrnFRefIdeal.main_arg0)
      ∧ r.2.mem ((c.tc : Thread Cert.HgrnFRefIdeal.nD Cert.HgrnFRefIdeal.τ).loc Cert.HgrnFRefIdeal.main_arg1) = m ((c.tc : Thread Cert.HgrnFRefIdeal.nD Cert.HgrnFRefIdeal.τ).loc Cert.HgrnFRefIdeal.main_arg1)
      ∧ r.2.mem ((c.tc : Thread Cert.HgrnFRefIdeal.nD Cert.HgrnFRefIdeal.τ).loc Cert.HgrnFRefIdeal.main_arg2) = m ((c.tc : Thread Cert.HgrnFRefIdeal.nD Cert.HgrnFRefIdeal.τ).loc Cert.HgrnFRefIdeal.main_arg2)
      ∧ r.2.mem ((c.tc : Thread Cert.HgrnFRefIdeal.nD Cert.HgrnFRefIdeal.τ).loc Cert.HgrnFRefIdeal.main_arg3) = m ((c.tc : Thread Cert.HgrnFRefIdeal.nD Cert.HgrnFRefIdeal.τ).loc Cert.HgrnFRefIdeal.main_arg3))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2))
      ∧ r.2.sem = fun _ => 0)

def quiescent_GdnF [hGdnF : Cert.GdnF.Facts] : Prop :=
  ∀ (m : (ℓ : Loc Cert.GdnF.nD Cert.GdnF.τ Cert.GdnF.sig) → Buf (Elt Bits) ℓ) (g : Dev Cert.GdnF.nD → PrngReg), Pre_GdnF m →
    θ_run (Cert.GdnF.defs (F := Bits)) (onTc (τ := Cert.GdnF.τ) (Cert.GdnF.main (F := Bits))) ⟨m, fun _ => 0, g⟩ (fun r => (∀ c : Dev Cert.GdnF.nD,
      r.2.mem ((c.tc : Thread Cert.GdnF.nD Cert.GdnF.τ).loc Cert.GdnF.main_arg0) = m ((c.tc : Thread Cert.GdnF.nD Cert.GdnF.τ).loc Cert.GdnF.main_arg0)
      ∧ r.2.mem ((c.tc : Thread Cert.GdnF.nD Cert.GdnF.τ).loc Cert.GdnF.main_arg1) = m ((c.tc : Thread Cert.GdnF.nD Cert.GdnF.τ).loc Cert.GdnF.main_arg1)
      ∧ r.2.mem ((c.tc : Thread Cert.GdnF.nD Cert.GdnF.τ).loc Cert.GdnF.main_arg2) = m ((c.tc : Thread Cert.GdnF.nD Cert.GdnF.τ).loc Cert.GdnF.main_arg2)
      ∧ r.2.mem ((c.tc : Thread Cert.GdnF.nD Cert.GdnF.τ).loc Cert.GdnF.main_arg3) = m ((c.tc : Thread Cert.GdnF.nD Cert.GdnF.τ).loc Cert.GdnF.main_arg3)
      ∧ r.2.mem ((c.tc : Thread Cert.GdnF.nD Cert.GdnF.τ).loc Cert.GdnF.main_arg4) = m ((c.tc : Thread Cert.GdnF.nD Cert.GdnF.τ).loc Cert.GdnF.main_arg4)
      ∧ r.2.mem ((c.tc : Thread Cert.GdnF.nD Cert.GdnF.τ).loc Cert.GdnF.main_arg5) = m ((c.tc : Thread Cert.GdnF.nD Cert.GdnF.τ).loc Cert.GdnF.main_arg5))
      ∧ r.2.sem = fun _ => 0)

def quiescent_GdnFIdeal [hGdnFIdeal : Cert.GdnFIdeal.Facts] : Prop :=
  ∀ (m : (ℓ : Loc Cert.GdnFIdeal.nD Cert.GdnFIdeal.τ Cert.GdnFIdeal.sig) → Buf (Elt Ideal) ℓ) (g : Dev Cert.GdnFIdeal.nD → PrngReg), Pre_GdnFIdeal m →
    θ_run (Cert.GdnFIdeal.defs (F := Ideal)) (onTc (τ := Cert.GdnFIdeal.τ) (Cert.GdnFIdeal.main (F := Ideal))) ⟨m, fun _ => 0, g⟩ (fun r => (∀ c : Dev Cert.GdnFIdeal.nD,
      r.2.mem ((c.tc : Thread Cert.GdnFIdeal.nD Cert.GdnFIdeal.τ).loc Cert.GdnFIdeal.main_arg0) = m ((c.tc : Thread Cert.GdnFIdeal.nD Cert.GdnFIdeal.τ).loc Cert.GdnFIdeal.main_arg0)
      ∧ r.2.mem ((c.tc : Thread Cert.GdnFIdeal.nD Cert.GdnFIdeal.τ).loc Cert.GdnFIdeal.main_arg1) = m ((c.tc : Thread Cert.GdnFIdeal.nD Cert.GdnFIdeal.τ).loc Cert.GdnFIdeal.main_arg1)
      ∧ r.2.mem ((c.tc : Thread Cert.GdnFIdeal.nD Cert.GdnFIdeal.τ).loc Cert.GdnFIdeal.main_arg2) = m ((c.tc : Thread Cert.GdnFIdeal.nD Cert.GdnFIdeal.τ).loc Cert.GdnFIdeal.main_arg2)
      ∧ r.2.mem ((c.tc : Thread Cert.GdnFIdeal.nD Cert.GdnFIdeal.τ).loc Cert.GdnFIdeal.main_arg3) = m ((c.tc : Thread Cert.GdnFIdeal.nD Cert.GdnFIdeal.τ).loc Cert.GdnFIdeal.main_arg3)
      ∧ r.2.mem ((c.tc : Thread Cert.GdnFIdeal.nD Cert.GdnFIdeal.τ).loc Cert.GdnFIdeal.main_arg4) = m ((c.tc : Thread Cert.GdnFIdeal.nD Cert.GdnFIdeal.τ).loc Cert.GdnFIdeal.main_arg4)
      ∧ r.2.mem ((c.tc : Thread Cert.GdnFIdeal.nD Cert.GdnFIdeal.τ).loc Cert.GdnFIdeal.main_arg5) = m ((c.tc : Thread Cert.GdnFIdeal.nD Cert.GdnFIdeal.τ).loc Cert.GdnFIdeal.main_arg5))
      ∧ r.2.sem = fun _ => 0)

def quiescent_GdnFRefIdeal [hGdnFRefIdeal : Cert.GdnFRefIdeal.Facts] : Prop :=
  ∀ (m : (ℓ : Loc Cert.GdnFRefIdeal.nD Cert.GdnFRefIdeal.τ Cert.GdnFRefIdeal.sig) → Buf (Elt Ideal) ℓ) (g : Dev Cert.GdnFRefIdeal.nD → PrngReg), Pre_GdnFRefIdeal m →
    θ_run (Cert.GdnFRefIdeal.defs (F := Ideal)) (onTc (τ := Cert.GdnFRefIdeal.τ) (Cert.GdnFRefIdeal.main (F := Ideal))) ⟨m, fun _ => 0, g⟩ (fun r => (∀ c : Dev Cert.GdnFRefIdeal.nD,
      r.2.mem ((c.tc : Thread Cert.GdnFRefIdeal.nD Cert.GdnFRefIdeal.τ).loc Cert.GdnFRefIdeal.main_arg0) = m ((c.tc : Thread Cert.GdnFRefIdeal.nD Cert.GdnFRefIdeal.τ).loc Cert.GdnFRefIdeal.main_arg0)
      ∧ r.2.mem ((c.tc : Thread Cert.GdnFRefIdeal.nD Cert.GdnFRefIdeal.τ).loc Cert.GdnFRefIdeal.main_arg1) = m ((c.tc : Thread Cert.GdnFRefIdeal.nD Cert.GdnFRefIdeal.τ).loc Cert.GdnFRefIdeal.main_arg1)
      ∧ r.2.mem ((c.tc : Thread Cert.GdnFRefIdeal.nD Cert.GdnFRefIdeal.τ).loc Cert.GdnFRefIdeal.main_arg2) = m ((c.tc : Thread Cert.GdnFRefIdeal.nD Cert.GdnFRefIdeal.τ).loc Cert.GdnFRefIdeal.main_arg2)
      ∧ r.2.mem ((c.tc : Thread Cert.GdnFRefIdeal.nD Cert.GdnFRefIdeal.τ).loc Cert.GdnFRefIdeal.main_arg3) = m ((c.tc : Thread Cert.GdnFRefIdeal.nD Cert.GdnFRefIdeal.τ).loc Cert.GdnFRefIdeal.main_arg3)
      ∧ r.2.mem ((c.tc : Thread Cert.GdnFRefIdeal.nD Cert.GdnFRefIdeal.τ).loc Cert.GdnFRefIdeal.main_arg4) = m ((c.tc : Thread Cert.GdnFRefIdeal.nD Cert.GdnFRefIdeal.τ).loc Cert.GdnFRefIdeal.main_arg4)
      ∧ r.2.mem ((c.tc : Thread Cert.GdnFRefIdeal.nD Cert.GdnFRefIdeal.τ).loc Cert.GdnFRefIdeal.main_arg5) = m ((c.tc : Thread Cert.GdnFRefIdeal.nD Cert.GdnFRefIdeal.τ).loc Cert.GdnFRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamMeta [hAdamMeta : Cert.AdamMeta.Facts] : Prop :=
  ∀ (m : (ℓ : Loc Cert.AdamMeta.nD Cert.AdamMeta.τ Cert.AdamMeta.sig) → Buf (Elt Bits) ℓ) (g : Dev Cert.AdamMeta.nD → PrngReg), Pre_AdamMeta m →
    θ_run (Cert.AdamMeta.defs (F := Bits)) (onTc (τ := Cert.AdamMeta.τ) (Cert.AdamMeta.main (F := Bits))) ⟨m, fun _ => 0, g⟩ (fun r => (∀ c : Dev Cert.AdamMeta.nD,
      r.2.mem ((c.tc : Thread Cert.AdamMeta.nD Cert.AdamMeta.τ).loc Cert.AdamMeta.main_arg0) = m ((c.tc : Thread Cert.AdamMeta.nD Cert.AdamMeta.τ).loc Cert.AdamMeta.main_arg0)
      ∧ r.2.mem ((c.tc : Thread Cert.AdamMeta.nD Cert.AdamMeta.τ).loc Cert.AdamMeta.main_arg1) = m ((c.tc : Thread Cert.AdamMeta.nD Cert.AdamMeta.τ).loc Cert.AdamMeta.main_arg1)
      ∧ r.2.mem ((c.tc : Thread Cert.AdamMeta.nD Cert.AdamMeta.τ).loc Cert.AdamMeta.main_arg2) = m ((c.tc : Thread Cert.AdamMeta.nD Cert.AdamMeta.τ).loc Cert.AdamMeta.main_arg2)
      ∧ r.2.mem ((c.tc : Thread Cert.AdamMeta.nD Cert.AdamMeta.τ).loc Cert.AdamMeta.main_arg3) = m ((c.tc : Thread Cert.AdamMeta.nD Cert.AdamMeta.τ).loc Cert.AdamMeta.main_arg3)
      ∧ r.2.mem ((c.tc : Thread Cert.AdamMeta.nD Cert.AdamMeta.τ).loc Cert.AdamMeta.main_arg4) = m ((c.tc : Thread Cert.AdamMeta.nD Cert.AdamMeta.τ).loc Cert.AdamMeta.main_arg4))
      ∧ r.2.sem = fun _ => 0)

def quiescent_AdamMetaIdeal [hAdamMetaIdeal : Cert.AdamMetaIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg), Pre_AdamMetaIdeal m →
    θ_run (Cert.AdamMetaIdeal.defs (F := Ideal)) (onTc (τ := Cert.AdamMetaIdeal.τ) (Cert.AdamMetaIdeal.main (F := Ideal))) ⟨m, fun _ => 0, g⟩ (fun r => (∀ c : Dev Cert.AdamMetaIdeal.nD,
      r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
      ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
      ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
      ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3)
      ∧ r.2.mem ((c.tc : Thread Cert.AdamMetaIdeal.nD Cert.AdamMetaIdeal.τ).loc Cert.AdamMetaIdeal.main_arg4) = m ((c.tc : Thread Cert.AdamMetaIdeal.nD Cert.AdamMetaIdeal.τ).loc Cert.AdamMetaIdeal.main_arg4))
      ∧ r.2.sem = fun _ => 0)

def quiescent_AdamMetaRefIdeal [hAdamMetaRefIdeal : Cert.AdamMetaRefIdeal.Facts] : Prop :=
  ∀ (m : (ℓ : Loc Cert.AdamMetaRefIdeal.nD Cert.AdamMetaRefIdeal.τ Cert.AdamMetaRefIdeal.sig) → Buf (Elt Ideal) ℓ) (g : Dev Cert.AdamMetaRefIdeal.nD → PrngReg), Pre_AdamMetaRefIdeal m →
    θ_run (Cert.AdamMetaRefIdeal.defs (F := Ideal)) (onTc (τ := Cert.AdamMetaRefIdeal.τ) (Cert.AdamMetaRefIdeal.main (F := Ideal))) ⟨m, fun _ => 0, g⟩ (fun r => (∀ c : Dev Cert.AdamMetaRefIdeal.nD,
      r.2.mem ((c.tc : Thread Cert.AdamMetaRefIdeal.nD Cert.AdamMetaRefIdeal.τ).loc Cert.AdamMetaRefIdeal.main_arg0) = m ((c.tc : Thread Cert.AdamMetaRefIdeal.nD Cert.AdamMetaRefIdeal.τ).loc Cert.AdamMetaRefIdeal.main_arg0)
      ∧ r.2.mem ((c.tc : Thread Cert.AdamMetaRefIdeal.nD Cert.AdamMetaRefIdeal.τ).loc Cert.AdamMetaRefIdeal.main_arg1) = m ((c.tc : Thread Cert.AdamMetaRefIdeal.nD Cert.AdamMetaRefIdeal.τ).loc Cert.AdamMetaRefIdeal.main_arg1)
      ∧ r.2.mem ((c.tc : Thread Cert.AdamMetaRefIdeal.nD Cert.AdamMetaRefIdeal.τ).loc Cert.AdamMetaRefIdeal.main_arg2) = m ((c.tc : Thread Cert.AdamMetaRefIdeal.nD Cert.AdamMetaRefIdeal.τ).loc Cert.AdamMetaRefIdeal.main_arg2)
      ∧ r.2.mem ((c.tc : Thread Cert.AdamMetaRefIdeal.nD Cert.AdamMetaRefIdeal.τ).loc Cert.AdamMetaRefIdeal.main_arg3) = m ((c.tc : Thread Cert.AdamMetaRefIdeal.nD Cert.AdamMetaRefIdeal.τ).loc Cert.AdamMetaRefIdeal.main_arg3)
      ∧ r.2.mem ((c.tc : Thread Cert.AdamMetaRefIdeal.nD Cert.AdamMetaRefIdeal.τ).loc Cert.AdamMetaRefIdeal.main_arg4) = m ((c.tc : Thread Cert.AdamMetaRefIdeal.nD Cert.AdamMetaRefIdeal.τ).loc Cert.AdamMetaRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)
      ∧ m' ((c.tc : Thread Cert.GateRefIdeal.nD Cert.GateRefIdeal.τ).loc Cert.GateRefIdeal.main_arg7) = m ((c.tc : Thread Cert.GateIdeal.nD Cert.GateIdeal.τ).loc Cert.GateIdeal.main_arg7)
      ∧ m' ((c.tc : Thread Cert.GateRefIdeal.nD Cert.GateRefIdeal.τ).loc Cert.GateRefIdeal.main_arg8) = m ((c.tc : Thread Cert.GateIdeal.nD Cert.GateIdeal.τ).loc Cert.GateIdeal.main_arg8)) →
    ∃ (v0 : (c : Dev Cert.GateIdeal.nD) → Buf (Elt Ideal) ((c.tc : Thread Cert.GateIdeal.nD Cert.GateIdeal.τ).loc Cert.GateIdeal.main_v3_0)) (v1 : (c : Dev Cert.GateIdeal.nD) → Buf (Elt Ideal) ((c.tc : Thread Cert.GateIdeal.nD Cert.GateIdeal.τ).loc Cert.GateIdeal.main_v3_1)) (v2 : (c : Dev Cert.GateIdeal.nD) → Buf (Elt Ideal) ((c.tc : Thread Cert.GateIdeal.nD Cert.GateIdeal.τ).loc Cert.GateIdeal.main_v3_2)) (v3 : (c : Dev Cert.GateIdeal.nD) → Buf (Elt Ideal) ((c.tc : Thread Cert.GateIdeal.nD Cert.GateIdeal.τ).loc Cert.GateIdeal.main_v3_3)) (v4 : (c : Dev Cert.GateIdeal.nD) → Buf (Elt Ideal) ((c.tc : Thread Cert.GateIdeal.nD Cert.GateIdeal.τ).loc Cert.GateIdeal.main_v3_4)) (v5 : (c : Dev Cert.GateIdeal.nD) → Buf (Elt Ideal) ((c.tc : Thread Cert.GateIdeal.nD Cert.GateIdeal.τ).loc Cert.GateIdeal.main_v3_5)) (v6 : (c : Dev Cert.GateIdeal.nD) → Buf (Elt Ideal) ((c.tc : Thread Cert.GateIdeal.nD Cert.GateIdeal.τ).loc Cert.GateIdeal.main_v3_6)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3_0) = v0 c
          ∧ r.2.mem ((c.tc : Thread Cert.GateIdeal.nD Cert.GateIdeal.τ).loc Cert.GateIdeal.main_v3_1) = v1 c
          ∧ r.2.mem ((c.tc : Thread Cert.GateIdeal.nD Cert.GateIdeal.τ).loc Cert.GateIdeal.main_v3_2) = v2 c
          ∧ r.2.mem ((c.tc : Thread Cert.GateIdeal.nD Cert.GateIdeal.τ).loc Cert.GateIdeal.main_v3_3) = v3 c
          ∧ r.2.mem ((c.tc : Thread Cert.GateIdeal.nD Cert.GateIdeal.τ).loc Cert.GateIdeal.main_v3_4) = v4 c
          ∧ r.2.mem ((c.tc : Thread Cert.GateIdeal.nD Cert.GateIdeal.τ).loc Cert.GateIdeal.main_v3_5) = v5 c
          ∧ r.2.mem ((c.tc : Thread Cert.GateIdeal.nD Cert.GateIdeal.τ).loc Cert.GateIdeal.main_v3_6) = v6 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
          ∧ r.2.mem ((c.tc : Thread Cert.GateIdeal.nD Cert.GateIdeal.τ).loc Cert.GateIdeal.main_arg8) = m ((c.tc : Thread Cert.GateIdeal.nD Cert.GateIdeal.τ).loc Cert.GateIdeal.main_arg8))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v106) = v0 c
          ∧ r.2.mem ((c.tc : Thread Cert.GateRefIdeal.nD Cert.GateRefIdeal.τ).loc Cert.GateRefIdeal.main_v79) = v1 c
          ∧ r.2.mem ((c.tc : Thread Cert.GateRefIdeal.nD Cert.GateRefIdeal.τ).loc Cert.GateRefIdeal.main_v89) = v2 c
          ∧ r.2.mem ((c.tc : Thread Cert.GateRefIdeal.nD Cert.GateRefIdeal.τ).loc Cert.GateRefIdeal.main_v64) = v3 c
          ∧ r.2.mem ((c.tc : Thread Cert.GateRefIdeal.nD Cert.GateRefIdeal.τ).loc Cert.GateRefIdeal.main_v84) = v4 c
          ∧ r.2.mem ((c.tc : Thread Cert.GateRefIdeal.nD Cert.GateRefIdeal.τ).loc Cert.GateRefIdeal.main_v81) = v5 c
          ∧ r.2.mem ((c.tc : Thread Cert.GateRefIdeal.nD Cert.GateRefIdeal.τ).loc Cert.GateRefIdeal.main_v51) = v6 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7)
          ∧ r.2.mem ((c.tc : Thread Cert.GateRefIdeal.nD Cert.GateRefIdeal.τ).loc Cert.GateRefIdeal.main_arg8) = m' ((c.tc : Thread Cert.GateRefIdeal.nD Cert.GateRefIdeal.τ).loc Cert.GateRefIdeal.main_arg8))

def preserves_Plain_PlainIdeal : Prop :=
  True

def algebraic_PlainIdeal_PlainRefIdeal [hPlainIdeal : Cert.PlainIdeal.Facts] [hPlainRefIdeal : Cert.PlainRefIdeal.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.PlainRefIdeal.nD Cert.PlainRefIdeal.τ Cert.PlainRefIdeal.sig) → Buf (Elt Ideal) ℓ) (g' : Dev Cert.PlainRefIdeal.nD → PrngReg), Pre_PlainIdeal m →
    (∀ c : Dev Cert.PlainIdeal.nD,
      m' ((c.tc : Thread Cert.PlainRefIdeal.nD Cert.PlainRefIdeal.τ).loc Cert.PlainRefIdeal.main_arg0) = m ((c.tc : Thread Cert.PlainIdeal.nD Cert.PlainIdeal.τ).loc Cert.PlainIdeal.main_arg0)
      ∧ m' ((c.tc : Thread Cert.PlainRefIdeal.nD Cert.PlainRefIdeal.τ).loc Cert.PlainRefIdeal.main_arg1) = m ((c.tc : Thread Cert.PlainIdeal.nD Cert.PlainIdeal.τ).loc Cert.PlainIdeal.main_arg1)
      ∧ m' ((c.tc : Thread Cert.PlainRefIdeal.nD Cert.PlainRefIdeal.τ).loc Cert.PlainRefIdeal.main_arg2) = m ((c.tc : Thread Cert.PlainIdeal.nD Cert.PlainIdeal.τ).loc Cert.PlainIdeal.main_arg2)
      ∧ m' ((c.tc : Thread Cert.PlainRefIdeal.nD Cert.PlainRefIdeal.τ).loc Cert.PlainRefIdeal.main_arg3) = m ((c.tc : Thread Cert.PlainIdeal.nD Cert.PlainIdeal.τ).loc Cert.PlainIdeal.main_arg3)
      ∧ m' ((c.tc : Thread Cert.PlainRefIdeal.nD Cert.PlainRefIdeal.τ).loc Cert.PlainRefIdeal.main_arg4) = m ((c.tc : Thread Cert.PlainIdeal.nD Cert.PlainIdeal.τ).loc Cert.PlainIdeal.main_arg4)
      ∧ m' ((c.tc : Thread Cert.PlainRefIdeal.nD Cert.PlainRefIdeal.τ).loc Cert.PlainRefIdeal.main_arg5) = m ((c.tc : Thread Cert.PlainIdeal.nD Cert.PlainIdeal.τ).loc Cert.PlainIdeal.main_arg5)
      ∧ m' ((c.tc : Thread Cert.PlainRefIdeal.nD Cert.PlainRefIdeal.τ).loc Cert.PlainRefIdeal.main_arg6) = m ((c.tc : Thread Cert.PlainIdeal.nD Cert.PlainIdeal.τ).loc Cert.PlainIdeal.main_arg6)
      ∧ m' ((c.tc : Thread Cert.PlainRefIdeal.nD Cert.PlainRefIdeal.τ).loc Cert.PlainRefIdeal.main_arg7) = m ((c.tc : Thread Cert.PlainIdeal.nD Cert.PlainIdeal.τ).loc Cert.PlainIdeal.main_arg7)
      ∧ m' ((c.tc : Thread Cert.PlainRefIdeal.nD Cert.PlainRefIdeal.τ).loc Cert.PlainRefIdeal.main_arg8) = m ((c.tc : Thread Cert.PlainIdeal.nD Cert.PlainIdeal.τ).loc Cert.PlainIdeal.main_arg8)) →
    ∃ (v0 : (c : Dev Cert.PlainIdeal.nD) → Buf (Elt Ideal) ((c.tc : Thread Cert.PlainIdeal.nD Cert.PlainIdeal.τ).loc Cert.PlainIdeal.main_v3_0)) (v1 : (c : Dev Cert.PlainIdeal.nD) → Buf (Elt Ideal) ((c.tc : Thread Cert.PlainIdeal.nD Cert.PlainIdeal.τ).loc Cert.PlainIdeal.main_v3_1)) (v2 : (c : Dev Cert.PlainIdeal.nD) → Buf (Elt Ideal) ((c.tc : Thread Cert.PlainIdeal.nD Cert.PlainIdeal.τ).loc Cert.PlainIdeal.main_v3_2)) (v3 : (c : Dev Cert.PlainIdeal.nD) → Buf (Elt Ideal) ((c.tc : Thread Cert.PlainIdeal.nD Cert.PlainIdeal.τ).loc Cert.PlainIdeal.main_v3_3)) (v4 : (c : Dev Cert.PlainIdeal.nD) → Buf (Elt Ideal) ((c.tc : Thread Cert.PlainIdeal.nD Cert.PlainIdeal.τ).loc Cert.PlainIdeal.main_v3_4)) (v5 : (c : Dev Cert.PlainIdeal.nD) → Buf (Elt Ideal) ((c.tc : Thread Cert.PlainIdeal.nD Cert.PlainIdeal.τ).loc Cert.PlainIdeal.main_v3_5)) (v6 : (c : Dev Cert.PlainIdeal.nD) → Buf (Elt Ideal) ((c.tc : Thread Cert.PlainIdeal.nD Cert.PlainIdeal.τ).loc Cert.PlainIdeal.main_v3_6)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v3_0) = v0 c
          ∧ r.2.mem ((c.tc : Thread Cert.PlainIdeal.nD Cert.PlainIdeal.τ).loc Cert.PlainIdeal.main_v3_1) = v1 c
          ∧ r.2.mem ((c.tc : Thread Cert.PlainIdeal.nD Cert.PlainIdeal.τ).loc Cert.PlainIdeal.main_v3_2) = v2 c
          ∧ r.2.mem ((c.tc : Thread Cert.PlainIdeal.nD Cert.PlainIdeal.τ).loc Cert.PlainIdeal.main_v3_3) = v3 c
          ∧ r.2.mem ((c.tc : Thread Cert.PlainIdeal.nD Cert.PlainIdeal.τ).loc Cert.PlainIdeal.main_v3_4) = v4 c
          ∧ r.2.mem ((c.tc : Thread Cert.PlainIdeal.nD Cert.PlainIdeal.τ).loc Cert.PlainIdeal.main_v3_5) = v5 c
          ∧ r.2.mem ((c.tc : Thread Cert.PlainIdeal.nD Cert.PlainIdeal.τ).loc Cert.PlainIdeal.main_v3_6) = v6 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
          ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
          ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6)
          ∧ r.2.mem ((c.tc : Thread Cert.PlainIdeal.nD Cert.PlainIdeal.τ).loc Cert.PlainIdeal.main_arg7) = m ((c.tc : Thread Cert.PlainIdeal.nD Cert.PlainIdeal.τ).loc Cert.PlainIdeal.main_arg7)
          ∧ r.2.mem ((c.tc : Thread Cert.PlainIdeal.nD Cert.PlainIdeal.τ).loc Cert.PlainIdeal.main_arg8) = m ((c.tc : Thread Cert.PlainIdeal.nD Cert.PlainIdeal.τ).loc Cert.PlainIdeal.main_arg8))
      ∧ θ_run (Cert.PlainRefIdeal.defs (F := Ideal)) (onTc (τ := Cert.PlainRefIdeal.τ) (Cert.PlainRefIdeal.main (F := Ideal))) ⟨m', fun _ => 0, g'⟩ (fun r => ∀ c : Dev Cert.PlainRefIdeal.nD,
          r.2.mem ((c.tc : Thread Cert.PlainRefIdeal.nD Cert.PlainRefIdeal.τ).loc Cert.PlainRefIdeal.main_v65) = v0 c
          ∧ r.2.mem ((c.tc : Thread Cert.PlainRefIdeal.nD Cert.PlainRefIdeal.τ).loc Cert.PlainRefIdeal.main_v36) = v1 c
          ∧ r.2.mem ((c.tc : Thread Cert.PlainRefIdeal.nD Cert.PlainRefIdeal.τ).loc Cert.PlainRefIdeal.main_v48) = v2 c
          ∧ r.2.mem ((c.tc : Thread Cert.PlainRefIdeal.nD Cert.PlainRefIdeal.τ).loc Cert.PlainRefIdeal.main_v66) = v3 c
          ∧ r.2.mem ((c.tc : Thread Cert.PlainRefIdeal.nD Cert.PlainRefIdeal.τ).loc Cert.PlainRefIdeal.main_v43) = v4 c
          ∧ r.2.mem ((c.tc : Thread Cert.PlainRefIdeal.nD Cert.PlainRefIdeal.τ).loc Cert.PlainRefIdeal.main_v40) = v5 c
          ∧ r.2.mem ((c.tc : Thread Cert.PlainRefIdeal.nD Cert.PlainRefIdeal.τ).loc Cert.PlainRefIdeal.main_v33) = v6 c
          ∧ r.2.mem ((c.tc : Thread Cert.PlainRefIdeal.nD Cert.PlainRefIdeal.τ).loc Cert.PlainRefIdeal.main_arg0) = m' ((c.tc : Thread Cert.PlainRefIdeal.nD Cert.PlainRefIdeal.τ).loc Cert.PlainRefIdeal.main_arg0)
          ∧ r.2.mem ((c.tc : Thread Cert.PlainRefIdeal.nD Cert.PlainRefIdeal.τ).loc Cert.PlainRefIdeal.main_arg1) = m' ((c.tc : Thread Cert.PlainRefIdeal.nD Cert.PlainRefIdeal.τ).loc Cert.PlainRefIdeal.main_arg1)
          ∧ r.2.mem ((c.tc : Thread Cert.PlainRefIdeal.nD Cert.PlainRefIdeal.τ).loc Cert.PlainRefIdeal.main_arg2) = m' ((c.tc : Thread Cert.PlainRefIdeal.nD Cert.PlainRefIdeal.τ).loc Cert.PlainRefIdeal.main_arg2)
          ∧ r.2.mem ((c.tc : Thread Cert.PlainRefIdeal.nD Cert.PlainRefIdeal.τ).loc Cert.PlainRefIdeal.main_arg3) = m' ((c.tc : Thread Cert.PlainRefIdeal.nD Cert.PlainRefIdeal.τ).loc Cert.PlainRefIdeal.main_arg3)
          ∧ r.2.mem ((c.tc : Thread Cert.PlainRefIdeal.nD Cert.PlainRefIdeal.τ).loc Cert.PlainRefIdeal.main_arg4) = m' ((c.tc : Thread Cert.PlainRefIdeal.nD Cert.PlainRefIdeal.τ).loc Cert.PlainRefIdeal.main_arg4)
          ∧ r.2.mem ((c.tc : Thread Cert.PlainRefIdeal.nD Cert.PlainRefIdeal.τ).loc Cert.PlainRefIdeal.main_arg5) = m' ((c.tc : Thread Cert.PlainRefIdeal.nD Cert.PlainRefIdeal.τ).loc Cert.PlainRefIdeal.main_arg5)
          ∧ r.2.mem ((c.tc : Thread Cert.PlainRefIdeal.nD Cert.PlainRefIdeal.τ).loc Cert.PlainRefIdeal.main_arg6) = m' ((c.tc : Thread Cert.PlainRefIdeal.nD Cert.PlainRefIdeal.τ).loc Cert.PlainRefIdeal.main_arg6)
          ∧ r.2.mem ((c.tc : Thread Cert.PlainRefIdeal.nD Cert.PlainRefIdeal.τ).loc Cert.PlainRefIdeal.main_arg7) = m' ((c.tc : Thread Cert.PlainRefIdeal.nD Cert.PlainRefIdeal.τ).loc Cert.PlainRefIdeal.main_arg7)
          ∧ r.2.mem ((c.tc : Thread Cert.PlainRefIdeal.nD Cert.PlainRefIdeal.τ).loc Cert.PlainRefIdeal.main_arg8) = m' ((c.tc : Thread Cert.PlainRefIdeal.nD Cert.PlainRefIdeal.τ).loc Cert.PlainRefIdeal.main_arg8))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v1_0)) (v1 : (c : Dev Cert.AttnIdeal.nD) → Buf (Elt Ideal) ((c.tc : Thread Cert.AttnIdeal.nD Cert.AttnIdeal.τ).loc Cert.AttnIdeal.main_v1_1)) (v2 : (c : Dev Cert.AttnIdeal.nD) → Buf (Elt Ideal) ((c.tc : Thread Cert.AttnIdeal.nD Cert.AttnIdeal.τ).loc Cert.AttnIdeal.main_v1_2)) (v3 : (c : Dev Cert.AttnIdeal.nD) → Buf (Elt Ideal) ((c.tc : Thread Cert.AttnIdeal.nD Cert.AttnIdeal.τ).loc Cert.AttnIdeal.main_v1_3)) (v4 : (c : Dev Cert.AttnIdeal.nD) → Buf (Elt Ideal) ((c.tc : Thread Cert.AttnIdeal.nD Cert.AttnIdeal.τ).loc Cert.AttnIdeal.main_v1_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_0) = v0 c
          ∧ r.2.mem ((c.tc : Thread Cert.AttnIdeal.nD Cert.AttnIdeal.τ).loc Cert.AttnIdeal.main_v1_1) = v1 c
          ∧ r.2.mem ((c.tc : Thread Cert.AttnIdeal.nD Cert.AttnIdeal.τ).loc Cert.AttnIdeal.main_v1_2) = v2 c
          ∧ r.2.mem ((c.tc : Thread Cert.AttnIdeal.nD Cert.AttnIdeal.τ).loc Cert.AttnIdeal.main_v1_3) = v3 c
          ∧ r.2.mem ((c.tc : Thread Cert.AttnIdeal.nD Cert.AttnIdeal.τ).loc Cert.AttnIdeal.main_v1_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v124) = v0 c
          ∧ r.2.mem ((c.tc : Thread Cert.AttnRefIdeal.nD Cert.AttnRefIdeal.τ).loc Cert.AttnRefIdeal.main_v107) = v1 c
          ∧ r.2.mem ((c.tc : Thread Cert.AttnRefIdeal.nD Cert.AttnRefIdeal.τ).loc Cert.AttnRefIdeal.main_v85) = v2 c
          ∧ r.2.mem ((c.tc : Thread Cert.AttnRefIdeal.nD Cert.AttnRefIdeal.τ).loc Cert.AttnRefIdeal.main_v62) = v3 c
          ∧ r.2.mem ((c.tc : Thread Cert.AttnRefIdeal.nD Cert.AttnRefIdeal.τ).loc Cert.AttnRefIdeal.main_v103) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Hgrn_HgrnIdeal : Prop :=
  True

def algebraic_HgrnIdeal_HgrnRefIdeal [hHgrnIdeal : Cert.HgrnIdeal.Facts] [hHgrnRefIdeal : Cert.HgrnRefIdeal.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)
      ∧ m' ((c.tc : Thread Cert.HgrnRefIdeal.nD Cert.HgrnRefIdeal.τ).loc Cert.HgrnRefIdeal.main_arg4) = m ((c.tc : Thread Cert.HgrnIdeal.nD Cert.HgrnIdeal.τ).loc Cert.HgrnIdeal.main_arg4)
      ∧ m' ((c.tc : Thread Cert.HgrnRefIdeal.nD Cert.HgrnRefIdeal.τ).loc Cert.HgrnRefIdeal.main_arg5) = m ((c.tc : Thread Cert.HgrnIdeal.nD Cert.HgrnIdeal.τ).loc Cert.HgrnIdeal.main_arg5)
      ∧ m' ((c.tc : Thread Cert.HgrnRefIdeal.nD Cert.HgrnRefIdeal.τ).loc Cert.HgrnRefIdeal.main_arg6) = m ((c.tc : Thread Cert.HgrnIdeal.nD Cert.HgrnIdeal.τ).loc Cert.HgrnIdeal.main_arg6)
      ∧ m' ((c.tc : Thread Cert.HgrnRefIdeal.nD Cert.HgrnRefIdeal.τ).loc Cert.HgrnRefIdeal.main_arg7) = m ((c.tc : Thread Cert.HgrnIdeal.nD Cert.HgrnIdeal.τ).loc Cert.HgrnIdeal.main_arg7)
      ∧ m' ((c.tc : Thread Cert.HgrnRefIdeal.nD Cert.HgrnRefIdeal.τ).loc Cert.HgrnRefIdeal.main_arg8) = m ((c.tc : Thread Cert.HgrnIdeal.nD Cert.HgrnIdeal.τ).loc Cert.HgrnIdeal.main_arg8)) →
    ∃ (v0 : (c : Dev Cert.HgrnIdeal.nD) → Buf (Elt Ideal) ((c.tc : Thread Cert.HgrnIdeal.nD Cert.HgrnIdeal.τ).loc Cert.HgrnIdeal.main_v1_0)) (v1 : (c : Dev Cert.HgrnIdeal.nD) → Buf (Elt Ideal) ((c.tc : Thread Cert.HgrnIdeal.nD Cert.HgrnIdeal.τ).loc Cert.HgrnIdeal.main_v1_1)) (v2 : (c : Dev Cert.HgrnIdeal.nD) → Buf (Elt Ideal) ((c.tc : Thread Cert.HgrnIdeal.nD Cert.HgrnIdeal.τ).loc Cert.HgrnIdeal.main_v1_3)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1_0) = v0 c
          ∧ r.2.mem ((c.tc : Thread Cert.HgrnIdeal.nD Cert.HgrnIdeal.τ).loc Cert.HgrnIdeal.main_v1_1) = v1 c
          ∧ r.2.mem ((c.tc : Thread Cert.HgrnIdeal.nD Cert.HgrnIdeal.τ).loc Cert.HgrnIdeal.main_v1_3) = v2 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
          ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
          ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7)
          ∧ r.2.mem ((c.tc : Thread Cert.HgrnIdeal.nD Cert.HgrnIdeal.τ).loc Cert.HgrnIdeal.main_arg8) = m ((c.tc : Thread Cert.HgrnIdeal.nD Cert.HgrnIdeal.τ).loc Cert.HgrnIdeal.main_arg8))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v104) = v0 c
          ∧ r.2.mem ((c.tc : Thread Cert.HgrnRefIdeal.nD Cert.HgrnRefIdeal.τ).loc Cert.HgrnRefIdeal.main_v87) = v1 c
          ∧ r.2.mem ((c.tc : Thread Cert.HgrnRefIdeal.nD Cert.HgrnRefIdeal.τ).loc Cert.HgrnRefIdeal.main_v83) = v2 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3)
          ∧ r.2.mem ((c.tc : Thread Cert.HgrnRefIdeal.nD Cert.HgrnRefIdeal.τ).loc Cert.HgrnRefIdeal.main_arg4) = m' ((c.tc : Thread Cert.HgrnRefIdeal.nD Cert.HgrnRefIdeal.τ).loc Cert.HgrnRefIdeal.main_arg4)
          ∧ r.2.mem ((c.tc : Thread Cert.HgrnRefIdeal.nD Cert.HgrnRefIdeal.τ).loc Cert.HgrnRefIdeal.main_arg5) = m' ((c.tc : Thread Cert.HgrnRefIdeal.nD Cert.HgrnRefIdeal.τ).loc Cert.HgrnRefIdeal.main_arg5)
          ∧ r.2.mem ((c.tc : Thread Cert.HgrnRefIdeal.nD Cert.HgrnRefIdeal.τ).loc Cert.HgrnRefIdeal.main_arg6) = m' ((c.tc : Thread Cert.HgrnRefIdeal.nD Cert.HgrnRefIdeal.τ).loc Cert.HgrnRefIdeal.main_arg6)
          ∧ r.2.mem ((c.tc : Thread Cert.HgrnRefIdeal.nD Cert.HgrnRefIdeal.τ).loc Cert.HgrnRefIdeal.main_arg7) = m' ((c.tc : Thread Cert.HgrnRefIdeal.nD Cert.HgrnRefIdeal.τ).loc Cert.HgrnRefIdeal.main_arg7)
          ∧ r.2.mem ((c.tc : Thread Cert.HgrnRefIdeal.nD Cert.HgrnRefIdeal.τ).loc Cert.HgrnRefIdeal.main_arg8) = m' ((c.tc : Thread Cert.HgrnRefIdeal.nD Cert.HgrnRefIdeal.τ).loc Cert.HgrnRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v2) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)
      ∧ m' ((c.tc : Thread Cert.GateFRefIdeal.nD Cert.GateFRefIdeal.τ).loc Cert.GateFRefIdeal.main_arg2) = m ((c.tc : Thread Cert.GateFIdeal.nD Cert.GateFIdeal.τ).loc Cert.GateFIdeal.main_arg2)
      ∧ m' ((c.tc : Thread Cert.GateFRefIdeal.nD Cert.GateFRefIdeal.τ).loc Cert.GateFRefIdeal.main_arg3) = m ((c.tc : Thread Cert.GateFIdeal.nD Cert.GateFIdeal.τ).loc Cert.GateFIdeal.main_arg3)
      ∧ m' ((c.tc : Thread Cert.GateFRefIdeal.nD Cert.GateFRefIdeal.τ).loc Cert.GateFRefIdeal.main_arg4) = m ((c.tc : Thread Cert.GateFIdeal.nD Cert.GateFIdeal.τ).loc Cert.GateFIdeal.main_arg4)
      ∧ m' ((c.tc : Thread Cert.GateFRefIdeal.nD Cert.GateFRefIdeal.τ).loc Cert.GateFRefIdeal.main_arg5) = m ((c.tc : Thread Cert.GateFIdeal.nD Cert.GateFIdeal.τ).loc Cert.GateFIdeal.main_arg5)
      ∧ m' ((c.tc : Thread Cert.GateFRefIdeal.nD Cert.GateFRefIdeal.τ).loc Cert.GateFRefIdeal.main_arg6) = m ((c.tc : Thread Cert.GateFIdeal.nD Cert.GateFIdeal.τ).loc Cert.GateFIdeal.main_arg6)
      ∧ m' ((c.tc : Thread Cert.GateFRefIdeal.nD Cert.GateFRefIdeal.τ).loc Cert.GateFRefIdeal.main_arg7) = m ((c.tc : Thread Cert.GateFIdeal.nD Cert.GateFIdeal.τ).loc Cert.GateFIdeal.main_arg7)) →
    ∃ (v0 : (c : Dev Cert.GateFIdeal.nD) → Buf (Elt Ideal) ((c.tc : Thread Cert.GateFIdeal.nD Cert.GateFIdeal.τ).loc Cert.GateFIdeal.main_v3)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v3) = v0 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
          ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2)
          ∧ r.2.mem ((c.tc : Thread Cert.GateFIdeal.nD Cert.GateFIdeal.τ).loc Cert.GateFIdeal.main_arg3) = m ((c.tc : Thread Cert.GateFIdeal.nD Cert.GateFIdeal.τ).loc Cert.GateFIdeal.main_arg3)
          ∧ r.2.mem ((c.tc : Thread Cert.GateFIdeal.nD Cert.GateFIdeal.τ).loc Cert.GateFIdeal.main_arg4) = m ((c.tc : Thread Cert.GateFIdeal.nD Cert.GateFIdeal.τ).loc Cert.GateFIdeal.main_arg4)
          ∧ r.2.mem ((c.tc : Thread Cert.GateFIdeal.nD Cert.GateFIdeal.τ).loc Cert.GateFIdeal.main_arg5) = m ((c.tc : Thread Cert.GateFIdeal.nD Cert.GateFIdeal.τ).loc Cert.GateFIdeal.main_arg5)
          ∧ r.2.mem ((c.tc : Thread Cert.GateFIdeal.nD Cert.GateFIdeal.τ).loc Cert.GateFIdeal.main_arg6) = m ((c.tc : Thread Cert.GateFIdeal.nD Cert.GateFIdeal.τ).loc Cert.GateFIdeal.main_arg6)
          ∧ r.2.mem ((c.tc : Thread Cert.GateFIdeal.nD Cert.GateFIdeal.τ).loc Cert.GateFIdeal.main_arg7) = m ((c.tc : Thread Cert.GateFIdeal.nD Cert.GateFIdeal.τ).loc Cert.GateFIdeal.main_arg7))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v39) = v0 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1)
          ∧ r.2.mem ((c.tc : Thread Cert.GateFRefIdeal.nD Cert.GateFRefIdeal.τ).loc Cert.GateFRefIdeal.main_arg2) = m' ((c.tc : Thread Cert.GateFRefIdeal.nD Cert.GateFRefIdeal.τ).loc Cert.GateFRefIdeal.main_arg2)
          ∧ r.2.mem ((c.tc : Thread Cert.GateFRefIdeal.nD Cert.GateFRefIdeal.τ).loc Cert.GateFRefIdeal.main_arg3) = m' ((c.tc : Thread Cert.GateFRefIdeal.nD Cert.GateFRefIdeal.τ).loc Cert.GateFRefIdeal.main_arg3)
          ∧ r.2.mem ((c.tc : Thread Cert.GateFRefIdeal.nD Cert.GateFRefIdeal.τ).loc Cert.GateFRefIdeal.main_arg4) = m' ((c.tc : Thread Cert.GateFRefIdeal.nD Cert.GateFRefIdeal.τ).loc Cert.GateFRefIdeal.main_arg4)
          ∧ r.2.mem ((c.tc : Thread Cert.GateFRefIdeal.nD Cert.GateFRefIdeal.τ).loc Cert.GateFRefIdeal.main_arg5) = m' ((c.tc : Thread Cert.GateFRefIdeal.nD Cert.GateFRefIdeal.τ).loc Cert.GateFRefIdeal.main_arg5)
          ∧ r.2.mem ((c.tc : Thread Cert.GateFRefIdeal.nD Cert.GateFRefIdeal.τ).loc Cert.GateFRefIdeal.main_arg6) = m' ((c.tc : Thread Cert.GateFRefIdeal.nD Cert.GateFRefIdeal.τ).loc Cert.GateFRefIdeal.main_arg6)
          ∧ r.2.mem ((c.tc : Thread Cert.GateFRefIdeal.nD Cert.GateFRefIdeal.τ).loc Cert.GateFRefIdeal.main_arg7) = m' ((c.tc : Thread Cert.GateFRefIdeal.nD Cert.GateFRefIdeal.τ).loc Cert.GateFRefIdeal.main_arg7))

def preserves_PlainF_PlainFIdeal : Prop :=
  True

def algebraic_PlainFIdeal_PlainFRefIdeal [hPlainFIdeal : Cert.PlainFIdeal.Facts] [hPlainFRefIdeal : Cert.PlainFRefIdeal.Facts] : Prop :=
  ∀ (m : (ℓ : Loc Cert.PlainFIdeal.nD Cert.PlainFIdeal.τ Cert.PlainFIdeal.sig) → Buf (Elt Ideal) ℓ) (g : Dev Cert.PlainFIdeal.nD → PrngReg)
    (m' : (ℓ : Loc Cert.PlainFRefIdeal.nD Cert.PlainFRefIdeal.τ Cert.PlainFRefIdeal.sig) → Buf (Elt Ideal) ℓ) (g' : Dev Cert.PlainFRefIdeal.nD → PrngReg), Pre_PlainFIdeal m →
    (∀ c : Dev Cert.PlainFIdeal.nD,
      m' ((c.tc : Thread Cert.PlainFRefIdeal.nD Cert.PlainFRefIdeal.τ).loc Cert.PlainFRefIdeal.main_arg0) = m ((c.tc : Thread Cert.PlainFIdeal.nD Cert.PlainFIdeal.τ).loc Cert.PlainFIdeal.main_arg0)
      ∧ m' ((c.tc : Thread Cert.PlainFRefIdeal.nD Cert.PlainFRefIdeal.τ).loc Cert.PlainFRefIdeal.main_arg1) = m ((c.tc : Thread Cert.PlainFIdeal.nD Cert.PlainFIdeal.τ).loc Cert.PlainFIdeal.main_arg1)
      ∧ m' ((c.tc : Thread Cert.PlainFRefIdeal.nD Cert.PlainFRefIdeal.τ).loc Cert.PlainFRefIdeal.main_arg2) = m ((c.tc : Thread Cert.PlainFIdeal.nD Cert.PlainFIdeal.τ).loc Cert.PlainFIdeal.main_arg2)
      ∧ m' ((c.tc : Thread Cert.PlainFRefIdeal.nD Cert.PlainFRefIdeal.τ).loc Cert.PlainFRefIdeal.main_arg3) = m ((c.tc : Thread Cert.PlainFIdeal.nD Cert.PlainFIdeal.τ).loc Cert.PlainFIdeal.main_arg3)
      ∧ m' ((c.tc : Thread Cert.PlainFRefIdeal.nD Cert.PlainFRefIdeal.τ).loc Cert.PlainFRefIdeal.main_arg4) = m ((c.tc : Thread Cert.PlainFIdeal.nD Cert.PlainFIdeal.τ).loc Cert.PlainFIdeal.main_arg4)
      ∧ m' ((c.tc : Thread Cert.PlainFRefIdeal.nD Cert.PlainFRefIdeal.τ).loc Cert.PlainFRefIdeal.main_arg5) = m ((c.tc : Thread Cert.PlainFIdeal.nD Cert.PlainFIdeal.τ).loc Cert.PlainFIdeal.main_arg5)
      ∧ m' ((c.tc : Thread Cert.PlainFRefIdeal.nD Cert.PlainFRefIdeal.τ).loc Cert.PlainFRefIdeal.main_arg6) = m ((c.tc : Thread Cert.PlainFIdeal.nD Cert.PlainFIdeal.τ).loc Cert.PlainFIdeal.main_arg6)) →
    ∃ (v0 : (c : Dev Cert.PlainFIdeal.nD) → Buf (Elt Ideal) ((c.tc : Thread Cert.PlainFIdeal.nD Cert.PlainFIdeal.τ).loc Cert.PlainFIdeal.main_v3)),
      θ_run (Cert.PlainFIdeal.defs (F := Ideal)) (onTc (τ := Cert.PlainFIdeal.τ) (Cert.PlainFIdeal.main (F := Ideal))) ⟨m, fun _ => 0, g⟩ (fun r => ∀ c : Dev Cert.PlainFIdeal.nD,
          r.2.mem ((c.tc : Thread Cert.PlainFIdeal.nD Cert.PlainFIdeal.τ).loc Cert.PlainFIdeal.main_v3) = v0 c
          ∧ r.2.mem ((c.tc : Thread Cert.PlainFIdeal.nD Cert.PlainFIdeal.τ).loc Cert.PlainFIdeal.main_arg0) = m ((c.tc : Thread Cert.PlainFIdeal.nD Cert.PlainFIdeal.τ).loc Cert.PlainFIdeal.main_arg0)
          ∧ r.2.mem ((c.tc : Thread Cert.PlainFIdeal.nD Cert.PlainFIdeal.τ).loc Cert.PlainFIdeal.main_arg1) = m ((c.tc : Thread Cert.PlainFIdeal.nD Cert.PlainFIdeal.τ).loc Cert.PlainFIdeal.main_arg1)
          ∧ r.2.mem ((c.tc : Thread Cert.PlainFIdeal.nD Cert.PlainFIdeal.τ).loc Cert.PlainFIdeal.main_arg2) = m ((c.tc : Thread Cert.PlainFIdeal.nD Cert.PlainFIdeal.τ).loc Cert.PlainFIdeal.main_arg2)
          ∧ r.2.mem ((c.tc : Thread Cert.PlainFIdeal.nD Cert.PlainFIdeal.τ).loc Cert.PlainFIdeal.main_arg3) = m ((c.tc : Thread Cert.PlainFIdeal.nD Cert.PlainFIdeal.τ).loc Cert.PlainFIdeal.main_arg3)
          ∧ r.2.mem ((c.tc : Thread Cert.PlainFIdeal.nD Cert.PlainFIdeal.τ).loc Cert.PlainFIdeal.main_arg4) = m ((c.tc : Thread Cert.PlainFIdeal.nD Cert.PlainFIdeal.τ).loc Cert.PlainFIdeal.main_arg4)
          ∧ r.2.mem ((c.tc : Thread Cert.PlainFIdeal.nD Cert.PlainFIdeal.τ).loc Cert.PlainFIdeal.main_arg5) = m ((c.tc : Thread Cert.PlainFIdeal.nD Cert.PlainFIdeal.τ).loc Cert.PlainFIdeal.main_arg5)
          ∧ r.2.mem ((c.tc : Thread Cert.PlainFIdeal.nD Cert.PlainFIdeal.τ).loc Cert.PlainFIdeal.main_arg6) = m ((c.tc : Thread Cert.PlainFIdeal.nD Cert.PlainFIdeal.τ).loc Cert.PlainFIdeal.main_arg6))
      ∧ θ_run (Cert.PlainFRefIdeal.defs (F := Ideal)) (onTc (τ := Cert.PlainFRefIdeal.τ) (Cert.PlainFRefIdeal.main (F := Ideal))) ⟨m', fun _ => 0, g'⟩ (fun r => ∀ c : Dev Cert.PlainFRefIdeal.nD,
          r.2.mem ((c.tc : Thread Cert.PlainFRefIdeal.nD Cert.PlainFRefIdeal.τ).loc Cert.PlainFRefIdeal.main_v23) = v0 c
          ∧ r.2.mem ((c.tc : Thread Cert.PlainFRefIdeal.nD Cert.PlainFRefIdeal.τ).loc Cert.PlainFRefIdeal.main_arg0) = m' ((c.tc : Thread Cert.PlainFRefIdeal.nD Cert.PlainFRefIdeal.τ).loc Cert.PlainFRefIdeal.main_arg0)
          ∧ r.2.mem ((c.tc : Thread Cert.PlainFRefIdeal.nD Cert.PlainFRefIdeal.τ).loc Cert.PlainFRefIdeal.main_arg1) = m' ((c.tc : Thread Cert.PlainFRefIdeal.nD Cert.PlainFRefIdeal.τ).loc Cert.PlainFRefIdeal.main_arg1)
          ∧ r.2.mem ((c.tc : Thread Cert.PlainFRefIdeal.nD Cert.PlainFRefIdeal.τ).loc Cert.PlainFRefIdeal.main_arg2) = m' ((c.tc : Thread Cert.PlainFRefIdeal.nD Cert.PlainFRefIdeal.τ).loc Cert.PlainFRefIdeal.main_arg2)
          ∧ r.2.mem ((c.tc : Thread Cert.PlainFRefIdeal.nD Cert.PlainFRefIdeal.τ).loc Cert.PlainFRefIdeal.main_arg3) = m' ((c.tc : Thread Cert.PlainFRefIdeal.nD Cert.PlainFRefIdeal.τ).loc Cert.PlainFRefIdeal.main_arg3)
          ∧ r.2.mem ((c.tc : Thread Cert.PlainFRefIdeal.nD Cert.PlainFRefIdeal.τ).loc Cert.PlainFRefIdeal.main_arg4) = m' ((c.tc : Thread Cert.PlainFRefIdeal.nD Cert.PlainFRefIdeal.τ).loc Cert.PlainFRefIdeal.main_arg4)
          ∧ r.2.mem ((c.tc : Thread Cert.PlainFRefIdeal.nD Cert.PlainFRefIdeal.τ).loc Cert.PlainFRefIdeal.main_arg5) = m' ((c.tc : Thread Cert.PlainFRefIdeal.nD Cert.PlainFRefIdeal.τ).loc Cert.PlainFRefIdeal.main_arg5)
          ∧ r.2.mem ((c.tc : Thread Cert.PlainFRefIdeal.nD Cert.PlainFRefIdeal.τ).loc Cert.PlainFRefIdeal.main_arg6) = m' ((c.tc : Thread Cert.PlainFRefIdeal.nD Cert.PlainFRefIdeal.τ).loc Cert.PlainFRefIdeal.main_arg6))

def preserves_AttnF_AttnFIdeal : Prop :=
  True

def algebraic_AttnFIdeal_AttnFRefIdeal [hAttnFIdeal : Cert.AttnFIdeal.Facts] [hAttnFRefIdeal : Cert.AttnFRefIdeal.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)
      ∧ m' ((c.tc : Thread Cert.AttnFRefIdeal.nD Cert.AttnFRefIdeal.τ).loc Cert.AttnFRefIdeal.main_arg2) = m ((c.tc : Thread Cert.AttnFIdeal.nD Cert.AttnFIdeal.τ).loc Cert.AttnFIdeal.main_arg2)
      ∧ m' ((c.tc : Thread Cert.AttnFRefIdeal.nD Cert.AttnFRefIdeal.τ).loc Cert.AttnFRefIdeal.main_arg3) = m ((c.tc : Thread Cert.AttnFIdeal.nD Cert.AttnFIdeal.τ).loc Cert.AttnFIdeal.main_arg3)
      ∧ m' ((c.tc : Thread Cert.AttnFRefIdeal.nD Cert.AttnFRefIdeal.τ).loc Cert.AttnFRefIdeal.main_arg4) = m ((c.tc : Thread Cert.AttnFIdeal.nD Cert.AttnFIdeal.τ).loc Cert.AttnFIdeal.main_arg4)) →
    ∃ (v0 : (c : Dev Cert.AttnFIdeal.nD) → Buf (Elt Ideal) ((c.tc : Thread Cert.AttnFIdeal.nD Cert.AttnFIdeal.τ).loc Cert.AttnFIdeal.main_v1_0)) (v1 : (c : Dev Cert.AttnFIdeal.nD) → Buf (Elt Ideal) ((c.tc : Thread Cert.AttnFIdeal.nD Cert.AttnFIdeal.τ).loc Cert.AttnFIdeal.main_v1_1)) (v2 : (c : Dev Cert.AttnFIdeal.nD) → Buf (Elt Ideal) ((c.tc : Thread Cert.AttnFIdeal.nD Cert.AttnFIdeal.τ).loc Cert.AttnFIdeal.main_v1_2)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v1_0) = v0 c
          ∧ r.2.mem ((c.tc : Thread Cert.AttnFIdeal.nD Cert.AttnFIdeal.τ).loc Cert.AttnFIdeal.main_v1_1) = v1 c
          ∧ r.2.mem ((c.tc : Thread Cert.AttnFIdeal.nD Cert.AttnFIdeal.τ).loc Cert.AttnFIdeal.main_v1_2) = v2 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1)
          ∧ r.2.mem ((c.tc : Thread Cert.AttnFIdeal.nD Cert.AttnFIdeal.τ).loc Cert.AttnFIdeal.main_arg2) = m ((c.tc : Thread Cert.AttnFIdeal.nD Cert.AttnFIdeal.τ).loc Cert.AttnFIdeal.main_arg2)
          ∧ r.2.mem ((c.tc : Thread Cert.AttnFIdeal.nD Cert.AttnFIdeal.τ).loc Cert.AttnFIdeal.main_arg3) = m ((c.tc : Thread Cert.AttnFIdeal.nD Cert.AttnFIdeal.τ).loc Cert.AttnFIdeal.main_arg3)
          ∧ r.2.mem ((c.tc : Thread Cert.AttnFIdeal.nD Cert.AttnFIdeal.τ).loc Cert.AttnFIdeal.main_arg4) = m ((c.tc : Thread Cert.AttnFIdeal.nD Cert.AttnFIdeal.τ).loc Cert.AttnFIdeal.main_arg4))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v30) = v0 c
          ∧ r.2.mem ((c.tc : Thread Cert.AttnFRefIdeal.nD Cert.AttnFRefIdeal.τ).loc Cert.AttnFRefIdeal.main_v45) = v1 c
          ∧ r.2.mem ((c.tc : Thread Cert.AttnFRefIdeal.nD Cert.AttnFRefIdeal.τ).loc Cert.AttnFRefIdeal.main_v15) = v2 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1)
          ∧ r.2.mem ((c.tc : Thread Cert.AttnFRefIdeal.nD Cert.AttnFRefIdeal.τ).loc Cert.AttnFRefIdeal.main_arg2) = m' ((c.tc : Thread Cert.AttnFRefIdeal.nD Cert.AttnFRefIdeal.τ).loc Cert.AttnFRefIdeal.main_arg2)
          ∧ r.2.mem ((c.tc : Thread Cert.AttnFRefIdeal.nD Cert.AttnFRefIdeal.τ).loc Cert.AttnFRefIdeal.main_arg3) = m' ((c.tc : Thread Cert.AttnFRefIdeal.nD Cert.AttnFRefIdeal.τ).loc Cert.AttnFRefIdeal.main_arg3)
          ∧ r.2.mem ((c.tc : Thread Cert.AttnFRefIdeal.nD Cert.AttnFRefIdeal.τ).loc Cert.AttnFRefIdeal.main_arg4) = m' ((c.tc : Thread Cert.AttnFRefIdeal.nD Cert.AttnFRefIdeal.τ).loc Cert.AttnFRefIdeal.main_arg4))

def preserves_HgrnF_HgrnFIdeal : Prop :=
  True

def algebraic_HgrnFIdeal_HgrnFRefIdeal [hHgrnFIdeal : Cert.HgrnFIdeal.Facts] [hHgrnFRefIdeal : Cert.HgrnFRefIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg)
    (m' : (ℓ : Loc Cert.HgrnFRefIdeal.nD Cert.HgrnFRefIdeal.τ Cert.HgrnFRefIdeal.sig) → Buf (Elt Ideal) ℓ) (g' : Dev Cert.HgrnFRefIdeal.nD → PrngReg), Pre_HgrnFIdeal m →
    (∀ c : Dev Cert.HgrnFIdeal.nD,
      m' ((c.tc : Thread Cert.HgrnFRefIdeal.nD Cert.HgrnFRefIdeal.τ).loc Cert.HgrnFRefIdeal.main_arg0) = m ((c.tc : Thread Cert.HgrnFIdeal.nD Cert.HgrnFIdeal.τ).loc Cert.HgrnFIdeal.main_arg0)
      ∧ m' ((c.tc : Thread Cert.HgrnFRefIdeal.nD Cert.HgrnFRefIdeal.τ).loc Cert.HgrnFRefIdeal.main_arg1) = m ((c.tc : Thread Cert.HgrnFIdeal.nD Cert.HgrnFIdeal.τ).loc Cert.HgrnFIdeal.main_arg1)
      ∧ m' ((c.tc : Thread Cert.HgrnFRefIdeal.nD Cert.HgrnFRefIdeal.τ).loc Cert.HgrnFRefIdeal.main_arg2) = m ((c.tc : Thread Cert.HgrnFIdeal.nD Cert.HgrnFIdeal.τ).loc Cert.HgrnFIdeal.main_arg2)
      ∧ m' ((c.tc : Thread Cert.HgrnFRefIdeal.nD Cert.HgrnFRefIdeal.τ).loc Cert.HgrnFRefIdeal.main_arg3) = m ((c.tc : Thread Cert.HgrnFIdeal.nD Cert.HgrnFIdeal.τ).loc Cert.HgrnFIdeal.main_arg3)) →
    ∃ (v0 : (c : Dev Cert.HgrnFIdeal.nD) → Buf (Elt Ideal) ((c.tc : Thread Cert.HgrnFIdeal.nD Cert.HgrnFIdeal.τ).loc Cert.HgrnFIdeal.main_v1_0)) (v1 : (c : Dev Cert.HgrnFIdeal.nD) → Buf (Elt Ideal) ((c.tc : Thread Cert.HgrnFIdeal.nD Cert.HgrnFIdeal.τ).loc Cert.HgrnFIdeal.main_v1_1)) (v2 : (c : Dev Cert.HgrnFIdeal.nD) → Buf (Elt Ideal) ((c.tc : Thread Cert.HgrnFIdeal.nD Cert.HgrnFIdeal.τ).loc Cert.HgrnFIdeal.main_v1_2)) (v3 : (c : Dev Cert.HgrnFIdeal.nD) → Buf (Elt Ideal) ((c.tc : Thread Cert.HgrnFIdeal.nD Cert.HgrnFIdeal.τ).loc Cert.HgrnFIdeal.main_v1_3)),
      θ_run (Cert.HgrnFIdeal.defs (F := Ideal)) (onTc (τ := Cert.HgrnFIdeal.τ) (Cert.HgrnFIdeal.main (F := Ideal))) ⟨m, fun _ => 0, g⟩ (fun r => ∀ c : Dev Cert.HgrnFIdeal.nD,
          r.2.mem ((c.tc : Thread Cert.HgrnFIdeal.nD Cert.HgrnFIdeal.τ).loc Cert.HgrnFIdeal.main_v1_0) = v0 c
          ∧ r.2.mem ((c.tc : Thread Cert.HgrnFIdeal.nD Cert.HgrnFIdeal.τ).loc Cert.HgrnFIdeal.main_v1_1) = v1 c
          ∧ r.2.mem ((c.tc : Thread Cert.HgrnFIdeal.nD Cert.HgrnFIdeal.τ).loc Cert.HgrnFIdeal.main_v1_2) = v2 c
          ∧ r.2.mem ((c.tc : Thread Cert.HgrnFIdeal.nD Cert.HgrnFIdeal.τ).loc Cert.HgrnFIdeal.main_v1_3) = v3 c
          ∧ r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
          ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
          ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2)
          ∧ r.2.mem ((c.tc : Thread Cert.HgrnFIdeal.nD Cert.HgrnFIdeal.τ).loc Cert.HgrnFIdeal.main_arg3) = m ((c.tc : Thread Cert.HgrnFIdeal.nD Cert.HgrnFIdeal.τ).loc Cert.HgrnFIdeal.main_arg3))
      ∧ θ_run (Cert.HgrnFRefIdeal.defs (F := Ideal)) (onTc (τ := Cert.HgrnFRefIdeal.τ) (Cert.HgrnFRefIdeal.main (F := Ideal))) ⟨m', fun _ => 0, g'⟩ (fun r => ∀ c : Dev Cert.HgrnFRefIdeal.nD,
          r.2.mem ((c.tc : Thread Cert.HgrnFRefIdeal.nD Cert.HgrnFRefIdeal.τ).loc Cert.HgrnFRefIdeal.main_v44) = v0 c
          ∧ r.2.mem ((c.tc : Thread Cert.HgrnFRefIdeal.nD Cert.HgrnFRefIdeal.τ).loc Cert.HgrnFRefIdeal.main_v43) = v1 c
          ∧ r.2.mem ((c.tc : Thread Cert.HgrnFRefIdeal.nD Cert.HgrnFRefIdeal.τ).loc Cert.HgrnFRefIdeal.main_v46) = v2 c
          ∧ r.2.mem ((c.tc : Thread Cert.HgrnFRefIdeal.nD Cert.HgrnFRefIdeal.τ).loc Cert.HgrnFRefIdeal.main_v47) = v3 c
          ∧ r.2.mem ((c.tc : Thread Cert.HgrnFRefIdeal.nD Cert.HgrnFRefIdeal.τ).loc Cert.HgrnFRefIdeal.main_arg0) = m' ((c.tc : Thread Cert.HgrnFRefIdeal.nD Cert.HgrnFRefIdeal.τ).loc Cert.HgrnFRefIdeal.main_arg0)
          ∧ r.2.mem ((c.tc : Thread Cert.HgrnFRefIdeal.nD Cert.HgrnFRefIdeal.τ).loc Cert.HgrnFRefIdeal.main_arg1) = m' ((c.tc : Thread Cert.HgrnFRefIdeal.nD Cert.HgrnFRefIdeal.τ).loc Cert.HgrnFRefIdeal.main_arg1)
          ∧ r.2.mem ((c.tc : Thread Cert.HgrnFRefIdeal.nD Cert.HgrnFRefIdeal.τ).loc Cert.HgrnFRefIdeal.main_arg2) = m' ((c.tc : Thread Cert.HgrnFRefIdeal.nD Cert.HgrnFRefIdeal.τ).loc Cert.HgrnFRefIdeal.main_arg2)
          ∧ r.2.mem ((c.tc : Thread Cert.HgrnFRefIdeal.nD Cert.HgrnFRefIdeal.τ).loc Cert.HgrnFRefIdeal.main_arg3) = m' ((c.tc : Thread Cert.HgrnFRefIdeal.nD Cert.HgrnFRefIdeal.τ).loc Cert.HgrnFRefIdeal.main_arg3))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)) →
    ∃ (v0 : (c : Dev Cert.OutFIdeal.nD) → Buf (Elt Ideal) ((c.tc : Thread Cert.OutFIdeal.nD Cert.OutFIdeal.τ).loc Cert.OutFIdeal.main_v1)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v1) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v1) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2))

def preserves_GdnF_GdnFIdeal : Prop :=
  True

def algebraic_GdnFIdeal_GdnFRefIdeal [hGdnFIdeal : Cert.GdnFIdeal.Facts] [hGdnFRefIdeal : Cert.GdnFRefIdeal.Facts] : Prop :=
  ∀ (m : (ℓ : Loc Cert.GdnFIdeal.nD Cert.GdnFIdeal.τ Cert.GdnFIdeal.sig) → Buf (Elt Ideal) ℓ) (g : Dev Cert.GdnFIdeal.nD → PrngReg)
    (m' : (ℓ : Loc Cert.GdnFRefIdeal.nD Cert.GdnFRefIdeal.τ Cert.GdnFRefIdeal.sig) → Buf (Elt Ideal) ℓ) (g' : Dev Cert.GdnFRefIdeal.nD → PrngReg), Pre_GdnFIdeal m →
    (∀ c : Dev Cert.GdnFIdeal.nD,
      m' ((c.tc : Thread Cert.GdnFRefIdeal.nD Cert.GdnFRefIdeal.τ).loc Cert.GdnFRefIdeal.main_arg0) = m ((c.tc : Thread Cert.GdnFIdeal.nD Cert.GdnFIdeal.τ).loc Cert.GdnFIdeal.main_arg0)
      ∧ m' ((c.tc : Thread Cert.GdnFRefIdeal.nD Cert.GdnFRefIdeal.τ).loc Cert.GdnFRefIdeal.main_arg1) = m ((c.tc : Thread Cert.GdnFIdeal.nD Cert.GdnFIdeal.τ).loc Cert.GdnFIdeal.main_arg1)
      ∧ m' ((c.tc : Thread Cert.GdnFRefIdeal.nD Cert.GdnFRefIdeal.τ).loc Cert.GdnFRefIdeal.main_arg2) = m ((c.tc : Thread Cert.GdnFIdeal.nD Cert.GdnFIdeal.τ).loc Cert.GdnFIdeal.main_arg2)
      ∧ m' ((c.tc : Thread Cert.GdnFRefIdeal.nD Cert.GdnFRefIdeal.τ).loc Cert.GdnFRefIdeal.main_arg3) = m ((c.tc : Thread Cert.GdnFIdeal.nD Cert.GdnFIdeal.τ).loc Cert.GdnFIdeal.main_arg3)
      ∧ m' ((c.tc : Thread Cert.GdnFRefIdeal.nD Cert.GdnFRefIdeal.τ).loc Cert.GdnFRefIdeal.main_arg4) = m ((c.tc : Thread Cert.GdnFIdeal.nD Cert.GdnFIdeal.τ).loc Cert.GdnFIdeal.main_arg4)
      ∧ m' ((c.tc : Thread Cert.GdnFRefIdeal.nD Cert.GdnFRefIdeal.τ).loc Cert.GdnFRefIdeal.main_arg5) = m ((c.tc : Thread Cert.GdnFIdeal.nD Cert.GdnFIdeal.τ).loc Cert.GdnFIdeal.main_arg5)) →
    ∃ (v0 : (c : Dev Cert.GdnFIdeal.nD) → Buf (Elt Ideal) ((c.tc : Thread Cert.GdnFIdeal.nD Cert.GdnFIdeal.τ).loc Cert.GdnFIdeal.main_v1_0)) (v1 : (c : Dev Cert.GdnFIdeal.nD) → Buf (Elt Ideal) ((c.tc : Thread Cert.GdnFIdeal.nD Cert.GdnFIdeal.τ).loc Cert.GdnFIdeal.main_v1_1)) (v2 : (c : Dev Cert.GdnFIdeal.nD) → Buf (Elt Ideal) ((c.tc : Thread Cert.GdnFIdeal.nD Cert.GdnFIdeal.τ).loc Cert.GdnFIdeal.main_v1_2)) (v3 : (c : Dev Cert.GdnFIdeal.nD) → Buf (Elt Ideal) ((c.tc : Thread Cert.GdnFIdeal.nD Cert.GdnFIdeal.τ).loc Cert.GdnFIdeal.main_v1_3)),
      θ_run (Cert.GdnFIdeal.defs (F := Ideal)) (onTc (τ := Cert.GdnFIdeal.τ) (Cert.GdnFIdeal.main (F := Ideal))) ⟨m, fun _ => 0, g⟩ (fun r => ∀ c : Dev Cert.GdnFIdeal.nD,
          r.2.mem ((c.tc : Thread Cert.GdnFIdeal.nD Cert.GdnFIdeal.τ).loc Cert.GdnFIdeal.main_v1_0) = v0 c
          ∧ r.2.mem ((c.tc : Thread Cert.GdnFIdeal.nD Cert.GdnFIdeal.τ).loc Cert.GdnFIdeal.main_v1_1) = v1 c
          ∧ r.2.mem ((c.tc : Thread Cert.GdnFIdeal.nD Cert.GdnFIdeal.τ).loc Cert.GdnFIdeal.main_v1_2) = v2 c
          ∧ r.2.mem ((c.tc : Thread Cert.GdnFIdeal.nD Cert.GdnFIdeal.τ).loc Cert.GdnFIdeal.main_v1_3) = v3 c
          ∧ r.2.mem ((c.tc : Thread Cert.GdnFIdeal.nD Cert.GdnFIdeal.τ).loc Cert.GdnFIdeal.main_arg0) = m ((c.tc : Thread Cert.GdnFIdeal.nD Cert.GdnFIdeal.τ).loc Cert.GdnFIdeal.main_arg0)
          ∧ r.2.mem ((c.tc : Thread Cert.GdnFIdeal.nD Cert.GdnFIdeal.τ).loc Cert.GdnFIdeal.main_arg1) = m ((c.tc : Thread Cert.GdnFIdeal.nD Cert.GdnFIdeal.τ).loc Cert.GdnFIdeal.main_arg1)
          ∧ r.2.mem ((c.tc : Thread Cert.GdnFIdeal.nD Cert.GdnFIdeal.τ).loc Cert.GdnFIdeal.main_arg2) = m ((c.tc : Thread Cert.GdnFIdeal.nD Cert.GdnFIdeal.τ).loc Cert.GdnFIdeal.main_arg2)
          ∧ r.2.mem ((c.tc : Thread Cert.GdnFIdeal.nD Cert.GdnFIdeal.τ).loc Cert.GdnFIdeal.main_arg3) = m ((c.tc : Thread Cert.GdnFIdeal.nD Cert.GdnFIdeal.τ).loc Cert.GdnFIdeal.main_arg3)
          ∧ r.2.mem ((c.tc : Thread Cert.GdnFIdeal.nD Cert.GdnFIdeal.τ).loc Cert.GdnFIdeal.main_arg4) = m ((c.tc : Thread Cert.GdnFIdeal.nD Cert.GdnFIdeal.τ).loc Cert.GdnFIdeal.main_arg4)
          ∧ r.2.mem ((c.tc : Thread Cert.GdnFIdeal.nD Cert.GdnFIdeal.τ).loc Cert.GdnFIdeal.main_arg5) = m ((c.tc : Thread Cert.GdnFIdeal.nD Cert.GdnFIdeal.τ).loc Cert.GdnFIdeal.main_arg5))
      ∧ θ_run (Cert.GdnFRefIdeal.defs (F := Ideal)) (onTc (τ := Cert.GdnFRefIdeal.τ) (Cert.GdnFRefIdeal.main (F := Ideal))) ⟨m', fun _ => 0, g'⟩ (fun r => ∀ c : Dev Cert.GdnFRefIdeal.nD,
          r.2.mem ((c.tc : Thread Cert.GdnFRefIdeal.nD Cert.GdnFRefIdeal.τ).loc Cert.GdnFRefIdeal.main_v82) = v0 c
          ∧ r.2.mem ((c.tc : Thread Cert.GdnFRefIdeal.nD Cert.GdnFRefIdeal.τ).loc Cert.GdnFRefIdeal.main_v92) = v1 c
          ∧ r.2.mem ((c.tc : Thread Cert.GdnFRefIdeal.nD Cert.GdnFRefIdeal.τ).loc Cert.GdnFRefIdeal.main_v48) = v2 c
          ∧ r.2.mem ((c.tc : Thread Cert.GdnFRefIdeal.nD Cert.GdnFRefIdeal.τ).loc Cert.GdnFRefIdeal.main_v94) = v3 c
          ∧ r.2.mem ((c.tc : Thread Cert.GdnFRefIdeal.nD Cert.GdnFRefIdeal.τ).loc Cert.GdnFRefIdeal.main_arg0) = m' ((c.tc : Thread Cert.GdnFRefIdeal.nD Cert.GdnFRefIdeal.τ).loc Cert.GdnFRefIdeal.main_arg0)
          ∧ r.2.mem ((c.tc : Thread Cert.GdnFRefIdeal.nD Cert.GdnFRefIdeal.τ).loc Cert.GdnFRefIdeal.main_arg1) = m' ((c.tc : Thread Cert.GdnFRefIdeal.nD Cert.GdnFRefIdeal.τ).loc Cert.GdnFRefIdeal.main_arg1)
          ∧ r.2.mem ((c.tc : Thread Cert.GdnFRefIdeal.nD Cert.GdnFRefIdeal.τ).loc Cert.GdnFRefIdeal.main_arg2) = m' ((c.tc : Thread Cert.GdnFRefIdeal.nD Cert.GdnFRefIdeal.τ).loc Cert.GdnFRefIdeal.main_arg2)
          ∧ r.2.mem ((c.tc : Thread Cert.GdnFRefIdeal.nD Cert.GdnFRefIdeal.τ).loc Cert.GdnFRefIdeal.main_arg3) = m' ((c.tc : Thread Cert.GdnFRefIdeal.nD Cert.GdnFRefIdeal.τ).loc Cert.GdnFRefIdeal.main_arg3)
          ∧ r.2.mem ((c.tc : Thread Cert.GdnFRefIdeal.nD Cert.GdnFRefIdeal.τ).loc Cert.GdnFRefIdeal.main_arg4) = m' ((c.tc : Thread Cert.GdnFRefIdeal.nD Cert.GdnFRefIdeal.τ).loc Cert.GdnFRefIdeal.main_arg4)
          ∧ r.2.mem ((c.tc : Thread Cert.GdnFRefIdeal.nD Cert.GdnFRefIdeal.τ).loc Cert.GdnFRefIdeal.main_arg5) = m' ((c.tc : Thread Cert.GdnFRefIdeal.nD Cert.GdnFRefIdeal.τ).loc Cert.GdnFRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v0) = v0 c
          ∧ r.2.mem ((c.tc : Thread Cert.AdamBranchRefIdeal.nD Cert.AdamBranchRefIdeal.τ).loc Cert.AdamBranchRefIdeal.main_v24) = v1 c
          ∧ r.2.mem ((c.tc : Thread Cert.AdamBranchRefIdeal.nD Cert.AdamBranchRefIdeal.τ).loc Cert.AdamBranchRefIdeal.main_v5) = v2 c
          ∧ r.2.mem ((c.tc : Thread Cert.AdamBranchRefIdeal.nD Cert.AdamBranchRefIdeal.τ).loc Cert.AdamBranchRefIdeal.main_v11) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamMeta_AdamMetaIdeal : Prop :=
  True

def algebraic_AdamMetaIdeal_AdamMetaRefIdeal [hAdamMetaIdeal : Cert.AdamMetaIdeal.Facts] [hAdamMetaRefIdeal : Cert.AdamMetaRefIdeal.Facts] : Prop :=
  ∀ (m : (ℓ : Loc Cert.AdamMetaIdeal.nD Cert.AdamMetaIdeal.τ Cert.AdamMetaIdeal.sig) → Buf (Elt Ideal) ℓ) (g : Dev Cert.AdamMetaIdeal.nD → PrngReg)
    (m' : (ℓ : Loc Cert.AdamMetaRefIdeal.nD Cert.AdamMetaRefIdeal.τ Cert.AdamMetaRefIdeal.sig) → Buf (Elt Ideal) ℓ) (g' : Dev Cert.AdamMetaRefIdeal.nD → PrngReg), Pre_AdamMetaIdeal m →
    (∀ c : Dev Cert.AdamMetaIdeal.nD,
      m' ((c.tc : Thread Cert.AdamMetaRefIdeal.nD Cert.AdamMetaRefIdeal.τ).loc Cert.AdamMetaRefIdeal.main_arg0) = m ((c.tc : Thread Cert.AdamMetaIdeal.nD Cert.AdamMetaIdeal.τ).loc Cert.AdamMetaIdeal.main_arg0)
      ∧ m' ((c.tc : Thread Cert.AdamMetaRefIdeal.nD Cert.AdamMetaRefIdeal.τ).loc Cert.AdamMetaRefIdeal.main_arg1) = m ((c.tc : Thread Cert.AdamMetaIdeal.nD Cert.AdamMetaIdeal.τ).loc Cert.AdamMetaIdeal.main_arg1)
      ∧ m' ((c.tc : Thread Cert.AdamMetaRefIdeal.nD Cert.AdamMetaRefIdeal.τ).loc Cert.AdamMetaRefIdeal.main_arg2) = m ((c.tc : Thread Cert.AdamMetaIdeal.nD Cert.AdamMetaIdeal.τ).loc Cert.AdamMetaIdeal.main_arg2)
      ∧ m' ((c.tc : Thread Cert.AdamMetaRefIdeal.nD Cert.AdamMetaRefIdeal.τ).loc Cert.AdamMetaRefIdeal.main_arg3) = m ((c.tc : Thread Cert.AdamMetaIdeal.nD Cert.AdamMetaIdeal.τ).loc Cert.AdamMetaIdeal.main_arg3)
      ∧ m' ((c.tc : Thread Cert.AdamMetaRefIdeal.nD Cert.AdamMetaRefIdeal.τ).loc Cert.AdamMetaRefIdeal.main_arg4) = m ((c.tc : Thread Cert.AdamMetaIdeal.nD Cert.AdamMetaIdeal.τ).loc Cert.AdamMetaIdeal.main_arg4)) →
    ∃ (v0 : (c : Dev Cert.AdamMetaIdeal.nD) → Buf (Elt Ideal) ((c.tc : Thread Cert.AdamMetaIdeal.nD Cert.AdamMetaIdeal.τ).loc Cert.AdamMetaIdeal.main_v0_0)) (v1 : (c : Dev Cert.AdamMetaIdeal.nD) → Buf (Elt Ideal) ((c.tc : Thread Cert.AdamMetaIdeal.nD Cert.AdamMetaIdeal.τ).loc Cert.AdamMetaIdeal.main_v0_1)) (v2 : (c : Dev Cert.AdamMetaIdeal.nD) → Buf (Elt Ideal) ((c.tc : Thread Cert.AdamMetaIdeal.nD Cert.AdamMetaIdeal.τ).loc Cert.AdamMetaIdeal.main_v0_2)) (v3 : (c : Dev Cert.AdamMetaIdeal.nD) → Buf (Elt Ideal) ((c.tc : Thread Cert.AdamMetaIdeal.nD Cert.AdamMetaIdeal.τ).loc Cert.AdamMetaIdeal.main_v0_3)),
      θ_run (Cert.AdamMetaIdeal.defs (F := Ideal)) (onTc (τ := Cert.AdamMetaIdeal.τ) (Cert.AdamMetaIdeal.main (F := Ideal))) ⟨m, fun _ => 0, g⟩ (fun r => ∀ c : Dev Cert.AdamMetaIdeal.nD,
          r.2.mem ((c.tc : Thread Cert.AdamMetaIdeal.nD Cert.AdamMetaIdeal.τ).loc Cert.AdamMetaIdeal.main_v0_0) = v0 c
          ∧ r.2.mem ((c.tc : Thread Cert.AdamMetaIdeal.nD Cert.AdamMetaIdeal.τ).loc Cert.AdamMetaIdeal.main_v0_1) = v1 c
          ∧ r.2.mem ((c.tc : Thread Cert.AdamMetaIdeal.nD Cert.AdamMetaIdeal.τ).loc Cert.AdamMetaIdeal.main_v0_2) = v2 c
          ∧ r.2.mem ((c.tc : Thread Cert.AdamMetaIdeal.nD Cert.AdamMetaIdeal.τ).loc Cert.AdamMetaIdeal.main_v0_3) = v3 c
          ∧ r.2.mem ((c.tc : Thread Cert.AdamMetaIdeal.nD Cert.AdamMetaIdeal.τ).loc Cert.AdamMetaIdeal.main_arg0) = m ((c.tc : Thread Cert.AdamMetaIdeal.nD Cert.AdamMetaIdeal.τ).loc Cert.AdamMetaIdeal.main_arg0)
          ∧ r.2.mem ((c.tc : Thread Cert.AdamMetaIdeal.nD Cert.AdamMetaIdeal.τ).loc Cert.AdamMetaIdeal.main_arg1) = m ((c.tc : Thread Cert.AdamMetaIdeal.nD Cert.AdamMetaIdeal.τ).loc Cert.AdamMetaIdeal.main_arg1)
          ∧ r.2.mem ((c.tc : Thread Cert.AdamMetaIdeal.nD Cert.AdamMetaIdeal.τ).loc Cert.AdamMetaIdeal.main_arg2) = m ((c.tc : Thread Cert.AdamMetaIdeal.nD Cert.AdamMetaIdeal.τ).loc Cert.AdamMetaIdeal.main_arg2)
          ∧ r.2.mem ((c.tc : Thread Cert.AdamMetaIdeal.nD Cert.AdamMetaIdeal.τ).loc Cert.AdamMetaIdeal.main_arg3) = m ((c.tc : Thread Cert.AdamMetaIdeal.nD Cert.AdamMetaIdeal.τ).loc Cert.AdamMetaIdeal.main_arg3)
          ∧ r.2.mem ((c.tc : Thread Cert.AdamMetaIdeal.nD Cert.AdamMetaIdeal.τ).loc Cert.AdamMetaIdeal.main_arg4) = m ((c.tc : Thread Cert.AdamMetaIdeal.nD Cert.AdamMetaIdeal.τ).loc Cert.AdamMetaIdeal.main_arg4))
      ∧ θ_run (Cert.AdamMetaRefIdeal.defs (F := Ideal)) (onTc (τ := Cert.AdamMetaRefIdeal.τ) (Cert.AdamMetaRefIdeal.main (F := Ideal))) ⟨m', fun _ => 0, g'⟩ (fun r => ∀ c : Dev Cert.AdamMetaRefIdeal.nD,
          r.2.mem ((c.tc : Thread Cert.AdamMetaRefIdeal.nD Cert.AdamMetaRefIdeal.τ).loc Cert.AdamMetaRefIdeal.main_v0) = v0 c
          ∧ r.2.mem ((c.tc : Thread Cert.AdamMetaRefIdeal.nD Cert.AdamMetaRefIdeal.τ).loc Cert.AdamMetaRefIdeal.main_v24) = v1 c
          ∧ r.2.mem ((c.tc : Thread Cert.AdamMetaRefIdeal.nD Cert.AdamMetaRefIdeal.τ).loc Cert.AdamMetaRefIdeal.main_v5) = v2 c
          ∧ r.2.mem ((c.tc : Thread Cert.AdamMetaRefIdeal.nD Cert.AdamMetaRefIdeal.τ).loc Cert.AdamMetaRefIdeal.main_v11) = v3 c
          ∧ r.2.mem ((c.tc : Thread Cert.AdamMetaRefIdeal.nD Cert.AdamMetaRefIdeal.τ).loc Cert.AdamMetaRefIdeal.main_arg0) = m' ((c.tc : Thread Cert.AdamMetaRefIdeal.nD Cert.AdamMetaRefIdeal.τ).loc Cert.AdamMetaRefIdeal.main_arg0)
          ∧ r.2.mem ((c.tc : Thread Cert.AdamMetaRefIdeal.nD Cert.AdamMetaRefIdeal.τ).loc Cert.AdamMetaRefIdeal.main_arg1) = m' ((c.tc : Thread Cert.AdamMetaRefIdeal.nD Cert.AdamMetaRefIdeal.τ).loc Cert.AdamMetaRefIdeal.main_arg1)
          ∧ r.2.mem ((c.tc : Thread Cert.AdamMetaRefIdeal.nD Cert.AdamMetaRefIdeal.τ).loc Cert.AdamMetaRefIdeal.main_arg2) = m' ((c.tc : Thread Cert.AdamMetaRefIdeal.nD Cert.AdamMetaRefIdeal.τ).loc Cert.AdamMetaRefIdeal.main_arg2)
          ∧ r.2.mem ((c.tc : Thread Cert.AdamMetaRefIdeal.nD Cert.AdamMetaRefIdeal.τ).loc Cert.AdamMetaRefIdeal.main_arg3) = m' ((c.tc : Thread Cert.AdamMetaRefIdeal.nD Cert.AdamMetaRefIdeal.τ).loc Cert.AdamMetaRefIdeal.main_arg3)
          ∧ r.2.mem ((c.tc : Thread Cert.AdamMetaRefIdeal.nD Cert.AdamMetaRefIdeal.τ).loc Cert.AdamMetaRefIdeal.main_arg4) = m' ((c.tc : Thread Cert.AdamMetaRefIdeal.nD Cert.AdamMetaRefIdeal.τ).loc Cert.AdamMetaRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v6) = v0 c
          ∧ r.2.mem ((c.tc : Thread Cert.AdamSmallRefIdeal.nD Cert.AdamSmallRefIdeal.τ).loc Cert.AdamSmallRefIdeal.main_v30) = v1 c
          ∧ r.2.mem ((c.tc : Thread Cert.AdamSmallRefIdeal.nD Cert.AdamSmallRefIdeal.τ).loc Cert.AdamSmallRefIdeal.main_v11) = v2 c
          ∧ r.2.mem ((c.tc : Thread Cert.AdamSmallRefIdeal.nD Cert.AdamSmallRefIdeal.τ).loc Cert.AdamSmallRefIdeal.main_v17) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v4) = v0 c
          ∧ r.2.mem ((c.tc : Thread Cert.LossRefIdeal.nD Cert.LossRefIdeal.τ).loc Cert.LossRefIdeal.main_v19) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def Claim : Prop :=
  ∃ (hGate : Cert.Gate.Facts) (hGateIdeal : Cert.GateIdeal.Facts) (hGateRefIdeal : Cert.GateRefIdeal.Facts) (hPlain : Cert.Plain.Facts) (hPlainIdeal : Cert.PlainIdeal.Facts) (hPlainRefIdeal : Cert.PlainRefIdeal.Facts) (hAttn : Cert.Attn.Facts) (hAttnIdeal : Cert.AttnIdeal.Facts) (hAttnRefIdeal : Cert.AttnRefIdeal.Facts) (hHgrn : Cert.Hgrn.Facts) (hHgrnIdeal : Cert.HgrnIdeal.Facts) (hHgrnRefIdeal : Cert.HgrnRefIdeal.Facts) (hOut : Cert.Out.Facts) (hOutIdeal : Cert.OutIdeal.Facts) (hOutRefIdeal : Cert.OutRefIdeal.Facts) (hGateF : Cert.GateF.Facts) (hGateFIdeal : Cert.GateFIdeal.Facts) (hGateFRefIdeal : Cert.GateFRefIdeal.Facts) (hPlainF : Cert.PlainF.Facts) (hPlainFIdeal : Cert.PlainFIdeal.Facts) (hPlainFRefIdeal : Cert.PlainFRefIdeal.Facts) (hAttnF : Cert.AttnF.Facts) (hAttnFIdeal : Cert.AttnFIdeal.Facts) (hAttnFRefIdeal : Cert.AttnFRefIdeal.Facts) (hHgrnF : Cert.HgrnF.Facts) (hHgrnFIdeal : Cert.HgrnFIdeal.Facts) (hHgrnFRefIdeal : Cert.HgrnFRefIdeal.Facts) (hOutF : Cert.OutF.Facts) (hOutFIdeal : Cert.OutFIdeal.Facts) (hOutFRefIdeal : Cert.OutFRefIdeal.Facts) (hGdnF : Cert.GdnF.Facts) (hGdnFIdeal : Cert.GdnFIdeal.Facts) (hGdnFRefIdeal : Cert.GdnFRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamConv : Cert.AdamConv.Facts) (hAdamConvIdeal : Cert.AdamConvIdeal.Facts) (hAdamConvRefIdeal : Cert.AdamConvRefIdeal.Facts) (hAdamMeta : Cert.AdamMeta.Facts) (hAdamMetaIdeal : Cert.AdamMetaIdeal.Facts) (hAdamMetaRefIdeal : Cert.AdamMetaRefIdeal.Facts) (hAdamSmall : Cert.AdamSmall.Facts) (hAdamSmallIdeal : Cert.AdamSmallIdeal.Facts) (hAdamSmallRefIdeal : Cert.AdamSmallRefIdeal.Facts) (hLoss : Cert.Loss.Facts) (hLossIdeal : Cert.LossIdeal.Facts) (hLossRefIdeal : Cert.LossRefIdeal.Facts),
    quiescent_Gate (hGate := hGate)
    ∧ quiescent_GateIdeal (hGateIdeal := hGateIdeal)
    ∧ quiescent_GateRefIdeal (hGateRefIdeal := hGateRefIdeal)
    ∧ quiescent_Plain (hPlain := hPlain)
    ∧ quiescent_PlainIdeal (hPlainIdeal := hPlainIdeal)
    ∧ quiescent_PlainRefIdeal (hPlainRefIdeal := hPlainRefIdeal)
    ∧ quiescent_Attn (hAttn := hAttn)
    ∧ quiescent_AttnIdeal (hAttnIdeal := hAttnIdeal)
    ∧ quiescent_AttnRefIdeal (hAttnRefIdeal := hAttnRefIdeal)
    ∧ quiescent_Hgrn (hHgrn := hHgrn)
    ∧ quiescent_HgrnIdeal (hHgrnIdeal := hHgrnIdeal)
    ∧ quiescent_HgrnRefIdeal (hHgrnRefIdeal := hHgrnRefIdeal)
    ∧ quiescent_Out (hOut := hOut)
    ∧ quiescent_OutIdeal (hOutIdeal := hOutIdeal)
    ∧ quiescent_OutRefIdeal (hOutRefIdeal := hOutRefIdeal)
    ∧ quiescent_GateF (hGateF := hGateF)
    ∧ quiescent_GateFIdeal (hGateFIdeal := hGateFIdeal)
    ∧ quiescent_GateFRefIdeal (hGateFRefIdeal := hGateFRefIdeal)
    ∧ quiescent_PlainF (hPlainF := hPlainF)
    ∧ quiescent_PlainFIdeal (hPlainFIdeal := hPlainFIdeal)
    ∧ quiescent_PlainFRefIdeal (hPlainFRefIdeal := hPlainFRefIdeal)
    ∧ quiescent_AttnF (hAttnF := hAttnF)
    ∧ quiescent_AttnFIdeal (hAttnFIdeal := hAttnFIdeal)
    ∧ quiescent_AttnFRefIdeal (hAttnFRefIdeal := hAttnFRefIdeal)
    ∧ quiescent_HgrnF (hHgrnF := hHgrnF)
    ∧ quiescent_HgrnFIdeal (hHgrnFIdeal := hHgrnFIdeal)
    ∧ quiescent_HgrnFRefIdeal (hHgrnFRefIdeal := hHgrnFRefIdeal)
    ∧ quiescent_OutF (hOutF := hOutF)
    ∧ quiescent_OutFIdeal (hOutFIdeal := hOutFIdeal)
    ∧ quiescent_OutFRefIdeal (hOutFRefIdeal := hOutFRefIdeal)
    ∧ quiescent_GdnF (hGdnF := hGdnF)
    ∧ quiescent_GdnFIdeal (hGdnFIdeal := hGdnFIdeal)
    ∧ quiescent_GdnFRefIdeal (hGdnFRefIdeal := hGdnFRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamMeta (hAdamMeta := hAdamMeta)
    ∧ quiescent_AdamMetaIdeal (hAdamMetaIdeal := hAdamMetaIdeal)
    ∧ quiescent_AdamMetaRefIdeal (hAdamMetaRefIdeal := hAdamMetaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Loss (hLoss := hLoss)
    ∧ quiescent_LossIdeal (hLossIdeal := hLossIdeal)
    ∧ quiescent_LossRefIdeal (hLossRefIdeal := hLossRefIdeal)
    ∧ preserves_Gate_GateIdeal
    ∧ algebraic_GateIdeal_GateRefIdeal (hGateIdeal := hGateIdeal) (hGateRefIdeal := hGateRefIdeal)
    ∧ preserves_Plain_PlainIdeal
    ∧ algebraic_PlainIdeal_PlainRefIdeal (hPlainIdeal := hPlainIdeal) (hPlainRefIdeal := hPlainRefIdeal)
    ∧ preserves_Attn_AttnIdeal
    ∧ algebraic_AttnIdeal_AttnRefIdeal (hAttnIdeal := hAttnIdeal) (hAttnRefIdeal := hAttnRefIdeal)
    ∧ preserves_Hgrn_HgrnIdeal
    ∧ algebraic_HgrnIdeal_HgrnRefIdeal (hHgrnIdeal := hHgrnIdeal) (hHgrnRefIdeal := hHgrnRefIdeal)
    ∧ preserves_Out_OutIdeal
    ∧ algebraic_OutIdeal_OutRefIdeal (hOutIdeal := hOutIdeal) (hOutRefIdeal := hOutRefIdeal)
    ∧ preserves_GateF_GateFIdeal
    ∧ algebraic_GateFIdeal_GateFRefIdeal (hGateFIdeal := hGateFIdeal) (hGateFRefIdeal := hGateFRefIdeal)
    ∧ preserves_PlainF_PlainFIdeal
    ∧ algebraic_PlainFIdeal_PlainFRefIdeal (hPlainFIdeal := hPlainFIdeal) (hPlainFRefIdeal := hPlainFRefIdeal)
    ∧ preserves_AttnF_AttnFIdeal
    ∧ algebraic_AttnFIdeal_AttnFRefIdeal (hAttnFIdeal := hAttnFIdeal) (hAttnFRefIdeal := hAttnFRefIdeal)
    ∧ preserves_HgrnF_HgrnFIdeal
    ∧ algebraic_HgrnFIdeal_HgrnFRefIdeal (hHgrnFIdeal := hHgrnFIdeal) (hHgrnFRefIdeal := hHgrnFRefIdeal)
    ∧ preserves_OutF_OutFIdeal
    ∧ algebraic_OutFIdeal_OutFRefIdeal (hOutFIdeal := hOutFIdeal) (hOutFRefIdeal := hOutFRefIdeal)
    ∧ preserves_GdnF_GdnFIdeal
    ∧ algebraic_GdnFIdeal_GdnFRefIdeal (hGdnFIdeal := hGdnFIdeal) (hGdnFRefIdeal := hGdnFRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamMeta_AdamMetaIdeal
    ∧ algebraic_AdamMetaIdeal_AdamMetaRefIdeal (hAdamMetaIdeal := hAdamMetaIdeal) (hAdamMetaRefIdeal := hAdamMetaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Loss_LossIdeal
    ∧ algebraic_LossIdeal_LossRefIdeal (hLossIdeal := hLossIdeal) (hLossRefIdeal := hLossRefIdeal)
-- ==== Gate.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S320x128 : Shape := ⟨2, ![320, 128]⟩
abbrev S128 : Shape := ⟨1, ![128]⟩
abbrev S320x384 : Shape := ⟨2, ![320, 384]⟩
abbrev S320x256 : Shape := ⟨2, ![320, 256]⟩
abbrev S1024 : Shape := ⟨1, ![1024]⟩

abbrev nBuf : Space → Nat
  | .hbm => 19
  | .vmem => 22
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S1x1024, .f32⟩
  | .hbm, ⟨3, _⟩ => ⟨S1x128, .f32⟩
  | .hbm, ⟨4, _⟩ => ⟨S1024x512, .f32⟩
  | .hbm, ⟨5, _⟩ => ⟨S1024x1024, .f32⟩
  | .hbm, ⟨6, _⟩ => ⟨S512x1024, .f32⟩
  | .hbm, ⟨7, _⟩ => ⟨S8320x1024, .f32⟩
  | .hbm, ⟨8, _⟩ => ⟨S8320x1024, .f32⟩
  | .hbm, ⟨9, _⟩ => ⟨S1024x512, .bf16⟩
  | .hbm, ⟨10, _⟩ => ⟨S1024x1024, .bf16⟩
  | .hbm, ⟨11, _⟩ => ⟨S512x1024, .bf16⟩
  | .hbm, ⟨12, _⟩ => ⟨S8320x1024, .f32⟩
  | .hbm, ⟨13, _⟩ => ⟨S8320x512, .f32⟩
  | .hbm, ⟨14, _⟩ => ⟨S1x1024, .f32⟩
  | .hbm, ⟨15, _⟩ => ⟨S1x128, .f32⟩
  | .hbm, ⟨16, _⟩ => ⟨S1024x512, .f32⟩
  | .hbm, ⟨17, _⟩ => ⟨S1024x1024, .f32⟩
  | .hbm, ⟨18, _⟩ => ⟨S512x1024, .f32⟩
  | .local _ .vmem, ⟨0, _⟩ => ⟨S320x1024, .f32⟩
  | .local _ .vmem, ⟨1, _⟩ => ⟨S320x1024, .f32⟩
  | .local _ .vmem, ⟨2, _⟩ => ⟨S320x512, .f32⟩
  | .local _ .vmem, ⟨3, _⟩ => ⟨S320x512, .f32⟩
  | .local _ .vmem, ⟨4, _⟩ => ⟨S1x1024, .f32⟩
  | .local _ .vmem, ⟨5, _⟩ => ⟨S1x128, .f32⟩
  | .local _ .vmem, ⟨6, _⟩ => ⟨S1024x512, .bf16⟩
  | .local _ .vmem, ⟨7, _⟩ => ⟨S1024x1024, .bf16⟩
  | .local _ .vmem, ⟨8, _⟩ => ⟨S512x1024, .bf16⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x512, .f32⟩
  | .local _ .vmem, ⟨16, _⟩ => ⟨S320x512, .f32⟩
  | .local _ .vmem, ⟨17, _⟩ => ⟨S1x1024, .f32⟩
  | .local _ .vmem, ⟨18, _⟩ => ⟨S1x128, .f32⟩
  | .local _ .vmem, ⟨19, _⟩ => ⟨S1024x512, .f32⟩
  | .local _ .vmem, ⟨20, _⟩ => ⟨S1024x1024, .f32⟩
  | .local _ .vmem, ⟨21, _⟩ => ⟨S512x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GateRefIdeal.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S_ : Shape := ⟨0, ![]⟩
abbrev S8320 : Shape := ⟨1, ![8320]⟩
abbrev S8320x1 : Shape := ⟨2, ![8320, 1]⟩
abbrev S8320x4x128 : Shape := ⟨3, ![8320, 4, 128]⟩
abbrev S8320x4 : Shape := ⟨2, ![8320, 4]⟩
abbrev S8320x4x1 : Shape := ⟨3, ![8320, 4, 1]⟩
abbrev S1x1x128 : Shape := ⟨3, ![1, 1, 128]⟩
abbrev S128 : Shape := ⟨1, ![128]⟩
abbrev S1024 : Shape := ⟨1, ![1024]⟩

abbrev nBuf : Space → Nat
  | .hbm => 151
  | .vmem => 0
  | .smem => 0
  | _ => 0

abbrev hbmTy0_0 (i : Nat) : BufTy := match i % 128 with
  | 0 => ⟨S8320x1024, .f32⟩
  | 1 => ⟨S8320x512, .f32⟩
  | 2 => ⟨S1x1024, .f32⟩
  | 3 => ⟨S1x128, .f32⟩
  | 4 => ⟨S1024x512, .f32⟩
  | 5 => ⟨S1024x1024, .f32⟩
  | 6 => ⟨S512x1024, .f32⟩
  | 7 => ⟨S8320x1024, .f32⟩
  | 8 => ⟨S8320x1024, .f32⟩
  | 9 => ⟨S8320x1024, .f32⟩
  | 10 => ⟨S_, .f32⟩
  | 11 => ⟨S8320, .f32⟩
  | 12 => ⟨S8320x1, .f32⟩
  | 13 => ⟨S_, .f32⟩
  | 14 => ⟨S8320x1, .f32⟩
  | 15 => ⟨S8320x1, .f32⟩
  | 16 => ⟨S_, .f32⟩
  | 17 => ⟨S8320x1, .f32⟩
  | 18 => ⟨S8320x1, .f32⟩
  | 19 => ⟨S8320x1, .f32⟩
  | 20 => ⟨S8320x1, .f32⟩
  | 21 => ⟨S_, .f32⟩
  | 22 => ⟨S8320x1, .f32⟩
  | 23 => ⟨S8320x1, .f32⟩
  | 24 => ⟨S8320x1024, .f32⟩
  | 25 => ⟨S8320x1024, .f32⟩
  | 26 => ⟨S8320x1024, .f32⟩
  | 27 => ⟨S8320x1024, .f32⟩
  | 28 => ⟨S8320x512, .f32⟩
  | 29 => ⟨S8320x1024, .f32⟩
  | 30 => ⟨S8320x4x128, .f32⟩
  | 31 => ⟨S8320x4x128, .f32⟩
  | 32 => ⟨S_, .f32⟩
  | 33 => ⟨S8320x4, .f32⟩
  | 34 => ⟨S8320x4x1, .f32⟩
  | 35 => ⟨S_, .f32⟩
  | 36 => ⟨S8320x4x1, .f32⟩
  | 37 => ⟨S8320x4x1, .f32⟩
  | 38 => ⟨S_, .f32⟩
  | 39 => ⟨S8320x4x1, .f32⟩
  | 40 => ⟨S8320x4x1, .f32⟩
  | 41 => ⟨S8320x4x1, .f32⟩
  | 42 => ⟨S8320x4x1, .f32⟩
  | 43 => ⟨S_, .f32⟩
  | 44 => ⟨S8320x4x1, .f32⟩
  | 45 => ⟨S8320x4x1, .f32⟩
  | 46 => ⟨S8320x4x128, .f32⟩
  | 47 => ⟨S8320x4x128, .f32⟩
  | 48 => ⟨S1x1x128, .f32⟩
  | 49 => ⟨S8320x4x128, .f32⟩
  | 50 => ⟨S8320x4x128, .f32⟩
  | 51 => ⟨S8320x512, .f32⟩
  | 52 => ⟨S8320x512, .f32⟩
  | 53 => ⟨S8320x512, .f32⟩
  | 54 => ⟨S_, .f32⟩
  | 55 => ⟨S8320x512, .f32⟩
  | 56 => ⟨S8320x512, .f32⟩
  | 57 => ⟨S_, .f32⟩
  | 58 => ⟨S8320x512, .f32⟩
  | 59 => ⟨S8320x512, .f32⟩
  | 60 => ⟨S_, .f32⟩
  | 61 => ⟨S8320x512, .f32⟩
  | 62 => ⟨S8320x512, .f32⟩
  | 63 => ⟨S8320x512, .f32⟩
  | 64 => ⟨S8320x512, .f32⟩
  | 65 => ⟨S8320x512, .f32⟩
  | 66 => ⟨S8320x1024, .f32⟩
  | 67 => ⟨S8320x1024, .f32⟩
  | 68 => ⟨S_, .f32⟩
  | 69 => ⟨S8320x1024, .f32⟩
  | 70 => ⟨S8320x1024, .f32⟩
  | 71 => ⟨S_, .f32⟩
  | 72 => ⟨S8320x1024, .f32⟩
  | 73 => ⟨S8320x1024, .f32⟩
  | 74 => ⟨S_, .f32⟩
  | 75 => ⟨S8320x1024, .f32⟩
  | 76 => ⟨S8320x1024, .f32⟩
  | 77 => ⟨S8320x1024, .f32⟩
  | 78 => ⟨S8320x1024, .f32⟩
  | 79 => ⟨S8320x1024, .f32⟩
  | 80 => ⟨S8320x1024, .f32⟩
  | 81 => ⟨S8320x1024, .f32⟩
  | 82 => ⟨S1024x512, .f32⟩
  | 83 => ⟨S512x1024, .f32⟩
  | 84 => ⟨S8320x512, .f32⟩
  | 85 => ⟨S8320x1024, .f32⟩
  | 86 => ⟨S8320x512, .f32⟩
  | 87 => ⟨S8320x512, .f32⟩
  | 88 => ⟨S8320x512, .f32⟩
  | 89 => ⟨S8320x512, .f32⟩
  | 90 => ⟨S8320x512, .f32⟩
  | 91 => ⟨S8320x512, .f32⟩
  | 92 => ⟨S8320x4x128, .f32⟩
  | 93 => ⟨S8320x4x128, .f32⟩
  | 94 => ⟨S_, .f32⟩
  | 95 => ⟨S128, .f32⟩
  | 96 => ⟨S1x1x128, .f32⟩
  | 97 => ⟨S8320x4x128, .f32⟩
  | 98 => ⟨S8320x4x128, .f32⟩
  | 99 => ⟨S_, .f32⟩
  | 100 => ⟨S128, .f32⟩
  | 101 => ⟨S1x128, .f32⟩
  | 102 => ⟨S8320x4x128, .f32⟩
  | 103 => ⟨S_, .f32⟩
  | 104 => ⟨S8320x4, .f32⟩
  | 105 => ⟨S8320x4x1, .f32⟩
  | 106 => ⟨S8320x4x128, .f32⟩
  | 107 => ⟨S8320x4x128, .f32⟩
  | 108 => ⟨S8320x4x1, .f32⟩
  | 109 => ⟨S_, .f32⟩
  | 110 => ⟨S8320x4x1, .f32⟩
  | 111 => ⟨S8320x4x1, .f32⟩
  | 112 => ⟨S_, .f32⟩
  | 113 => ⟨S8320x4, .f32⟩
  | 114 => ⟨S8320x4x128, .f32⟩
  | 115 => ⟨S8320x4x128, .f32⟩
  | 116 => ⟨S8320x4x128, .f32⟩
  | 117 => ⟨S8320x4x128, .f32⟩
  | 118 => ⟨S8320x4x128, .f32⟩
  | 119 => ⟨S8320x512, .f32⟩
  | 120 => ⟨S1024x1024, .f32⟩
  | 121 => ⟨S1024x1024, .f32⟩
  | 122 => ⟨S8320x1024, .f32⟩
  | 123 => ⟨S512x1024, .f32⟩
  | 124 => ⟨S1024x512, .f32⟩
  | 125 => ⟨S8320x1024, .f32⟩
  | 126 => ⟨S8320x1024, .f32⟩
  | 127 => ⟨S8320x1024, .f32⟩
  | _ => ⟨S8320x1024, .f32⟩

abbrev hbmTy0_1 (i : Nat) : BufTy := match i % 128 with
  | 0 => ⟨S_, .f32⟩
  | 1 => ⟨S1024, .f32⟩
  | 2 => ⟨S1x1024, .f32⟩
  | 3 => ⟨S8320x1024, .f32⟩
  | 4 => ⟨S8320x1024, .f32⟩
  | 5 => ⟨S8320x1024, .f32⟩
  | 6 => ⟨S_, .f32⟩
  | 7 => ⟨S8320, .f32⟩
  | 8 => ⟨S8320x1, .f32⟩
  | 9 => ⟨S8320x1024, .f32⟩
  | 10 => ⟨S8320x1024, .f32⟩
  | 11 => ⟨S8320x1024, .f32⟩
  | 12 => ⟨S8320x1, .f32⟩
  | 13 => ⟨S_, .f32⟩
  | 14 => ⟨S8320x1, .f32⟩
  | 15 => ⟨S8320x1, .f32⟩
  | 16 => ⟨S_, .f32⟩
  | 17 => ⟨S8320, .f32⟩
  | 18 => ⟨S8320x1024, .f32⟩
  | 19 => ⟨S8320x1024, .f32⟩
  | 20 => ⟨S8320x1024, .f32⟩
  | 21 => ⟨S8320x1024, .f32⟩
  | 22 => ⟨S8320x1024, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v35_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v35_1 : Ref sig .tc := ⟨.hbm, 63, rfl⟩
abbrev main_v35_0 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_cst_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_16 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_17 : Ref sig .tc := ⟨.hbm, 141, rfl⟩
abbrev main_v99 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩

abbrev nD : Nat := 1
abbrev τ : Topo := Topo.v7x

variable {F : FTy → Type} [FloatOps F]
-- ==== Plain.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S1024 : Shape := ⟨1, ![1024]⟩

abbrev nBuf : Space → Nat
  | .hbm => 19
  | .vmem => 22
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S1x1024, .f32⟩
  | .hbm, ⟨3, _⟩ => ⟨S1x128, .f32⟩
  | .hbm, ⟨4, _⟩ => ⟨S1024x512, .f32⟩
  | .hbm, ⟨5, _⟩ => ⟨S1024x1024, .f32⟩
  | .hbm, ⟨6, _⟩ => ⟨S512x1024, .f32⟩
  | .hbm, ⟨7, _⟩ => ⟨S8320x1024, .f32⟩
  | .hbm, ⟨8, _⟩ => ⟨S8320x1024, .f32⟩
  | .hbm, ⟨9, _⟩ => ⟨S1024x512, .bf16⟩
  | .hbm, ⟨10, _⟩ => ⟨S1024x1024, .bf16⟩
  | .hbm, ⟨11, _⟩ => ⟨S512x1024, .bf16⟩
  | .hbm, ⟨12, _⟩ => ⟨S8320x1024, .f32⟩
  | .hbm, ⟨13, _⟩ => ⟨S8320x512, .f32⟩
  | .hbm, ⟨14, _⟩ => ⟨S1x1024, .f32⟩
  | .hbm, ⟨15, _⟩ => ⟨S1x128, .f32⟩
  | .hbm, ⟨16, _⟩ => ⟨S1024x512, .f32⟩
  | .hbm, ⟨17, _⟩ => ⟨S1024x1024, .f32⟩
  | .hbm, ⟨18, _⟩ => ⟨S512x1024, .f32⟩
  | .local _ .vmem, ⟨0, _⟩ => ⟨S320x1024, .f32⟩
  | .local _ .vmem, ⟨1, _⟩ => ⟨S320x1024, .f32⟩
  | .local _ .vmem, ⟨2, _⟩ => ⟨S320x512, .f32⟩
  | .local _ .vmem, ⟨3, _⟩ => ⟨S320x512, .f32⟩
  | .local _ .vmem, ⟨4, _⟩ => ⟨S1x1024, .f32⟩
  | .local _ .vmem, ⟨5, _⟩ => ⟨S1x128, .f32⟩
  | .local _ .vmem, ⟨6, _⟩ => ⟨S1024x512, .bf16⟩
  | .local _ .vmem, ⟨7, _⟩ => ⟨S1024x1024, .bf16⟩
  | .local _ .vmem, ⟨8, _⟩ => ⟨S512x1024, .bf16⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x512, .f32⟩
  | .local _ .vmem, ⟨16, _⟩ => ⟨S320x512, .f32⟩
  | .local _ .vmem, ⟨17, _⟩ => ⟨S1x1024, .f32⟩
  | .local _ .vmem, ⟨18, _⟩ => ⟨S1x128, .f32⟩
  | .local _ .vmem, ⟨19, _⟩ => ⟨S1024x512, .f32⟩
  | .local _ .vmem, ⟨20, _⟩ => ⟨S1024x1024, .f32⟩
  | .local _ .vmem, ⟨21, _⟩ => ⟨S512x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_v3_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PlainRefIdeal.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S1x1024, .f32⟩
  | .hbm, ⟨3, _⟩ => ⟨S1x128, .f32⟩
  | .hbm, ⟨4, _⟩ => ⟨S1024x512, .f32⟩
  | .hbm, ⟨5, _⟩ => ⟨S1024x1024, .f32⟩
  | .hbm, ⟨6, _⟩ => ⟨S512x1024, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x512, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S_, .f32⟩
  | .hbm, ⟨33, _⟩ => ⟨S8320x1024, .f32⟩
  | .hbm, ⟨34, _⟩ => ⟨S8320x1024, .f32⟩
  | .hbm, ⟨35, _⟩ => ⟨S_, .f32⟩
  | .hbm, ⟨36, _⟩ => ⟨S8320x1024, .f32⟩
  | .hbm, ⟨37, _⟩ => ⟨S8320x1024, .f32⟩
  | .hbm, ⟨38, _⟩ => ⟨S_, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x512, .f32⟩
  | .hbm, ⟨43, _⟩ => ⟨S8320x512, .f32⟩
  | .hbm, ⟨44, _⟩ => ⟨S_, .f32⟩
  | .hbm, ⟨45, _⟩ => ⟨S8320x512, .f32⟩
  | .hbm, ⟨46, _⟩ => ⟨S8320x512, .f32⟩
  | .hbm, ⟨47, _⟩ => ⟨S_, .f32⟩
  | .hbm, ⟨48, _⟩ => ⟨S8320x512, .f32⟩
  | .hbm, ⟨49, _⟩ => ⟨S8320x512, .f32⟩
  | .hbm, ⟨50, _⟩ => ⟨S_, .f32⟩
  | .hbm, ⟨51, _⟩ => ⟨S8320x512, .f32⟩
  | .hbm, ⟨52, _⟩ => ⟨S8320x512, .f32⟩
  | .hbm, ⟨53, _⟩ => ⟨S8320x512, .f32⟩
  | .hbm, ⟨54, _⟩ => ⟨S8320x512, .f32⟩
  | .hbm, ⟨55, _⟩ => ⟨S8320x512, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S8320x1024, .f32⟩
  | .hbm, ⟨60, _⟩ => ⟨S1024x512, .f32⟩
  | .hbm, ⟨61, _⟩ => ⟨S512x1024, .f32⟩
  | .hbm, ⟨62, _⟩ => ⟨S8320x512, .f32⟩
  | .hbm, ⟨63, _⟩ => ⟨S8320x512, .f32⟩
  | .hbm, ⟨64, _⟩ => ⟨S8320x512, .f32⟩
  | .hbm, ⟨65, _⟩ => ⟨S8320x512, .f32⟩
  | .hbm, ⟨66, _⟩ => ⟨S8320x512, .f32⟩
  | .hbm, ⟨67, _⟩ => ⟨S8320x512, .f32⟩
  | .hbm, ⟨68, _⟩ => ⟨S8320x512, .f32⟩
  | .hbm, ⟨69, _⟩ => ⟨S8320x1024, .f32⟩
  | .hbm, ⟨70, _⟩ => ⟨S1024x1024, .f32⟩
  | .hbm, ⟨71, _⟩ => ⟨S1024x1024, .f32⟩
  | .hbm, ⟨72, _⟩ => ⟨S8320x1024, .f32⟩
  | .hbm, ⟨73, _⟩ => ⟨S512x1024, .f32⟩
  | .hbm, ⟨74, _⟩ => ⟨S1024x512, .f32⟩
  | .hbm, ⟨75, _⟩ => ⟨S8320x1024, .f32⟩
  | .hbm, ⟨76, _⟩ => ⟨S8320x1024, .f32⟩
  | .hbm, ⟨77, _⟩ => ⟨S8320x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8320x1024, .f32⟩
  | .hbm, ⟨82, _⟩ => ⟨S8320x1024, .f32⟩
  | .hbm, ⟨83, _⟩ => ⟨S8320x1024, .f32⟩
  | .hbm, ⟨84, _⟩ => ⟨S_, .f32⟩
  | .hbm, ⟨85, _⟩ => ⟨S8320, .f32⟩
  | .hbm, ⟨86, _⟩ => ⟨S8320x1, .f32⟩
  | .hbm, ⟨87, _⟩ => ⟨S8320x1024, .f32⟩
  | .hbm, ⟨88, _⟩ => ⟨S8320x1024, .f32⟩
  | .hbm, ⟨89, _⟩ => ⟨S8320x1024, .f32⟩
  | .hbm, ⟨90, _⟩ => ⟨S8320x1, .f32⟩
  | .hbm, ⟨91, _⟩ => ⟨S_, .f32⟩
  | .hbm, ⟨92, _⟩ => ⟨S8320x1, .f32⟩
  | .hbm, ⟨93, _⟩ => ⟨S8320x1, .f32⟩
  | .hbm, ⟨94, _⟩ => ⟨S_, .f32⟩
  | .hbm, ⟨95, _⟩ => ⟨S8320, .f32⟩
  | .hbm, ⟨96, _⟩ => ⟨S8320x1024, .f32⟩
  | .hbm, ⟨97, _⟩ => ⟨S8320x1024, .f32⟩
  | .hbm, ⟨98, _⟩ => ⟨S8320x1024, .f32⟩
  | .hbm, ⟨99, _⟩ => ⟨S8320x1024, .f32⟩
  | .hbm, ⟨100, _⟩ => ⟨S8320x1024, .f32⟩
  | .hbm, ⟨101, _⟩ => ⟨S_, .f32⟩
  | .hbm, ⟨102, _⟩ => ⟨S1x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v26_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v26_1 : Ref sig .tc := ⟨.hbm, 53, rfl⟩
abbrev main_v26_0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩

abbrev nD : Nat := 1
abbrev τ : Topo := Topo.v7x

variable {F : FTy → Type} [FloatOps F]
-- ==== Attn.lean ====
abbrev S8320x1024 : Shape := ⟨2, ![8320, 1024]⟩
abbrev S1x1024 : Shape := ⟨2, ![1, 1024]⟩
abbrev S1x128 : Shape := ⟨2, ![1, 128]⟩
abbrev S1024x1536 : Shape := ⟨2, ![1024, 1536]⟩
abbrev S8320x512 : Shape := ⟨2, ![8320, 512]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S320x1536 : Shape := ⟨2, ![320, 1536]⟩
abbrev S320x128 : Shape := ⟨2, ![320, 128]⟩
abbrev S128 : Shape := ⟨1, ![128]⟩
abbrev S320x384 : Shape := ⟨2, ![320, 384]⟩
abbrev S320x256 : Shape := ⟨2, ![320, 256]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x128, .f32⟩
  | .hbm, ⟨3, _⟩ => ⟨S1x128, .f32⟩
  | .hbm, ⟨4, _⟩ => ⟨S1024x1536, .f32⟩
  | .hbm, ⟨5, _⟩ => ⟨S8320x512, .f32⟩
  | .hbm, ⟨6, _⟩ => ⟨S8320x512, .f32⟩
  | .hbm, ⟨7, _⟩ => ⟨S8320x512, .f32⟩
  | .hbm, ⟨8, _⟩ => ⟨S8320x1024, .f32⟩
  | .hbm, ⟨9, _⟩ => ⟨S1024x1536, .bf16⟩
  | .hbm, ⟨10, _⟩ => ⟨S8320x1024, .f32⟩
  | .hbm, ⟨11, _⟩ => ⟨S1x1024, .f32⟩
  | .hbm, ⟨12, _⟩ => ⟨S1x128, .f32⟩
  | .hbm, ⟨13, _⟩ => ⟨S1x128, .f32⟩
  | .hbm, ⟨14, _⟩ => ⟨S1024x1536, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1x128, .f32⟩
  | .local _ .vmem, ⟨4, _⟩ => ⟨S1x128, .f32⟩
  | .local _ .vmem, ⟨5, _⟩ => ⟨S1024x1536, .bf16⟩
  | .local _ .vmem, ⟨6, _⟩ => ⟨S320x512, .f32⟩
  | .local _ .vmem, ⟨7, _⟩ => ⟨S320x512, .f32⟩
  | .local _ .vmem, ⟨8, _⟩ => ⟨S320x512, .f32⟩
  | .local _ .vmem, ⟨9, _⟩ => ⟨S320x512, .f32⟩
  | .local _ .vmem, ⟨10, _⟩ => ⟨S320x512, .f32⟩
  | .local _ .vmem, ⟨11, _⟩ => ⟨S320x512, .f32⟩
  | .local _ .vmem, ⟨12, _⟩ => ⟨S320x1024, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | .local _ .vmem, ⟨16, _⟩ => ⟨S1x1024, .f32⟩
  | .local _ .vmem, ⟨17, _⟩ => ⟨S1x128, .f32⟩
  | .local _ .vmem, ⟨18, _⟩ => ⟨S1x128, .f32⟩
  | .local _ .vmem, ⟨19, _⟩ => ⟨S1024x1536, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== AttnRefIdeal.lean ====
abbrev S8320x1024 : Shape := ⟨2, ![8320, 1024]⟩
abbrev S1x1024 : Shape := ⟨2, ![1, 1024]⟩
abbrev S1x128 : Shape := ⟨2, ![1, 128]⟩
abbrev S1024x1536 : Shape := ⟨2, ![1024, 1536]⟩
abbrev S8320x512 : Shape := ⟨2, ![8320, 512]⟩
abbrev S_ : Shape := ⟨0, ![]⟩
abbrev S8320 : Shape := ⟨1, ![8320]⟩
abbrev S8320x1 : Shape := ⟨2, ![8320, 1]⟩
abbrev S8320x1536 : Shape := ⟨2, ![8320, 1536]⟩
abbrev S8320x4x128 : Shape := ⟨3, ![8320, 4, 128]⟩
abbrev S8320x4 : Shape := ⟨2, ![8320, 4]⟩
abbrev S8320x4x1 : Shape := ⟨3, ![8320, 4, 1]⟩
abbrev S1x1x128 : Shape := ⟨3, ![1, 1, 128]⟩
abbrev S128 : Shape := ⟨1, ![128]⟩
abbrev S1536x1024 : Shape := ⟨2, ![1536, 1024]⟩
abbrev S1024 : Shape := ⟨1, ![1024]⟩

abbrev nBuf : Space → Nat
  | .hbm => 160
  | .vmem => 0
  | .smem => 0
  | _ => 0

abbrev hbmTy0_0 (i : Nat) : BufTy := match i % 128 with
  | 0 => ⟨S8320x1024, .f32⟩
  | 1 => ⟨S1x1024, .f32⟩
  | 2 => ⟨S1x128, .f32⟩
  | 3 => ⟨S1x128, .f32⟩
  | 4 => ⟨S1024x1536, .f32⟩
  | 5 => ⟨S8320x512, .f32⟩
  | 6 => ⟨S8320x512, .f32⟩
  | 7 => ⟨S8320x512, .f32⟩
  | 8 => ⟨S8320x1024, .f32⟩
  | 9 => ⟨S8320x1024, .f32⟩
  | 10 => ⟨S_, .f32⟩
  | 11 => ⟨S8320, .f32⟩
  | 12 => ⟨S8320x1, .f32⟩
  | 13 => ⟨S_, .f32⟩
  | 14 => ⟨S8320x1, .f32⟩
  | 15 => ⟨S8320x1, .f32⟩
  | 16 => ⟨S_, .f32⟩
  | 17 => ⟨S8320x1, .f32⟩
  | 18 => ⟨S8320x1, .f32⟩
  | 19 => ⟨S8320x1, .f32⟩
  | 20 => ⟨S8320x1, .f32⟩
  | 21 => ⟨S_, .f32⟩
  | 22 => ⟨S8320x1, .f32⟩
  | 23 => ⟨S8320x1, .f32⟩
  | 24 => ⟨S8320x1024, .f32⟩
  | 25 => ⟨S8320x1024, .f32⟩
  | 26 => ⟨S8320x1024, .f32⟩
  | 27 => ⟨S8320x1024, .f32⟩
  | 28 => ⟨S8320x1536, .f32⟩
  | 29 => ⟨S8320x512, .f32⟩
  | 30 => ⟨S8320x512, .f32⟩
  | 31 => ⟨S8320x512, .f32⟩
  | 32 => ⟨S8320x4x128, .f32⟩
  | 33 => ⟨S8320x4x128, .f32⟩
  | 34 => ⟨S_, .f32⟩
  | 35 => ⟨S8320x4, .f32⟩
  | 36 => ⟨S8320x4x1, .f32⟩
  | 37 => ⟨S_, .f32⟩
  | 38 => ⟨S8320x4x1, .f32⟩
  | 39 => ⟨S8320x4x1, .f32⟩
  | 40 => ⟨S_, .f32⟩
  | 41 => ⟨S8320x4x1, .f32⟩
  | 42 => ⟨S8320x4x1, .f32⟩
  | 43 => ⟨S8320x4x1, .f32⟩
  | 44 => ⟨S8320x4x1, .f32⟩
  | 45 => ⟨S_, .f32⟩
  | 46 => ⟨S8320x4x1, .f32⟩
  | 47 => ⟨S8320x4x1, .f32⟩
  | 48 => ⟨S8320x4x128, .f32⟩
  | 49 => ⟨S8320x4x128, .f32⟩
  | 50 => ⟨S1x1x128, .f32⟩
  | 51 => ⟨S8320x4x128, .f32⟩
  | 52 => ⟨S8320x4x128, .f32⟩
  | 53 => ⟨S8320x512, .f32⟩
  | 54 => ⟨S8320x4x128, .f32⟩
  | 55 => ⟨S8320x4x128, .f32⟩
  | 56 => ⟨S_, .f32⟩
  | 57 => ⟨S8320x4, .f32⟩
  | 58 => ⟨S8320x4x1, .f32⟩
  | 59 => ⟨S_, .f32⟩
  | 60 => ⟨S8320x4x1, .f32⟩
  | 61 => ⟨S8320x4x1, .f32⟩
  | 62 => ⟨S_, .f32⟩
  | 63 => ⟨S8320x4x1, .f32⟩
  | 64 => ⟨S8320x4x1, .f32⟩
  | 65 => ⟨S8320x4x1, .f32⟩
  | 66 => ⟨S8320x4x1, .f32⟩
  | 67 => ⟨S_, .f32⟩
  | 68 => ⟨S8320x4x1, .f32⟩
  | 69 => ⟨S8320x4x1, .f32⟩
  | 70 => ⟨S8320x4x128, .f32⟩
  | 71 => ⟨S8320x4x128, .f32⟩
  | 72 => ⟨S1x1x128, .f32⟩
  | 73 => ⟨S8320x4x128, .f32⟩
  | 74 => ⟨S8320x4x128, .f32⟩
  | 75 => ⟨S8320x512, .f32⟩
  | 76 => ⟨S8320x4x128, .f32⟩
  | 77 => ⟨S8320x4x128, .f32⟩
  | 78 => ⟨S_, .f32⟩
  | 79 => ⟨S128, .f32⟩
  | 80 => ⟨S1x1x128, .f32⟩
  | 81 => ⟨S8320x4x128, .f32⟩
  | 82 => ⟨S8320x4x128, .f32⟩
  | 83 => ⟨S_, .f32⟩
  | 84 => ⟨S128, .f32⟩
  | 85 => ⟨S1x128, .f32⟩
  | 86 => ⟨S8320x4x128, .f32⟩
  | 87 => ⟨S_, .f32⟩
  | 88 => ⟨S8320x4, .f32⟩
  | 89 => ⟨S8320x4x1, .f32⟩
  | 90 => ⟨S8320x4x128, .f32⟩
  | 91 => ⟨S8320x4x128, .f32⟩
  | 92 => ⟨S8320x4x1, .f32⟩
  | 93 => ⟨S_, .f32⟩
  | 94 => ⟨S8320x4x1, .f32⟩
  | 95 => ⟨S8320x4x1, .f32⟩
  | 96 => ⟨S_, .f32⟩
  | 97 => ⟨S8320x4, .f32⟩
  | 98 => ⟨S8320x4x128, .f32⟩
  | 99 => ⟨S8320x4x128, .f32⟩
  | 100 => ⟨S8320x4x128, .f32⟩
  | 101 => ⟨S8320x4x128, .f32⟩
  | 102 => ⟨S8320x4x128, .f32⟩
  | 103 => ⟨S8320x512, .f32⟩
  | 104 => ⟨S8320x4x128, .f32⟩
  | 105 => ⟨S8320x4x128, .f32⟩
  | 106 => ⟨S_, .f32⟩
  | 107 => ⟨S128, .f32⟩
  | 108 => ⟨S1x1x128, .f32⟩
  | 109 => ⟨S8320x4x128, .f32⟩
  | 110 => ⟨S8320x4x128, .f32⟩
  | 111 => ⟨S_, .f32⟩
  | 112 => ⟨S128, .f32⟩
  | 113 => ⟨S1x128, .f32⟩
  | 114 => ⟨S8320x4x128, .f32⟩
  | 115 => ⟨S_, .f32⟩
  | 116 => ⟨S8320x4, .f32⟩
  | 117 => ⟨S8320x4x1, .f32⟩
  | 118 => ⟨S8320x4x128, .f32⟩
  | 119 => ⟨S8320x4x128, .f32⟩
  | 120 => ⟨S8320x4x1, .f32⟩
  | 121 => ⟨S_, .f32⟩
  | 122 => ⟨S8320x4x1, .f32⟩
  | 123 => ⟨S8320x4x1, .f32⟩
  | 124 => ⟨S_, .f32⟩
  | 125 => ⟨S8320x4, .f32⟩
  | 126 => ⟨S8320x4x128, .f32⟩
  | 127 => ⟨S8320x4x128, .f32⟩
  | _ => ⟨S8320x1024, .f32⟩

abbrev hbmTy0_1 (i : Nat) : BufTy := match i % 128 with
  | 0 => ⟨S8320x4x128, .f32⟩
  | 1 => ⟨S8320x4x128, .f32⟩
  | 2 => ⟨S8320x4x128, .f32⟩
  | 3 => ⟨S8320x512, .f32⟩
  | 4 => ⟨S8320x1536, .f32⟩
  | 5 => ⟨S1536x1024, .f32⟩
  | 6 => ⟨S1024x1536, .f32⟩
  | 7 => ⟨S8320x1024, .f32⟩
  | 8 => ⟨S8320x1024, .f32⟩
  | 9 => ⟨S_, .f32⟩
  | 10 => ⟨S1024, .f32⟩
  | 11 => ⟨S1x1024, .f32⟩
  | 12 => ⟨S8320x1024, .f32⟩
  | 13 => ⟨S8320x1024, .f32⟩
  | 14 => ⟨S8320x1024, .f32⟩
  | 15 => ⟨S_, .f32⟩
  | 16 => ⟨S8320, .f32⟩
  | 17 => ⟨S8320x1, .f32⟩
  | 18 => ⟨S8320x1024, .f32⟩
  | 19 => ⟨S8320x1024, .f32⟩
  | 20 => ⟨S8320x1024, .f32⟩
  | 21 => ⟨S8320x1, .f32⟩
  | 22 => ⟨S_, .f32⟩
  | 23 => ⟨S8320x1, .f32⟩
  | 24 => ⟨S8320x1, .f32⟩
  | 25 => ⟨S_, .f32⟩
  | 26 => ⟨S8320, .f32⟩
  | 27 => ⟨S8320x1024, .f32⟩
  | 28 => ⟨S8320x1024, .f32⟩
  | 29 => ⟨S8320x1024, .f32⟩
  | 30 => ⟨S8320x1024, .f32⟩
  | 31 => ⟨S8320x1024, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_19 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_21 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_22 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_23 : Ref sig .tc := ⟨.hbm, 150, rfl⟩
abbrev main_v117 : Ref sig .tc := ⟨.hbm, 151, rfl⟩
abbrev main_v118 : Ref sig .tc := ⟨.hbm, 152, rfl⟩
abbrev main_cst_24 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩

abbrev nD : Nat := 1
abbrev τ : Topo := Topo.v7x

variable {F : FTy → Type} [FloatOps F]
-- ==== Hgrn.lean ====
abbrev S8320x1024 : Shape := ⟨2, ![8320, 1024]⟩
abbrev S1x1024 : Shape := ⟨2, ![1, 1024]⟩
abbrev S1x512 : Shape := ⟨2, ![1, 512]⟩
abbrev S1024x1536 : Shape := ⟨2, ![1024, 1536]⟩
abbrev S8320x512 : Shape := ⟨2, ![8320, 512]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S320x1536 : Shape := ⟨2, ![320, 1536]⟩
abbrev S512 : Shape := ⟨1, ![512]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x512, .f32⟩
  | .hbm, ⟨3, _⟩ => ⟨S1024x1536, .f32⟩
  | .hbm, ⟨4, _⟩ => ⟨S8320x512, .f32⟩
  | .hbm, ⟨5, _⟩ => ⟨S8320x512, .f32⟩
  | .hbm, ⟨6, _⟩ => ⟨S8320x512, .f32⟩
  | .hbm, ⟨7, _⟩ => ⟨S8320x512, .f32⟩
  | .hbm, ⟨8, _⟩ => ⟨S8320x1024, .f32⟩
  | .hbm, ⟨9, _⟩ => ⟨S1024x1536, .bf16⟩
  | .hbm, ⟨10, _⟩ => ⟨S8320x1024, .f32⟩
  | .hbm, ⟨11, _⟩ => ⟨S1x1024, .f32⟩
  | .hbm, ⟨12, _⟩ => ⟨S1x512, .f32⟩
  | .hbm, ⟨13, _⟩ => ⟨S1024x1536, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1x512, .f32⟩
  | .local _ .vmem, ⟨4, _⟩ => ⟨S1024x1536, .bf16⟩
  | .local _ .vmem, ⟨5, _⟩ => ⟨S320x512, .f32⟩
  | .local _ .vmem, ⟨6, _⟩ => ⟨S320x512, .f32⟩
  | .local _ .vmem, ⟨7, _⟩ => ⟨S320x512, .f32⟩
  | .local _ .vmem, ⟨8, _⟩ => ⟨S320x512, .f32⟩
  | .local _ .vmem, ⟨9, _⟩ => ⟨S320x512, .f32⟩
  | .local _ .vmem, ⟨10, _⟩ => ⟨S320x512, .f32⟩
  | .local _ .vmem, ⟨11, _⟩ => ⟨S320x512, .f32⟩
  | .local _ .vmem, ⟨12, _⟩ => ⟨S320x512, .f32⟩
  | .local _ .vmem, ⟨13, _⟩ => ⟨S320x1024, .f32⟩
  | .local _ .vmem, ⟨14, _⟩ => ⟨S320x1024, .f32⟩
  | .local _ .vmem, ⟨15, _⟩ => ⟨S320x1024, .f32⟩
  | .local _ .vmem, ⟨16, _⟩ => ⟨S320x1024, .f32⟩
  | .local _ .vmem, ⟨17, _⟩ => ⟨S1x1024, .f32⟩
  | .local _ .vmem, ⟨18, _⟩ => ⟨S1x512, .f32⟩
  | .local _ .vmem, ⟨19, _⟩ => ⟨S1024x1536, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== HgrnRefIdeal.lean ====
abbrev S8320x1024 : Shape := ⟨2, ![8320, 1024]⟩
abbrev S1x1024 : Shape := ⟨2, ![1, 1024]⟩
abbrev S1x512 : Shape := ⟨2, ![1, 512]⟩
abbrev S1024x1536 : Shape := ⟨2, ![1024, 1536]⟩
abbrev S8320x512 : Shape := ⟨2, ![8320, 512]⟩
abbrev S_ : Shape := ⟨0, ![]⟩
abbrev S8320 : Shape := ⟨1, ![8320]⟩
abbrev S8320x1 : Shape := ⟨2, ![8320, 1]⟩
abbrev S8320x1536 : Shape := ⟨2, ![8320, 1536]⟩
abbrev S512 : Shape := ⟨1, ![512]⟩
abbrev S1536x1024 : Shape := ⟨2, ![1536, 1024]⟩
abbrev S1024 : Shape := ⟨1, ![1024]⟩

abbrev nBuf : Space → Nat
  | .hbm => 149
  | .vmem => 0
  | .smem => 0
  | _ => 0

abbrev hbmTy0_0 (i : Nat) : BufTy := match i % 128 with
  | 0 => ⟨S8320x1024, .f32⟩
  | 1 => ⟨S1x1024, .f32⟩
  | 2 => ⟨S1x512, .f32⟩
  | 3 => ⟨S1024x1536, .f32⟩
  | 4 => ⟨S8320x512, .f32⟩
  | 5 => ⟨S8320x512, .f32⟩
  | 6 => ⟨S8320x512, .f32⟩
  | 7 => ⟨S8320x512, .f32⟩
  | 8 => ⟨S8320x1024, .f32⟩
  | 9 => ⟨S8320x1024, .f32⟩
  | 10 => ⟨S_, .f32⟩
  | 11 => ⟨S8320, .f32⟩
  | 12 => ⟨S8320x1, .f32⟩
  | 13 => ⟨S_, .f32⟩
  | 14 => ⟨S8320x1, .f32⟩
  | 15 => ⟨S8320x1, .f32⟩
  | 16 => ⟨S_, .f32⟩
  | 17 => ⟨S8320x1, .f32⟩
  | 18 => ⟨S8320x1, .f32⟩
  | 19 => ⟨S8320x1, .f32⟩
  | 20 => ⟨S8320x1, .f32⟩
  | 21 => ⟨S_, .f32⟩
  | 22 => ⟨S8320x1, .f32⟩
  | 23 => ⟨S8320x1, .f32⟩
  | 24 => ⟨S8320x1024, .f32⟩
  | 25 => ⟨S8320x1024, .f32⟩
  | 26 => ⟨S8320x1024, .f32⟩
  | 27 => ⟨S8320x1024, .f32⟩
  | 28 => ⟨S8320x1536, .f32⟩
  | 29 => ⟨S8320x512, .f32⟩
  | 30 => ⟨S8320x512, .f32⟩
  | 31 => ⟨S8320x512, .f32⟩
  | 32 => ⟨S8320, .i32⟩
  | 33 => ⟨S_, .i32⟩
  | 34 => ⟨S8320, .i32⟩
  | 35 => ⟨S8320, .i1⟩
  | 36 => ⟨S8320x1, .i1⟩
  | 37 => ⟨S8320x1, .f32⟩
  | 38 => ⟨S_, .f32⟩
  | 39 => ⟨S1x512, .f32⟩
  | 40 => ⟨S1x512, .f32⟩
  | 41 => ⟨S8320x512, .f32⟩
  | 42 => ⟨S8320x512, .f32⟩
  | 43 => ⟨S_, .f32⟩
  | 44 => ⟨S8320x512, .f32⟩
  | 45 => ⟨S8320x512, .f32⟩
  | 46 => ⟨S_, .f32⟩
  | 47 => ⟨S8320x512, .f32⟩
  | 48 => ⟨S8320x512, .f32⟩
  | 49 => ⟨S_, .f32⟩
  | 50 => ⟨S8320x512, .f32⟩
  | 51 => ⟨S8320x512, .f32⟩
  | 52 => ⟨S8320x512, .f32⟩
  | 53 => ⟨S8320x512, .f32⟩
  | 54 => ⟨S8320x512, .f32⟩
  | 55 => ⟨S8320x512, .f32⟩
  | 56 => ⟨S8320x512, .f32⟩
  | 57 => ⟨S_, .f32⟩
  | 58 => ⟨S1x512, .f32⟩
  | 59 => ⟨S1x512, .f32⟩
  | 60 => ⟨S8320x512, .f32⟩
  | 61 => ⟨S8320x512, .f32⟩
  | 62 => ⟨S8320x512, .f32⟩
  | 63 => ⟨S_, .f32⟩
  | 64 => ⟨S8320x512, .f32⟩
  | 65 => ⟨S8320x512, .f32⟩
  | 66 => ⟨S_, .f32⟩
  | 67 => ⟨S8320x512, .f32⟩
  | 68 => ⟨S8320x512, .f32⟩
  | 69 => ⟨S_, .f32⟩
  | 70 => ⟨S8320x512, .f32⟩
  | 71 => ⟨S8320x512, .f32⟩
  | 72 => ⟨S8320x512, .f32⟩
  | 73 => ⟨S8320x512, .f32⟩
  | 74 => ⟨S8320x512, .f32⟩
  | 75 => ⟨S8320x512, .f32⟩
  | 76 => ⟨S8320x512, .f32⟩
  | 77 => ⟨S_, .f32⟩
  | 78 => ⟨S8320x512, .f32⟩
  | 79 => ⟨S8320x512, .f32⟩
  | 80 => ⟨S_, .f32⟩
  | 81 => ⟨S8320x512, .f32⟩
  | 82 => ⟨S8320x512, .f32⟩
  | 83 => ⟨S_, .f32⟩
  | 84 => ⟨S8320x512, .f32⟩
  | 85 => ⟨S8320x512, .f32⟩
  | 86 => ⟨S8320x512, .f32⟩
  | 87 => ⟨S8320x512, .f32⟩
  | 88 => ⟨S8320x512, .f32⟩
  | 89 => ⟨S8320x512, .f32⟩
  | 90 => ⟨S8320x512, .f32⟩
  | 91 => ⟨S8320x512, .f32⟩
  | 92 => ⟨S8320x512, .f32⟩
  | 93 => ⟨S8320x512, .f32⟩
  | 94 => ⟨S8320x512, .f32⟩
  | 95 => ⟨S8320x512, .f32⟩
  | 96 => ⟨S8320x512, .f32⟩
  | 97 => ⟨S8320x512, .f32⟩
  | 98 => ⟨S8320x512, .f32⟩
  | 99 => ⟨S8320x512, .f32⟩
  | 100 => ⟨S8320x512, .f32⟩
  | 101 => ⟨S_, .f32⟩
  | 102 => ⟨S512, .f32⟩
  | 103 => ⟨S1x512, .f32⟩
  | 104 => ⟨S8320x512, .f32⟩
  | 105 => ⟨S8320x512, .f32⟩
  | 106 => ⟨S1x512, .f32⟩
  | 107 => ⟨S_, .f32⟩
  | 108 => ⟨S512, .f32⟩
  | 109 => ⟨S1x512, .f32⟩
  | 110 => ⟨S1x512, .f32⟩
  | 111 => ⟨S8320x512, .f32⟩
  | 112 => ⟨S8320x512, .f32⟩
  | 113 => ⟨S8320x512, .f32⟩
  | 114 => ⟨S_, .f32⟩
  | 115 => ⟨S512, .f32⟩
  | 116 => ⟨S1x512, .f32⟩
  | 117 => ⟨S8320x512, .f32⟩
  | 118 => ⟨S8320x512, .f32⟩
  | 119 => ⟨S1x512, .f32⟩
  | 120 => ⟨S1x512, .f32⟩
  | 121 => ⟨S8320x1536, .f32⟩
  | 122 => ⟨S1536x1024, .f32⟩
  | 123 => ⟨S1024x1536, .f32⟩
  | 124 => ⟨S8320x1024, .f32⟩
  | 125 => ⟨S8320x1024, .f32⟩
  | 126 => ⟨S_, .f32⟩
  | 127 => ⟨S1024, .f32⟩
  | _ => ⟨S8320x1024, .f32⟩

abbrev hbmTy0_1 (i : Nat) : BufTy := match i % 128 with
  | 0 => ⟨S1x1024, .f32⟩
  | 1 => ⟨S8320x1024, .f32⟩
  | 2 => ⟨S8320x1024, .f32⟩
  | 3 => ⟨S8320x1024, .f32⟩
  | 4 => ⟨S_, .f32⟩
  | 5 => ⟨S8320, .f32⟩
  | 6 => ⟨S8320x1, .f32⟩
  | 7 => ⟨S8320x1024, .f32⟩
  | 8 => ⟨S8320x1024, .f32⟩
  | 9 => ⟨S8320x1024, .f32⟩
  | 10 => ⟨S8320x1, .f32⟩
  | 11 => ⟨S_, .f32⟩
  | 12 => ⟨S8320x1, .f32⟩
  | 13 => ⟨S8320x1, .f32⟩
  | 14 => ⟨S_, .f32⟩
  | 15 => ⟨S8320, .f32⟩
  | 16 => ⟨S8320x1024, .f32⟩
  | 17 => ⟨S8320x1024, .f32⟩
  | 18 => ⟨S8320x1024, .f32⟩
  | 19 => ⟨S8320x1024, .f32⟩
  | 20 => ⟨S8320x1024, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_v53_2 : Ref sig .tc := ⟨.hbm, 82, rfl⟩
abbrev main_call0_cst_1 : Ref sig .tc := ⟨.hbm, 83, rfl⟩
abbrev main_call0_v6 : Ref sig .tc := ⟨.hbm, 84, rfl⟩
abbrev main_call0_v7 : Ref sig .tc := ⟨.hbm, 85, rfl⟩
abbrev main_v53_1 : Ref sig .tc := ⟨.hbm, 86, rfl⟩
abbrev main_v53_0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_12 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_13 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_15 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_16 : Ref sig .tc := ⟨.hbm, 139, rfl⟩
abbrev main_v97 : Ref sig .tc := ⟨.hbm, 140, rfl⟩
abbrev main_v98 : Ref sig .tc := ⟨.hbm, 141, rfl⟩
abbrev main_cst_17 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]
-- ==== Out.lean ====
abbrev S8320x1024 : Shape := ⟨2, ![8320, 1024]⟩
abbrev S1024x1024 : Shape := ⟨2, ![1024, 1024]⟩
abbrev S320x1024 : Shape := ⟨2, ![320, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .f32⟩
  | .hbm, ⟨3, _⟩ => ⟨S8320x1024, .f32⟩
  | .hbm, ⟨4, _⟩ => ⟨S1024x1024, .bf16⟩
  | .hbm, ⟨5, _⟩ => ⟨S8320x1024, .f32⟩
  | .hbm, ⟨6, _⟩ => ⟨S1024x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S1024x1024, .bf16⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c25_i32 : BitVec 32 := 25#32
  let v0 : BitVec 32 := Scalar.subi c25_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutRefIdeal.lean ====
abbrev S8320x1024 : Shape := ⟨2, ![8320, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .f32⟩
  | .hbm, ⟨3, _⟩ => ⟨S8320x1024, .f32⟩
  | .hbm, ⟨4, _⟩ => ⟨S8320x1024, .f32⟩
  | .hbm, ⟨5, _⟩ => ⟨S1024x1024, .f32⟩
  | .hbm, ⟨6, _⟩ => ⟨S1024x1024, .f32⟩
  | .hbm, ⟨7, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== GateF.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S320x128 : Shape := ⟨2, ![320, 128]⟩

abbrev nBuf : Space → Nat
  | .hbm => 12
  | .vmem => 13
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S8320x1024, .f32⟩
  | .hbm, ⟨3, _⟩ => ⟨S1x1024, .f32⟩
  | .hbm, ⟨4, _⟩ => ⟨S1x128, .f32⟩
  | .hbm, ⟨5, _⟩ => ⟨S1024x512, .f32⟩
  | .hbm, ⟨6, _⟩ => ⟨S1024x1024, .f32⟩
  | .hbm, ⟨7, _⟩ => ⟨S512x1024, .f32⟩
  | .hbm, ⟨8, _⟩ => ⟨S1024x512, .bf16⟩
  | .hbm, ⟨9, _⟩ => ⟨S1024x1024, .bf16⟩
  | .hbm, ⟨10, _⟩ => ⟨S512x1024, .bf16⟩
  | .hbm, ⟨11, _⟩ => ⟨S8320x1024, .f32⟩
  | .local _ .vmem, ⟨0, _⟩ => ⟨S320x1024, .f32⟩
  | .local _ .vmem, ⟨1, _⟩ => ⟨S320x1024, .f32⟩
  | .local _ .vmem, ⟨2, _⟩ => ⟨S320x512, .f32⟩
  | .local _ .vmem, ⟨3, _⟩ => ⟨S320x512, .f32⟩
  | .local _ .vmem, ⟨4, _⟩ => ⟨S320x1024, .f32⟩
  | .local _ .vmem, ⟨5, _⟩ => ⟨S320x1024, .f32⟩
  | .local _ .vmem, ⟨6, _⟩ => ⟨S1x1024, .f32⟩
  | .local _ .vmem, ⟨7, _⟩ => ⟨S1x128, .f32⟩
  | .local _ .vmem, ⟨8, _⟩ => ⟨S1024x512, .bf16⟩
  | .local _ .vmem, ⟨9, _⟩ => ⟨S1024x1024, .bf16⟩
  | .local _ .vmem, ⟨10, _⟩ => ⟨S512x1024, .bf16⟩
  | .local _ .vmem, ⟨11, _⟩ => ⟨S320x1024, .f32⟩
  | .local _ .vmem, ⟨12, _⟩ => ⟨S320x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateFRefIdeal.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S_ : Shape := ⟨0, ![]⟩
abbrev S8320 : Shape := ⟨1, ![8320]⟩
abbrev S8320x1 : Shape := ⟨2, ![8320, 1]⟩
abbrev S8320x4x128 : Shape := ⟨3, ![8320, 4, 128]⟩
abbrev S8320x4 : Shape := ⟨2, ![8320, 4]⟩
abbrev S8320x4x1 : Shape := ⟨3, ![8320, 4, 1]⟩
abbrev S1x1x128 : Shape := ⟨3, ![1, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S8320x1024, .f32⟩
  | .hbm, ⟨3, _⟩ => ⟨S1x1024, .f32⟩
  | .hbm, ⟨4, _⟩ => ⟨S1x128, .f32⟩
  | .hbm, ⟨5, _⟩ => ⟨S1024x512, .f32⟩
  | .hbm, ⟨6, _⟩ => ⟨S1024x1024, .f32⟩
  | .hbm, ⟨7, _⟩ => ⟨S512x1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x512, .f32⟩
  | .hbm, ⟨24, _⟩ => ⟨S8320x1024, .f32⟩
  | .hbm, ⟨25, _⟩ => ⟨S8320x4x128, .f32⟩
  | .hbm, ⟨26, _⟩ => ⟨S8320x4x128, .f32⟩
  | .hbm, ⟨27, _⟩ => ⟨S_, .f32⟩
  | .hbm, ⟨28, _⟩ => ⟨S8320x4, .f32⟩
  | .hbm, ⟨29, _⟩ => ⟨S8320x4x1, .f32⟩
  | .hbm, ⟨30, _⟩ => ⟨S_, .f32⟩
  | .hbm, ⟨31, _⟩ => ⟨S8320x4x1, .f32⟩
  | .hbm, ⟨32, _⟩ => ⟨S8320x4x1, .f32⟩
  | .hbm, ⟨33, _⟩ => ⟨S_, .f32⟩
  | .hbm, ⟨34, _⟩ => ⟨S8320x4x1, .f32⟩
  | .hbm, ⟨35, _⟩ => ⟨S8320x4x1, .f32⟩
  | .hbm, ⟨36, _⟩ => ⟨S8320x4x1, .f32⟩
  | .hbm, ⟨37, _⟩ => ⟨S8320x4x128, .f32⟩
  | .hbm, ⟨38, _⟩ => ⟨S8320x4x128, .f32⟩
  | .hbm, ⟨39, _⟩ => ⟨S1x1x128, .f32⟩
  | .hbm, ⟨40, _⟩ => ⟨S8320x4x128, .f32⟩
  | .hbm, ⟨41, _⟩ => ⟨S8320x4x128, .f32⟩
  | .hbm, ⟨42, _⟩ => ⟨S8320x512, .f32⟩
  | .hbm, ⟨43, _⟩ => ⟨S8320x512, .f32⟩
  | .hbm, ⟨44, _⟩ => ⟨S8320x512, .f32⟩
  | .hbm, ⟨45, _⟩ => ⟨S_, .f32⟩
  | .hbm, ⟨46, _⟩ => ⟨S8320x512, .f32⟩
  | .hbm, ⟨47, _⟩ => ⟨S8320x512, .f32⟩
  | .hbm, ⟨48, _⟩ => ⟨S_, .f32⟩
  | .hbm, ⟨49, _⟩ => ⟨S8320x512, .f32⟩
  | .hbm, ⟨50, _⟩ => ⟨S8320x512, .f32⟩
  | .hbm, ⟨51, _⟩ => ⟨S8320x512, .f32⟩
  | .hbm, ⟨52, _⟩ => ⟨S8320x512, .f32⟩
  | .hbm, ⟨53, _⟩ => ⟨S8320x1024, .f32⟩
  | .hbm, ⟨54, _⟩ => ⟨S8320x1024, .f32⟩
  | .hbm, ⟨55, _⟩ => ⟨S_, .f32⟩
  | .hbm, ⟨56, _⟩ => ⟨S8320x1024, .f32⟩
  | .hbm, ⟨57, _⟩ => ⟨S8320x1024, .f32⟩
  | .hbm, ⟨58, _⟩ => ⟨S_, .f32⟩
  | .hbm, ⟨59, _⟩ => ⟨S8320x1024, .f32⟩
  | .hbm, ⟨60, _⟩ => ⟨S8320x1024, .f32⟩
  | .hbm, ⟨61, _⟩ => ⟨S8320x1024, .f32⟩
  | .hbm, ⟨62, _⟩ => ⟨S8320x1024, .f32⟩
  | .hbm, ⟨63, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== PlainF.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩

abbrev nBuf : Space → Nat
  | .hbm => 11
  | .vmem => 11
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S1x1024, .f32⟩
  | .hbm, ⟨3, _⟩ => ⟨S1x128, .f32⟩
  | .hbm, ⟨4, _⟩ => ⟨S1024x512, .f32⟩
  | .hbm, ⟨5, _⟩ => ⟨S1024x1024, .f32⟩
  | .hbm, ⟨6, _⟩ => ⟨S512x1024, .f32⟩
  | .hbm, ⟨7, _⟩ => ⟨S1024x512, .bf16⟩
  | .hbm, ⟨8, _⟩ => ⟨S1024x1024, .bf16⟩
  | .hbm, ⟨9, _⟩ => ⟨S512x1024, .bf16⟩
  | .hbm, ⟨10, _⟩ => ⟨S8320x1024, .f32⟩
  | .local _ .vmem, ⟨0, _⟩ => ⟨S320x1024, .f32⟩
  | .local _ .vmem, ⟨1, _⟩ => ⟨S320x1024, .f32⟩
  | .local _ .vmem, ⟨2, _⟩ => ⟨S320x512, .f32⟩
  | .local _ .vmem, ⟨3, _⟩ => ⟨S320x512, .f32⟩
  | .local _ .vmem, ⟨4, _⟩ => ⟨S1x1024, .f32⟩
  | .local _ .vmem, ⟨5, _⟩ => ⟨S1x128, .f32⟩
  | .local _ .vmem, ⟨6, _⟩ => ⟨S1024x512, .bf16⟩
  | .local _ .vmem, ⟨7, _⟩ => ⟨S1024x1024, .bf16⟩
  | .local _ .vmem, ⟨8, _⟩ => ⟨S512x1024, .bf16⟩
  | .local _ .vmem, ⟨9, _⟩ => ⟨S320x1024, .f32⟩
  | .local _ .vmem, ⟨10, _⟩ => ⟨S320x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PlainFRefIdeal.lean ====
abbrev S8320x1024 : Shape := ⟨2, ![8320, 1024]⟩
abbrev S8320x512 : Shape := ⟨2, ![8320, 512]⟩
abbrev S1x1024 : Shape := ⟨2, ![1, 1024]⟩
abbrev S1x128 : Shape := ⟨2, ![1, 128]⟩
abbrev S1024x512 : Shape := ⟨2, ![1024, 512]⟩
abbrev S1024x1024 : Shape := ⟨2, ![1024, 1024]⟩
abbrev S512x1024 : Shape := ⟨2, ![512, 1024]⟩
abbrev S_ : Shape := ⟨0, ![]⟩
abbrev S8320 : Shape := ⟨1, ![8320]⟩
abbrev S8320x1 : Shape := ⟨2, ![8320, 1]⟩

abbrev nBuf : Space → Nat
  | .hbm => 44
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x512, .f32⟩
  | .hbm, ⟨2, _⟩ => ⟨S1x1024, .f32⟩
  | .hbm, ⟨3, _⟩ => ⟨S1x128, .f32⟩
  | .hbm, ⟨4, _⟩ => ⟨S1024x512, .f32⟩
  | .hbm, ⟨5, _⟩ => ⟨S1024x1024, .f32⟩
  | .hbm, ⟨6, _⟩ => ⟨S512x1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x512, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1024, .f32⟩
  | .hbm, ⟨28, _⟩ => ⟨S8320x1024, .f32⟩
  | .hbm, ⟨29, _⟩ => ⟨S_, .f32⟩
  | .hbm, ⟨30, _⟩ => ⟨S8320x1024, .f32⟩
  | .hbm, ⟨31, _⟩ => ⟨S8320x1024, .f32⟩
  | .hbm, ⟨32, _⟩ => ⟨S8320x512, .f32⟩
  | .hbm, ⟨33, _⟩ => ⟨S8320x512, .f32⟩
  | .hbm, ⟨34, _⟩ => ⟨S_, .f32⟩
  | .hbm, ⟨35, _⟩ => ⟨S8320x512, .f32⟩
  | .hbm, ⟨36, _⟩ => ⟨S8320x512, .f32⟩
  | .hbm, ⟨37, _⟩ => ⟨S_, .f32⟩
  | .hbm, ⟨38, _⟩ => ⟨S8320x512, .f32⟩
  | .hbm, ⟨39, _⟩ => ⟨S8320x512, .f32⟩
  | .hbm, ⟨40, _⟩ => ⟨S8320x512, .f32⟩
  | .hbm, ⟨41, _⟩ => ⟨S8320x512, .f32⟩
  | .hbm, ⟨42, _⟩ => ⟨S8320x1024, .f32⟩
  | .hbm, ⟨43, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== AttnF.lean ====
abbrev S8320x1024 : Shape := ⟨2, ![8320, 1024]⟩
abbrev S1x1024 : Shape := ⟨2, ![1, 1024]⟩
abbrev S1x128 : Shape := ⟨2, ![1, 128]⟩
abbrev S1024x1536 : Shape := ⟨2, ![1024, 1536]⟩
abbrev S8320x512 : Shape := ⟨2, ![8320, 512]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S320x1536 : Shape := ⟨2, ![320, 1536]⟩
abbrev S320x128 : Shape := ⟨2, ![320, 128]⟩

abbrev nBuf : Space → Nat
  | .hbm => 9
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x128, .f32⟩
  | .hbm, ⟨3, _⟩ => ⟨S1x128, .f32⟩
  | .hbm, ⟨4, _⟩ => ⟨S1024x1536, .f32⟩
  | .hbm, ⟨5, _⟩ => ⟨S1024x1536, .bf16⟩
  | .hbm, ⟨6, _⟩ => ⟨S8320x512, .f32⟩
  | .hbm, ⟨7, _⟩ => ⟨S8320x512, .f32⟩
  | .hbm, ⟨8, _⟩ => ⟨S8320x512, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1x128, .f32⟩
  | .local _ .vmem, ⟨4, _⟩ => ⟨S1x128, .f32⟩
  | .local _ .vmem, ⟨5, _⟩ => ⟨S1024x1536, .bf16⟩
  | .local _ .vmem, ⟨6, _⟩ => ⟨S320x512, .f32⟩
  | .local _ .vmem, ⟨7, _⟩ => ⟨S320x512, .f32⟩
  | .local _ .vmem, ⟨8, _⟩ => ⟨S320x512, .f32⟩
  | .local _ .vmem, ⟨9, _⟩ => ⟨S320x512, .f32⟩
  | .local _ .vmem, ⟨10, _⟩ => ⟨S320x512, .f32⟩
  | .local _ .vmem, ⟨11, _⟩ => ⟨S320x512, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFRefIdeal.lean ====
abbrev S8320x1024 : Shape := ⟨2, ![8320, 1024]⟩
abbrev S1x1024 : Shape := ⟨2, ![1, 1024]⟩
abbrev S1x128 : Shape := ⟨2, ![1, 128]⟩
abbrev S1024x1536 : Shape := ⟨2, ![1024, 1536]⟩
abbrev S_ : Shape := ⟨0, ![]⟩
abbrev S8320 : Shape := ⟨1, ![8320]⟩
abbrev S8320x1 : Shape := ⟨2, ![8320, 1]⟩
abbrev S8320x1536 : Shape := ⟨2, ![8320, 1536]⟩
abbrev S8320x512 : Shape := ⟨2, ![8320, 512]⟩
abbrev S8320x4x128 : Shape := ⟨3, ![8320, 4, 128]⟩
abbrev S8320x4 : Shape := ⟨2, ![8320, 4]⟩
abbrev S8320x4x1 : Shape := ⟨3, ![8320, 4, 1]⟩
abbrev S1x1x128 : Shape := ⟨3, ![1, 1, 128]⟩

abbrev nBuf : Space → Nat
  | .hbm => 60
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x128, .f32⟩
  | .hbm, ⟨3, _⟩ => ⟨S1x128, .f32⟩
  | .hbm, ⟨4, _⟩ => ⟨S1024x1536, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1536, .f32⟩
  | .hbm, ⟨21, _⟩ => ⟨S8320x512, .f32⟩
  | .hbm, ⟨22, _⟩ => ⟨S8320x512, .f32⟩
  | .hbm, ⟨23, _⟩ => ⟨S8320x512, .f32⟩
  | .hbm, ⟨24, _⟩ => ⟨S8320x4x128, .f32⟩
  | .hbm, ⟨25, _⟩ => ⟨S8320x4x128, .f32⟩
  | .hbm, ⟨26, _⟩ => ⟨S_, .f32⟩
  | .hbm, ⟨27, _⟩ => ⟨S8320x4, .f32⟩
  | .hbm, ⟨28, _⟩ => ⟨S8320x4x1, .f32⟩
  | .hbm, ⟨29, _⟩ => ⟨S_, .f32⟩
  | .hbm, ⟨30, _⟩ => ⟨S8320x4x1, .f32⟩
  | .hbm, ⟨31, _⟩ => ⟨S8320x4x1, .f32⟩
  | .hbm, ⟨32, _⟩ => ⟨S_, .f32⟩
  | .hbm, ⟨33, _⟩ => ⟨S8320x4x1, .f32⟩
  | .hbm, ⟨34, _⟩ => ⟨S8320x4x1, .f32⟩
  | .hbm, ⟨35, _⟩ => ⟨S8320x4x1, .f32⟩
  | .hbm, ⟨36, _⟩ => ⟨S8320x4x128, .f32⟩
  | .hbm, ⟨37, _⟩ => ⟨S8320x4x128, .f32⟩
  | .hbm, ⟨38, _⟩ => ⟨S1x1x128, .f32⟩
  | .hbm, ⟨39, _⟩ => ⟨S8320x4x128, .f32⟩
  | .hbm, ⟨40, _⟩ => ⟨S8320x4x128, .f32⟩
  | .hbm, ⟨41, _⟩ => ⟨S8320x512, .f32⟩
  | .hbm, ⟨42, _⟩ => ⟨S8320x4x128, .f32⟩
  | .hbm, ⟨43, _⟩ => ⟨S8320x4x128, .f32⟩
  | .hbm, ⟨44, _⟩ => ⟨S_, .f32⟩
  | .hbm, ⟨45, _⟩ => ⟨S8320x4, .f32⟩
  | .hbm, ⟨46, _⟩ => ⟨S8320x4x1, .f32⟩
  | .hbm, ⟨47, _⟩ => ⟨S_, .f32⟩
  | .hbm, ⟨48, _⟩ => ⟨S8320x4x1, .f32⟩
  | .hbm, ⟨49, _⟩ => ⟨S8320x4x1, .f32⟩
  | .hbm, ⟨50, _⟩ => ⟨S_, .f32⟩
  | .hbm, ⟨51, _⟩ => ⟨S8320x4x1, .f32⟩
  | .hbm, ⟨52, _⟩ => ⟨S8320x4x1, .f32⟩
  | .hbm, ⟨53, _⟩ => ⟨S8320x4x1, .f32⟩
  | .hbm, ⟨54, _⟩ => ⟨S8320x4x128, .f32⟩
  | .hbm, ⟨55, _⟩ => ⟨S8320x4x128, .f32⟩
  | .hbm, ⟨56, _⟩ => ⟨S1x1x128, .f32⟩
  | .hbm, ⟨57, _⟩ => ⟨S8320x4x128, .f32⟩
  | .hbm, ⟨58, _⟩ => ⟨S8320x4x128, .f32⟩
  | .hbm, ⟨59, _⟩ => ⟨S8320x512, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== HgrnF.lean ====
abbrev S8320x1024 : Shape := ⟨2, ![8320, 1024]⟩
abbrev S1x1024 : Shape := ⟨2, ![1, 1024]⟩
abbrev S1x512 : Shape := ⟨2, ![1, 512]⟩
abbrev S1024x1536 : Shape := ⟨2, ![1024, 1536]⟩
abbrev S8320x512 : Shape := ⟨2, ![8320, 512]⟩
abbrev S320x1024 : Shape := ⟨2, ![320, 1024]⟩
abbrev S320x512 : Shape := ⟨2, ![320, 512]⟩
abbrev S320 : Shape := ⟨1, ![320]⟩
abbrev S320x1 : Shape := ⟨2, ![320, 1]⟩
abbrev S320x1536 : Shape := ⟨2, ![320, 1536]⟩

abbrev nBuf : Space → Nat
  | .hbm => 9
  | .vmem => 13
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x512, .f32⟩
  | .hbm, ⟨3, _⟩ => ⟨S1024x1536, .f32⟩
  | .hbm, ⟨4, _⟩ => ⟨S1024x1536, .bf16⟩
  | .hbm, ⟨5, _⟩ => ⟨S8320x512, .f32⟩
  | .hbm, ⟨6, _⟩ => ⟨S8320x512, .f32⟩
  | .hbm, ⟨7, _⟩ => ⟨S8320x512, .f32⟩
  | .hbm, ⟨8, _⟩ => ⟨S8320x512, .f32⟩
  | .local _ .vmem, ⟨0, _⟩ => ⟨S320x1024, .f32⟩
  | .local _ .vmem, ⟨1, _⟩ => ⟨S320x1024, .f32⟩
  | .local _ .vmem, ⟨2, _⟩ => ⟨S1x1024, .f32⟩
  | .local _ .vmem, ⟨3, _⟩ => ⟨S1x512, .f32⟩
  | .local _ .vmem, ⟨4, _⟩ => ⟨S1024x1536, .bf16⟩
  | .local _ .vmem, ⟨5, _⟩ => ⟨S320x512, .f32⟩
  | .local _ .vmem, ⟨6, _⟩ => ⟨S320x512, .f32⟩
  | .local _ .vmem, ⟨7, _⟩ => ⟨S320x512, .f32⟩
  | .local _ .vmem, ⟨8, _⟩ => ⟨S320x512, .f32⟩
  | .local _ .vmem, ⟨9, _⟩ => ⟨S320x512, .f32⟩
  | .local _ .vmem, ⟨10, _⟩ => ⟨S320x512, .f32⟩
  | .local _ .vmem, ⟨11, _⟩ => ⟨S320x512, .f32⟩
  | .local _ .vmem, ⟨12, _⟩ => ⟨S320x512, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== HgrnFRefIdeal.lean ====
abbrev S8320x1024 : Shape := ⟨2, ![8320, 1024]⟩
abbrev S1x1024 : Shape := ⟨2, ![1, 1024]⟩
abbrev S1x512 : Shape := ⟨2, ![1, 512]⟩
abbrev S1024x1536 : Shape := ⟨2, ![1024, 1536]⟩
abbrev S_ : Shape := ⟨0, ![]⟩
abbrev S8320 : Shape := ⟨1, ![8320]⟩
abbrev S8320x1 : Shape := ⟨2, ![8320, 1]⟩
abbrev S8320x1536 : Shape := ⟨2, ![8320, 1536]⟩
abbrev S8320x512 : Shape := ⟨2, ![8320, 512]⟩

abbrev nBuf : Space → Nat
  | .hbm => 70
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x512, .f32⟩
  | .hbm, ⟨3, _⟩ => ⟨S1024x1536, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1536, .f32⟩
  | .hbm, ⟨20, _⟩ => ⟨S8320x512, .f32⟩
  | .hbm, ⟨21, _⟩ => ⟨S8320x512, .f32⟩
  | .hbm, ⟨22, _⟩ => ⟨S8320x512, .f32⟩
  | .hbm, ⟨23, _⟩ => ⟨S8320, .i32⟩
  | .hbm, ⟨24, _⟩ => ⟨S_, .i32⟩
  | .hbm, ⟨25, _⟩ => ⟨S8320, .i32⟩
  | .hbm, ⟨26, _⟩ => ⟨S8320, .i1⟩
  | .hbm, ⟨27, _⟩ => ⟨S8320x1, .i1⟩
  | .hbm, ⟨28, _⟩ => ⟨S8320x1, .f32⟩
  | .hbm, ⟨29, _⟩ => ⟨S_, .f32⟩
  | .hbm, ⟨30, _⟩ => ⟨S1x512, .f32⟩
  | .hbm, ⟨31, _⟩ => ⟨S1x512, .f32⟩
  | .hbm, ⟨32, _⟩ => ⟨S8320x512, .f32⟩
  | .hbm, ⟨33, _⟩ => ⟨S8320x512, .f32⟩
  | .hbm, ⟨34, _⟩ => ⟨S_, .f32⟩
  | .hbm, ⟨35, _⟩ => ⟨S8320x512, .f32⟩
  | .hbm, ⟨36, _⟩ => ⟨S8320x512, .f32⟩
  | .hbm, ⟨37, _⟩ => ⟨S_, .f32⟩
  | .hbm, ⟨38, _⟩ => ⟨S8320x512, .f32⟩
  | .hbm, ⟨39, _⟩ => ⟨S8320x512, .f32⟩
  | .hbm, ⟨40, _⟩ => ⟨S8320x512, .f32⟩
  | .hbm, ⟨41, _⟩ => ⟨S8320x512, .f32⟩
  | .hbm, ⟨42, _⟩ => ⟨S8320x512, .f32⟩
  | .hbm, ⟨43, _⟩ => ⟨S8320x512, .f32⟩
  | .hbm, ⟨44, _⟩ => ⟨S_, .f32⟩
  | .hbm, ⟨45, _⟩ => ⟨S1x512, .f32⟩
  | .hbm, ⟨46, _⟩ => ⟨S1x512, .f32⟩
  | .hbm, ⟨47, _⟩ => ⟨S8320x512, .f32⟩
  | .hbm, ⟨48, _⟩ => ⟨S8320x512, .f32⟩
  | .hbm, ⟨49, _⟩ => ⟨S8320x512, .f32⟩
  | .hbm, ⟨50, _⟩ => ⟨S_, .f32⟩
  | .hbm, ⟨51, _⟩ => ⟨S8320x512, .f32⟩
  | .hbm, ⟨52, _⟩ => ⟨S8320x512, .f32⟩
  | .hbm, ⟨53, _⟩ => ⟨S_, .f32⟩
  | .hbm, ⟨54, _⟩ => ⟨S8320x512, .f32⟩
  | .hbm, ⟨55, _⟩ => ⟨S8320x512, .f32⟩
  | .hbm, ⟨56, _⟩ => ⟨S8320x512, .f32⟩
  | .hbm, ⟨57, _⟩ => ⟨S8320x512, .f32⟩
  | .hbm, ⟨58, _⟩ => ⟨S8320x512, .f32⟩
  | .hbm, ⟨59, _⟩ => ⟨S8320x512, .f32⟩
  | .hbm, ⟨60, _⟩ => ⟨S_, .f32⟩
  | .hbm, ⟨61, _⟩ => ⟨S8320x512, .f32⟩
  | .hbm, ⟨62, _⟩ => ⟨S8320x512, .f32⟩
  | .hbm, ⟨63, _⟩ => ⟨S_, .f32⟩
  | .hbm, ⟨64, _⟩ => ⟨S8320x512, .f32⟩
  | .hbm, ⟨65, _⟩ => ⟨S8320x512, .f32⟩
  | .hbm, ⟨66, _⟩ => ⟨S8320x512, .f32⟩
  | .hbm, ⟨67, _⟩ => ⟨S8320x512, .f32⟩
  | .hbm, ⟨68, _⟩ => ⟨S8320x512, .f32⟩
  | .hbm, ⟨69, _⟩ => ⟨S8320x512, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== OutF.lean ====
abbrev S8320x1024 : Shape := ⟨2, ![8320, 1024]⟩
abbrev S1024x1024 : Shape := ⟨2, ![1024, 1024]⟩
abbrev S320x1024 : Shape := ⟨2, ![320, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .f32⟩
  | .hbm, ⟨3, _⟩ => ⟨S1024x1024, .bf16⟩
  | .hbm, ⟨4, _⟩ => ⟨S8320x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S1024x1024, .bf16⟩
  | .local _ .vmem, ⟨5, _⟩ => ⟨S320x1024, .f32⟩
  | .local _ .vmem, ⟨6, _⟩ => ⟨S320x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutFRefIdeal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .f32⟩
  | .hbm, ⟨3, _⟩ => ⟨S8320x1024, .f32⟩
  | .hbm, ⟨4, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== GdnF.lean ====
abbrev S8320x1024 : Shape := ⟨2, ![8320, 1024]⟩
abbrev S1x1024 : Shape := ⟨2, ![1, 1024]⟩
abbrev S4x1536 : Shape := ⟨2, ![4, 1536]⟩
abbrev S1x128 : Shape := ⟨2, ![1, 128]⟩
abbrev S1024x1664 : Shape := ⟨2, ![1024, 1664]⟩
abbrev S8320x512 : Shape := ⟨2, ![8320, 512]⟩
abbrev S8320x128 : Shape := ⟨2, ![8320, 128]⟩
abbrev S8x1024 : Shape := ⟨2, ![8, 1024]⟩
abbrev S320x1024 : Shape := ⟨2, ![320, 1024]⟩
abbrev S320x512 : Shape := ⟨2, ![320, 512]⟩
abbrev S320x128 : Shape := ⟨2, ![320, 128]⟩
abbrev S328x1024 : Shape := ⟨2, ![328, 1024]⟩
abbrev S328 : Shape := ⟨1, ![328]⟩
abbrev S328x1 : Shape := ⟨2, ![328, 1]⟩
abbrev S328x1664 : Shape := ⟨2, ![328, 1664]⟩
abbrev S328x1536 : Shape := ⟨2, ![328, 1536]⟩
abbrev S1x1536 : Shape := ⟨2, ![1, 1536]⟩
abbrev S320x1536 : Shape := ⟨2, ![320, 1536]⟩
abbrev S320 : Shape := ⟨1, ![320]⟩
abbrev S320x1 : Shape := ⟨2, ![320, 1]⟩

abbrev nBuf : Space → Nat
  | .hbm => 11
  | .vmem => 17
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S4x1536, .f32⟩
  | .hbm, ⟨3, _⟩ => ⟨S1x128, .f32⟩
  | .hbm, ⟨4, _⟩ => ⟨S1x128, .f32⟩
  | .hbm, ⟨5, _⟩ => ⟨S1024x1664, .f32⟩
  | .hbm, ⟨6, _⟩ => ⟨S1024x1664, .bf16⟩
  | .hbm, ⟨7, _⟩ => ⟨S8320x512, .f32⟩
  | .hbm, ⟨8, _⟩ => ⟨S8320x512, .f32⟩
  | .hbm, ⟨9, _⟩ => ⟨S8320x512, .f32⟩
  | .hbm, ⟨10, _⟩ => ⟨S8320x128, .f32⟩
  | .local _ .vmem, ⟨0, _⟩ => ⟨S8x1024, .f32⟩
  | .local _ .vmem, ⟨1, _⟩ => ⟨S8x1024, .f32⟩
  | .local _ .vmem, ⟨2, _⟩ => ⟨S320x1024, .f32⟩
  | .local _ .vmem, ⟨3, _⟩ => ⟨S320x1024, .f32⟩
  | .local _ .vmem, ⟨4, _⟩ => ⟨S1x1024, .f32⟩
  | .local _ .vmem, ⟨5, _⟩ => ⟨S4x1536, .f32⟩
  | .local _ .vmem, ⟨6, _⟩ => ⟨S1x128, .f32⟩
  | .local _ .vmem, ⟨7, _⟩ => ⟨S1x128, .f32⟩
  | .local _ .vmem, ⟨8, _⟩ => ⟨S1024x1664, .bf16⟩
  | .local _ .vmem, ⟨9, _⟩ => ⟨S320x512, .f32⟩
  | .local _ .vmem, ⟨10, _⟩ => ⟨S320x512, .f32⟩
  | .local _ .vmem, ⟨11, _⟩ => ⟨S320x512, .f32⟩
  | .local _ .vmem, ⟨12, _⟩ => ⟨S320x512, .f32⟩
  | .local _ .vmem, ⟨13, _⟩ => ⟨S320x512, .f32⟩
  | .local _ .vmem, ⟨14, _⟩ => ⟨S320x512, .f32⟩
  | .local _ .vmem, ⟨15, _⟩ => ⟨S320x128, .f32⟩
  | .local _ .vmem, ⟨16, _⟩ => ⟨S320x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S320x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GdnFRefIdeal.lean ====
abbrev S8320x1024 : Shape := ⟨2, ![8320, 1024]⟩
abbrev S1x1024 : Shape := ⟨2, ![1, 1024]⟩
abbrev S4x1536 : Shape := ⟨2, ![4, 1536]⟩
abbrev S1x128 : Shape := ⟨2, ![1, 128]⟩
abbrev S1024x1664 : Shape := ⟨2, ![1024, 1664]⟩
abbrev S_ : Shape := ⟨0, ![]⟩
abbrev S8320 : Shape := ⟨1, ![8320]⟩
abbrev S8320x1 : Shape := ⟨2, ![8320, 1]⟩
abbrev S8320x1664 : Shape := ⟨2, ![8320, 1664]⟩
abbrev S8320x1536 : Shape := ⟨2, ![8320, 1536]⟩
abbrev S8320x4 : Shape := ⟨2, ![8320, 4]⟩
abbrev S8320x120 : Shape := ⟨2, ![8320, 120]⟩
abbrev S8323x1536 : Shape := ⟨2, ![8323, 1536]⟩
abbrev S1x1536 : Shape := ⟨2, ![1, 1536]⟩
abbrev S1536 : Shape := ⟨1, ![1536]⟩
abbrev S8320x512 : Shape := ⟨2, ![8320, 512]⟩
abbrev S1x4 : Shape := ⟨2, ![1, 4]⟩
abbrev S8320x4x128 : Shape := ⟨3, ![8320, 4, 128]⟩
abbrev S8320x4x1 : Shape := ⟨3, ![8320, 4, 1]⟩
abbrev S8320x128 : Shape := ⟨2, ![8320, 128]⟩

abbrev nBuf : Space → Nat
  | .hbm => 136
  | .vmem => 0
  | .smem => 0
  | _ => 0

abbrev hbmTy0_0 (i : Nat) : BufTy := match i % 128 with
  | 0 => ⟨S8320x1024, .f32⟩
  | 1 => ⟨S1x1024, .f32⟩
  | 2 => ⟨S4x1536, .f32⟩
  | 3 => ⟨S1x128, .f32⟩
  | 4 => ⟨S1x128, .f32⟩
  | 5 => ⟨S1024x1664, .f32⟩
  | 6 => ⟨S8320x1024, .f32⟩
  | 7 => ⟨S_, .f32⟩
  | 8 => ⟨S8320, .f32⟩
  | 9 => ⟨S8320x1, .f32⟩
  | 10 => ⟨S_, .f32⟩
  | 11 => ⟨S8320x1, .f32⟩
  | 12 => ⟨S8320x1, .f32⟩
  | 13 => ⟨S_, .f32⟩
  | 14 => ⟨S8320x1, .f32⟩
  | 15 => ⟨S8320x1, .f32⟩
  | 16 => ⟨S8320x1, .f32⟩
  | 17 => ⟨S8320x1024, .f32⟩
  | 18 => ⟨S8320x1024, .f32⟩
  | 19 => ⟨S8320x1024, .f32⟩
  | 20 => ⟨S8320x1024, .f32⟩
  | 21 => ⟨S8320x1664, .f32⟩
  | 22 => ⟨S8320x1536, .f32⟩
  | 23 => ⟨S8320x4, .f32⟩
  | 24 => ⟨S8320x4, .f32⟩
  | 25 => ⟨S8320x120, .f32⟩
  | 26 => ⟨S_, .i32⟩
  | 27 => ⟨S_, .f32⟩
  | 28 => ⟨S8323x1536, .f32⟩
  | 29 => ⟨S8320x1536, .f32⟩
  | 30 => ⟨S1x1536, .f32⟩
  | 31 => ⟨S1536, .f32⟩
  | 32 => ⟨S1x1536, .f32⟩
  | 33 => ⟨S8320x1536, .f32⟩
  | 34 => ⟨S8320x1536, .f32⟩
  | 35 => ⟨S8320x1536, .f32⟩
  | 36 => ⟨S1x1536, .f32⟩
  | 37 => ⟨S1536, .f32⟩
  | 38 => ⟨S1x1536, .f32⟩
  | 39 => ⟨S8320x1536, .f32⟩
  | 40 => ⟨S8320x1536, .f32⟩
  | 41 => ⟨S8320x1536, .f32⟩
  | 42 => ⟨S8320x1536, .f32⟩
  | 43 => ⟨S1x1536, .f32⟩
  | 44 => ⟨S1536, .f32⟩
  | 45 => ⟨S1x1536, .f32⟩
  | 46 => ⟨S8320x1536, .f32⟩
  | 47 => ⟨S8320x1536, .f32⟩
  | 48 => ⟨S8320x1536, .f32⟩
  | 49 => ⟨S8320x1536, .f32⟩
  | 50 => ⟨S1x1536, .f32⟩
  | 51 => ⟨S1536, .f32⟩
  | 52 => ⟨S1x1536, .f32⟩
  | 53 => ⟨S8320x1536, .f32⟩
  | 54 => ⟨S8320x1536, .f32⟩
  | 55 => ⟨S8320x1536, .f32⟩
  | 56 => ⟨S8320x1536, .f32⟩
  | 57 => ⟨S8320x1536, .f32⟩
  | 58 => ⟨S_, .f32⟩
  | 59 => ⟨S8320x1536, .f32⟩
  | 60 => ⟨S8320x1536, .f32⟩
  | 61 => ⟨S_, .f32⟩
  | 62 => ⟨S8320x1536, .f32⟩
  | 63 => ⟨S8320x1536, .f32⟩
  | 64 => ⟨S8320x1536, .f32⟩
  | 65 => ⟨S8320x512, .f32⟩
  | 66 => ⟨S8320x512, .f32⟩
  | 67 => ⟨S8320x512, .f32⟩
  | 68 => ⟨S8320, .i32⟩
  | 69 => ⟨S_, .i32⟩
  | 70 => ⟨S8320, .i32⟩
  | 71 => ⟨S8320, .i1⟩
  | 72 => ⟨S8320x1, .i1⟩
  | 73 => ⟨S8320x1, .f32⟩
  | 74 => ⟨S8320x4, .f32⟩
  | 75 => ⟨S8320x4, .f32⟩
  | 76 => ⟨S_, .f32⟩
  | 77 => ⟨S8320x4, .f32⟩
  | 78 => ⟨S8320x4, .f32⟩
  | 79 => ⟨S_, .f32⟩
  | 80 => ⟨S8320x4, .f32⟩
  | 81 => ⟨S8320x4, .f32⟩
  | 82 => ⟨S8320x4, .f32⟩
  | 83 => ⟨S8320x4, .f32⟩
  | 84 => ⟨S1x4, .f32⟩
  | 85 => ⟨S1x4, .f32⟩
  | 86 => ⟨S1x4, .f32⟩
  | 87 => ⟨S1x4, .f32⟩
  | 88 => ⟨S8320x4, .f32⟩
  | 89 => ⟨S8320x4, .f32⟩
  | 90 => ⟨S_, .f32⟩
  | 91 => ⟨S8320x4, .f32⟩
  | 92 => ⟨S8320x4, .f32⟩
  | 93 => ⟨S8320x4, .f32⟩
  | 94 => ⟨S8320x4, .f32⟩
  | 95 => ⟨S8320x4, .i1⟩
  | 96 => ⟨S8320x4, .f32⟩
  | 97 => ⟨S8320x4, .f32⟩
  | 98 => ⟨S8320x4, .f32⟩
  | 99 => ⟨S8320x4, .f32⟩
  | 100 => ⟨S8320x4, .f32⟩
  | 101 => ⟨S8320x4, .f32⟩
  | 102 => ⟨S8320x4, .f32⟩
  | 103 => ⟨S8320x4, .f32⟩
  | 104 => ⟨S8320x4, .f32⟩
  | 105 => ⟨S8320x4, .f32⟩
  | 106 => ⟨S8320x4x128, .f32⟩
  | 107 => ⟨S8320x4x128, .f32⟩
  | 108 => ⟨S_, .f32⟩
  | 109 => ⟨S8320x4, .f32⟩
  | 110 => ⟨S8320x4x1, .f32⟩
  | 111 => ⟨S_, .f32⟩
  | 112 => ⟨S8320x4x1, .f32⟩
  | 113 => ⟨S8320x4x1, .f32⟩
  | 114 => ⟨S8320x4x1, .f32⟩
  | 115 => ⟨S8320x4x128, .f32⟩
  | 116 => ⟨S8320x4x128, .f32⟩
  | 117 => ⟨S_, .f32⟩
  | 118 => ⟨S8320x4x128, .f32⟩
  | 119 => ⟨S8320x4x128, .f32⟩
  | 120 => ⟨S8320x512, .f32⟩
  | 121 => ⟨S8320x4x128, .f32⟩
  | 122 => ⟨S8320x4x128, .f32⟩
  | 123 => ⟨S_, .f32⟩
  | 124 => ⟨S8320x4, .f32⟩
  | 125 => ⟨S8320x4x1, .f32⟩
  | 126 => ⟨S_, .f32⟩
  | 127 => ⟨S8320x4x1, .f32⟩
  | _ => ⟨S8320x1024, .f32⟩

abbrev hbmTy0_1 (i : Nat) : BufTy := match i % 128 with
  | 0 => ⟨S8320x4x1, .f32⟩
  | 1 => ⟨S8320x4x1, .f32⟩
  | 2 => ⟨S8320x4x128, .f32⟩
  | 3 => ⟨S8320x4x128, .f32⟩
  | 4 => ⟨S8320x512, .f32⟩
  | 5 => ⟨S_, .f32⟩
  | 6 => ⟨S8320x120, .f32⟩
  | 7 => ⟨S8320x128, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_5 : Ref sig .tc := ⟨.hbm, 108, rfl⟩
abbrev main_v73 : Ref sig .tc := ⟨.hbm, 109, rfl⟩
abbrev main_v74 : Ref sig .tc := ⟨.hbm, 110, rfl⟩
abbrev main_cst_6 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_7 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_8 : Ref sig .tc := ⟨.hbm, 123, rfl⟩
abbrev main_v85 : Ref sig .tc := ⟨.hbm, 124, rfl⟩
abbrev main_v86 : Ref sig .tc := ⟨.hbm, 125, rfl⟩
abbrev main_cst_9 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_10 : Ref sig .tc := ⟨.hbm, 133, rfl⟩
abbrev main_v93 : Ref sig .tc := ⟨.hbm, 134, rfl⟩
abbrev main_v94 : Ref sig .tc := ⟨.hbm, 135, rfl⟩

abbrev nD : Nat := 1
abbrev τ : Topo := Topo.v7x

variable {F : FTy → Type} [FloatOps F]
-- ==== AdamIn.lean ====
abbrev S4096x2306 : Shape := ⟨2, ![4096, 2306]⟩
abbrev S128x2306 : Shape := ⟨2, ![128, 2306]⟩

abbrev nBuf : Space → Nat
  | .hbm => 9
  | .vmem => 18
  | .smem => 0
  | _ => 0

abbrev bufTy : (tb : Table) → Fin (tcTables nBuf tb) → BufTy
  | .hbm, ⟨0, _⟩ => ⟨S4096x2306, .f32⟩
  | .hbm, ⟨1, _⟩ => ⟨S4096x2306, .f32⟩
  | .hbm, ⟨2, _⟩ => ⟨S4096x2306, .f32⟩
  | .hbm, ⟨3, _⟩ => ⟨S4096x2306, .f32⟩
  | .hbm, ⟨4, _⟩ => ⟨S4096x2306, .f32⟩
  | .hbm, ⟨5, _⟩ => ⟨S4096x2306, .f32⟩
  | .hbm, ⟨6, _⟩ => ⟨S4096x2306, .f32⟩
  | .hbm, ⟨7, _⟩ => ⟨S4096x2306, .f32⟩
  | .hbm, ⟨8, _⟩ => ⟨S4096x2306, .f32⟩
  | .local _ .vmem, ⟨0, _⟩ => ⟨S128x2306, .f32⟩
  | .local _ .vmem, ⟨1, _⟩ => ⟨S128x2306, .f32⟩
  | .local _ .vmem, ⟨2, _⟩ => ⟨S128x2306, .f32⟩
  | .local _ .vmem, ⟨3, _⟩ => ⟨S128x2306, .f32⟩
  | .local _ .vmem, ⟨4, _⟩ => ⟨S128x2306, .f32⟩
  | .local _ .vmem, ⟨5, _⟩ => ⟨S128x2306, .f32⟩
  | .local _ .vmem, ⟨6, _⟩ => ⟨S128x2306, .f32⟩
  | .local _ .vmem, ⟨7, _⟩ => ⟨S128x2306, .f32⟩
  | .local _ .vmem, ⟨8, _⟩ => ⟨S128x2306, .f32⟩
  | .local _ .vmem, ⟨9, _⟩ => ⟨S128x2306, .f32⟩
  | .local _ .vmem, ⟨10, _⟩ => ⟨S128x2306, .f32⟩
  | .local _ .vmem, ⟨11, _⟩ => ⟨S128x2306, .f32⟩
  | .local _ .vmem, ⟨12, _⟩ => ⟨S128x2306, .f32⟩
  | .local _ .vmem, ⟨13, _⟩ => ⟨S128x2306, .f32⟩
  | .local _ .vmem, ⟨14, _⟩ => ⟨S128x2306, .f32⟩
  | .local _ .vmem, ⟨15, _⟩ => ⟨S128x2306, .f32⟩
  | .local _ .vmem, ⟨16, _⟩ => ⟨S128x2306, .f32⟩
  | .local _ .vmem, ⟨17, _⟩ => ⟨S128x2306, .f32⟩
  | _, _ => ⟨S4096x2306, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2306 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2306 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2306 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2306 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2306 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2306 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2306 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2306 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2306 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S4096x2306 : Shape := ⟨2, ![4096, 2306]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2306, .f32⟩
  | .hbm, ⟨1, _⟩ => ⟨S4096x2306, .f32⟩
  | .hbm, ⟨2, _⟩ => ⟨S4096x2306, .f32⟩
  | .hbm, ⟨3, _⟩ => ⟨S4096x2306, .f32⟩
  | .hbm, ⟨4, _⟩ => ⟨S4096x2306, .f32⟩
  | .hbm, ⟨5, _⟩ => ⟨S4096x2306, .f32⟩
  | .hbm, ⟨6, _⟩ => ⟨S_, .f32⟩
  | .hbm, ⟨7, _⟩ => ⟨S4096x2306, .f32⟩
  | .hbm, ⟨8, _⟩ => ⟨S4096x2306, .f32⟩
  | .hbm, ⟨9, _⟩ => ⟨S_, .f32⟩
  | .hbm, ⟨10, _⟩ => ⟨S4096x2306, .f32⟩
  | .hbm, ⟨11, _⟩ => ⟨S4096x2306, .f32⟩
  | .hbm, ⟨12, _⟩ => ⟨S4096x2306, .f32⟩
  | .hbm, ⟨13, _⟩ => ⟨S_, .f32⟩
  | .hbm, ⟨14, _⟩ => ⟨S4096x2306, .f32⟩
  | .hbm, ⟨15, _⟩ => ⟨S4096x2306, .f32⟩
  | .hbm, ⟨16, _⟩ => ⟨S4096x2306, .f32⟩
  | .hbm, ⟨17, _⟩ => ⟨S_, .f32⟩
  | .hbm, ⟨18, _⟩ => ⟨S4096x2306, .f32⟩
  | .hbm, ⟨19, _⟩ => ⟨S4096x2306, .f32⟩
  | .hbm, ⟨20, _⟩ => ⟨S4096x2306, .f32⟩
  | .hbm, ⟨21, _⟩ => ⟨S_, .f32⟩
  | .hbm, ⟨22, _⟩ => ⟨S4096x2306, .f32⟩
  | .hbm, ⟨23, _⟩ => ⟨S4096x2306, .f32⟩
  | .hbm, ⟨24, _⟩ => ⟨S_, .f32⟩
  | .hbm, ⟨25, _⟩ => ⟨S4096x2306, .f32⟩
  | .hbm, ⟨26, _⟩ => ⟨S4096x2306, .f32⟩
  | .hbm, ⟨27, _⟩ => ⟨S4096x2306, .f32⟩
  | .hbm, ⟨28, _⟩ => ⟨S_, .f32⟩
  | .hbm, ⟨29, _⟩ => ⟨S4096x2306, .f32⟩
  | .hbm, ⟨30, _⟩ => ⟨S4096x2306, .f32⟩
  | .hbm, ⟨31, _⟩ => ⟨S4096x2306, .f32⟩
  | .hbm, ⟨32, _⟩ => ⟨S_, .f32⟩
  | .hbm, ⟨33, _⟩ => ⟨S4096x2306, .f32⟩
  | .hbm, ⟨34, _⟩ => ⟨S4096x2306, .f32⟩
  | .hbm, ⟨35, _⟩ => ⟨S4096x2306, .f32⟩
  | .hbm, ⟨36, _⟩ => ⟨S_, .f32⟩
  | .hbm, ⟨37, _⟩ => ⟨S4096x2306, .f32⟩
  | .hbm, ⟨38, _⟩ => ⟨S4096x2306, .f32⟩
  | _, _ => ⟨S4096x2306, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamBranch.lean ====
abbrev S6144x256 : Shape := ⟨2, ![6144, 256]⟩
abbrev S1024x256 : Shape := ⟨2, ![1024, 256]⟩

abbrev nBuf : Space → Nat
  | .hbm => 9
  | .vmem => 18
  | .smem => 0
  | _ => 0

abbrev bufTy : (tb : Table) → Fin (tcTables nBuf tb) → BufTy
  | .hbm, ⟨0, _⟩ => ⟨S6144x256, .f32⟩
  | .hbm, ⟨1, _⟩ => ⟨S6144x256, .f32⟩
  | .hbm, ⟨2, _⟩ => ⟨S6144x256, .f32⟩
  | .hbm, ⟨3, _⟩ => ⟨S6144x256, .f32⟩
  | .hbm, ⟨4, _⟩ => ⟨S6144x256, .f32⟩
  | .hbm, ⟨5, _⟩ => ⟨S6144x256, .f32⟩
  | .hbm, ⟨6, _⟩ => ⟨S6144x256, .f32⟩
  | .hbm, ⟨7, _⟩ => ⟨S6144x256, .f32⟩
  | .hbm, ⟨8, _⟩ => ⟨S6144x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S6144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBranchRefIdeal.lean ====
abbrev S6144x256 : Shape := ⟨2, ![6144, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S6144x256, .f32⟩
  | .hbm, ⟨1, _⟩ => ⟨S6144x256, .f32⟩
  | .hbm, ⟨2, _⟩ => ⟨S6144x256, .f32⟩
  | .hbm, ⟨3, _⟩ => ⟨S6144x256, .f32⟩
  | .hbm, ⟨4, _⟩ => ⟨S6144x256, .f32⟩
  | .hbm, ⟨5, _⟩ => ⟨S6144x256, .f32⟩
  | .hbm, ⟨6, _⟩ => ⟨S_, .f32⟩
  | .hbm, ⟨7, _⟩ => ⟨S6144x256, .f32⟩
  | .hbm, ⟨8, _⟩ => ⟨S6144x256, .f32⟩
  | .hbm, ⟨9, _⟩ => ⟨S_, .f32⟩
  | .hbm, ⟨10, _⟩ => ⟨S6144x256, .f32⟩
  | .hbm, ⟨11, _⟩ => ⟨S6144x256, .f32⟩
  | .hbm, ⟨12, _⟩ => ⟨S6144x256, .f32⟩
  | .hbm, ⟨13, _⟩ => ⟨S_, .f32⟩
  | .hbm, ⟨14, _⟩ => ⟨S6144x256, .f32⟩
  | .hbm, ⟨15, _⟩ => ⟨S6144x256, .f32⟩
  | .hbm, ⟨16, _⟩ => ⟨S6144x256, .f32⟩
  | .hbm, ⟨17, _⟩ => ⟨S_, .f32⟩
  | .hbm, ⟨18, _⟩ => ⟨S6144x256, .f32⟩
  | .hbm, ⟨19, _⟩ => ⟨S6144x256, .f32⟩
  | .hbm, ⟨20, _⟩ => ⟨S6144x256, .f32⟩
  | .hbm, ⟨21, _⟩ => ⟨S_, .f32⟩
  | .hbm, ⟨22, _⟩ => ⟨S6144x256, .f32⟩
  | .hbm, ⟨23, _⟩ => ⟨S6144x256, .f32⟩
  | .hbm, ⟨24, _⟩ => ⟨S_, .f32⟩
  | .hbm, ⟨25, _⟩ => ⟨S6144x256, .f32⟩
  | .hbm, ⟨26, _⟩ => ⟨S6144x256, .f32⟩
  | .hbm, ⟨27, _⟩ => ⟨S6144x256, .f32⟩
  | .hbm, ⟨28, _⟩ => ⟨S_, .f32⟩
  | .hbm, ⟨29, _⟩ => ⟨S6144x256, .f32⟩
  | .hbm, ⟨30, _⟩ => ⟨S6144x256, .f32⟩
  | .hbm, ⟨31, _⟩ => ⟨S6144x256, .f32⟩
  | .hbm, ⟨32, _⟩ => ⟨S_, .f32⟩
  | .hbm, ⟨33, _⟩ => ⟨S6144x256, .f32⟩
  | .hbm, ⟨34, _⟩ => ⟨S6144x256, .f32⟩
  | .hbm, ⟨35, _⟩ => ⟨S6144x256, .f32⟩
  | .hbm, ⟨36, _⟩ => ⟨S_, .f32⟩
  | .hbm, ⟨37, _⟩ => ⟨S6144x256, .f32⟩
  | .hbm, ⟨38, _⟩ => ⟨S6144x256, .f32⟩
  | _, _ => ⟨S6144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S16x384 : Shape := ⟨2, ![16, 384]⟩

abbrev nBuf : Space → Nat
  | .hbm => 9
  | .vmem => 9
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x384, .f32⟩
  | .local _ .vmem, ⟨8, _⟩ => ⟨S16x384, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvRefIdeal.lean ====
abbrev S16x384 : Shape := ⟨2, ![16, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S16x384, .f32⟩
  | .hbm, ⟨2, _⟩ => ⟨S16x384, .f32⟩
  | .hbm, ⟨3, _⟩ => ⟨S16x384, .f32⟩
  | .hbm, ⟨4, _⟩ => ⟨S16x384, .f32⟩
  | .hbm, ⟨5, _⟩ => ⟨S16x384, .f32⟩
  | .hbm, ⟨6, _⟩ => ⟨S_, .f32⟩
  | .hbm, ⟨7, _⟩ => ⟨S16x384, .f32⟩
  | .hbm, ⟨8, _⟩ => ⟨S16x384, .f32⟩
  | .hbm, ⟨9, _⟩ => ⟨S_, .f32⟩
  | .hbm, ⟨10, _⟩ => ⟨S16x384, .f32⟩
  | .hbm, ⟨11, _⟩ => ⟨S16x384, .f32⟩
  | .hbm, ⟨12, _⟩ => ⟨S16x384, .f32⟩
  | .hbm, ⟨13, _⟩ => ⟨S_, .f32⟩
  | .hbm, ⟨14, _⟩ => ⟨S16x384, .f32⟩
  | .hbm, ⟨15, _⟩ => ⟨S16x384, .f32⟩
  | .hbm, ⟨16, _⟩ => ⟨S16x384, .f32⟩
  | .hbm, ⟨17, _⟩ => ⟨S_, .f32⟩
  | .hbm, ⟨18, _⟩ => ⟨S16x384, .f32⟩
  | .hbm, ⟨19, _⟩ => ⟨S16x384, .f32⟩
  | .hbm, ⟨20, _⟩ => ⟨S16x384, .f32⟩
  | .hbm, ⟨21, _⟩ => ⟨S_, .f32⟩
  | .hbm, ⟨22, _⟩ => ⟨S16x384, .f32⟩
  | .hbm, ⟨23, _⟩ => ⟨S16x384, .f32⟩
  | .hbm, ⟨24, _⟩ => ⟨S_, .f32⟩
  | .hbm, ⟨25, _⟩ => ⟨S16x384, .f32⟩
  | .hbm, ⟨26, _⟩ => ⟨S16x384, .f32⟩
  | .hbm, ⟨27, _⟩ => ⟨S16x384, .f32⟩
  | .hbm, ⟨28, _⟩ => ⟨S_, .f32⟩
  | .hbm, ⟨29, _⟩ => ⟨S16x384, .f32⟩
  | .hbm, ⟨30, _⟩ => ⟨S16x384, .f32⟩
  | .hbm, ⟨31, _⟩ => ⟨S16x384, .f32⟩
  | .hbm, ⟨32, _⟩ => ⟨S_, .f32⟩
  | .hbm, ⟨33, _⟩ => ⟨S16x384, .f32⟩
  | .hbm, ⟨34, _⟩ => ⟨S16x384, .f32⟩
  | .hbm, ⟨35, _⟩ => ⟨S16x384, .f32⟩
  | .hbm, ⟨36, _⟩ => ⟨S_, .f32⟩
  | .hbm, ⟨37, _⟩ => ⟨S16x384, .f32⟩
  | .hbm, ⟨38, _⟩ => ⟨S16x384, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMeta.lean ====
abbrev S16x256 : Shape := ⟨2, ![16, 256]⟩

abbrev nBuf : Space → Nat
  | .hbm => 9
  | .vmem => 9
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamMetaRefIdeal.lean ====
abbrev S16x256 : Shape := ⟨2, ![16, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S_, .f32⟩
  | .hbm, ⟨7, _⟩ => ⟨S16x256, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S16x256, .f32⟩
  | .hbm, ⟨12, _⟩ => ⟨S16x256, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S_, .f32⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .f32⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S_, .f32⟩
  | .hbm, ⟨33, _⟩ => ⟨S16x256, .f32⟩
  | .hbm, ⟨34, _⟩ => ⟨S16x256, .f32⟩
  | .hbm, ⟨35, _⟩ => ⟨S16x256, .f32⟩
  | .hbm, ⟨36, _⟩ => ⟨S_, .f32⟩
  | .hbm, ⟨37, _⟩ => ⟨S16x256, .f32⟩
  | .hbm, ⟨38, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S72x128 : Shape := ⟨2, ![72, 128]⟩

abbrev nBuf : Space → Nat
  | .hbm => 15
  | .vmem => 15
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .hbm, ⟨8, _⟩ => ⟨S72x128, .f32⟩
  | .hbm, ⟨9, _⟩ => ⟨S72x128, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S72x128, .f32⟩
  | .hbm, ⟨14, _⟩ => ⟨S72x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | .local _ .vmem, ⟨8, _⟩ => ⟨S72x128, .f32⟩
  | .local _ .vmem, ⟨9, _⟩ => ⟨S72x128, .f32⟩
  | .local _ .vmem, ⟨10, _⟩ => ⟨S72x128, .f32⟩
  | .local _ .vmem, ⟨11, _⟩ => ⟨S72x128, .f32⟩
  | .local _ .vmem, ⟨12, _⟩ => ⟨S72x128, .f32⟩
  | .local _ .vmem, ⟨13, _⟩ => ⟨S72x128, .f32⟩
  | .local _ .vmem, ⟨14, _⟩ => ⟨S72x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S72x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S72x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S72x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S72x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S72x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S72x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S72x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== AdamSmallRefIdeal.lean ====
abbrev S72x128 : Shape := ⟨2, ![72, 128]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .hbm, ⟨8, _⟩ => ⟨S72x128, .f32⟩
  | .hbm, ⟨9, _⟩ => ⟨S72x128, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S72x128, .f32⟩
  | .hbm, ⟨14, _⟩ => ⟨S72x128, .f32⟩
  | .hbm, ⟨15, _⟩ => ⟨S72x128, .f32⟩
  | .hbm, ⟨16, _⟩ => ⟨S72x128, .f32⟩
  | .hbm, ⟨17, _⟩ => ⟨S72x128, .f32⟩
  | .hbm, ⟨18, _⟩ => ⟨S_, .f32⟩
  | .hbm, ⟨19, _⟩ => ⟨S72x128, .f32⟩
  | .hbm, ⟨20, _⟩ => ⟨S72x128, .f32⟩
  | .hbm, ⟨21, _⟩ => ⟨S_, .f32⟩
  | .hbm, ⟨22, _⟩ => ⟨S72x128, .f32⟩
  | .hbm, ⟨23, _⟩ => ⟨S72x128, .f32⟩
  | .hbm, ⟨24, _⟩ => ⟨S72x128, .f32⟩
  | .hbm, ⟨25, _⟩ => ⟨S_, .f32⟩
  | .hbm, ⟨26, _⟩ => ⟨S72x128, .f32⟩
  | .hbm, ⟨27, _⟩ => ⟨S72x128, .f32⟩
  | .hbm, ⟨28, _⟩ => ⟨S72x128, .f32⟩
  | .hbm, ⟨29, _⟩ => ⟨S_, .f32⟩
  | .hbm, ⟨30, _⟩ => ⟨S72x128, .f32⟩
  | .hbm, ⟨31, _⟩ => ⟨S72x128, .f32⟩
  | .hbm, ⟨32, _⟩ => ⟨S72x128, .f32⟩
  | .hbm, ⟨33, _⟩ => ⟨S_, .f32⟩
  | .hbm, ⟨34, _⟩ => ⟨S72x128, .f32⟩
  | .hbm, ⟨35, _⟩ => ⟨S72x128, .f32⟩
  | .hbm, ⟨36, _⟩ => ⟨S_, .f32⟩
  | .hbm, ⟨37, _⟩ => ⟨S72x128, .f32⟩
  | .hbm, ⟨38, _⟩ => ⟨S72x128, .f32⟩
  | .hbm, ⟨39, _⟩ => ⟨S72x128, .f32⟩
  | .hbm, ⟨40, _⟩ => ⟨S_, .f32⟩
  | .hbm, ⟨41, _⟩ => ⟨S72x128, .f32⟩
  | .hbm, ⟨42, _⟩ => ⟨S72x128, .f32⟩
  | .hbm, ⟨43, _⟩ => ⟨S72x128, .f32⟩
  | .hbm, ⟨44, _⟩ => ⟨S_, .f32⟩
  | .hbm, ⟨45, _⟩ => ⟨S72x128, .f32⟩
  | .hbm, ⟨46, _⟩ => ⟨S72x128, .f32⟩
  | .hbm, ⟨47, _⟩ => ⟨S72x128, .f32⟩
  | .hbm, ⟨48, _⟩ => ⟨S_, .f32⟩
  | .hbm, ⟨49, _⟩ => ⟨S72x128, .f32⟩
  | .hbm, ⟨50, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Loss.lean ====
abbrev S8320x1024 : Shape := ⟨2, ![8320, 1024]⟩
abbrev S8192x1024 : Shape := ⟨2, ![8192, 1024]⟩
abbrev S1x1 : Shape := ⟨2, ![1, 1]⟩
abbrev S128x1024 : Shape := ⟨2, ![128, 1024]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1, .f32⟩
  | .local _ .vmem, ⟨5, _⟩ => ⟨S128x1024, .f32⟩
  | .local _ .vmem, ⟨6, _⟩ => ⟨S128x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S8320x1024 : Shape := ⟨2, ![8320, 1024]⟩
abbrev S8192x1024 : Shape := ⟨2, ![8192, 1024]⟩
abbrev S_ : Shape := ⟨0, ![]⟩
abbrev S1x1 : Shape := ⟨2, ![1, 1]⟩
abbrev S8192 : Shape := ⟨1, ![8192]⟩

abbrev nBuf : Space → Nat
  | .hbm => 31
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S_, .f32⟩
  | .hbm, ⟨7, _⟩ => ⟨S1x1, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_cst_5 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.RowMath.lean ====
/- Row-level mathematics of the training step's stages, on plain functions over the extended reals:
   the root-mean-square normalisation and its pull-back, the logistic gate in its two spellings, and
   products of a row with a matrix. No program is mentioned here. -/
module

public import Idealize.ShloMosaic.Lib.Pointwise

@[expose] public section

set_option maxRecDepth 16384
noncomputable section
open Idealize.ShloMosaic
open scoped BigOperators
namespace Cert.Proof.Row

/-- The mean square of a row of `N` entries (`N` given as a float literal), plus the small constant 1e-6. -/
def ms {n : Nat} (N : EReal) (x : Fin n → EReal) : EReal :=
  Ideal.div (∑ k, x k * x k) N + Ideal.ofBits .f32 0x358637BD#32

/-- The factor a row is normalised by. -/
def rinv {n : Nat} (N : EReal) (x : Fin n → EReal) : EReal := Ideal.rsqrt (ms N x)

/-- The derivative of that factor with respect to the mean square. -/
def co {n : Nat} (N : EReal) (x : Fin n → EReal) : EReal :=
  Ideal.ofBits .f32 0xBF000000#32 * Ideal.div (rinv N x) (ms N x)

/-- The scalar by which the normalisation's pull-back adds multiples of the row itself. -/
def pull {n : Nat} (N : EReal) (x g : Fin n → EReal) : EReal :=
  Ideal.div ((∑ k, x k * g k) * co N x) N

/-- The normalisation's pull-back: the gradient of a row from the gradient `g` of the normalised row. -/
def back {n : Nat} (N : EReal) (x g : Fin n → EReal) (k : Fin n) : EReal :=
  g k * rinv N x + (x k * pull N x g + pull N x g * x k)

/-- The logistic function as jnp spells it. -/
def sg (x : EReal) : EReal := Ideal.div 1 (1 + Ideal.exp (-x))

/-- Its derivative, in terms of its value. -/
def dsg (x : EReal) : EReal := sg x * (1 - sg x)

/-- The literal one half. -/
abbrev half : EReal := Ideal.ofBits .f32 0x3F000000#32

theorem half_eq : half = ((1 / 2 : ℝ) : EReal) := by
  unfold half
  simp [Ideal.ofBits, Ideal.ieee, -EReal.coe_mul]; norm_num

theorem sg_eq (x : EReal) : sg x = Ideal.logistic x := rfl

theorem tanh_half (r : ℝ) : 1 / 2 * (Real.tanh (1 / 2 * r) + 1) = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq, h1]
  have hp : 0 < Real.exp (1 / 2 * r) := Real.exp_pos _
  have hq : 0 < Real.exp (-(1 / 2 * r)) := Real.exp_pos _
  generalize Real.exp (1 / 2 * r) = p at *
  generalize Real.exp (-(1 / 2 * r)) = q at *
  have hpq : p + q ≠ 0 := by positivity
  have hqq : 1 + q * q ≠ 0 := by positivity
  field_simp
  linear_combination (2 * q) * h2

/-- The logistic function through the hyperbolic tangent. -/
theorem sg_tanh (x : EReal) : half * (Ideal.tanh (half * x) + 1) = sg x := by
  rw [half_eq, sg_eq]
  induction x with
  | bot =>
    rw [EReal.coe_mul_bot_of_pos (by norm_num), Ideal.tanh_bot, Ideal.logistic_bot]
    rw [show (-1 : EReal) + 1 = ((-1 + 1 : ℝ) : EReal) by rw [EReal.coe_add]; simp]
    norm_num
  | top =>
    rw [EReal.coe_mul_top_of_pos (by norm_num), Ideal.tanh_top, Ideal.logistic_top]
    rw [show (1 : EReal) + 1 = ((1 + 1 : ℝ) : EReal) by norm_cast, ← EReal.coe_mul]
    norm_num
  | coe r =>
    rw [← EReal.coe_mul, Ideal.tanh_coe, Ideal.logistic_coe, ← EReal.coe_one, ← EReal.coe_add, ← EReal.coe_mul,
      tanh_half]

/-- The derivative of the logistic function through the hyperbolic tangent, applied to a factor `y`. -/
theorem dsg_tanh (x y : EReal) :
    half * ((half * y) * ((1 + Ideal.tanh (half * x)) * (1 - Ideal.tanh (half * x)))) = y * dsg x := by
  have key : ∃ t : ℝ, Ideal.tanh (half * x) = (t : EReal) := by
    rw [half_eq]
    induction x with
    | bot => exact ⟨-1, by rw [EReal.coe_mul_bot_of_pos (by norm_num), Ideal.tanh_bot]; rfl⟩
    | top => exact ⟨1, by rw [EReal.coe_mul_top_of_pos (by norm_num), Ideal.tanh_top]; rfl⟩
    | coe r => exact ⟨_, by rw [← EReal.coe_mul, Ideal.tanh_coe]⟩
  obtain ⟨t, ht⟩ := key
  unfold dsg
  rw [← sg_tanh, ht, half_eq]
  have e : half * (half * y * ((1 + (t : EReal)) * (1 - (t : EReal))))
      = y * (half * half * ((1 + (t : EReal)) * (1 - (t : EReal)))) := by ac_nf
  rw [half_eq] at e
  rw [e]
  congr 1
  rw [← EReal.coe_one]
  simp only [← EReal.coe_mul, ← EReal.coe_add, ← EReal.coe_sub]
  exact congrArg _ (by ring)

end Cert.Proof.Row
-- ==== Proof.GateSpec.lean ====
/- One row of the gated-merge stage's backward pass, on plain functions over the extended reals: the
   row's products, gates, head-wise normalisation, and every gradient the row contributes to. -/
module

public import proofs.«01_k».proof.Proof.RowMath

@[expose] public section

set_option maxRecDepth 16384
noncomputable section
open Idealize.ShloMosaic Cert.Proof.Row
open scoped BigOperators
namespace Cert.Proof.Gate

/-- The literals 1024 and 128. -/
abbrev n1024 : EReal := Ideal.ofBits .f32 0x44800000#32
@[inherit_doc n1024] abbrev n128 : EReal := Ideal.ofBits .f32 0x43000000#32

/-- Column `j` of head `q`. -/
def cat (q : Fin 4) (j : Fin 128) : Fin 512 := ⟨q.val * 128 + j.val, by omega⟩
/-- The head of a column, and the column inside its head. -/
def hq (n : Fin 512) : Fin 4 := ⟨n.val / 128, by omega⟩
@[inherit_doc hq] def hj (n : Fin 512) : Fin 128 := ⟨n.val % 128, by omega⟩

theorem cat_hq_hj (n : Fin 512) : cat (hq n) (hj n) = n := by
  apply Fin.ext; simp only [cat, hq, hj]; omega

/-- What a row's backward pass reads: the row of the residual stream, the row of the branch's output, the
    two norms' weights, the three weight matrices, and the two incoming gradients. -/
structure In where
  h : Fin 1024 → EReal
  o : Fin 512 → EReal
  nw : Fin 1024 → EReal
  ow : Fin 128 → EReal
  wz : Fin 1024 → Fin 512 → EReal
  wm : Fin 1024 → Fin 1024 → EReal
  wb : Fin 512 → Fin 1024 → EReal
  dy : Fin 1024 → EReal
  dh : Fin 1024 → EReal

namespace In
variable (i : In)

def xh (k : Fin 1024) : EReal := i.h k * rinv n1024 i.h
def xn (k : Fin 1024) : EReal := i.xh k * i.nw k
def z (n : Fin 512) : EReal := ∑ k, i.xn k * i.wz k n
def mix (d : Fin 1024) : EReal := ∑ k, i.xn k * i.wm k d
/-- Head `q` of the branch's output. -/
def hd (q : Fin 4) (j : Fin 128) : EReal := i.o (cat q j)
def oh (q : Fin 4) (j : Fin 128) : EReal := i.hd q j * rinv n128 (i.hd q)
/-- The branch's output, normalised head by head. -/
def on (n : Fin 512) : EReal := i.oh (hq n) (hj n) * i.ow (hj n)
def silu (n : Fin 512) : EReal := i.z n * sg (i.z n)
/-- The gated branch. -/
def gb (n : Fin 512) : EReal := i.on n * i.silu n
/-- The incoming gradient through the merge gate. -/
def gm (d : Fin 1024) : EReal := sg (i.mix d) * i.dy d
/-- The gradient of the gated branch. -/
def dgb (n : Fin 512) : EReal := ∑ d, i.gm d * i.wb n d
/-- The gradient of the normalised branch. -/
def don (n : Fin 512) : EReal := i.dgb n * i.silu n
def dz (n : Fin 512) : EReal := (i.on n * i.dgb n) * sg (i.z n) + i.z n * (i.on n * i.dgb n) * dsg (i.z n)
def dmix (d : Fin 1024) : EReal := i.dy d * (∑ n, i.gb n * i.wb n d) * dsg (i.mix d)
def dxn (k : Fin 1024) : EReal := (∑ d, i.dmix d * i.wm k d) + ∑ n, i.dz n * i.wz k n
/-- The gradients of the two rows. -/
def gh (k : Fin 1024) : EReal := back n1024 i.h (fun k => i.dxn k * i.nw k) k + i.dh k
@[inherit_doc gh] def go (n : Fin 512) : EReal :=
  back n128 (i.hd (hq n)) (fun j => i.don (cat (hq n) j) * i.ow j) (hj n)
/-- What the row adds to the gradients of the weights. -/
def gnw (k : Fin 1024) : EReal := i.xh k * i.dxn k
@[inherit_doc gnw] def gow (j : Fin 128) : EReal := ∑ q, i.oh q j * i.don (cat q j)
@[inherit_doc gnw] def gwz (k : Fin 1024) (n : Fin 512) : EReal := i.xn k * i.dz n
@[inherit_doc gnw] def gwm (k d : Fin 1024) : EReal := i.xn k * i.dmix d
@[inherit_doc gnw] def gwb (n : Fin 512) (d : Fin 1024) : EReal := i.gb n * i.gm d
end In

end Cert.Proof.Gate
-- ==== Proof.GateTile.lean ====
/- The kernel's block of 320 rows, entry by entry: each intermediate value of the body is the row
   mathematics of `GateSpec` on the block's rows. -/
module

public import proofs.«01_k».proof.Proof.GateSpec
public import proofs.«01_k».proof.Proof.Gen.GateIdeal.Skeleton

@[expose] public section

set_option maxRecDepth 16384
noncomputable section
open Idealize.ShloMosaic Cert.Proof.Row Cert.GateIdeal Cert.GateIdeal.Gen
open scoped BigOperators
namespace Cert.Proof.Gate

/-- The blocks one grid point reads. -/
structure Blk where
  x0 : Vec Ideal S320x1024 .f32
  x1 : Vec Ideal S320x512 .f32
  x2 : Vec Ideal S1x1024 .f32
  x3 : Vec Ideal S1x128 .f32
  x4 : Vec Ideal S1024x512 .bf16
  x5 : Vec Ideal S1024x1024 .bf16
  x6 : Vec Ideal S512x1024 .bf16
  x7 : Vec Ideal S320x1024 .f32
  x8 : Vec Ideal S320x1024 .f32

namespace Blk
variable (b : Blk)

/-- Row `p` of the blocks. -/
def row (p : Fin 320) : In where
  h k := b.x0 (ix2 p k)
  o n := b.x1 (ix2 p n)
  nw k := b.x2 (ix2 0 k)
  ow j := b.x3 (ix2 0 j)
  wz k n := b.x4 (ix2 k n)
  wm k d := b.x5 (ix2 k d)
  wb n d := b.x6 (ix2 n d)
  dy d := b.x7 (ix2 p d)
  dh d := b.x8 (ix2 p d)

section
variable (p : Fin 320)
theorem row_h (k : Fin 1024) : (b.row p).h k = b.x0 (ix2 p k) := rfl
theorem row_o (n : Fin 512) : (b.row p).o n = b.x1 (ix2 p n) := rfl
theorem row_nw (k : Fin 1024) : (b.row p).nw k = b.x2 (ix2 0 k) := rfl
theorem row_ow (k : Fin 128) : (b.row p).ow k = b.x3 (ix2 0 k) := rfl
theorem row_wz (k : Fin 1024) (n : Fin 512) : (b.row p).wz k n = b.x4 (ix2 k n) := rfl
theorem row_wm (k n : Fin 1024) : (b.row p).wm k n = b.x5 (ix2 k n) := rfl
theorem row_wb (n : Fin 512) (d : Fin 1024) : (b.row p).wb n d = b.x6 (ix2 n d) := rfl
theorem row_dy (d : Fin 1024) : (b.row p).dy d = b.x7 (ix2 p d) := rfl
theorem row_dh (d : Fin 1024) : (b.row p).dh d = b.x8 (ix2 p d) := rfl
end

theorem at5 (p : Fin 320) : k0_pay5 (F := Ideal) b.x0 (ix2 p 0) = rinv n1024 (b.row p).h := by
  pointwise [k0_pay5, k0_pay4, rinv, ms, row_h]

theorem at6 (p : Fin 320)(x : Fin 1) : k0_pay6 (F := Ideal) b.x0 (ix2 p x) = co n1024 (b.row p).h := by
  obtain rfl : x = 0 := Subsingleton.elim _ _
  pointwise [k0_pay6, k0_pay5, k0_pay4, co, rinv, ms, row_h]

theorem at7 (p : Fin 320)(k : Fin 1024) : k0_pay7 (F := Ideal) b.x0 (ix2 p k) = (b.row p).xh k := by
  pointwise [k0_pay7, at5, In.xh, row_h]

theorem at8 (p : Fin 320)(k : Fin 1024) : k0_pay8 (F := Ideal) b.x0 b.x2 (ix2 p k) = (b.row p).xn k := by
  pointwise [k0_pay8, at7, In.xn, row_nw]

def tz := k0_pay9 (F := Ideal) b.x0 b.x2 b.x4
theorem atz (p : Fin 320)(n : Fin 512) : b.tz (ix2 p n) = (b.row p).z n := by
  pointwise [tz, k0_pay9, k0_pay1, at8, In.z, row_wz]

def tmix := k0_pay10 (F := Ideal) b.x0 b.x2 b.x5
theorem atmix (p : Fin 320)(d : Fin 1024) : b.tmix (ix2 p d) = (b.row p).mix d := by
  pointwise [tmix, k0_pay10, k0_pay2, at8, In.mix, row_wm]

def h0 := k0_pay11 (F := Ideal) b.x1
def h1 := k0_pay19 (F := Ideal) b.x1
def h2 := k0_pay25 (F := Ideal) b.x1
def h3 := k0_pay31 (F := Ideal) b.x1
def m0 := k0_pay14 (F := Ideal) (k0_pay12 b.x1) k0_pay13
def m1 := k0_pay20 (F := Ideal) b.x1
def m2 := k0_pay26 (F := Ideal) b.x1
def m3 := k0_pay34 (F := Ideal) (k0_pay32 b.x1) k0_pay33
def r0 := k0_pay15 (F := Ideal) (k0_pay12 b.x1) k0_pay13
def r1 := k0_pay21 (F := Ideal) b.x1
def r2 := k0_pay27 (F := Ideal) b.x1
def r3 := k0_pay35 (F := Ideal) (k0_pay32 b.x1) k0_pay33
def c0 := k0_pay16 (F := Ideal) (k0_pay12 b.x1) k0_pay13
def c1 := k0_pay22 (F := Ideal) b.x1
def c2 := k0_pay28 (F := Ideal) b.x1
def c3 := k0_pay36 (F := Ideal) (k0_pay32 b.x1) k0_pay33
def a0 := k0_pay17 (F := Ideal) (k0_pay11 b.x1) (k0_pay12 b.x1) k0_pay13
def a1 := k0_pay23 (F := Ideal) b.x1
def a2 := k0_pay29 (F := Ideal) b.x1
def a3 := k0_pay37 (F := Ideal) (k0_pay31 b.x1) (k0_pay32 b.x1) k0_pay33
def w0 := k0_pay18 (F := Ideal) b.x3 (k0_pay11 b.x1) (k0_pay12 b.x1) k0_pay13
def w1 := k0_pay24 (F := Ideal) b.x1 b.x3
def w2 := k0_pay30 (F := Ideal) b.x1 b.x3
theorem ath0 (p : Fin 320)(j : Fin 128) : b.h0 (ix2 p j) = (b.row p).hd 0 j := by
  pointwise [h0, k0_pay11, In.hd, cat, row_o]

theorem ath1 (p : Fin 320)(j : Fin 128) : b.h1 (ix2 p j) = (b.row p).hd 1 j := by
  pointwise [h1, k0_pay19, In.hd, cat, row_o]

theorem ath2 (p : Fin 320)(j : Fin 128) : b.h2 (ix2 p j) = (b.row p).hd 2 j := by
  pointwise [h2, k0_pay25, In.hd, cat, row_o]

theorem ath3 (p : Fin 320)(j : Fin 128) : b.h3 (ix2 p j) = (b.row p).hd 3 j := by
  pointwise [h3, k0_pay31, In.hd, cat, row_o]

theorem foldh0 : k0_pay11 (F := Ideal) b.x1 = b.h0 := rfl
theorem atm0 (p : Fin 320) : b.m0 (ix2 p 0) = ms n128 ((b.row p).hd 0) := by
  pointwise [m0, k0_pay12, k0_pay13, k0_pay14, foldh0, ath0, ms]

theorem foldm0 : k0_pay14 (F := Ideal) (k0_pay12 b.x1) k0_pay13 = b.m0 := rfl
theorem atr0 (p : Fin 320) : b.r0 (ix2 p 0) = rinv n128 ((b.row p).hd 0) := by
  pointwise [r0, k0_pay15, foldm0, atm0, rinv]

theorem foldr0 : k0_pay15 (F := Ideal) (k0_pay12 b.x1) k0_pay13 = b.r0 := rfl
theorem atc0 (p : Fin 320)(x : Fin 1) : b.c0 (ix2 p x) = co n128 ((b.row p).hd 0) := by
  obtain rfl : x = 0 := Subsingleton.elim _ _
  pointwise [c0, k0_pay16, foldr0, foldm0, atm0, atr0, co]

theorem ata0 (p : Fin 320)(j : Fin 128) : b.a0 (ix2 p j) = (b.row p).oh 0 j := by
  pointwise [a0, k0_pay17, foldr0, foldh0, ath0, atr0, In.oh]

theorem folda0 : k0_pay17 (F := Ideal) (k0_pay11 b.x1) (k0_pay12 b.x1) k0_pay13 = b.a0 := rfl
theorem atw0 (p : Fin 320)(j : Fin 128) : b.w0 (ix2 p j) = (b.row p).oh 0 j * (b.row p).ow j := by
  pointwise [w0, k0_pay18, folda0, ata0, row_ow]

theorem foldh1 : k0_pay19 (F := Ideal) b.x1 = b.h1 := rfl
theorem atm1 (p : Fin 320) : b.m1 (ix2 p 0) = ms n128 ((b.row p).hd 1) := by
  pointwise [m1, k0_pay20, foldh1, ath1, ms]

theorem foldm1 : k0_pay20 (F := Ideal) b.x1 = b.m1 := rfl
theorem atr1 (p : Fin 320) : b.r1 (ix2 p 0) = rinv n128 ((b.row p).hd 1) := by
  pointwise [r1, k0_pay21, foldm1, atm1, rinv]

theorem foldr1 : k0_pay21 (F := Ideal) b.x1 = b.r1 := rfl
theorem atc1 (p : Fin 320)(x : Fin 1) : b.c1 (ix2 p x) = co n128 ((b.row p).hd 1) := by
  obtain rfl : x = 0 := Subsingleton.elim _ _
  pointwise [c1, k0_pay22, foldr1, foldm1, atm1, atr1, co]

theorem ata1 (p : Fin 320)(j : Fin 128) : b.a1 (ix2 p j) = (b.row p).oh 1 j := by
  pointwise [a1, k0_pay23, foldr1, foldh1, ath1, atr1, In.oh]

theorem folda1 : k0_pay23 (F := Ideal) b.x1 = b.a1 := rfl
theorem atw1 (p : Fin 320)(j : Fin 128) : b.w1 (ix2 p j) = (b.row p).oh 1 j * (b.row p).ow j := by
  pointwise [w1, k0_pay24, folda1, ata1, row_ow]

theorem foldh2 : k0_pay25 (F := Ideal) b.x1 = b.h2 := rfl
theorem atm2 (p : Fin 320) : b.m2 (ix2 p 0) = ms n128 ((b.row p).hd 2) := by
  pointwise [m2, k0_pay26, foldh2, ath2, ms]

theorem foldm2 : k0_pay26 (F := Ideal) b.x1 = b.m2 := rfl
theorem atr2 (p : Fin 320) : b.r2 (ix2 p 0) = rinv n128 ((b.row p).hd 2) := by
  pointwise [r2, k0_pay27, foldm2, atm2, rinv]

theorem foldr2 : k0_pay27 (F := Ideal) b.x1 = b.r2 := rfl
theorem atc2 (p : Fin 320)(x : Fin 1) : b.c2 (ix2 p x) = co n128 ((b.row p).hd 2) := by
  obtain rfl : x = 0 := Subsingleton.elim _ _
  pointwise [c2, k0_pay28, foldr2, foldm2, atm2, atr2, co]

theorem ata2 (p : Fin 320)(j : Fin 128) : b.a2 (ix2 p j) = (b.row p).oh 2 j := by
  pointwise [a2, k0_pay29, foldr2, foldh2, ath2, atr2, In.oh]

theorem folda2 : k0_pay29 (F := Ideal) b.x1 = b.a2 := rfl
theorem atw2 (p : Fin 320)(j : Fin 128) : b.w2 (ix2 p j) = (b.row p).oh 2 j * (b.row p).ow j := by
  pointwise [w2, k0_pay30, folda2, ata2, row_ow]

theorem foldh3 : k0_pay31 (F := Ideal) b.x1 = b.h3 := rfl
theorem atm3 (p : Fin 320) : b.m3 (ix2 p 0) = ms n128 ((b.row p).hd 3) := by
  pointwise [m3, k0_pay32, k0_pay33, k0_pay34, foldh3, ath3, ms]

theorem foldm3 : k0_pay34 (F := Ideal) (k0_pay32 b.x1) k0_pay33 = b.m3 := rfl
theorem atr3 (p : Fin 320) : b.r3 (ix2 p 0) = rinv n128 ((b.row p).hd 3) := by
  pointwise [r3, k0_pay35, foldm3, atm3, rinv]

theorem foldr3 : k0_pay35 (F := Ideal) (k0_pay32 b.x1) k0_pay33 = b.r3 := rfl
theorem atc3 (p : Fin 320)(x : Fin 1) : b.c3 (ix2 p x) = co n128 ((b.row p).hd 3) := by
  obtain rfl : x = 0 := Subsingleton.elim _ _
  pointwise [c3, k0_pay36, foldr3, foldm3, atm3, atr3, co]

theorem ata3 (p : Fin 320)(j : Fin 128) : b.a3 (ix2 p j) = (b.row p).oh 3 j := by
  pointwise [a3, k0_pay37, foldr3, foldh3, ath3, atr3, In.oh]

theorem folda3 : k0_pay37 (F := Ideal) (k0_pay31 b.x1) (k0_pay32 b.x1) k0_pay33 = b.a3 := rfl
def ton := k0_pay38 (F := Ideal) b.x3 b.w0 b.w1 b.w2 (k0_pay31 b.x1) (k0_pay32 b.x1) k0_pay33
theorem eta (a : Nat) (j : Fin 128) (h : a < 128) (e : a = j.val) : (⟨a, h⟩ : Fin 128) = j := Fin.ext e

theorem aton_cat (p : Fin 320) (q : Fin 4) (j : Fin 128) :
    b.ton (ix2 p (cat q j)) = (b.row p).oh q j * (b.row p).ow j := by
  fin_cases q
  · pointwise [ton, k0_pay38, cat, folda3, ata3, atw0, row_ow]
  · pointwise [ton, k0_pay38, cat, folda3, ata3, atw1, row_ow]
  · pointwise [ton, k0_pay38, cat, folda3, ata3, atw2, row_ow]
    rw [dif_neg (by omega), dif_neg (by omega), dif_pos (by omega), eta _ j _ (by omega)]
  · pointwise [ton, k0_pay38, cat, folda3, ata3, row_ow]
    rw [dif_neg (by omega), dif_neg (by omega), dif_neg (by omega), eta _ j _ (by omega)]

theorem aton (p : Fin 320) (n : Fin 512) : b.ton (ix2 p n) = (b.row p).on n := by
  conv_lhs => rw [← cat_hq_hj n]
  exact b.aton_cat p _ _

def tgm := k0_pay46 (F := Ideal) b.tmix b.x7
theorem atgm (p : Fin 320)(d : Fin 1024) : b.tgm (ix2 p d) = (b.row p).gm d := by
  pointwise [tgm, k0_pay46, k0_pay39, atmix, In.gm, row_dy, sg_tanh]

def tsl := k0_pay44 (F := Ideal) b.tz
theorem atsl (p : Fin 320)(n : Fin 512) : b.tsl (ix2 p n) = (b.row p).silu n := by
  pointwise [tsl, k0_pay44, k0_pay43, k0_pay41, atz, In.silu, sg_tanh]

def tgb := k0_pay45 (F := Ideal) b.x3 b.tz b.w0 b.w1 b.w2 (k0_pay31 b.x1) (k0_pay32 b.x1) k0_pay33
theorem foldon : k0_pay38 (F := Ideal) b.x3 b.w0 b.w1 b.w2 (k0_pay31 b.x1) (k0_pay32 b.x1) k0_pay33 = b.ton := rfl
theorem foldsl : k0_pay44 (F := Ideal) b.tz = b.tsl := rfl
theorem atgb (p : Fin 320)(n : Fin 512) : b.tgb (ix2 p n) = (b.row p).gb n := by
  pointwise [tgb, k0_pay45, foldon, foldsl, aton, atsl, In.gb]

theorem foldgb : k0_pay45 (F := Ideal) b.x3 b.tz b.w0 b.w1 b.w2 (k0_pay31 b.x1) (k0_pay32 b.x1) k0_pay33 = b.tgb := rfl
theorem foldgm : k0_pay46 (F := Ideal) b.tmix b.x7 = b.tgm := rfl
def tyg := k0_pay47 (F := Ideal) b.x3 (k0_pay3 b.x6) b.tz b.w0 b.w1 b.w2 (k0_pay31 b.x1) (k0_pay32 b.x1) k0_pay33 b.x7
theorem atyg (p : Fin 320)(d : Fin 1024) : b.tyg (ix2 p d) = (b.row p).dy d * ∑ n, (b.row p).gb n * (b.row p).wb n d := by
  pointwise [tyg, k0_pay47, k0_pay3, foldgb, atgb, row_dy, row_wb]

def tdgb := k0_pay48 (F := Ideal) (k0_pay3 b.x6) b.tmix b.x7
theorem atdgb (p : Fin 320)(n : Fin 512) : b.tdgb (ix2 p n) = (b.row p).dgb n := by
  pointwise [tdgb, k0_pay48, k0_pay3, foldgm, atgm, In.dgb, row_wb]

def twb := k0_pay51 (F := Ideal) (k0_pay49 b.x3 b.tz b.w0 b.w1 b.w2 (k0_pay31 b.x1) (k0_pay32 b.x1) k0_pay33) (k0_pay50 b.tmix b.x7)
theorem atwb (n : Fin 512)(d : Fin 1024) : b.twb (ix2 n d) = ∑ p, (b.row p).gwb n d := by
  pointwise [twb, k0_pay51, k0_pay49, k0_pay50, foldgb, foldgm, atgb, atgm, In.gwb]

def tdon := k0_pay52 (F := Ideal) b.tsl b.tdgb
theorem atdon (p : Fin 320)(n : Fin 512) : b.tdon (ix2 p n) = (b.row p).don n := by
  pointwise [tdon, k0_pay52, atdgb, atsl, In.don]

theorem folddon : k0_pay52 (F := Ideal) b.tsl b.tdgb = b.tdon := rfl
def tdz := k0_pay53 (F := Ideal) b.tz b.ton (k0_pay42 b.tz) (k0_pay43 b.tz) b.tdgb
theorem atdz (p : Fin 320)(n : Fin 512) : b.tdz (ix2 p n) = (b.row p).dz n := by
  pointwise [tdz, k0_pay53, k0_pay42, k0_pay43, k0_pay41, atz, aton, atdgb, In.dz, sg_tanh, dsg_tanh]

def tdmix := k0_pay54 (F := Ideal) (k0_pay40 b.tmix) b.tyg
theorem atdmix (p : Fin 320)(d : Fin 1024) : b.tdmix (ix2 p d) = (b.row p).dmix d := by
  pointwise [tdmix, k0_pay54, k0_pay40, k0_pay39, atmix, atyg, In.dmix, dsg_tanh]

def tdxn := k0_pay69 (F := Ideal) (k0_pay1 b.x4) (k0_pay2 b.x5) b.tdz b.tdmix
theorem atdxn (p : Fin 320)(k : Fin 1024) : b.tdxn (ix2 p k) = (b.row p).dxn k := by
  pointwise [tdxn, k0_pay69, k0_pay1, k0_pay2, atdz, atdmix, In.dxn, row_wz, row_wm]

theorem folddxn : k0_pay69 (F := Ideal) (k0_pay1 b.x4) (k0_pay2 b.x5) b.tdz b.tdmix = b.tdxn := rfl
def tgh := k0_pay84 (F := Ideal) b.x0 (k0_pay72 b.x0 b.x2 (k0_pay1 b.x4) (k0_pay2 b.x5) (k0_pay6 b.x0) b.tdz b.tdmix) (k0_pay73 b.x0 b.x2 (k0_pay1 b.x4) (k0_pay2 b.x5) (k0_pay5 b.x0) (k0_pay6 b.x0) b.tdz b.tdmix) b.x8
theorem atgh (p : Fin 320)(k : Fin 1024) : b.tgh (ix2 p k) = (b.row p).gh k := by
  pointwise [tgh, k0_pay84, k0_pay73, k0_pay72, k0_pay71, folddxn, atdxn, at5, at6, In.gh, back, pull, row_h, row_nw, row_dh]
  simp only [Fin.sum_univ_one]
  ac_nf

def tgnw := k0_pay70 (F := Ideal) (k0_pay1 b.x4) (k0_pay2 b.x5) (k0_pay7 b.x0) b.tdz b.tdmix
theorem atgnw (k : Fin 1024) : b.tgnw (ix2 0 k) = ∑ p, (b.row p).gnw k := by
  pointwise [tgnw, k0_pay70, folddxn, atdxn, at7, In.gnw]

def tgwz := k0_pay68 (F := Ideal) (k0_pay8 b.x0 b.x2) b.tdz
theorem atgwz (k : Fin 1024)(n : Fin 512) : b.tgwz (ix2 k n) = ∑ p, (b.row p).gwz k n := by
  pointwise [tgwz, k0_pay68, at8, atdz, In.gwz]

def tgwm := k0_pay67 (F := Ideal) (k0_pay8 b.x0 b.x2) b.tdmix
theorem atgwm (k : Fin 1024)(d : Fin 1024) : b.tgwm (ix2 k d) = ∑ p, (b.row p).gwm k d := by
  pointwise [tgwm, k0_pay67, at8, atdmix, In.gwm]

def d0 := k0_pay55 (F := Ideal) b.tsl b.tdgb
theorem atd0 (p : Fin 320)(j : Fin 128) : b.d0 (ix2 p j) = (b.row p).don (cat 0 j) := by
  pointwise [d0, k0_pay55, folddon, atdon, cat]

theorem foldd0 : k0_pay55 (F := Ideal) b.tsl b.tdgb = b.d0 := rfl
def d1 := k0_pay56 (F := Ideal) b.tsl b.tdgb
theorem atd1 (p : Fin 320)(j : Fin 128) : b.d1 (ix2 p j) = (b.row p).don (cat 1 j) := by
  pointwise [d1, k0_pay56, folddon, atdon, cat]

theorem foldd1 : k0_pay56 (F := Ideal) b.tsl b.tdgb = b.d1 := rfl
def d2 := k0_pay57 (F := Ideal) b.tsl b.tdgb
theorem atd2 (p : Fin 320)(j : Fin 128) : b.d2 (ix2 p j) = (b.row p).don (cat 2 j) := by
  pointwise [d2, k0_pay57, folddon, atdon, cat]

theorem foldd2 : k0_pay57 (F := Ideal) b.tsl b.tdgb = b.d2 := rfl
def d3 := k0_pay58 (F := Ideal) b.tsl b.tdgb
theorem atd3 (p : Fin 320)(j : Fin 128) : b.d3 (ix2 p j) = (b.row p).don (cat 3 j) := by
  pointwise [d3, k0_pay58, folddon, atdon, cat]

theorem foldd3 : k0_pay58 (F := Ideal) b.tsl b.tdgb = b.d3 := rfl
def tgow := k0_pay64 (F := Ideal) b.a0 b.a1 b.d0 b.d1 (k0_pay60 b.a2 b.a3 b.tsl b.tdgb)
theorem atgow (j : Fin 128) : b.tgow (ix2 0 j) = ∑ p, (b.row p).gow j := by
  pointwise [tgow, k0_pay64, k0_pay60, foldd2, foldd3, ata0, ata1, ata2, ata3, atd0, atd1, atd2, atd3, In.gow]
  simp only [Fin.sum_univ_four, Finset.sum_add_distrib]
  ac_nf

def e3 := k0_pay59 (F := Ideal) b.x3 (k0_pay31 b.x1) b.r3 b.c3 b.tsl b.tdgb
def e1 := k0_pay63 (F := Ideal) b.x3 b.h1 b.r1 b.c1 b.h2 b.r2 b.c2 b.d1 b.e3 (k0_pay61 b.x3 b.tsl b.tdgb) (k0_pay62 b.x3 b.h2 b.tsl b.tdgb)
def tgo := k0_pay66 (F := Ideal) b.h0 b.r0 b.c0 b.d0 b.e1 (k0_pay65 b.x3)
theorem atgo_cat (p : Fin 320) (q : Fin 4) (j : Fin 128) :
    b.tgo (ix2 p (cat q j)) = back n128 ((b.row p).hd q) (fun j => (b.row p).don (cat q j) * (b.row p).ow j) j := by
  fin_cases q
  · pointwise [cat, tgo, k0_pay66, k0_pay65, e1, k0_pay63, k0_pay62, k0_pay61, e3, k0_pay59, foldh3, foldd2, foldd3, ath0, ath1, ath2, ath3, atr0, atr1, atr2, atr3, atc0, atc1, atc2, atc3, atd0, atd1, atd2, atd3, row_ow, back, pull]
    simp only [eq_true (show (j : ℕ) < 128 by omega), eq_true (show (j : ℕ) < 256 by omega), eq_true (show (j : ℕ) < 384 by omega), dite_true, dite_false, zero_add, add_zero, Fin.sum_univ_one, Fin.eta]
    ac_nf
  · pointwise [cat, tgo, k0_pay66, k0_pay65, e1, k0_pay63, k0_pay62, k0_pay61, e3, k0_pay59, foldh3, foldd2, foldd3, ath0, ath1, ath2, ath3, atr0, atr1, atr2, atr3, atc0, atc1, atc2, atc3, atd0, atd1, atd2, atd3, row_ow, back, pull]
    simp only [eq_false (show ¬ 128 + (j : ℕ) < 128 by omega), eq_true (show 128 + (j : ℕ) < 256 by omega), eq_true (show 128 + (j : ℕ) < 384 by omega), dite_true, dite_false, zero_add, add_zero, Fin.sum_univ_one, show 128 + (j : ℕ) - 128 = j by omega, Fin.eta]
    ac_nf
  · pointwise [cat, tgo, k0_pay66, k0_pay65, e1, k0_pay63, k0_pay62, k0_pay61, e3, k0_pay59, foldh3, foldd2, foldd3, ath0, ath1, ath2, ath3, atr0, atr1, atr2, atr3, atc0, atc1, atc2, atc3, atd0, atd1, atd2, atd3, row_ow, back, pull]
    simp only [eq_false (show ¬ 256 + (j : ℕ) < 128 by omega), eq_false (show ¬ 256 + (j : ℕ) < 256 by omega), eq_true (show 256 + (j : ℕ) < 384 by omega), dite_true, dite_false, zero_add, add_zero, Fin.sum_univ_one, show 256 + (j : ℕ) - 128 = 128 + j by omega, show 256 + (j : ℕ) - 256 = j by omega, Fin.eta]
    ac_nf
  · pointwise [cat, tgo, k0_pay66, k0_pay65, e1, k0_pay63, k0_pay62, k0_pay61, e3, k0_pay59, foldh3, foldd2, foldd3, ath0, ath1, ath2, ath3, atr0, atr1, atr2, atr3, atc0, atc1, atc2, atc3, atd0, atd1, atd2, atd3, row_ow, back, pull]
    simp only [eq_false (show ¬ 384 + (j : ℕ) < 128 by omega), eq_false (show ¬ 384 + (j : ℕ) < 256 by omega), eq_false (show ¬ 384 + (j : ℕ) < 384 by omega), dite_true, dite_false, zero_add, add_zero, Fin.sum_univ_one, show 384 + (j : ℕ) - 128 = 256 + j by omega, show 384 + (j : ℕ) - 256 = 128 + j by omega, show 384 + (j : ℕ) - 384 = j by omega, Fin.eta]
    ac_nf

theorem atgo (p : Fin 320) (n : Fin 512) : b.tgo (ix2 p n) = (b.row p).go n := by
  conv_lhs => rw [← cat_hq_hj n]
  exact b.atgo_cat p _ _

end Blk
end Cert.Proof.Gate
-- ==== Proof.Heads.lean ====
/- Columns of a row by head and by part, and a sum over the first two axes of a rank-3 array. -/
module

public import proofs.«01_k».proof.Proof.GateSpec

@[expose] public section

set_option maxRecDepth 16384
noncomputable section
open Idealize.ShloMosaic
open scoped BigOperators
namespace Cert.Proof.Gate

/-- A sum over the first two axes of a rank-3 array, the last one kept. -/
theorem hostSum01 {n0 n1 n2 : Nat} (h : (⟨3, ![n0, n1, n2]⟩ : Shape).ReducesTo [0, 1] ⟨1, ![n2]⟩)
    (v : (⟨3, ![n0, n1, n2]⟩ : Shape).Idx → EReal) (c : EReal) (j : Fin n2) :
    Ideal.hostReduceAdd h v c (ix1 j) = c + ∑ a : Fin n0, ∑ b : Fin n1, v (ix3 a b j) := by
  have key : ∀ i : (⟨3, ![n0, n1, n2]⟩ : Shape).Idx,
      h.drop i = ix1 j ↔ ∃ ab : Fin n0 × Fin n1, ix3 ab.1 ab.2 j = i := by
    intro i
    refine ⟨fun e => ⟨(i 0, i 1), ?_⟩, ?_⟩
    · have e2 : i 2 = j := Fin.ext (congrArg Fin.val (congrFun e 0))
      funext x
      match x with
      | ⟨0, _⟩ => rfl
      | ⟨1, _⟩ => rfl
      | ⟨2, _⟩ => exact e2.symm
    · rintro ⟨ab, rfl⟩
      funext x
      match x with
      | ⟨0, _⟩ => rfl
  have := Finset.sum_filter_eq_sum_of_fiber (fun i => h.drop i = ix1 j) (fun ab : Fin n0 × Fin n1 => ix3 ab.1 ab.2 j)
    (fun _ _ e => Prod.ext (congrFun e 0) (congrFun e 1)) key v
  rw [Fintype.sum_prod_type] at this
  exact congrArg (c + ·) this

/-- Column `n` of the three parts of a row of 1536 columns. -/
def c3 (s : Fin 3) (n : Fin 512) : Fin 1536 := ⟨s.val * 512 + n.val, by omega⟩
/-- The part of a column, and the column inside its part. -/
def cs (m : Fin 1536) : Fin 3 := ⟨m.val / 512, by omega⟩
@[inherit_doc cs] def cn (m : Fin 1536) : Fin 512 := ⟨m.val % 512, by omega⟩

theorem c3_cs_cn (m : Fin 1536) : c3 (cs m) (cn m) = m := by
  apply Fin.ext; simp only [c3, cs, cn]; omega

theorem cs_c3 (s : Fin 3) (n : Fin 512) : cs (c3 s n) = s := by
  apply Fin.ext; simp only [c3, cs]; omega

theorem cn_c3 (s : Fin 3) (n : Fin 512) : cn (c3 s n) = n := by
  apply Fin.ext; simp only [c3, cn]; omega

theorem c30 (n : Fin 512) : c3 0 n = ⟨n.val, by omega⟩ := Fin.ext (by simp [c3])
theorem c30v (n : Fin 512) : (c3 0 n).val = n.val := by simp [c3]
theorem c31 (n : Fin 512) : c3 1 n = ⟨512 + n.val, by omega⟩ := Fin.ext (by simp [c3])
theorem c31v (n : Fin 512) : (c3 1 n).val = 512 + n.val := by simp [c3]
theorem c32 (n : Fin 512) : c3 2 n = ⟨1024 + n.val, by omega⟩ := Fin.ext (by simp [c3])
theorem c32v (n : Fin 512) : (c3 2 n).val = 1024 + n.val := by simp [c3]
theorem cat0 (j : Fin 128) : cat 0 j = ⟨j.val, by omega⟩ := Fin.ext (by simp [cat])
theorem cat0v (j : Fin 128) : (cat 0 j).val = j.val := by simp [cat]
theorem cat1 (j : Fin 128) : cat 1 j = ⟨128 + j.val, by omega⟩ := Fin.ext (by simp [cat])
theorem cat1v (j : Fin 128) : (cat 1 j).val = 128 + j.val := by simp [cat]
theorem cat2 (j : Fin 128) : cat 2 j = ⟨256 + j.val, by omega⟩ := Fin.ext (by simp [cat])
theorem cat2v (j : Fin 128) : (cat 2 j).val = 256 + j.val := by simp [cat]
theorem cat3 (j : Fin 128) : cat 3 j = ⟨384 + j.val, by omega⟩ := Fin.ext (by simp [cat])
theorem cat3v (j : Fin 128) : (cat 3 j).val = 384 + j.val := by simp [cat]

theorem three (s : Fin 3) : s = 0 ∨ s = 1 ∨ s = 2 := by omega
theorem four (q : Fin 4) : q = 0 ∨ q = 1 ∨ q = 2 ∨ q = 3 := by omega

/-- One of three values, by the part of the column. -/
def pick (s : Fin 3) (a b c : EReal) : EReal := if s = 0 then a else if s = 1 then b else c

theorem pick0 (a b c : EReal) : pick 0 a b c = a := rfl
theorem pick1 (a b c : EReal) : pick 1 a b c = b := rfl
theorem pick2 (a b c : EReal) : pick 2 a b c = c := rfl

end Cert.Proof.Gate
-- ==== Proof.GateRows.lean ====
/- The reference's values, entry by entry: each is the row mathematics of `GateSpec` on the rows of the
   reference's arguments, and each weight gradient is the sum of the rows' shares. -/
module

public import proofs.«01_k».proof.Proof.GateSpec
public import proofs.«01_k».proof.Proof.Heads
public import proofs.«01_k».proof.Proof.Gen.GateRefIdeal.Run

@[expose] public section

set_option maxRecDepth 16384
noncomputable section
open Idealize.ShloMosaic Cert.Proof.Row Cert.GateRefIdeal Cert.GateRefIdeal.Gen
open scoped BigOperators
namespace Cert.Proof.Gate

/-- The arguments of the reference. -/
structure Arr where
  a0 : FVec Ideal S8320x1024 .f32
  a1 : FVec Ideal S8320x512 .f32
  a2 : FVec Ideal S1x1024 .f32
  a3 : FVec Ideal S1x128 .f32
  a4 : FVec Ideal S1024x512 .f32
  a5 : FVec Ideal S1024x1024 .f32
  a6 : FVec Ideal S512x1024 .f32
  a7 : FVec Ideal S8320x1024 .f32
  a8 : FVec Ideal S8320x1024 .f32

namespace Arr
variable (r : Arr)

/-- Row `t` of the arguments. -/
def row (t : Fin 8320) : In where
  h k := r.a0 (ix2 t k)
  o n := r.a1 (ix2 t n)
  nw k := r.a2 (ix2 0 k)
  ow j := r.a3 (ix2 0 j)
  wz k n := r.a4 (ix2 k n)
  wm k d := r.a5 (ix2 k d)
  wb n d := r.a6 (ix2 n d)
  dy d := r.a7 (ix2 t d)
  dh d := r.a8 (ix2 t d)

section
variable (t : Fin 8320)
theorem row_h (k : Fin 1024) : (r.row t).h k = r.a0 (ix2 t k) := rfl
theorem row_o (n : Fin 512) : (r.row t).o n = r.a1 (ix2 t n) := rfl
theorem row_nw (k : Fin 1024) : (r.row t).nw k = r.a2 (ix2 0 k) := rfl
theorem row_ow (k : Fin 128) : (r.row t).ow k = r.a3 (ix2 0 k) := rfl
theorem row_wz (k : Fin 1024) (n : Fin 512) : (r.row t).wz k n = r.a4 (ix2 k n) := rfl
theorem row_wm (k n : Fin 1024) : (r.row t).wm k n = r.a5 (ix2 k n) := rfl
theorem row_wb (n : Fin 512) (d : Fin 1024) : (r.row t).wb n d = r.a6 (ix2 n d) := rfl
theorem row_dy (d : Fin 1024) : (r.row t).dy d = r.a7 (ix2 t d) := rfl
theorem row_dh (d : Fin 1024) : (r.row t).dh d = r.a8 (ix2 t d) := rfl
end

def rv6 : FVec Ideal S8320x1 .f32 :=
  addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))

def rv7 : FVec Ideal S8320x1 .f32 :=
  Host.rsqrt (r.rv6)

def rv10 : FVec Ideal S8320x1 .f32 :=
  mulf (broadcastInDim S8320x1 ![] bcast_S_S8320x1 (constant S_ .f32 0xBF000000#32)) (Host.divf (r.rv7) (r.rv6))

def rv12 : FVec Ideal S8320x1024 .f32 :=
  mulf r.a0 (broadcastInDim S8320x1024 ![0, 1] bcast_S8320x1_S8320x1024_0_1 (r.rv7))

def rv14 : FVec Ideal S8320x1024 .f32 :=
  mulf (r.rv12) (broadcastInDim S8320x1024 ![0, 1] bcast_S1x1024_S8320x1024_0_1 r.a2)

def rv15 : FVec Ideal S8320x512 .f32 :=
  Host.dotGeneral dot_S8320x1024_S1024x512_S8320x512_1_0_0_1_n_n none (r.rv14) r.a4

def rv16 : FVec Ideal S8320x1024 .f32 :=
  Host.dotGeneral dot_S8320x1024_S1024x1024_S8320x1024_1_0_0_1_n_n none (r.rv14) r.a5

def rv17 : FVec Ideal S8320x4x128 .f32 :=
  shapeCast S8320x4x128 r.a1 shapeCasts_S8320x512_S8320x4x128

def rv24 : FVec Ideal S8320x4x1 .f32 :=
  addf (Host.divf (broadcastInDim S8320x4x1 ![0, 1] bcast_S8320x4_S8320x4x1_0_1 (Host.reduceAdd (mulf (r.rv17) (r.rv17)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32))

def rv25 : FVec Ideal S8320x4x1 .f32 :=
  Host.rsqrt (r.rv24)

def rv28 : FVec Ideal S8320x4x1 .f32 :=
  mulf (broadcastInDim S8320x4x1 ![] bcast_S_S8320x4x1 (constant S_ .f32 0xBF000000#32)) (Host.divf (r.rv25) (r.rv24))

def rv30 : FVec Ideal S8320x4x128 .f32 :=
  mulf (r.rv17) (broadcastInDim S8320x4x128 ![0, 1, 2] bcast_S8320x4x1_S8320x4x128_0_1_2 (r.rv25))

def rv34 : FVec Ideal S8320x512 .f32 :=
  shapeCast S8320x512 (mulf (r.rv30) (broadcastInDim S8320x4x128 ![0, 1, 2] bcast_S1x1x128_S8320x4x128_0_1_2 (broadcastInDim S1x1x128 ![1, 2] bcast_S1x128_S1x1x128_1_2 r.a3))) shapeCasts_S8320x4x128_S8320x512

def rv35_2 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (r.rv15))))

def rv35_1 : FVec Ideal S8320x512 .f32 :=
  mulf (r.rv35_2) (subf (broadcastInDim S8320x512 ![] bcast_S_S8320x512 (constant S_ .f32 0x3F800000#32)) (r.rv35_2))

def rv35_0 : FVec Ideal S8320x512 .f32 :=
  mulf (r.rv15) (r.rv35_2)

def rv36 : FVec Ideal S8320x512 .f32 :=
  mulf (r.rv34) (r.rv35_0)

def rv42 : FVec Ideal S8320x1024 .f32 :=
  Host.divf (broadcastInDim S8320x1024 ![] bcast_S_S8320x1024 (constant S_ .f32 0x3F800000#32)) (addf (broadcastInDim S8320x1024 ![] bcast_S_S8320x1024 (constant S_ .f32 0x3F800000#32)) (Host.exp (Host.negf (r.rv16))))

def rv45 : FVec Ideal S8320x1024 .f32 :=
  mulf (r.rv42) (subf (broadcastInDim S8320x1024 ![] bcast_S_S8320x1024 (constant S_ .f32 0x3F800000#32)) (r.rv42))

def rv46 : FVec Ideal S8320x1024 .f32 :=
  Host.dotGeneral dot_S8320x512_S512x1024_S8320x1024_1_0_0_1_n_n none (r.rv36) r.a6

def rv48 : FVec Ideal S8320x1024 .f32 :=
  mulf (r.rv42) r.a7

def rv51 : FVec Ideal S512x1024 .f32 :=
  transpose S512x1024 [1, 0] (Host.dotGeneral dot_S8320x1024_S8320x512_S1024x512_0_0_1_1_n_n none (r.rv48) (r.rv36)) transposes_S1024x512_S512x1024_1_0

def rv52 : FVec Ideal S8320x512 .f32 :=
  Host.dotGeneral dot_S8320x1024_S512x1024_S8320x512_1_1_0_0_n_n none (r.rv48) r.a6

def rv53 : FVec Ideal S8320x1024 .f32 :=
  mulf (mulf r.a7 (r.rv46)) (r.rv45)

def rv54 : FVec Ideal S8320x512 .f32 :=
  mulf (r.rv34) (r.rv52)

def rv55 : FVec Ideal S8320x512 .f32 :=
  mulf (r.rv52) (r.rv35_0)

def rv56 : FVec Ideal S8320x512 .f32 :=
  addf (mulf (r.rv54) (r.rv35_2)) (mulf (mulf (r.rv15) (r.rv54)) (r.rv35_1))

def rv57 : FVec Ideal S8320x4x128 .f32 :=
  shapeCast S8320x4x128 (r.rv55) shapeCasts_S8320x512_S8320x4x128

def rv62 : FVec Ideal S8320x4x128 .f32 :=
  mulf (r.rv57) (broadcastInDim S8320x4x128 ![0, 1, 2] bcast_S1x1x128_S8320x4x128_0_1_2 (broadcastInDim S1x1x128 ![1, 2] bcast_S1x128_S1x1x128_1_2 r.a3))

def rv64 : FVec Ideal S1x128 .f32 :=
  broadcastInDim S1x128 ![1] bcast_S128_S1x128_1 (Host.reduceAdd (shapeCast S1x1x128 (Host.reduceAdd (mulf (r.rv30) (r.rv57)) (constant S_ .f32 0x00000000#32) reducesTo_S8320x4x128_S128_d0_1 h_S_) shapeCasts_S128_S1x1x128) (constant S_ .f32 0x00000000#32) reducesTo_S1x1x128_S128_d0_1 h_S_)

def rv74 : FVec Ideal S8320x4x128 .f32 :=
  broadcastInDim S8320x4x128 ![0, 1] bcast_S8320x4_S8320x4x128_0_1 (Host.reduceAdd (Host.divf (mulf (shapeCast S8320x4x1 (Host.reduceAdd (mulf (r.rv17) (r.rv62)) (constant S_ .f32 0x00000000#32) reducesTo_S8320x4x128_S8320x4_d2 h_S_) shapeCasts_S8320x4_S8320x4x1) (r.rv28)) (broadcastInDim S8320x4x1 ![] bcast_S_S8320x4x1 (constant S_ .f32 0x43000000#32))) (constant S_ .f32 0x00000000#32) reducesTo_S8320x4x1_S8320x4_d2 h_S_)

def rv79 : FVec Ideal S8320x512 .f32 :=
  shapeCast S8320x512 (addf (addf (mulf (r.rv62) (broadcastInDim S8320x4x128 ![0, 1, 2] bcast_S8320x4x1_S8320x4x128_0_1_2 (r.rv25))) (mulf (r.rv17) (r.rv74))) (mulf (r.rv74) (r.rv17))) shapeCasts_S8320x4x128_S8320x512

def rv81 : FVec Ideal S1024x1024 .f32 :=
  transpose S1024x1024 [1, 0] (Host.dotGeneral dot_S8320x1024_S8320x1024_S1024x1024_0_0_1_1_n_n none (r.rv53) (r.rv14)) transposes_S1024x1024_S1024x1024_1_0

def rv84 : FVec Ideal S1024x512 .f32 :=
  transpose S1024x512 [1, 0] (Host.dotGeneral dot_S8320x512_S8320x1024_S512x1024_0_0_1_1_n_n none (r.rv56) (r.rv14)) transposes_S512x1024_S1024x512_1_0

def rv86 : FVec Ideal S8320x1024 .f32 :=
  addf (Host.dotGeneral dot_S8320x1024_S1024x1024_S8320x1024_1_1_0_0_n_n none (r.rv53) r.a5) (Host.dotGeneral dot_S8320x512_S1024x512_S8320x1024_1_1_0_0_n_n none (r.rv56) r.a4)

def rv89 : FVec Ideal S1x1024 .f32 :=
  shapeCast S1x1024 (Host.reduceAdd (mulf (r.rv12) (r.rv86)) (constant S_ .f32 0x00000000#32) reducesTo_S8320x1024_S1024_d0 h_S_) shapeCasts_S1024_S1x1024

def rv91 : FVec Ideal S8320x1024 .f32 :=
  mulf (r.rv86) (broadcastInDim S8320x1024 ![0, 1] bcast_S1x1024_S8320x1024_0_1 r.a2)

def rv102 : FVec Ideal S8320x1024 .f32 :=
  broadcastInDim S8320x1024 ![0] bcast_S8320_S8320x1024_0 (Host.reduceAdd (Host.divf (mulf (shapeCast S8320x1 (Host.reduceAdd (mulf r.a0 (r.rv91)) (constant S_ .f32 0x00000000#32) reducesTo_S8320x1024_S8320_d1 h_S_) shapeCasts_S8320_S8320x1) (r.rv10)) (broadcastInDim S8320x1 ![] bcast_S_S8320x1 (constant S_ .f32 0x44800000#32))) (constant S_ .f32 0x00000000#32) reducesTo_S8320x1_S8320_d1 h_S_)

def rv106 : FVec Ideal S8320x1024 .f32 :=
  addf (addf (addf r.a8 (mulf (r.rv91) (broadcastInDim S8320x1024 ![0, 1] bcast_S8320x1_S8320x1024_0_1 (r.rv7)))) (mulf r.a0 (r.rv102))) (mulf (r.rv102) r.a0)

theorem at6 (t : Fin 8320)(x : Fin 1) : r.rv6 (ix2 t x) = ms n1024 (r.row t).h := by
  obtain rfl : x = 0 := Subsingleton.elim _ _
  pointwise [rv6, ms, row_h]

theorem at7 (t : Fin 8320)(x : Fin 1) : r.rv7 (ix2 t x) = rinv n1024 (r.row t).h := by
  pointwise [rv7, at6, rinv]

theorem at10 (t : Fin 8320)(x : Fin 1) : r.rv10 (ix2 t x) = co n1024 (r.row t).h := by
  pointwise [rv10, at6, at7, co]

theorem at12 (t : Fin 8320)(k : Fin 1024) : r.rv12 (ix2 t k) = (r.row t).xh k := by
  pointwise [rv12, at7, In.xh, row_h]

theorem at14 (t : Fin 8320)(k : Fin 1024) : r.rv14 (ix2 t k) = (r.row t).xn k := by
  pointwise [rv14, at12, In.xn, row_nw]

theorem at15 (t : Fin 8320)(n : Fin 512) : r.rv15 (ix2 t n) = (r.row t).z n := by
  pointwise [rv15, at14, In.z, row_wz]

theorem at16 (t : Fin 8320)(d : Fin 1024) : r.rv16 (ix2 t d) = (r.row t).mix d := by
  pointwise [rv16, at14, In.mix, row_wm]

theorem at17 (t : Fin 8320)(q : Fin 4)(j : Fin 128) : r.rv17 (ix3 t q j) = (r.row t).hd q j := by
  pointwise [rv17, In.hd, cat, row_o]

theorem at24 (t : Fin 8320)(q : Fin 4)(x : Fin 1) : r.rv24 (ix3 t q x) = ms n128 ((r.row t).hd q) := by
  obtain rfl : x = 0 := Subsingleton.elim _ _
  pointwise [rv24, at17, ms]

theorem at25 (t : Fin 8320)(q : Fin 4)(x : Fin 1) : r.rv25 (ix3 t q x) = rinv n128 ((r.row t).hd q) := by
  pointwise [rv25, at24, rinv]

theorem at28 (t : Fin 8320)(q : Fin 4)(x : Fin 1) : r.rv28 (ix3 t q x) = co n128 ((r.row t).hd q) := by
  pointwise [rv28, at24, at25, co]

theorem at30 (t : Fin 8320)(q : Fin 4)(j : Fin 128) : r.rv30 (ix3 t q j) = (r.row t).oh q j := by
  pointwise [rv30, at25, at17, In.oh]

theorem at34 (t : Fin 8320)(n : Fin 512) : r.rv34 (ix2 t n) = (r.row t).on n := by
  pointwise [rv34, at30, In.on, hq, hj, row_ow]

theorem at35_2 (t : Fin 8320)(n : Fin 512) : r.rv35_2 (ix2 t n) = sg ((r.row t).z n) := by
  pointwise [rv35_2, at15, sg]

theorem at35_1 (t : Fin 8320)(n : Fin 512) : r.rv35_1 (ix2 t n) = dsg ((r.row t).z n) := by
  pointwise [rv35_1, at35_2, dsg]

theorem at35_0 (t : Fin 8320)(n : Fin 512) : r.rv35_0 (ix2 t n) = (r.row t).silu n := by
  pointwise [rv35_0, at15, at35_2, In.silu]

theorem at36 (t : Fin 8320)(n : Fin 512) : r.rv36 (ix2 t n) = (r.row t).gb n := by
  pointwise [rv36, at34, at35_0, In.gb]

theorem at42 (t : Fin 8320)(d : Fin 1024) : r.rv42 (ix2 t d) = sg ((r.row t).mix d) := by
  pointwise [rv42, at16, sg]

theorem at45 (t : Fin 8320)(d : Fin 1024) : r.rv45 (ix2 t d) = dsg ((r.row t).mix d) := by
  pointwise [rv45, at42, dsg]

theorem at46 (t : Fin 8320)(d : Fin 1024) : r.rv46 (ix2 t d) = ∑ n, (r.row t).gb n * (r.row t).wb n d := by
  pointwise [rv46, at36, row_wb]

theorem at48 (t : Fin 8320)(d : Fin 1024) : r.rv48 (ix2 t d) = (r.row t).gm d := by
  pointwise [rv48, at42, In.gm, row_dy]

theorem at51 (n : Fin 512)(d : Fin 1024) : r.rv51 (ix2 n d) = ∑ t, (r.row t).gwb n d := by
  pointwise [rv51, at48, at36, In.gwb]
  <;> first | done | exact Finset.sum_congr rfl fun t _ => mul_comm _ _

theorem at52 (t : Fin 8320)(n : Fin 512) : r.rv52 (ix2 t n) = (r.row t).dgb n := by
  pointwise [rv52, at48, In.dgb, row_wb]

theorem at53 (t : Fin 8320)(d : Fin 1024) : r.rv53 (ix2 t d) = (r.row t).dmix d := by
  pointwise [rv53, at46, at45, In.dmix, row_dy]

theorem at54 (t : Fin 8320)(n : Fin 512) : r.rv54 (ix2 t n) = (r.row t).on n * (r.row t).dgb n := by
  pointwise [rv54, at34, at52]

theorem at55 (t : Fin 8320)(n : Fin 512) : r.rv55 (ix2 t n) = (r.row t).don n := by
  pointwise [rv55, at52, at35_0, In.don]

theorem at56 (t : Fin 8320)(n : Fin 512) : r.rv56 (ix2 t n) = (r.row t).dz n := by
  pointwise [rv56, at54, at35_2, at15, at35_1, In.dz]

theorem at57 (t : Fin 8320)(q : Fin 4)(j : Fin 128) : r.rv57 (ix3 t q j) = (r.row t).don (cat q j) := by
  pointwise [rv57, at55, cat]

theorem at62 (t : Fin 8320)(q : Fin 4)(j : Fin 128) : r.rv62 (ix3 t q j) = (r.row t).don (cat q j) * (r.row t).ow j := by
  pointwise [rv62, at57, row_ow]

theorem at64 (j : Fin 128) : r.rv64 (ix2 0 j) = ∑ t, (r.row t).gow j := by
  pointwise [rv64, at30, at57, hostSum01, In.gow]
  simp only [Fin.sum_univ_one]

theorem at74 (t : Fin 8320)(q : Fin 4)(j : Fin 128) : r.rv74 (ix3 t q j) = pull n128 ((r.row t).hd q) (fun j => (r.row t).don (cat q j) * (r.row t).ow j) := by
  pointwise [rv74, at17, at62, at28, pull]
  simp only [Fin.sum_univ_one]

theorem at79 (t : Fin 8320)(n : Fin 512) : r.rv79 (ix2 t n) = (r.row t).go n := by
  pointwise [rv79, at62, at25, at17, at74, In.go, back, hq, hj]
  ac_nf

theorem at81 (k : Fin 1024)(d : Fin 1024) : r.rv81 (ix2 k d) = ∑ t, (r.row t).gwm k d := by
  pointwise [rv81, at53, at14, In.gwm]
  <;> first | done | exact Finset.sum_congr rfl fun t _ => mul_comm _ _

theorem at84 (k : Fin 1024)(n : Fin 512) : r.rv84 (ix2 k n) = ∑ t, (r.row t).gwz k n := by
  pointwise [rv84, at56, at14, In.gwz]
  <;> first | done | exact Finset.sum_congr rfl fun t _ => mul_comm _ _

theorem at86 (t : Fin 8320)(k : Fin 1024) : r.rv86 (ix2 t k) = (r.row t).dxn k := by
  pointwise [rv86, at53, at56, In.dxn, row_wz, row_wm]

theorem at89 (k : Fin 1024) : r.rv89 (ix2 0 k) = ∑ t, (r.row t).gnw k := by
  pointwise [rv89, at12, at86, In.gnw]

theorem at91 (t : Fin 8320)(k : Fin 1024) : r.rv91 (ix2 t k) = (r.row t).dxn k * (r.row t).nw k := by
  pointwise [rv91, at86, row_nw]

theorem at102 (t : Fin 8320)(k : Fin 1024) : r.rv102 (ix2 t k) = pull n1024 (r.row t).h (fun k => (r.row t).dxn k * (r.row t).nw k) := by
  pointwise [rv102, at91, at10, pull, row_h]
  simp only [Fin.sum_univ_one]

theorem at106 (t : Fin 8320)(k : Fin 1024) : r.rv106 (ix2 t k) = (r.row t).gh k := by
  pointwise [rv106, at91, at7, at102, In.gh, back, row_h, row_dh]
  ac_nf

end Arr
end Cert.Proof.Gate
-- ==== Proof.GateArrays.lean ====
/- The kernel's seven result arrays after the run, entry by entry: the tiled gradients are the row
   mathematics of `GateSpec` on the arguments' rows, the accumulated ones the sum of all rows' shares. -/
module

public import proofs.«01_k».proof.Proof.GateTile
public import proofs.«01_k».proof.Proof.GateRows
public import proofs.«01_k».proof.Proof.Gen.GateIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.GateIdeal Cert.GateIdeal.Gen
open scoped BigOperators
namespace Cert.Proof.Gate

variable (m : (ℓ : Loc nD τ sig) → Buf (Elt Ideal) ℓ) (c : Dev nD)

/-- Every window's block index at a grid point. -/
theorem idx : ∀ t : Fin cfg0.N, win0_0.index t = ![25 - t.val, 0] ∧ win0_1.index t = ![25 - t.val, 0]
    ∧ win0_2.index t = ![0, 0] ∧ win0_3.index t = ![0, 0] ∧ win0_4.index t = ![0, 0] ∧ win0_5.index t = ![0, 0]
    ∧ win0_6.index t = ![0, 0] ∧ win0_7.index t = ![25 - t.val, 0] ∧ win0_8.index t = ![25 - t.val, 0]
    ∧ win0_9.index t = ![25 - t.val, 0] ∧ win0_10.index t = ![25 - t.val, 0]
    ∧ win0_11.index t = ![0, 0] ∧ win0_12.index t = ![0, 0] ∧ win0_13.index t = ![0, 0]
    ∧ win0_14.index t = ![0, 0] ∧ win0_15.index t = ![0, 0] :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t, iblk m c 7 t,
    iblk m c 8 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-- The array row that grid point `s` reads as its row `p`. -/
def rowAt (s : Nat) (p : Fin 320) : Fin 8320 := ⟨(25 - s) * 320 + p.val, by omega⟩

theorem sum_rows (f : Fin 8320 → EReal) : ∑ s : Fin 26, ∑ p : Fin 320, f (rowAt s.val p) = ∑ t, f t := by
  rw [Fin.sum_univ_tiles 26 320 rfl f, ← Equiv.sum_comp Fin.revPerm]
  refine Finset.sum_congr rfl fun s _ => Finset.sum_congr rfl fun p _ => congrArg f (Fin.ext ?_)
  simp only [rowAt, Fin.revPerm_apply, Fin.val_rev]
  omega

theorem row_eq (t : Fin cfg0.N) (p : Fin 320) : (blk m c t).row p = (arr m c).row (rowAt t.val p) := by
  have h0 : ∀ k : Fin 1024, (blk m c t).x0 (ix2 p k) = (arr m c).a0 (ix2 (rowAt t.val p) k) := by
    intro k; simp only [blk, arr, rowAt]; blk_point [iblk, V, idx t]
  have h1 : ∀ k : Fin 512, (blk m c t).x1 (ix2 p k) = (arr m c).a1 (ix2 (rowAt t.val p) k) := by
    intro k; simp only [blk, arr, rowAt]; blk_point [iblk, V, idx t]
  have h2 : ∀ k : Fin 1024, (blk m c t).x2 (ix2 0 k) = (arr m c).a2 (ix2 0 k) := by
    intro k; simp only [blk, arr]; blk_point [iblk, V, idx t]
  have h3 : ∀ k : Fin 128, (blk m c t).x3 (ix2 0 k) = (arr m c).a3 (ix2 0 k) := by
    intro k; simp only [blk, arr]; blk_point [iblk, V, idx t]
  have h4 : ∀ (k : Fin 1024) (n : Fin 512), (blk m c t).x4 (ix2 k n) = (arr m c).a4 (ix2 k n) := by
    intro k n; simp only [blk, arr]; blk_point [iblk, V, idx t]
  have h5 : ∀ (k n : Fin 1024), (blk m c t).x5 (ix2 k n) = (arr m c).a5 (ix2 k n) := by
    intro k n; simp only [blk, arr]; blk_point [iblk, V, idx t]
  have h6 : ∀ (k : Fin 512) (n : Fin 1024), (blk m c t).x6 (ix2 k n) = (arr m c).a6 (ix2 k n) := by
    intro k n; simp only [blk, arr]; blk_point [iblk, V, idx t]
  have h7 : ∀ k : Fin 1024, (blk m c t).x7 (ix2 p k) = (arr m c).a7 (ix2 (rowAt t.val p) k) := by
    intro k; simp only [blk, arr, rowAt]; blk_point [iblk, V, idx t]
  have h8 : ∀ k : Fin 1024, (blk m c t).x8 (ix2 p k) = (arr m c).a8 (ix2 (rowAt t.val p) k) := by
    intro k; simp only [blk, arr, rowAt]; blk_point [iblk, V, idx t]
  simp only [Blk.row, Arr.row, h0, h1, h2, h3, h4, h5, h6, h7, h8]

set_option maxHeartbeats 2000000 in
/-- The gradient of the residual stream. -/
theorem final_9 : (dats m 0 c).arrAt 9 (cfgs 0).N = (arr m c).rv106 := by
  refine (dats m 0 c).arrAt_eq_of_covers 9 _ (by decide +kernel) fun t hf y => ?_
  have key : ∀ (p : Fin 320) (k : Fin 1024), (blk m c t).tgh (ix2 p k) = (arr m c).rv106 (ix2 (rowAt t.val p) k) := by
    intro p k; rw [Blk.atgh, Arr.at106, row_eq]
  have emb : ∀ (p : Fin 320) (k : Fin 1024), ((cfg0.win 9).blk t).view.emb (ix2 p k) = ix2 (rowAt t.val p) k := by
    intro p k; simp only [rowAt]; blk_ext [idx t]
  blk_simp; rw [after0_9]
  by_cases h : t.val % 26 = 0
  · rw [outsAt0_A m c t h]; frame_out
    idx_vars y
    exact (key y0 y1).trans (congrArg (arr m c).rv106 (emb y0 y1).symm)
  · rw [outsAt0_B m c t h]; frame_out
    idx_vars y
    exact (key y0 y1).trans (congrArg (arr m c).rv106 (emb y0 y1).symm)

set_option maxHeartbeats 2000000 in
/-- The gradient of the branch's output. -/
theorem final_10 : (dats m 0 c).arrAt 10 (cfgs 0).N = (arr m c).rv79 := by
  refine (dats m 0 c).arrAt_eq_of_covers 10 _ (by decide +kernel) fun t hf y => ?_
  have key : ∀ (p : Fin 320) (k : Fin 512), (blk m c t).tgo (ix2 p k) = (arr m c).rv79 (ix2 (rowAt t.val p) k) := by
    intro p k; rw [Blk.atgo, Arr.at79, row_eq]
  have emb : ∀ (p : Fin 320) (k : Fin 512), ((cfg0.win 10).blk t).view.emb (ix2 p k) = ix2 (rowAt t.val p) k := by
    intro p k; simp only [rowAt]; blk_ext [idx t]
  blk_simp; rw [after0_10]
  by_cases h : t.val % 26 = 0
  · rw [outsAt0_A m c t h]; frame_out
    idx_vars y
    exact (key y0 y1).trans (congrArg (arr m c).rv79 (emb y0 y1).symm)
  · rw [outsAt0_B m c t h]; frame_out
    idx_vars y
    exact (key y0 y1).trans (congrArg (arr m c).rv79 (emb y0 y1).symm)

theorem hzero_11 (j : S1x1024.Idx) : k0_pay74 (F := Ideal) j = 0 := by pointwise! [k0_pay74]
theorem hpay_11 (v : FVec Ideal S1x1024 .f32) (acc : Vec Ideal S1x1024 .f32) (j : S1x1024.Idx) :
    k0_pay79 v acc j = acc j + v j := by pointwise [k0_pay79]

set_option maxHeartbeats 2000000 in
/-- The gradient of the row norm's weights. -/
theorem final_11 : (dats m 0 c).arrAt 11 (cfgs 0).N = (arr m c).rv89 := by
  refine (dats m 0 c).arrAt_eq_of_covers 11 _ (by decide +kernel) fun t hf y => ?_
  have ht : t.val / 26 = 0 := Nat.div_eq_of_lt (lt_of_lt_of_eq t.isLt (by decide))
  have key : ∀ (k : Fin 1024), ∑ s : Fin 26, (blk m c ⟨26 * (t.val / 26) + s.val,
      Pipeline.run_point_lt_of_flush t ((flush0_11 t).mp hf) s⟩).tgnw (ix2 0 k) = (arr m c).rv89 (ix2 0 k) := by
    intro k
    rw [Arr.at89, ← sum_rows]
    refine Finset.sum_congr rfl fun s _ => ?_
    rw [Blk.atgnw]
    refine Finset.sum_congr rfl fun p _ => ?_
    rw [row_eq]
    simp only [ht, Nat.mul_zero, Nat.zero_add]
  have emb : ∀ (k : Fin 1024), ((cfg0.win 11).blk t).view.emb (ix2 0 k) = (ix2 0 k) := by
    intro k; blk_ext [idx t]
  blk_simp
  rw [after0_11, Pipeline.eq_sum_fin_of_reset_step_apply_of_flush (fun n h => (outsAt0 m c n h).2.2.1) 26 (fun _ => 0)
    (fun t j => (blk m c t).tgnw j)
    (fun t h j => by rw [outsAt0_A m c t h]; frame_out; rw [hpay_11, hzero_11]; rfl)
    (fun t h j => by rw [outsAt0_B m c t h]; frame_out; rw [hpay_11]; rfl)
    t ((flush0_11 t).mp hf) _, zero_add]
  idx_vars y
  obtain rfl : y0 = 0 := Subsingleton.elim _ _
  exact (key y1).trans (congrArg (arr m c).rv89 (emb y1).symm)

theorem hzero_12 (j : S1x128.Idx) : k0_pay75 (F := Ideal) j = 0 := by pointwise! [k0_pay75]
theorem hpay_12 (v : FVec Ideal S1x128 .f32) (acc : Vec Ideal S1x128 .f32) (j : S1x128.Idx) :
    k0_pay80 v acc j = acc j + v j := by pointwise [k0_pay80]

set_option maxHeartbeats 2000000 in
/-- The gradient of the head norm's weights. -/
theorem final_12 : (dats m 0 c).arrAt 12 (cfgs 0).N = (arr m c).rv64 := by
  refine (dats m 0 c).arrAt_eq_of_covers 12 _ (by decide +kernel) fun t hf y => ?_
  have ht : t.val / 26 = 0 := Nat.div_eq_of_lt (lt_of_lt_of_eq t.isLt (by decide))
  have key : ∀ (k : Fin 128), ∑ s : Fin 26, (blk m c ⟨26 * (t.val / 26) + s.val,
      Pipeline.run_point_lt_of_flush t ((flush0_12 t).mp hf) s⟩).tgow (ix2 0 k) = (arr m c).rv64 (ix2 0 k) := by
    intro k
    rw [Arr.at64, ← sum_rows]
    refine Finset.sum_congr rfl fun s _ => ?_
    rw [Blk.atgow]
    refine Finset.sum_congr rfl fun p _ => ?_
    rw [row_eq]
    simp only [ht, Nat.mul_zero, Nat.zero_add]
  have emb : ∀ (k : Fin 128), ((cfg0.win 12).blk t).view.emb (ix2 0 k) = (ix2 0 k) := by
    intro k; blk_ext [idx t]
  blk_simp
  rw [after0_12, Pipeline.eq_sum_fin_of_reset_step_apply_of_flush (fun n h => (outsAt0 m c n h).2.2.2.1) 26 (fun _ => 0)
    (fun t j => (blk m c t).tgow j)
    (fun t h j => by rw [outsAt0_A m c t h]; frame_out; rw [hpay_12, hzero_12]; rfl)
    (fun t h j => by rw [outsAt0_B m c t h]; frame_out; rw [hpay_12]; rfl)
    t ((flush0_12 t).mp hf) _, zero_add]
  idx_vars y
  obtain rfl : y0 = 0 := Subsingleton.elim _ _
  exact (key y1).trans (congrArg (arr m c).rv64 (emb y1).symm)

theorem hzero_13 (j : S1024x512.Idx) : k0_pay76 (F := Ideal) j = 0 := by pointwise! [k0_pay76]
theorem hpay_13 (v : FVec Ideal S1024x512 .f32) (acc : Vec Ideal S1024x512 .f32) (j : S1024x512.Idx) :
    k0_pay81 v acc j = acc j + v j := by pointwise [k0_pay81]

set_option maxHeartbeats 2000000 in
/-- The gradient of the output gate's matrix. -/
theorem final_13 : (dats m 0 c).arrAt 13 (cfgs 0).N = (arr m c).rv84 := by
  refine (dats m 0 c).arrAt_eq_of_covers 13 _ (by decide +kernel) fun t hf y => ?_
  have ht : t.val / 26 = 0 := Nat.div_eq_of_lt (lt_of_lt_of_eq t.isLt (by decide))
  have key : ∀ (k : Fin 1024) (n : Fin 512), ∑ s : Fin 26, (blk m c ⟨26 * (t.val / 26) + s.val,
      Pipeline.run_point_lt_of_flush t ((flush0_13 t).mp hf) s⟩).tgwz (ix2 k n) = (arr m c).rv84 (ix2 k n) := by
    intro k n
    rw [Arr.at84, ← sum_rows]
    refine Finset.sum_congr rfl fun s _ => ?_
    rw [Blk.atgwz]
    refine Finset.sum_congr rfl fun p _ => ?_
    rw [row_eq]
    simp only [ht, Nat.mul_zero, Nat.zero_add]
  have emb : ∀ (k : Fin 1024) (n : Fin 512), ((cfg0.win 13).blk t).view.emb (ix2 k n) = (ix2 k n) := by
    intro k n; blk_ext [idx t]
  blk_simp
  rw [after0_13, Pipeline.eq_sum_fin_of_reset_step_apply_of_flush (fun n h => (outsAt0 m c n h).2.2.2.2.1) 26 (fun _ => 0)
    (fun t j => (blk m c t).tgwz j)
    (fun t h j => by rw [outsAt0_A m c t h]; frame_out; rw [hpay_13, hzero_13]; rfl)
    (fun t h j => by rw [outsAt0_B m c t h]; frame_out; rw [hpay_13]; rfl)
    t ((flush0_13 t).mp hf) _, zero_add]
  idx_vars y
  exact (key y0 y1).trans (congrArg (arr m c).rv84 (emb y0 y1).symm)

theorem hzero_14 (j : S1024x1024.Idx) : k0_pay77 (F := Ideal) j = 0 := by pointwise! [k0_pay77]
theorem hpay_14 (v : FVec Ideal S1024x1024 .f32) (acc : Vec Ideal S1024x1024 .f32) (j : S1024x1024.Idx) :
    k0_pay82 v acc j = acc j + v j := by pointwise [k0_pay82]

set_option maxHeartbeats 2000000 in
/-- The gradient of the merge gate's matrix. -/
theorem final_14 : (dats m 0 c).arrAt 14 (cfgs 0).N = (arr m c).rv81 := by
  refine (dats m 0 c).arrAt_eq_of_covers 14 _ (by decide +kernel) fun t hf y => ?_
  have ht : t.val / 26 = 0 := Nat.div_eq_of_lt (lt_of_lt_of_eq t.isLt (by decide))
  have key : ∀ (k : Fin 1024) (n : Fin 1024), ∑ s : Fin 26, (blk m c ⟨26 * (t.val / 26) + s.val,
      Pipeline.run_point_lt_of_flush t ((flush0_14 t).mp hf) s⟩).tgwm (ix2 k n) = (arr m c).rv81 (ix2 k n) := by
    intro k n
    rw [Arr.at81, ← sum_rows]
    refine Finset.sum_congr rfl fun s _ => ?_
    rw [Blk.atgwm]
    refine Finset.sum_congr rfl fun p _ => ?_
    rw [row_eq]
    simp only [ht, Nat.mul_zero, Nat.zero_add]
  have emb : ∀ (k : Fin 1024) (n : Fin 1024), ((cfg0.win 14).blk t).view.emb (ix2 k n) = (ix2 k n) := by
    intro k n; blk_ext [idx t]
  blk_simp
  rw [after0_14, Pipeline.eq_sum_fin_of_reset_step_apply_of_flush (fun n h => (outsAt0 m c n h).2.2.2.2.2.1) 26 (fun _ => 0)
    (fun t j => (blk m c t).tgwm j)
    (fun t h j => by rw [outsAt0_A m c t h]; frame_out; rw [hpay_14, hzero_14]; rfl)
    (fun t h j => by rw [outsAt0_B m c t h]; frame_out; rw [hpay_14]; rfl)
    t ((flush0_14 t).mp hf) _, zero_add]
  idx_vars y
  exact (key y0 y1).trans (congrArg (arr m c).rv81 (emb y0 y1).symm)

theorem hzero_15 (j : S512x1024.Idx) : k0_pay78 (F := Ideal) j = 0 := by pointwise! [k0_pay78]
theorem hpay_15 (v : FVec Ideal S512x1024 .f32) (acc : Vec Ideal S512x1024 .f32) (j : S512x1024.Idx) :
    k0_pay83 v acc j = acc j + v j := by pointwise [k0_pay83]

set_option maxHeartbeats 2000000 in
/-- The gradient of the branch's matrix. -/
theorem final_15 : (dats m 0 c).arrAt 15 (cfgs 0).N = (arr m c).rv51 := by
  refine (dats m 0 c).arrAt_eq_of_covers 15 _ (by decide +kernel) fun t hf y => ?_
  have ht : t.val / 26 = 0 := Nat.div_eq_of_lt (lt_of_lt_of_eq t.isLt (by decide))
  have key : ∀ (k : Fin 512) (n : Fin 1024), ∑ s : Fin 26, (blk m c ⟨26 * (t.val / 26) + s.val,
      Pipeline.run_point_lt_of_flush t ((flush0_15 t).mp hf) s⟩).twb (ix2 k n) = (arr m c).rv51 (ix2 k n) := by
    intro k n
    rw [Arr.at51, ← sum_rows]
    refine Finset.sum_congr rfl fun s _ => ?_
    rw [Blk.atwb]
    refine Finset.sum_congr rfl fun p _ => ?_
    rw [row_eq]
    simp only [ht, Nat.mul_zero, Nat.zero_add]
  have emb : ∀ (k : Fin 512) (n : Fin 1024), ((cfg0.win 15).blk t).view.emb (ix2 k n) = (ix2 k n) := by
    intro k n; blk_ext [idx t]
  blk_simp
  rw [after0_15, Pipeline.eq_sum_fin_of_reset_step_apply_of_flush (fun n h => (outsAt0 m c n h).2.2.2.2.2.2) 26 (fun _ => 0)
    (fun t j => (blk m c t).twb j)
    (fun t h j => by rw [outsAt0_A m c t h]; frame_out; rw [hpay_15, hzero_15]; rfl)
    (fun t h j => by rw [outsAt0_B m c t h]; frame_out; rw [hpay_15]; rfl)
    t ((flush0_15 t).mp hf) _, zero_add]
  idx_vars y
  exact (key y0 y1).trans (congrArg (arr m c).rv51 (emb y0 y1).symm)

end Cert.Proof.Gate
-- ==== Proof.GateClaim.lean ====
/- The claims about the gated-merge stage's backward kernel, assembled: the frames, and that its seven
   result arrays are those of the reference. -/
module

public import proofs.«01_k».proof.Proof.GateArrays
public import proofs.«01_k».proof.Defs
public import proofs.«01_k».proof.Proof.Gen.Gate.Frame

@[expose] public section

set_option maxRecDepth 16384
noncomputable section
open Idealize.ShloMosaic Idealize.ShloMosaic.TcCoe Idealize.SL.Sem
namespace Cert.Proof.Gate

section
open Cert.GateRefIdeal Cert.GateRefIdeal.Gen
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

theorem res_106 : Cert.GateRefIdeal.Value.res_main_v106 m c = (rarr m c).rv106 := rfl
theorem res_79 : Cert.GateRefIdeal.Value.res_main_v79 m c = (rarr m c).rv79 := rfl
theorem res_89 : Cert.GateRefIdeal.Value.res_main_v89 m c = (rarr m c).rv89 := rfl
theorem res_84 : Cert.GateRefIdeal.Value.res_main_v84 m c = (rarr m c).rv84 := rfl
theorem res_81 : Cert.GateRefIdeal.Value.res_main_v81 m c = (rarr m c).rv81 := rfl
set_option maxHeartbeats 2000000 in
theorem res_64 : (broadcastInDim S1x128 ![1] bcast_S128_S1x128_1 (Host.reduceAdd (shapeCast _ (Host.reduceAdd (mulf (mulf (shapeCast _ (rarr m c).a1 shapeCasts_S8320x512_S8320x4x128) (broadcastInDim S8320x4x128 ![0, 1, 2] bcast_S8320x4x1_S8320x4x128_0_1_2 (Host.rsqrt (addf (Host.divf (broadcastInDim S8320x4x1 ![0, 1] bcast_S8320x4_S8320x4x1_0_1 (Host.reduceAdd (mulf (shapeCast _ (rarr m c).a1 shapeCasts_S8320x512_S8320x4x128) (shapeCast _ (rarr m c).a1 shapeCasts_S8320x512_S8320x4x128)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))))) (shapeCast _ (mulf (Host.dotGeneral dot_S8320x1024_S512x1024_S8320x512_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral dot_S8320x1024_S1024x1024_S8320x1024_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a5))))) (rarr m c).a7) (rarr m c).a6) (mulf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4))))))) shapeCasts_S8320x512_S8320x4x128)) (constant S_ .f32 0x00000000#32) reducesTo_S8320x4x128_S128_d0_1 h_S_) shapeCasts_S128_S1x1x128) (constant S_ .f32 0x00000000#32) reducesTo_S1x1x128_S128_d0_1 h_S_) : FVec Ideal S1x128 .f32) = (rarr m c).rv64 := by
  rfl
set_option maxHeartbeats 2000000 in
theorem res_51 : (transpose S512x1024 [1, 0] (Host.dotGeneral dot_S8320x1024_S8320x512_S1024x512_0_0_1_1_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral dot_S8320x1024_S1024x1024_S8320x1024_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a5))))) (rarr m c).a7) (mulf (shapeCast _ (mulf (mulf (shapeCast _ (rarr m c).a1 shapeCasts_S8320x512_S8320x4x128) (broadcastInDim S8320x4x128 ![0, 1, 2] bcast_S8320x4x1_S8320x4x128_0_1_2 (Host.rsqrt (addf (Host.divf (broadcastInDim S8320x4x1 ![0, 1] bcast_S8320x4_S8320x4x1_0_1 (Host.reduceAdd (mulf (shapeCast _ (rarr m c).a1 shapeCasts_S8320x512_S8320x4x128) (shapeCast _ (rarr m c).a1 shapeCasts_S8320x512_S8320x4x128)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))))) (broadcastInDim S8320x4x128 ![0, 1, 2] bcast_S1x1x128_S8320x4x128_0_1_2 (broadcastInDim S1x1x128 ![1, 2] bcast_S1x128_S1x1x128_1_2 (rarr m c).a3))) shapeCasts_S8320x4x128_S8320x512) (mulf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4)))))))) transposes_S1024x512_S512x1024_1_0 : FVec Ideal S512x1024 .f32) = (rarr m c).rv51 := by
  rfl
end

theorem frame_p : Cert.quiescent_Gate := fun m ρ _ => Cert.Gate.Gen.frame m ρ
theorem frame_pi : Cert.quiescent_GateIdeal := fun m ρ _ => Cert.GateIdeal.Gen.frame m ρ
theorem frame_ri : Cert.quiescent_GateRefIdeal := fun m ρ _ =>
  (θ_run Cert.GateRefIdeal.defs _ _).mono (fun r h => ⟨fun c => (h c).2.2.2.2.2.2.2,
      Idealize.ShloMosaic.sem_eq_zero_of_no_sems (by decide) r.2⟩)
    (Cert.GateRefIdeal.Value.run (F := Ideal) m ρ)

theorem algebraic : Cert.algebraic_GateIdeal_GateRefIdeal := by
  intro m ρ m' ρ' _ hag
  have e : ∀ c, rarr m' c = arr m c := by
    intro c
    obtain ⟨h0, h1, h2, h3, h4, h5, h6, h7, h8⟩ := hag c
    simp only [rarr, arr]
    rw [h0, h1, h2, h3, h4, h5, h6, h7, h8]
  refine ⟨fun c => (arr m c).rv106, fun c => (arr m c).rv79, fun c => (arr m c).rv89, fun c => (arr m c).rv64,
    fun c => (arr m c).rv84, fun c => (arr m c).rv81, fun c => (arr m c).rv51, ?_, ?_⟩
  · refine (θ_run Cert.GateIdeal.defs _ _).mono (fun r h c => ?_) (Cert.GateIdeal.Value.run_blocks (F := Ideal) m ρ)
    obtain ⟨g9, g10, g11, g12, g13, g14, g15, g⟩ := h c
    exact ⟨g9.trans (final_9 m c), g10.trans (final_10 m c), g11.trans (final_11 m c), g12.trans (final_12 m c),
      g13.trans (final_13 m c), g14.trans (final_14 m c), g15.trans (final_15 m c), g⟩
  · refine (θ_run Cert.GateRefIdeal.defs _ _).mono (fun r h c => ?_) (Cert.GateRefIdeal.Value.run (F := Ideal) m' ρ')
    obtain ⟨g0, g1, g2, g3, g4, g5, g6, g⟩ := h c
    refine ⟨g0.trans ((res_106 m' c).trans (congrArg Arr.rv106 (e c))), g1.trans ((res_79 m' c).trans (congrArg Arr.rv79 (e c))),
      g2.trans ((res_89 m' c).trans (congrArg Arr.rv89 (e c))), g3.trans ?_,
      g4.trans ((res_84 m' c).trans (congrArg Arr.rv84 (e c))), g5.trans ((res_81 m' c).trans (congrArg Arr.rv81 (e c))),
      g6.trans ?_, g⟩
    · exact (res_64 m' c).trans (congrArg Arr.rv64 (e c))
    · exact (res_51 m' c).trans (congrArg Arr.rv51 (e c))

end Cert.Proof.Gate
-- ==== Proof.PlainSpec.lean ====
/- One row of the backward pass of a merge stage without an output norm, on plain functions over the extended reals. -/
module

public import proofs.«01_k».proof.Proof.GateSpec

@[expose] public section

set_option maxRecDepth 16384
noncomputable section
open Idealize.ShloMosaic Cert.Proof.Row
open Cert.Proof.Gate (n1024 n128 cat hq hj cat_hq_hj)
open scoped BigOperators
namespace Cert.Proof.Plain

/-- What a row of the stage reads. -/
structure In where
  h : Fin 1024 → EReal
  o : Fin 512 → EReal
  nw : Fin 1024 → EReal
  wz : Fin 1024 → Fin 512 → EReal
  wm : Fin 1024 → Fin 1024 → EReal
  wb : Fin 512 → Fin 1024 → EReal
  dy : Fin 1024 → EReal
  dh : Fin 1024 → EReal

namespace In
variable (i : In)

def xh (k : Fin 1024) : EReal := i.h k * rinv n1024 i.h
def xn (k : Fin 1024) : EReal := i.xh k * i.nw k
def z (n : Fin 512) : EReal := ∑ k, i.xn k * i.wz k n
def mix (d : Fin 1024) : EReal := ∑ k, i.xn k * i.wm k d
def silu (n : Fin 512) : EReal := i.z n * sg (i.z n)
/-- The gated branch. -/
def gb (n : Fin 512) : EReal := i.o n * i.silu n
/-- The incoming gradient through the merge gate. -/
def gm (d : Fin 1024) : EReal := sg (i.mix d) * i.dy d
/-- The gradient of the gated branch. -/
def dgb (n : Fin 512) : EReal := ∑ d, i.gm d * i.wb n d
/-- The gradient of the branch's output. -/
def go (n : Fin 512) : EReal := i.dgb n * i.silu n
def dz (n : Fin 512) : EReal := (i.o n * i.dgb n) * sg (i.z n) + i.z n * (i.o n * i.dgb n) * dsg (i.z n)
def dmix (d : Fin 1024) : EReal := i.dy d * (∑ n, i.gb n * i.wb n d) * dsg (i.mix d)
def dxn (k : Fin 1024) : EReal := (∑ d, i.dmix d * i.wm k d) + ∑ n, i.dz n * i.wz k n
/-- The gradient of the row. -/
def gh (k : Fin 1024) : EReal := back n1024 i.h (fun k => i.dxn k * i.nw k) k + i.dh k
/-- What the row adds to the gradients of the weights. -/
def gnw (k : Fin 1024) : EReal := i.xh k * i.dxn k
/-- The head norm of this stage is not used: its weights get nothing. -/
def gow (_ : In) (_ : Fin 128) : EReal := 0
@[inherit_doc gnw] def gwz (k : Fin 1024) (n : Fin 512) : EReal := i.xn k * i.dz n
@[inherit_doc gnw] def gwm (k d : Fin 1024) : EReal := i.xn k * i.dmix d
@[inherit_doc gnw] def gwb (n : Fin 512) (d : Fin 1024) : EReal := i.gb n * i.gm d

end In
end Cert.Proof.Plain
-- ==== Proof.PlainTile.lean ====
/- The kernel's block of 320 rows, entry by entry: the values of the body are the row mathematics of
   `PlainSpec` on the block's rows. -/
module

public import proofs.«01_k».proof.Proof.PlainSpec
public import proofs.«01_k».proof.Proof.Gen.PlainIdeal.Skeleton

@[expose] public section

set_option maxRecDepth 16384
noncomputable section
open Idealize.ShloMosaic Cert.Proof.Row Cert.PlainIdeal Cert.PlainIdeal.Gen
open Cert.Proof.Gate (n1024 n128 cat hq hj cat_hq_hj)
open scoped BigOperators
namespace Cert.Proof.Plain

/-- The blocks one grid point reads. -/
structure Blk where
  x0 : Vec Ideal S320x1024 .f32
  x1 : Vec Ideal S320x512 .f32
  x2 : Vec Ideal S1x1024 .f32
  x3 : Vec Ideal S1x128 .f32
  x4 : Vec Ideal S1024x512 .bf16
  x5 : Vec Ideal S1024x1024 .bf16
  x6 : Vec Ideal S512x1024 .bf16
  x7 : Vec Ideal S320x1024 .f32
  x8 : Vec Ideal S320x1024 .f32

namespace Blk
variable (b : Blk)

/-- Row `p` of the blocks. -/
def row (p : Fin 320) : In where
  h k := b.x0 (ix2 p k)
  o k := b.x1 (ix2 p k)
  nw k := b.x2 (ix2 0 k)
  wz k n := b.x4 (ix2 k n)
  wm k n := b.x5 (ix2 k n)
  wb k n := b.x6 (ix2 k n)
  dy k := b.x7 (ix2 p k)
  dh k := b.x8 (ix2 p k)

section
variable (p : Fin 320)
theorem row_h (k : Fin 1024) : (b.row p).h k = b.x0 (ix2 p k) := rfl
theorem row_o (k : Fin 512) : (b.row p).o k = b.x1 (ix2 p k) := rfl
theorem row_nw (k : Fin 1024) : (b.row p).nw k = b.x2 (ix2 0 k) := rfl
theorem row_wz (k : Fin 1024) (n : Fin 512) : (b.row p).wz k n = b.x4 (ix2 k n) := rfl
theorem row_wm (k : Fin 1024) (n : Fin 1024) : (b.row p).wm k n = b.x5 (ix2 k n) := rfl
theorem row_wb (k : Fin 512) (n : Fin 1024) : (b.row p).wb k n = b.x6 (ix2 k n) := rfl
theorem row_dy (k : Fin 1024) : (b.row p).dy k = b.x7 (ix2 p k) := rfl
theorem row_dh (k : Fin 1024) : (b.row p).dh k = b.x8 (ix2 p k) := rfl
end

def t15 := k0_pay8 (F := Ideal) b.x0
def t16 := k0_pay9 (F := Ideal) b.x0
def t19 := k0_pay10 (F := Ideal) b.x0
def t21 := k0_pay11 (F := Ideal) b.x0
def t23 := k0_pay12 (F := Ideal) b.x0 b.x2
def t4 := k0_pay5 (F := Ideal) b.x4
def t6 := k0_pay6 (F := Ideal) b.x5
def t8 := k0_pay7 (F := Ideal) b.x6
def t25 := k0_pay13 (F := Ideal) b.x0 b.x2 b.x4
def t30 := k0_pay14 (F := Ideal) b.x0 b.x2 b.x5
def t36 (_ : Blk) := k0_pay16 (F := Ideal)
def t42 := k0_pay17 (F := Ideal) b.t25
def t57 := k0_pay21 (F := Ideal) b.t30 b.t36 b.x7
def t51 := k0_pay18 (F := Ideal) b.t25
def t52 := k0_pay19 (F := Ideal) b.t25
def t53 := k0_pay20 (F := Ideal) b.x1 b.t25
def t60 := k0_pay22 (F := Ideal) b.t8 b.t30 b.t36 b.x7
def t63 := k0_pay23 (F := Ideal) b.x1 b.t25 b.t30 b.t36 b.x7
def t65 := k0_pay24 (F := Ideal) b.t8 b.t25 b.t30 b.t36 b.x7
def t73 := k0_pay25 (F := Ideal) b.x1 b.t8 b.t25 b.t30 b.t36 b.x7
def t35 := k0_pay15 (F := Ideal) b.x0 b.x2 b.x5
def t78 := k0_pay26 (F := Ideal) b.x1 b.t8 b.t25 b.t35 b.x7
def t80 := k0_pay27 (F := Ideal) b.x1 b.t6 b.t8 b.t25 b.t35 b.x7
def t83 := k0_pay28 (F := Ideal) b.t23 b.t78
def t88 := k0_pay29 (F := Ideal) b.t23 b.t73
def t89 := k0_pay30 (F := Ideal) b.t4 b.t73 b.t80
def t109 := k0_pay31 (F := Ideal) b.x0 b.x2 b.t4 b.t16 b.t19 b.t73 b.t80
def t135 := k0_pay4 (F := Ideal) b.t109 b.x8

theorem fold15 : k0_pay8 (F := Ideal) b.x0 = b.t15 := rfl
theorem fold16 : k0_pay9 (F := Ideal) b.x0 = b.t16 := rfl
theorem fold21 : k0_pay11 (F := Ideal) b.x0 = b.t21 := rfl
theorem fold23 : k0_pay12 (F := Ideal) b.x0 b.x2 = b.t23 := rfl
theorem fold4 : k0_pay5 (F := Ideal) b.x4 = b.t4 := rfl
theorem fold6 : k0_pay6 (F := Ideal) b.x5 = b.t6 := rfl
theorem fold30 : k0_pay14 (F := Ideal) b.x0 b.x2 b.x5 = b.t30 := rfl
theorem fold42 : k0_pay17 (F := Ideal) b.t25 = b.t42 := rfl
theorem fold57 : k0_pay21 (F := Ideal) b.t30 b.t36 b.x7 = b.t57 := rfl
theorem fold51 : k0_pay18 (F := Ideal) b.t25 = b.t51 := rfl
theorem fold52 : k0_pay19 (F := Ideal) b.t25 = b.t52 := rfl
theorem fold53 : k0_pay20 (F := Ideal) b.x1 b.t25 = b.t53 := rfl
theorem fold60 : k0_pay22 (F := Ideal) b.t8 b.t30 b.t36 b.x7 = b.t60 := rfl
theorem fold78 : k0_pay26 (F := Ideal) b.x1 b.t8 b.t25 b.t35 b.x7 = b.t78 := rfl
theorem fold89 : k0_pay30 (F := Ideal) b.t4 b.t73 b.t80 = b.t89 := rfl

theorem at15 (p : Fin 320)(x : Fin 1) : b.t15 (ix2 p x) = ms n1024 (b.row p).h := by
  obtain rfl : x = 0 := Subsingleton.elim _ _
  pointwise [t15, k0_pay8, row_h, row_o, row_nw, row_wz, row_wm, row_wb, row_dy, row_dh, ms]

theorem at16 (p : Fin 320)(x : Fin 1) : b.t16 (ix2 p x) = rinv n1024 (b.row p).h := by
  pointwise [t16, k0_pay9, fold15, at15, row_h, row_o, row_nw, row_wz, row_wm, row_wb, row_dy, row_dh, rinv]

theorem at19 (p : Fin 320)(x : Fin 1) : b.t19 (ix2 p x) = co n1024 (b.row p).h := by
  pointwise [t19, k0_pay10, fold16, at16, fold15, at15, row_h, row_o, row_nw, row_wz, row_wm, row_wb, row_dy, row_dh, co]

theorem at21 (p : Fin 320)(k : Fin 1024) : b.t21 (ix2 p k) = (b.row p).xh k := by
  pointwise [t21, k0_pay11, fold16, at16, row_h, row_o, row_nw, row_wz, row_wm, row_wb, row_dy, row_dh, In.xh]

theorem at23 (p : Fin 320)(k : Fin 1024) : b.t23 (ix2 p k) = (b.row p).xn k := by
  pointwise [t23, k0_pay12, fold21, at21, row_h, row_o, row_nw, row_wz, row_wm, row_wb, row_dy, row_dh, In.xn]

theorem at4 (k : Fin 1024)(n : Fin 512) : b.t4 (ix2 k n) = b.x4 (ix2 k n) := by
  pointwise [t4, k0_pay5, row_h, row_o, row_nw, row_wz, row_wm, row_wb, row_dy, row_dh]

theorem at6 (k d : Fin 1024) : b.t6 (ix2 k d) = b.x5 (ix2 k d) := by
  pointwise [t6, k0_pay6, row_h, row_o, row_nw, row_wz, row_wm, row_wb, row_dy, row_dh]

theorem at8 (n : Fin 512)(d : Fin 1024) : b.t8 (ix2 n d) = b.x6 (ix2 n d) := by
  pointwise [t8, k0_pay7, row_h, row_o, row_nw, row_wz, row_wm, row_wb, row_dy, row_dh]

theorem at25 (p : Fin 320)(n : Fin 512) : b.t25 (ix2 p n) = (b.row p).z n := by
  pointwise [t25, k0_pay13, fold23, at23, fold4, at4, row_h, row_o, row_nw, row_wz, row_wm, row_wb, row_dy, row_dh, In.z]

theorem at30 (p : Fin 320)(d : Fin 1024) : b.t30 (ix2 p d) = Ideal.tanh (half * (b.row p).mix d) := by
  pointwise [t30, k0_pay14, fold23, at23, fold6, at6, row_h, row_o, row_nw, row_wz, row_wm, row_wb, row_dy, row_dh, In.mix]

theorem at36 (p : Fin 320)(d : Fin 1024) : b.t36 (ix2 p d) = 1 := by
  pointwise [t36, k0_pay16, row_h, row_o, row_nw, row_wz, row_wm, row_wb, row_dy, row_dh]

theorem at42 (p : Fin 320)(n : Fin 512) : b.t42 (ix2 p n) = Ideal.tanh (half * (b.row p).z n) := by
  pointwise [t42, k0_pay17, at25, row_h, row_o, row_nw, row_wz, row_wm, row_wb, row_dy, row_dh]

theorem at57 (p : Fin 320)(d : Fin 1024) : b.t57 (ix2 p d) = (b.row p).gm d := by
  pointwise [t57, k0_pay21, at30, at36, row_h, row_o, row_nw, row_wz, row_wm, row_wb, row_dy, row_dh, In.gm, sg_tanh]

theorem at51 (p : Fin 320)(n : Fin 512) : b.t51 (ix2 p n) = sg ((b.row p).z n) := by
  pointwise [t51, k0_pay18, at25, fold42, at42, row_h, row_o, row_nw, row_wz, row_wm, row_wb, row_dy, row_dh, sg_tanh]

theorem at52 (p : Fin 320)(n : Fin 512) : b.t52 (ix2 p n) = (b.row p).silu n := by
  pointwise [t52, k0_pay19, at25, fold51, at51, row_h, row_o, row_nw, row_wz, row_wm, row_wb, row_dy, row_dh, In.silu]

theorem at53 (p : Fin 320)(n : Fin 512) : b.t53 (ix2 p n) = (b.row p).gb n := by
  pointwise [t53, k0_pay20, at25, fold52, at52, row_h, row_o, row_nw, row_wz, row_wm, row_wb, row_dy, row_dh, In.gb]

theorem at60 (p : Fin 320)(n : Fin 512) : b.t60 (ix2 p n) = (b.row p).dgb n := by
  pointwise [t60, k0_pay22, at8, at30, at36, fold57, at57, row_h, row_o, row_nw, row_wz, row_wm, row_wb, row_dy, row_dh, In.dgb]

theorem at63 (n : Fin 512)(d : Fin 1024) : b.t63 (ix2 n d) = ∑ p, (b.row p).gwb n d := by
  pointwise [t63, k0_pay23, at25, at30, at36, fold53, at53, fold57, at57, row_h, row_o, row_nw, row_wz, row_wm, row_wb, row_dy, row_dh, In.gwb]

theorem at65 (p : Fin 320)(n : Fin 512) : b.t65 (ix2 p n) = (b.row p).go n := by
  pointwise [t65, k0_pay24, at8, at25, at30, at36, fold60, at60, fold52, at52, row_h, row_o, row_nw, row_wz, row_wm, row_wb, row_dy, row_dh, In.go]

theorem at73 (p : Fin 320)(n : Fin 512) : b.t73 (ix2 p n) = (b.row p).dz n := by
  pointwise [t73, k0_pay25, at8, at25, at30, at36, fold42, at42, fold60, at60, fold51, at51, row_h, row_o, row_nw, row_wz, row_wm, row_wb, row_dy, row_dh, In.dz, dsg_tanh]

theorem at35 (p : Fin 320)(d : Fin 1024) : b.t35 (ix2 p d) = (1 + Ideal.tanh (half * (b.row p).mix d)) * (1 - Ideal.tanh (half * (b.row p).mix d)) := by
  pointwise [t35, k0_pay15, fold30, at30, row_h, row_o, row_nw, row_wz, row_wm, row_wb, row_dy, row_dh]

theorem at78 (p : Fin 320)(d : Fin 1024) : b.t78 (ix2 p d) = (b.row p).dmix d := by
  pointwise [t78, k0_pay26, at8, at25, at35, fold53, at53, row_h, row_o, row_nw, row_wz, row_wm, row_wb, row_dy, row_dh, In.dmix, dsg_tanh]

theorem at80 (p : Fin 320)(k : Fin 1024) : b.t80 (ix2 p k) = ∑ d, (b.row p).dmix d * (b.row p).wm k d := by
  pointwise [t80, k0_pay27, at6, at8, at25, at35, fold78, at78, row_h, row_o, row_nw, row_wz, row_wm, row_wb, row_dy, row_dh]

theorem at83 (k : Fin 1024)(d : Fin 1024) : b.t83 (ix2 k d) = ∑ p, (b.row p).gwm k d := by
  pointwise [t83, k0_pay28, at23, at78, row_h, row_o, row_nw, row_wz, row_wm, row_wb, row_dy, row_dh, In.gwm]

theorem at88 (k : Fin 1024)(n : Fin 512) : b.t88 (ix2 k n) = ∑ p, (b.row p).gwz k n := by
  pointwise [t88, k0_pay29, at23, at73, row_h, row_o, row_nw, row_wz, row_wm, row_wb, row_dy, row_dh, In.gwz]

theorem at89 (p : Fin 320)(k : Fin 1024) : b.t89 (ix2 p k) = (b.row p).dxn k := by
  pointwise [t89, k0_pay30, at4, at73, at80, row_h, row_o, row_nw, row_wz, row_wm, row_wb, row_dy, row_dh, In.dxn]

theorem at135 (p : Fin 320)(k : Fin 1024) : b.t135 (ix2 p k) = (b.row p).gh k := by
  pointwise [t135, k0_pay4, t109, k0_pay31, at4, at16, at19, at73, at80, fold89, at89, row_h, row_o, row_nw, row_wz, row_wm, row_wb, row_dy, row_dh, In.gh, back, pull]
  simp only [Fin.sum_univ_one]
  ac_nf

def c11 := k0_pay37 (F := Ideal) b.t4 b.t21 b.t73 b.t80 (fun _ => 0)
theorem atc11 (k : Fin 1024) : b.c11 (ix2 0 k) = ∑ p, (b.row p).gnw k := by
  pointwise [c11, k0_pay37, fold89, at21, at89, In.gnw]

def c12 (_ : Blk) := k0_pay38 (F := Ideal) (fun _ => 0)
theorem atc12 (k : Fin 128) : b.c12 (ix2 0 k) = ∑ p, (b.row p).gow k := by
  pointwise [c12, k0_pay38, In.gow, Finset.sum_const_zero]

end Blk
end Cert.Proof.Plain
-- ==== Proof.PlainRows.lean ====
/- The reference's values, entry by entry: the row mathematics of `PlainSpec` on the rows of the reference's
   arguments, and each weight gradient the sum of the rows' shares. -/
module

public import proofs.«01_k».proof.Proof.PlainSpec
public import proofs.«01_k».proof.Proof.Gen.PlainRefIdeal.Run

@[expose] public section

set_option maxRecDepth 16384
noncomputable section
open Idealize.ShloMosaic Cert.Proof.Row Cert.PlainRefIdeal Cert.PlainRefIdeal.Gen
open Cert.Proof.Gate (n1024 n128 cat hq hj cat_hq_hj)
open scoped BigOperators
namespace Cert.Proof.Plain

/-- The arguments of the reference. -/
structure Arr where
  a0 : FVec Ideal S8320x1024 .f32
  a1 : FVec Ideal S8320x512 .f32
  a2 : FVec Ideal S1x1024 .f32
  a3 : FVec Ideal S1x128 .f32
  a4 : FVec Ideal S1024x512 .f32
  a5 : FVec Ideal S1024x1024 .f32
  a6 : FVec Ideal S512x1024 .f32
  a7 : FVec Ideal S8320x1024 .f32
  a8 : FVec Ideal S8320x1024 .f32

namespace Arr
variable (r : Arr)

/-- Row `t` of the arguments. -/
def row (t : Fin 8320) : In where
  h k := r.a0 (ix2 t k)
  o k := r.a1 (ix2 t k)
  nw k := r.a2 (ix2 0 k)
  wz k n := r.a4 (ix2 k n)
  wm k n := r.a5 (ix2 k n)
  wb k n := r.a6 (ix2 k n)
  dy k := r.a7 (ix2 t k)
  dh k := r.a8 (ix2 t k)

section
variable (t : Fin 8320)
theorem row_h (k : Fin 1024) : (r.row t).h k = r.a0 (ix2 t k) := rfl
theorem row_o (k : Fin 512) : (r.row t).o k = r.a1 (ix2 t k) := rfl
theorem row_nw (k : Fin 1024) : (r.row t).nw k = r.a2 (ix2 0 k) := rfl
theorem row_wz (k : Fin 1024) (n : Fin 512) : (r.row t).wz k n = r.a4 (ix2 k n) := rfl
theorem row_wm (k : Fin 1024) (n : Fin 1024) : (r.row t).wm k n = r.a5 (ix2 k n) := rfl
theorem row_wb (k : Fin 512) (n : Fin 1024) : (r.row t).wb k n = r.a6 (ix2 k n) := rfl
theorem row_dy (k : Fin 1024) : (r.row t).dy k = r.a7 (ix2 t k) := rfl
theorem row_dh (k : Fin 1024) : (r.row t).dh k = r.a8 (ix2 t k) := rfl
end

def rv6 : FVec Ideal S8320x1 .f32 :=
  addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))

def rv7 : FVec Ideal S8320x1 .f32 :=
  Host.rsqrt (r.rv6)

def rv10 : FVec Ideal S8320x1 .f32 :=
  mulf (broadcastInDim S8320x1 ![] bcast_S_S8320x1 (constant S_ .f32 0xBF000000#32)) (Host.divf (r.rv7) (r.rv6))

def rv12 : FVec Ideal S8320x1024 .f32 :=
  mulf r.a0 (broadcastInDim S8320x1024 ![0, 1] bcast_S8320x1_S8320x1024_0_1 (r.rv7))

def rv14 : FVec Ideal S8320x1024 .f32 :=
  mulf (r.rv12) (broadcastInDim S8320x1024 ![0, 1] bcast_S1x1024_S8320x1024_0_1 r.a2)

def rv15 : FVec Ideal S8320x512 .f32 :=
  Host.dotGeneral dot_S8320x1024_S1024x512_S8320x512_1_0_0_1_n_n none (r.rv14) r.a4

def rv16 : FVec Ideal S8320x1024 .f32 :=
  Host.dotGeneral dot_S8320x1024_S1024x1024_S8320x1024_1_0_0_1_n_n none (r.rv14) r.a5

def rv22 : FVec Ideal S8320x1024 .f32 :=
  Host.divf (broadcastInDim S8320x1024 ![] bcast_S_S8320x1024 (constant S_ .f32 0x3F800000#32)) (addf (broadcastInDim S8320x1024 ![] bcast_S_S8320x1024 (constant S_ .f32 0x3F800000#32)) (Host.exp (Host.negf (r.rv16))))

def rv25 : FVec Ideal S8320x1024 .f32 :=
  mulf (r.rv22) (subf (broadcastInDim S8320x1024 ![] bcast_S_S8320x1024 (constant S_ .f32 0x3F800000#32)) (r.rv22))

def rv26_2 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (r.rv15))))

def rv26_1 : FVec Ideal S8320x512 .f32 :=
  mulf (r.rv26_2) (subf (broadcastInDim S8320x512 ![] bcast_S_S8320x512 (constant S_ .f32 0x3F800000#32)) (r.rv26_2))

def rv26_0 : FVec Ideal S8320x512 .f32 :=
  mulf (r.rv15) (r.rv26_2)

def rv27 : FVec Ideal S8320x512 .f32 :=
  mulf r.a1 (r.rv26_0)

def rv28 : FVec Ideal S8320x1024 .f32 :=
  Host.dotGeneral dot_S8320x512_S512x1024_S8320x1024_1_0_0_1_n_n none (r.rv27) r.a6

def rv30 : FVec Ideal S8320x1024 .f32 :=
  mulf (r.rv22) r.a7

def rv33 : FVec Ideal S512x1024 .f32 :=
  transpose S512x1024 [1, 0] (Host.dotGeneral dot_S8320x1024_S8320x512_S1024x512_0_0_1_1_n_n none (r.rv30) (r.rv27)) transposes_S1024x512_S512x1024_1_0

def rv34 : FVec Ideal S8320x512 .f32 :=
  Host.dotGeneral dot_S8320x1024_S512x1024_S8320x512_1_1_0_0_n_n none (r.rv30) r.a6

def rv36 : FVec Ideal S8320x512 .f32 :=
  mulf (r.rv34) (r.rv26_0)

def rv37 : FVec Ideal S8320x512 .f32 :=
  addf (mulf (mulf r.a1 (r.rv34)) (r.rv26_2)) (mulf (mulf (r.rv15) (mulf r.a1 (r.rv34))) (r.rv26_1))

def rv38 : FVec Ideal S8320x1024 .f32 :=
  mulf (mulf r.a7 (r.rv28)) (r.rv25)

def rv40 : FVec Ideal S1024x1024 .f32 :=
  transpose S1024x1024 [1, 0] (Host.dotGeneral dot_S8320x1024_S8320x1024_S1024x1024_0_0_1_1_n_n none (r.rv38) (r.rv14)) transposes_S1024x1024_S1024x1024_1_0

def rv43 : FVec Ideal S1024x512 .f32 :=
  transpose S1024x512 [1, 0] (Host.dotGeneral dot_S8320x512_S8320x1024_S512x1024_0_0_1_1_n_n none (r.rv37) (r.rv14)) transposes_S512x1024_S1024x512_1_0

def rv45 : FVec Ideal S8320x1024 .f32 :=
  addf (Host.dotGeneral dot_S8320x1024_S1024x1024_S8320x1024_1_1_0_0_n_n none (r.rv38) r.a5) (Host.dotGeneral dot_S8320x512_S1024x512_S8320x1024_1_1_0_0_n_n none (r.rv37) r.a4)

def rv48 : FVec Ideal S1x1024 .f32 :=
  shapeCast S1x1024 (Host.reduceAdd (mulf (r.rv12) (r.rv45)) (constant S_ .f32 0x00000000#32) reducesTo_S8320x1024_S1024_d0 h_S_) shapeCasts_S1024_S1x1024

def rv50 : FVec Ideal S8320x1024 .f32 :=
  mulf (r.rv45) (broadcastInDim S8320x1024 ![0, 1] bcast_S1x1024_S8320x1024_0_1 r.a2)

def rv61 : FVec Ideal S8320x1024 .f32 :=
  broadcastInDim S8320x1024 ![0] bcast_S8320_S8320x1024_0 (Host.reduceAdd (Host.divf (mulf (shapeCast S8320x1 (Host.reduceAdd (mulf r.a0 (r.rv50)) (constant S_ .f32 0x00000000#32) reducesTo_S8320x1024_S8320_d1 h_S_) shapeCasts_S8320_S8320x1) (r.rv10)) (broadcastInDim S8320x1 ![] bcast_S_S8320x1 (constant S_ .f32 0x44800000#32))) (constant S_ .f32 0x00000000#32) reducesTo_S8320x1_S8320_d1 h_S_)

def rv65 : FVec Ideal S8320x1024 .f32 :=
  addf (addf (addf r.a8 (mulf (r.rv50) (broadcastInDim S8320x1024 ![0, 1] bcast_S8320x1_S8320x1024_0_1 (r.rv7)))) (mulf r.a0 (r.rv61))) (mulf (r.rv61) r.a0)

def rv66 (_ : Arr) : FVec Ideal S1x128 .f32 :=
  broadcastInDim S1x128 ![] bcast_S_S1x128 (constant S_ .f32 0x00000000#32)

theorem at6 (t : Fin 8320)(x : Fin 1) : r.rv6 (ix2 t x) = ms n1024 (r.row t).h := by
  obtain rfl : x = 0 := Subsingleton.elim _ _
  pointwise [rv6, row_h, row_o, row_nw, row_wz, row_wm, row_wb, row_dy, row_dh, ms]

theorem at7 (t : Fin 8320)(x : Fin 1) : r.rv7 (ix2 t x) = rinv n1024 (r.row t).h := by
  pointwise [rv7, at6, row_h, row_o, row_nw, row_wz, row_wm, row_wb, row_dy, row_dh, rinv]

theorem at10 (t : Fin 8320)(x : Fin 1) : r.rv10 (ix2 t x) = co n1024 (r.row t).h := by
  pointwise [rv10, at7, at6, row_h, row_o, row_nw, row_wz, row_wm, row_wb, row_dy, row_dh, co]

theorem at12 (t : Fin 8320)(k : Fin 1024) : r.rv12 (ix2 t k) = (r.row t).xh k := by
  pointwise [rv12, at7, row_h, row_o, row_nw, row_wz, row_wm, row_wb, row_dy, row_dh, In.xh]

theorem at14 (t : Fin 8320)(k : Fin 1024) : r.rv14 (ix2 t k) = (r.row t).xn k := by
  pointwise [rv14, at12, row_h, row_o, row_nw, row_wz, row_wm, row_wb, row_dy, row_dh, In.xn]

theorem at15 (t : Fin 8320)(n : Fin 512) : r.rv15 (ix2 t n) = (r.row t).z n := by
  pointwise [rv15, at14, row_h, row_o, row_nw, row_wz, row_wm, row_wb, row_dy, row_dh, In.z]

theorem at16 (t : Fin 8320)(d : Fin 1024) : r.rv16 (ix2 t d) = (r.row t).mix d := by
  pointwise [rv16, at14, row_h, row_o, row_nw, row_wz, row_wm, row_wb, row_dy, row_dh, In.mix]

theorem at22 (t : Fin 8320)(d : Fin 1024) : r.rv22 (ix2 t d) = sg ((r.row t).mix d) := by
  pointwise [rv22, at16, row_h, row_o, row_nw, row_wz, row_wm, row_wb, row_dy, row_dh, sg]

theorem at25 (t : Fin 8320)(d : Fin 1024) : r.rv25 (ix2 t d) = dsg ((r.row t).mix d) := by
  pointwise [rv25, at22, row_h, row_o, row_nw, row_wz, row_wm, row_wb, row_dy, row_dh, dsg]

theorem at26_2 (t : Fin 8320)(n : Fin 512) : r.rv26_2 (ix2 t n) = sg ((r.row t).z n) := by
  pointwise [rv26_2, at15, row_h, row_o, row_nw, row_wz, row_wm, row_wb, row_dy, row_dh, sg]

theorem at26_1 (t : Fin 8320)(n : Fin 512) : r.rv26_1 (ix2 t n) = dsg ((r.row t).z n) := by
  pointwise [rv26_1, at26_2, row_h, row_o, row_nw, row_wz, row_wm, row_wb, row_dy, row_dh, dsg]

theorem at26_0 (t : Fin 8320)(n : Fin 512) : r.rv26_0 (ix2 t n) = (r.row t).silu n := by
  pointwise [rv26_0, at15, at26_2, row_h, row_o, row_nw, row_wz, row_wm, row_wb, row_dy, row_dh, In.silu]

theorem at27 (t : Fin 8320)(n : Fin 512) : r.rv27 (ix2 t n) = (r.row t).gb n := by
  pointwise [rv27, at26_0, row_h, row_o, row_nw, row_wz, row_wm, row_wb, row_dy, row_dh, In.gb]

theorem at28 (t : Fin 8320)(d : Fin 1024) : r.rv28 (ix2 t d) = ∑ n, (r.row t).gb n * (r.row t).wb n d := by
  pointwise [rv28, at27, row_h, row_o, row_nw, row_wz, row_wm, row_wb, row_dy, row_dh]

theorem at30 (t : Fin 8320)(d : Fin 1024) : r.rv30 (ix2 t d) = (r.row t).gm d := by
  pointwise [rv30, at22, row_h, row_o, row_nw, row_wz, row_wm, row_wb, row_dy, row_dh, In.gm]

theorem at33 (n : Fin 512)(d : Fin 1024) : r.rv33 (ix2 n d) = ∑ t, (r.row t).gwb n d := by
  pointwise [rv33, at30, at27, row_h, row_o, row_nw, row_wz, row_wm, row_wb, row_dy, row_dh, In.gwb]
  <;> first | done | exact Finset.sum_congr rfl fun t _ => mul_comm _ _

theorem at34 (t : Fin 8320)(n : Fin 512) : r.rv34 (ix2 t n) = (r.row t).dgb n := by
  pointwise [rv34, at30, row_h, row_o, row_nw, row_wz, row_wm, row_wb, row_dy, row_dh, In.dgb]

theorem at36 (t : Fin 8320)(n : Fin 512) : r.rv36 (ix2 t n) = (r.row t).go n := by
  pointwise [rv36, at34, at26_0, row_h, row_o, row_nw, row_wz, row_wm, row_wb, row_dy, row_dh, In.go]

theorem at37 (t : Fin 8320)(n : Fin 512) : r.rv37 (ix2 t n) = (r.row t).dz n := by
  pointwise [rv37, at34, at26_2, at15, at26_1, row_h, row_o, row_nw, row_wz, row_wm, row_wb, row_dy, row_dh, In.dz]

theorem at38 (t : Fin 8320)(d : Fin 1024) : r.rv38 (ix2 t d) = (r.row t).dmix d := by
  pointwise [rv38, at28, at25, row_h, row_o, row_nw, row_wz, row_wm, row_wb, row_dy, row_dh, In.dmix]

theorem at40 (k : Fin 1024)(d : Fin 1024) : r.rv40 (ix2 k d) = ∑ t, (r.row t).gwm k d := by
  pointwise [rv40, at38, at14, row_h, row_o, row_nw, row_wz, row_wm, row_wb, row_dy, row_dh, In.gwm]
  <;> first | done | exact Finset.sum_congr rfl fun t _ => mul_comm _ _

theorem at43 (k : Fin 1024)(n : Fin 512) : r.rv43 (ix2 k n) = ∑ t, (r.row t).gwz k n := by
  pointwise [rv43, at37, at14, row_h, row_o, row_nw, row_wz, row_wm, row_wb, row_dy, row_dh, In.gwz]
  <;> first | done | exact Finset.sum_congr rfl fun t _ => mul_comm _ _

theorem at45 (t : Fin 8320)(k : Fin 1024) : r.rv45 (ix2 t k) = (r.row t).dxn k := by
  pointwise [rv45, at38, at37, row_h, row_o, row_nw, row_wz, row_wm, row_wb, row_dy, row_dh, In.dxn]

theorem at48 (k : Fin 1024) : r.rv48 (ix2 0 k) = ∑ t, (r.row t).gnw k := by
  pointwise [rv48, at12, at45, row_h, row_o, row_nw, row_wz, row_wm, row_wb, row_dy, row_dh, In.gnw]

theorem at50 (t : Fin 8320)(k : Fin 1024) : r.rv50 (ix2 t k) = (r.row t).dxn k * (r.row t).nw k := by
  pointwise [rv50, at45, row_h, row_o, row_nw, row_wz, row_wm, row_wb, row_dy, row_dh]

theorem at61 (t : Fin 8320)(k : Fin 1024) : r.rv61 (ix2 t k) = pull n1024 (r.row t).h (fun k => (r.row t).dxn k * (r.row t).nw k) := by
  pointwise [rv61, at50, at10, row_h, row_o, row_nw, row_wz, row_wm, row_wb, row_dy, row_dh, pull]
  simp only [Fin.sum_univ_one]

theorem at65 (t : Fin 8320)(k : Fin 1024) : r.rv65 (ix2 t k) = (r.row t).gh k := by
  pointwise [rv65, at50, at7, at61, row_h, row_o, row_nw, row_wz, row_wm, row_wb, row_dy, row_dh, In.gh, back]
  ac_nf

theorem at66 (j : Fin 128) : r.rv66 (ix2 0 j) = ∑ t, (r.row t).gow j := by
  pointwise [rv66, row_h, row_o, row_nw, row_wz, row_wm, row_wb, row_dy, row_dh, In.gow, Finset.sum_const_zero]

end Arr
end Cert.Proof.Plain
-- ==== Proof.PlainArr.lean ====
/- The kernel's windows: which rows of the argument arrays a grid point reads. -/
module

public import proofs.«01_k».proof.Proof.PlainTile
public import proofs.«01_k».proof.Proof.PlainRows
public import proofs.«01_k».proof.Proof.Gen.PlainIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.PlainIdeal Cert.PlainIdeal.Gen
open scoped BigOperators
namespace Cert.Proof.Plain

variable (m : (ℓ : Loc nD τ sig) → Buf (Elt Ideal) ℓ) (c : Dev nD)

/-- Every window's block index at a grid point. -/
theorem idx : ∀ t : Fin cfg0.N, win0_0.index t = ![25 - t.val, 0]
    ∧ win0_1.index t = ![25 - t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![25 - t.val, 0]
    ∧ win0_8.index t = ![25 - t.val, 0]
    ∧ win0_9.index t = ![25 - t.val, 0]
    ∧ win0_10.index t = ![25 - t.val, 0]
    ∧ win0_11.index t = ![0, 0]
    ∧ win0_12.index t = ![0, 0]
    ∧ win0_13.index t = ![0, 0]
    ∧ win0_14.index t = ![0, 0]
    ∧ win0_15.index t = ![0, 0] :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t, iblk m c 7 t, iblk m c 8 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-- The array row that grid point `s` reads as its row `p`. -/
def rowAt (s : Nat) (p : Fin 320) : Fin 8320 := ⟨(25 - s) * 320 + p.val, by omega⟩

theorem sum_rows (f : Fin 8320 → EReal) : ∑ s : Fin 26, ∑ p : Fin 320, f (rowAt s.val p) = ∑ t, f t := by
  rw [Fin.sum_univ_tiles 26 320 rfl f, ← Equiv.sum_comp Fin.revPerm]
  refine Finset.sum_congr rfl fun s _ => Finset.sum_congr rfl fun p _ => congrArg f (Fin.ext ?_)
  simp only [rowAt, Fin.revPerm_apply, Fin.val_rev]
  omega

theorem row_eq (t : Fin cfg0.N) (p : Fin 320) : (blk m c t).row p = (arr m c).row (rowAt t.val p) := by
  have h0 : ∀ k : Fin 1024, (blk m c t).x0 (ix2 p k) = (arr m c).a0 (ix2 (rowAt t.val p) k) := by
    intro k; simp only [blk, arr, rowAt]; blk_point [iblk, V, idx t]
  have h1 : ∀ k : Fin 512, (blk m c t).x1 (ix2 p k) = (arr m c).a1 (ix2 (rowAt t.val p) k) := by
    intro k; simp only [blk, arr, rowAt]; blk_point [iblk, V, idx t]
  have h2 : ∀ k : Fin 1024, (blk m c t).x2 (ix2 0 k) = (arr m c).a2 (ix2 0 k) := by
    intro k; simp only [blk, arr]; blk_point [iblk, V, idx t]
  have h4 : ∀ (k : Fin 1024) (n : Fin 512), (blk m c t).x4 (ix2 k n) = (arr m c).a4 (ix2 k n) := by
    intro k n; simp only [blk, arr]; blk_point [iblk, V, idx t]
  have h5 : ∀ (k : Fin 1024) (n : Fin 1024), (blk m c t).x5 (ix2 k n) = (arr m c).a5 (ix2 k n) := by
    intro k n; simp only [blk, arr]; blk_point [iblk, V, idx t]
  have h6 : ∀ (k : Fin 512) (n : Fin 1024), (blk m c t).x6 (ix2 k n) = (arr m c).a6 (ix2 k n) := by
    intro k n; simp only [blk, arr]; blk_point [iblk, V, idx t]
  have h7 : ∀ k : Fin 1024, (blk m c t).x7 (ix2 p k) = (arr m c).a7 (ix2 (rowAt t.val p) k) := by
    intro k; simp only [blk, arr, rowAt]; blk_point [iblk, V, idx t]
  have h8 : ∀ k : Fin 1024, (blk m c t).x8 (ix2 p k) = (arr m c).a8 (ix2 (rowAt t.val p) k) := by
    intro k; simp only [blk, arr, rowAt]; blk_point [iblk, V, idx t]
  simp only [Blk.row, Arr.row, h0, h1, h2, h4, h5, h6, h7, h8]

end Cert.Proof.Plain
-- ==== Proof.PlainFin1.lean ====
/- Result arrays of the kernel after the run, entry by entry. -/
module

public import proofs.«01_k».proof.Proof.PlainArr

@[expose] public section

set_option maxRecDepth 16384
noncomputable section
open Idealize.ShloMosaic Idealize.ShloMosaic.TcCoe Idealize.SL.Sem
open Cert.Proof.Row Cert.PlainIdeal Cert.PlainIdeal.Gen
open scoped BigOperators
namespace Cert.Proof.Plain

variable (m : (ℓ : Loc nD τ sig) → Buf (Elt Ideal) ℓ) (c : Dev nD)

set_option maxHeartbeats 2000000 in
/-- The gradient of the residual stream. -/
theorem final_9 : (dats m 0 c).arrAt 9 (cfgs 0).N = (arr m c).rv65 := by
  refine (dats m 0 c).arrAt_eq_of_covers 9 _ (by decide +kernel) fun t hf y => ?_
  have key : ∀ (p : Fin 320) (k : Fin 1024), (blk m c t).t135 (ix2 p k) = (arr m c).rv65 (ix2 (rowAt t.val p) k) := by
    intro p k; rw [Blk.at135, Arr.at65, row_eq]
  have emb : ∀ (p : Fin 320) (k : Fin 1024), ((cfg0.win 9).blk t).view.emb (ix2 p k) = ix2 (rowAt t.val p) k := by
    intro p k; simp only [rowAt]; blk_ext [idx t]
  blk_simp; rw [after0_9]
  by_cases h : t.val % 26 = 0
  · rw [outsAt0_A m c t h]; frame_out
    idx_vars y
    exact (key y0 y1).trans (congrArg (arr m c).rv65 (emb y0 y1).symm)
  · rw [outsAt0_B m c t h]; frame_out
    idx_vars y
    exact (key y0 y1).trans (congrArg (arr m c).rv65 (emb y0 y1).symm)

set_option maxHeartbeats 2000000 in
/-- The gradient of the branch's output. -/
theorem final_10 : (dats m 0 c).arrAt 10 (cfgs 0).N = (arr m c).rv36 := by
  refine (dats m 0 c).arrAt_eq_of_covers 10 _ (by decide +kernel) fun t hf y => ?_
  have key : ∀ (p : Fin 320) (k : Fin 512), (blk m c t).t65 (ix2 p k) = (arr m c).rv36 (ix2 (rowAt t.val p) k) := by
    intro p k; rw [Blk.at65, Arr.at36, row_eq]
  have emb : ∀ (p : Fin 320) (k : Fin 512), ((cfg0.win 10).blk t).view.emb (ix2 p k) = ix2 (rowAt t.val p) k := by
    intro p k; simp only [rowAt]; blk_ext [idx t]
  blk_simp; rw [after0_10]
  by_cases h : t.val % 26 = 0
  · rw [outsAt0_A m c t h]; frame_out
    idx_vars y
    exact (key y0 y1).trans (congrArg (arr m c).rv36 (emb y0 y1).symm)
  · rw [outsAt0_B m c t h]; frame_out
    idx_vars y
    exact (key y0 y1).trans (congrArg (arr m c).rv36 (emb y0 y1).symm)

end Cert.Proof.Plain
-- ==== Proof.PlainFin2.lean ====
/- Result arrays of the kernel after the run, entry by entry. -/
module

public import proofs.«01_k».proof.Proof.PlainArr

@[expose] public section

set_option maxRecDepth 16384
noncomputable section
open Idealize.ShloMosaic Idealize.ShloMosaic.TcCoe Idealize.SL.Sem
open Cert.Proof.Row Cert.PlainIdeal Cert.PlainIdeal.Gen
open scoped BigOperators
namespace Cert.Proof.Plain

variable (m : (ℓ : Loc nD τ sig) → Buf (Elt Ideal) ℓ) (c : Dev nD)

theorem hzero_11 (j : S1x1024.Idx) : k0_pay32 (F := Ideal) j = 0 := by pointwise! [k0_pay32]
theorem hpay_11 (v4 : FVec Ideal S1024x512 .bf16) (v21 : FVec Ideal S320x1024 .f32) (v73 : FVec Ideal S320x512 .f32) (v80 : FVec Ideal S320x1024 .f32) (v114 : Vec Ideal S1x1024 .f32) (j : S1x1024.Idx) :
    k0_pay37 v4 v21 v73 v80 v114 j = v114 j + k0_pay37 v4 v21 v73 v80 (fun _ => 0) j := by pointwise [k0_pay37]

set_option maxHeartbeats 2000000 in
/-- The gradient of the row norm's weights. -/
theorem final_11 : (dats m 0 c).arrAt 11 (cfgs 0).N = (arr m c).rv48 := by
  refine (dats m 0 c).arrAt_eq_of_covers 11 _ (by decide +kernel) fun t hf y => ?_
  have ht : t.val / 26 = 0 := Nat.div_eq_of_lt (lt_of_lt_of_eq t.isLt (by decide))
  have key : ∀ (k : Fin 1024), ∑ s : Fin 26, (blk m c ⟨26 * (t.val / 26) + s.val,
      Pipeline.run_point_lt_of_flush t ((flush0_11 t).mp hf) s⟩).c11 (ix2 0 k) = (arr m c).rv48 (ix2 0 k) := by
    intro k
    rw [Arr.at48, ← sum_rows]
    refine Finset.sum_congr rfl fun s _ => ?_
    rw [Blk.atc11]
    refine Finset.sum_congr rfl fun p _ => ?_
    rw [row_eq]
    simp only [ht, Nat.mul_zero, Nat.zero_add]
  have emb : ∀ (k : Fin 1024), ((cfg0.win 11).blk t).view.emb (ix2 0 k) = (ix2 0 k) := by
    intro k; blk_ext [idx t]
  blk_simp
  rw [after0_11, Pipeline.eq_sum_fin_of_reset_step_apply_of_flush (fun n h => (outsAt0 m c n h).2.2.1) 26 (fun _ => 0)
    (fun t j => (blk m c t).c11 j)
    (fun t h j => by rw [outsAt0_A m c t h]; frame_out; rw [hpay_11, hzero_11]; rfl)
    (fun t h j => by rw [outsAt0_B m c t h]; frame_out; rw [hpay_11]; rfl)
    t ((flush0_11 t).mp hf) _, zero_add]
  idx_vars y
  obtain rfl : y0 = 0 := Subsingleton.elim _ _
  exact (key y1).trans (congrArg (arr m c).rv48 (emb y1).symm)

theorem hzero_12 (j : S1x128.Idx) : k0_pay33 (F := Ideal) j = 0 := by pointwise! [k0_pay33]
theorem hpay_12 (v118 : Vec Ideal S1x128 .f32) (j : S1x128.Idx) :
    k0_pay38 v118 j = v118 j + k0_pay38 (fun _ => 0) j := by pointwise [k0_pay38]

set_option maxHeartbeats 2000000 in
/-- The gradient of the unused norm's weights: zero. -/
theorem final_12 : (dats m 0 c).arrAt 12 (cfgs 0).N = (arr m c).rv66 := by
  refine (dats m 0 c).arrAt_eq_of_covers 12 _ (by decide +kernel) fun t hf y => ?_
  have ht : t.val / 26 = 0 := Nat.div_eq_of_lt (lt_of_lt_of_eq t.isLt (by decide))
  have key : ∀ (k : Fin 128), ∑ s : Fin 26, (blk m c ⟨26 * (t.val / 26) + s.val,
      Pipeline.run_point_lt_of_flush t ((flush0_12 t).mp hf) s⟩).c12 (ix2 0 k) = (arr m c).rv66 (ix2 0 k) := by
    intro k
    rw [Arr.at66, ← sum_rows]
    refine Finset.sum_congr rfl fun s _ => ?_
    rw [Blk.atc12]
    refine Finset.sum_congr rfl fun p _ => ?_
    rw [row_eq]
    simp only [ht, Nat.mul_zero, Nat.zero_add]
  have emb : ∀ (k : Fin 128), ((cfg0.win 12).blk t).view.emb (ix2 0 k) = (ix2 0 k) := by
    intro k; blk_ext [idx t]
  blk_simp
  rw [after0_12, Pipeline.eq_sum_fin_of_reset_step_apply_of_flush (fun n h => (outsAt0 m c n h).2.2.2.1) 26 (fun _ => 0)
    (fun t j => (blk m c t).c12 j)
    (fun t h j => by rw [outsAt0_A m c t h]; frame_out; rw [hpay_12, hzero_12]; rfl)
    (fun t h j => by rw [outsAt0_B m c t h]; frame_out; rw [hpay_12]; rfl)
    t ((flush0_12 t).mp hf) _, zero_add]
  idx_vars y
  obtain rfl : y0 = 0 := Subsingleton.elim _ _
  exact (key y1).trans (congrArg (arr m c).rv66 (emb y1).symm)

end Cert.Proof.Plain
-- ==== Proof.PlainFin3.lean ====
/- Result arrays of the kernel after the run, entry by entry. -/
module

public import proofs.«01_k».proof.Proof.PlainArr

@[expose] public section

set_option maxRecDepth 16384
noncomputable section
open Idealize.ShloMosaic Idealize.ShloMosaic.TcCoe Idealize.SL.Sem
open Cert.Proof.Row Cert.PlainIdeal Cert.PlainIdeal.Gen
open scoped BigOperators
namespace Cert.Proof.Plain

variable (m : (ℓ : Loc nD τ sig) → Buf (Elt Ideal) ℓ) (c : Dev nD)

theorem hzero_13 (j : S1024x512.Idx) : k0_pay34 (F := Ideal) j = 0 := by pointwise! [k0_pay34]
theorem hpay_13 (v88 : FVec Ideal S1024x512 .f32) (v122 : Vec Ideal S1024x512 .f32) (j : S1024x512.Idx) :
    k0_pay1 v88 v122 j = v122 j + v88 j := by pointwise [k0_pay1]

set_option maxHeartbeats 2000000 in
/-- The gradient of the output gate's matrix. -/
theorem final_13 : (dats m 0 c).arrAt 13 (cfgs 0).N = (arr m c).rv43 := by
  refine (dats m 0 c).arrAt_eq_of_covers 13 _ (by decide +kernel) fun t hf y => ?_
  have ht : t.val / 26 = 0 := Nat.div_eq_of_lt (lt_of_lt_of_eq t.isLt (by decide))
  have key : ∀ (k : Fin 1024) (n : Fin 512), ∑ s : Fin 26, (blk m c ⟨26 * (t.val / 26) + s.val,
      Pipeline.run_point_lt_of_flush t ((flush0_13 t).mp hf) s⟩).t88 (ix2 k n) = (arr m c).rv43 (ix2 k n) := by
    intro k n
    rw [Arr.at43, ← sum_rows]
    refine Finset.sum_congr rfl fun s _ => ?_
    rw [Blk.at88]
    refine Finset.sum_congr rfl fun p _ => ?_
    rw [row_eq]
    simp only [ht, Nat.mul_zero, Nat.zero_add]
  have emb : ∀ (k : Fin 1024) (n : Fin 512), ((cfg0.win 13).blk t).view.emb (ix2 k n) = (ix2 k n) := by
    intro k n; blk_ext [idx t]
  blk_simp
  rw [after0_13, Pipeline.eq_sum_fin_of_reset_step_apply_of_flush (fun n h => (outsAt0 m c n h).2.2.2.2.1) 26 (fun _ => 0)
    (fun t j => (blk m c t).t88 j)
    (fun t h j => by rw [outsAt0_A m c t h]; frame_out; rw [hpay_13, hzero_13]; rfl)
    (fun t h j => by rw [outsAt0_B m c t h]; frame_out; rw [hpay_13]; rfl)
    t ((flush0_13 t).mp hf) _, zero_add]
  idx_vars y
  exact (key y0 y1).trans (congrArg (arr m c).rv43 (emb y0 y1).symm)

theorem hzero_14 (j : S1024x1024.Idx) : k0_pay35 (F := Ideal) j = 0 := by pointwise! [k0_pay35]
theorem hpay_14 (v83 : FVec Ideal S1024x1024 .f32) (v126 : Vec Ideal S1024x1024 .f32) (j : S1024x1024.Idx) :
    k0_pay2 v83 v126 j = v126 j + v83 j := by pointwise [k0_pay2]

set_option maxHeartbeats 2000000 in
/-- The gradient of the merge gate's matrix. -/
theorem final_14 : (dats m 0 c).arrAt 14 (cfgs 0).N = (arr m c).rv40 := by
  refine (dats m 0 c).arrAt_eq_of_covers 14 _ (by decide +kernel) fun t hf y => ?_
  have ht : t.val / 26 = 0 := Nat.div_eq_of_lt (lt_of_lt_of_eq t.isLt (by decide))
  have key : ∀ (k : Fin 1024) (n : Fin 1024), ∑ s : Fin 26, (blk m c ⟨26 * (t.val / 26) + s.val,
      Pipeline.run_point_lt_of_flush t ((flush0_14 t).mp hf) s⟩).t83 (ix2 k n) = (arr m c).rv40 (ix2 k n) := by
    intro k n
    rw [Arr.at40, ← sum_rows]
    refine Finset.sum_congr rfl fun s _ => ?_
    rw [Blk.at83]
    refine Finset.sum_congr rfl fun p _ => ?_
    rw [row_eq]
    simp only [ht, Nat.mul_zero, Nat.zero_add]
  have emb : ∀ (k : Fin 1024) (n : Fin 1024), ((cfg0.win 14).blk t).view.emb (ix2 k n) = (ix2 k n) := by
    intro k n; blk_ext [idx t]
  blk_simp
  rw [after0_14, Pipeline.eq_sum_fin_of_reset_step_apply_of_flush (fun n h => (outsAt0 m c n h).2.2.2.2.2.1) 26 (fun _ => 0)
    (fun t j => (blk m c t).t83 j)
    (fun t h j => by rw [outsAt0_A m c t h]; frame_out; rw [hpay_14, hzero_14]; rfl)
    (fun t h j => by rw [outsAt0_B m c t h]; frame_out; rw [hpay_14]; rfl)
    t ((flush0_14 t).mp hf) _, zero_add]
  idx_vars y
  exact (key y0 y1).trans (congrArg (arr m c).rv40 (emb y0 y1).symm)

end Cert.Proof.Plain
-- ==== Proof.PlainFin4.lean ====
/- Result arrays of the kernel after the run, entry by entry. -/
module

public import proofs.«01_k».proof.Proof.PlainArr

@[expose] public section

set_option maxRecDepth 16384
noncomputable section
open Idealize.ShloMosaic Idealize.ShloMosaic.TcCoe Idealize.SL.Sem
open Cert.Proof.Row Cert.PlainIdeal Cert.PlainIdeal.Gen
open scoped BigOperators
namespace Cert.Proof.Plain

variable (m : (ℓ : Loc nD τ sig) → Buf (Elt Ideal) ℓ) (c : Dev nD)

theorem hzero_15 (j : S512x1024.Idx) : k0_pay36 (F := Ideal) j = 0 := by pointwise! [k0_pay36]
theorem hpay_15 (v63 : FVec Ideal S512x1024 .f32) (v130 : Vec Ideal S512x1024 .f32) (j : S512x1024.Idx) :
    k0_pay3 v63 v130 j = v130 j + v63 j := by pointwise [k0_pay3]

set_option maxHeartbeats 2000000 in
/-- The gradient of the branch's matrix. -/
theorem final_15 : (dats m 0 c).arrAt 15 (cfgs 0).N = (arr m c).rv33 := by
  refine (dats m 0 c).arrAt_eq_of_covers 15 _ (by decide +kernel) fun t hf y => ?_
  have ht : t.val / 26 = 0 := Nat.div_eq_of_lt (lt_of_lt_of_eq t.isLt (by decide))
  have key : ∀ (k : Fin 512) (n : Fin 1024), ∑ s : Fin 26, (blk m c ⟨26 * (t.val / 26) + s.val,
      Pipeline.run_point_lt_of_flush t ((flush0_15 t).mp hf) s⟩).t63 (ix2 k n) = (arr m c).rv33 (ix2 k n) := by
    intro k n
    rw [Arr.at33, ← sum_rows]
    refine Finset.sum_congr rfl fun s _ => ?_
    rw [Blk.at63]
    refine Finset.sum_congr rfl fun p _ => ?_
    rw [row_eq]
    simp only [ht, Nat.mul_zero, Nat.zero_add]
  have emb : ∀ (k : Fin 512) (n : Fin 1024), ((cfg0.win 15).blk t).view.emb (ix2 k n) = (ix2 k n) := by
    intro k n; blk_ext [idx t]
  blk_simp
  rw [after0_15, Pipeline.eq_sum_fin_of_reset_step_apply_of_flush (fun n h => (outsAt0 m c n h).2.2.2.2.2.2) 26 (fun _ => 0)
    (fun t j => (blk m c t).t63 j)
    (fun t h j => by rw [outsAt0_A m c t h]; frame_out; rw [hpay_15, hzero_15]; rfl)
    (fun t h j => by rw [outsAt0_B m c t h]; frame_out; rw [hpay_15]; rfl)
    t ((flush0_15 t).mp hf) _, zero_add]
  idx_vars y
  exact (key y0 y1).trans (congrArg (arr m c).rv33 (emb y0 y1).symm)

end Cert.Proof.Plain
-- ==== Proof.PlainClaim.lean ====
/- The claims about the backward pass of a merge stage without an output norm: the frames, and that its results are those of the reference. -/
module

public import proofs.«01_k».proof.Proof.PlainFin1
public import proofs.«01_k».proof.Proof.PlainFin2
public import proofs.«01_k».proof.Proof.PlainFin3
public import proofs.«01_k».proof.Proof.PlainFin4
public import proofs.«01_k».proof.Defs
public import proofs.«01_k».proof.Proof.Gen.Plain.Frame

@[expose] public section

set_option maxRecDepth 16384
noncomputable section
open Idealize.ShloMosaic Idealize.ShloMosaic.TcCoe Idealize.SL.Sem
namespace Cert.Proof.Plain

section
open Cert.PlainRefIdeal Cert.PlainRefIdeal.Gen
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

set_option maxHeartbeats 2000000 in
theorem res_65 : Cert.PlainRefIdeal.Value.res_main_v65 m c = (rarr m c).rv65 := rfl
set_option maxHeartbeats 2000000 in
theorem res_36 : (mulf (Host.dotGeneral dot_S8320x1024_S512x1024_S8320x512_1_1_0_0_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral dot_S8320x1024_S1024x1024_S8320x1024_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a5))))) (rarr m c).a7) (rarr m c).a6) (mulf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4)))))) : FVec Ideal S8320x512 .f32) = (rarr m c).rv36 := rfl
set_option maxHeartbeats 2000000 in
theorem res_48 : Cert.PlainRefIdeal.Value.res_main_v48 m c = (rarr m c).rv48 := rfl
set_option maxHeartbeats 2000000 in
theorem res_66 : (broadcastInDim S1x128 ![] bcast_S_S1x128 (constant S_ .f32 0x00000000#32) : FVec Ideal S1x128 .f32) = (rarr m c).rv66 := rfl
set_option maxHeartbeats 2000000 in
theorem res_43 : Cert.PlainRefIdeal.Value.res_main_v43 m c = (rarr m c).rv43 := rfl
set_option maxHeartbeats 2000000 in
theorem res_40 : Cert.PlainRefIdeal.Value.res_main_v40 m c = (rarr m c).rv40 := rfl
set_option maxHeartbeats 2000000 in
theorem res_33 : (transpose S512x1024 [1, 0] (Host.dotGeneral dot_S8320x1024_S8320x512_S1024x512_0_0_1_1_n_n none (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral dot_S8320x1024_S1024x1024_S8320x1024_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a5))))) (rarr m c).a7) (mulf (rarr m c).a1 (mulf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4)))))))) transposes_S1024x512_S512x1024_1_0 : FVec Ideal S512x1024 .f32) = (rarr m c).rv33 := rfl
end

theorem frame_p : Cert.quiescent_Plain := fun m ρ _ => Cert.Plain.Gen.frame m ρ
theorem frame_pi : Cert.quiescent_PlainIdeal := fun m ρ _ => Cert.PlainIdeal.Gen.frame m ρ
theorem frame_ri : Cert.quiescent_PlainRefIdeal := fun m ρ _ =>
  (θ_run Cert.PlainRefIdeal.defs _ _).mono (fun r h => ⟨fun c => (h c).2.2.2.2.2.2.2,
      Idealize.ShloMosaic.sem_eq_zero_of_no_sems (by decide) r.2⟩)
    (Cert.PlainRefIdeal.Value.run (F := Ideal) m ρ)

theorem algebraic : Cert.algebraic_PlainIdeal_PlainRefIdeal := by
  intro m ρ m' ρ' _ hag
  have e : ∀ c, rarr m' c = arr m c := by
    intro c
    obtain ⟨h0, h1, h2, h3, h4, h5, h6, h7, h8⟩ := hag c
    simp only [rarr, arr]
    rw [h0, h1, h2, h3, h4, h5, h6, h7, h8]
  refine ⟨fun c => (arr m c).rv65, fun c => (arr m c).rv36, fun c => (arr m c).rv48, fun c => (arr m c).rv66, fun c => (arr m c).rv43, fun c => (arr m c).rv40, fun c => (arr m c).rv33, ?_, ?_⟩
  · refine (θ_run Cert.PlainIdeal.defs _ _).mono (fun r h c => ?_) (Cert.PlainIdeal.Value.run_blocks (F := Ideal) m ρ)
    obtain ⟨g9, g10, g11, g12, g13, g14, g15, g⟩ := h c
    exact ⟨g9.trans (final_9 m c), g10.trans (final_10 m c), g11.trans (final_11 m c), g12.trans (final_12 m c), g13.trans (final_13 m c), g14.trans (final_14 m c), g15.trans (final_15 m c), g⟩
  · refine (θ_run Cert.PlainRefIdeal.defs _ _).mono (fun r h c => ?_) (Cert.PlainRefIdeal.Value.run (F := Ideal) m' ρ')
    obtain ⟨g0, g1, g2, g3, g4, g5, g6, g⟩ := h c
    exact ⟨g0.trans ((res_65 m' c).trans (congrArg Arr.rv65 (e c))), g1.trans ((res_36 m' c).trans (congrArg Arr.rv36 (e c))), g2.trans ((res_48 m' c).trans (congrArg Arr.rv48 (e c))), g3.trans ((res_66 m' c).trans (congrArg Arr.rv66 (e c))), g4.trans ((res_43 m' c).trans (congrArg Arr.rv43 (e c))), g5.trans ((res_40 m' c).trans (congrArg Arr.rv40 (e c))), g6.trans ((res_33 m' c).trans (congrArg Arr.rv33 (e c))), g⟩

end Cert.Proof.Plain
-- ==== Proof.AttnSpec.lean ====
/- One row of the backward pass of the attention layer's projections, on plain functions over the extended reals. -/
module

public import proofs.«01_k».proof.Proof.Heads

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.Attn

/-- What a row of the stage reads. -/
structure In where
  h : Fin 1024 → EReal
  nw : Fin 1024 → EReal
  qn : Fin 128 → EReal
  kn : Fin 128 → EReal
  w : Fin 1024 → Fin 1536 → EReal
  dq : Fin 512 → EReal
  dk : Fin 512 → EReal
  dv : Fin 512 → EReal
  dh : Fin 1024 → EReal

namespace In
variable (i : In)

def xh (k : Fin 1024) : EReal := i.h k * rinv n1024 i.h
def xn (k : Fin 1024) : EReal := i.xh k * i.nw k
/-- The projections, before the head norms: queries, keys and values side by side. -/
def raw (m : Fin 1536) : EReal := ∑ k, i.xn k * i.w k m
/-- Head `q` of the queries and of the keys, and the same after their norms. -/
def qh (q : Fin 4) (j : Fin 128) : EReal := i.raw (c3 0 (cat q j))
@[inherit_doc qh] def kh (q : Fin 4) (j : Fin 128) : EReal := i.raw (c3 1 (cat q j))
@[inherit_doc qh] def oq (q : Fin 4) (j : Fin 128) : EReal := i.qh q j * rinv n128 (i.qh q)
@[inherit_doc qh] def ok (q : Fin 4) (j : Fin 128) : EReal := i.kh q j * rinv n128 (i.kh q)
/-- The gradients of the heads before their norms. -/
def gq (q : Fin 4) (j : Fin 128) : EReal := back n128 (i.qh q) (fun j => i.dq (cat q j) * i.qn j) j
@[inherit_doc gq] def gk (q : Fin 4) (j : Fin 128) : EReal := back n128 (i.kh q) (fun j => i.dk (cat q j) * i.kn j) j
def gqr (n : Fin 512) : EReal := i.gq (hq n) (hj n)
def gkr (n : Fin 512) : EReal := i.gk (hq n) (hj n)
/-- The gradient of the projections. -/
def draw (m : Fin 1536) : EReal := pick (cs m) (i.gqr (cn m)) (i.gkr (cn m)) (i.dv (cn m))
def dxn (k : Fin 1024) : EReal := ∑ m, i.draw m * i.w k m
/-- The gradient of the row. -/
def gh (k : Fin 1024) : EReal := back n1024 i.h (fun k => i.dxn k * i.nw k) k + i.dh k
/-- What the row adds to the gradients of the weights. -/
def gnw (k : Fin 1024) : EReal := i.xh k * i.dxn k
@[inherit_doc gnw] def gqn (j : Fin 128) : EReal := ∑ q, i.oq q j * i.dq (cat q j)
@[inherit_doc gnw] def gkn (j : Fin 128) : EReal := ∑ q, i.ok q j * i.dk (cat q j)
@[inherit_doc gnw] def gw (k : Fin 1024) (m : Fin 1536) : EReal := i.xn k * i.draw m

end In
end Cert.Proof.Attn
-- ==== Proof.AttnTile.lean ====
/- The kernel's block of 320 rows, entry by entry: the values of the body are the row mathematics of
   `AttnSpec` on the block's rows. -/
module

public import proofs.«01_k».proof.Proof.AttnSpec
public import proofs.«01_k».proof.Proof.Gen.AttnIdeal.Skeleton

@[expose] public section

set_option maxRecDepth 16384
noncomputable section
open Idealize.ShloMosaic Cert.Proof.Row Cert.AttnIdeal Cert.AttnIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.Attn

/-- The blocks one grid point reads. -/
structure Blk where
  x0 : Vec Ideal S320x1024 .f32
  x1 : Vec Ideal S1x1024 .f32
  x2 : Vec Ideal S1x128 .f32
  x3 : Vec Ideal S1x128 .f32
  x4 : Vec Ideal S1024x1536 .bf16
  x5 : Vec Ideal S320x512 .f32
  x6 : Vec Ideal S320x512 .f32
  x7 : Vec Ideal S320x512 .f32
  x8 : Vec Ideal S320x1024 .f32

namespace Blk
variable (b : Blk)

/-- Row `p` of the blocks. -/
def row (p : Fin 320) : In where
  h k := b.x0 (ix2 p k)
  nw k := b.x1 (ix2 0 k)
  qn k := b.x2 (ix2 0 k)
  kn k := b.x3 (ix2 0 k)
  w k n := b.x4 (ix2 k n)
  dq k := b.x5 (ix2 p k)
  dk k := b.x6 (ix2 p k)
  dv k := b.x7 (ix2 p k)
  dh k := b.x8 (ix2 p k)

section
variable (p : Fin 320)
theorem row_h (k : Fin 1024) : (b.row p).h k = b.x0 (ix2 p k) := rfl
theorem row_nw (k : Fin 1024) : (b.row p).nw k = b.x1 (ix2 0 k) := rfl
theorem row_qn (k : Fin 128) : (b.row p).qn k = b.x2 (ix2 0 k) := rfl
theorem row_kn (k : Fin 128) : (b.row p).kn k = b.x3 (ix2 0 k) := rfl
theorem row_w (k : Fin 1024) (n : Fin 1536) : (b.row p).w k n = b.x4 (ix2 k n) := rfl
theorem row_dq (k : Fin 512) : (b.row p).dq k = b.x5 (ix2 p k) := rfl
theorem row_dk (k : Fin 512) : (b.row p).dk k = b.x6 (ix2 p k) := rfl
theorem row_dv (k : Fin 512) : (b.row p).dv k = b.x7 (ix2 p k) := rfl
theorem row_dh (k : Fin 1024) : (b.row p).dh k = b.x8 (ix2 p k) := rfl
end

def t12 := k0_pay2 (F := Ideal) b.x0
def t13 := k0_pay3 (F := Ideal) b.x0
def t16 := k0_pay4 (F := Ideal) b.x0
def t18 := k0_pay5 (F := Ideal) b.x0
def t20 := k0_pay6 (F := Ideal) b.x0 b.x1
def t5 := k0_pay1 (F := Ideal) b.x4
def t22 := k0_pay7 (F := Ideal) b.x0 b.x1 b.x4
def t23 := k0_pay8 (F := Ideal) b.x0 b.x1 b.x4
def t80 := k0_pay30 (F := Ideal) b.t22
def t24 := k0_pay9 (F := Ideal) b.x0 b.x1 b.x4
def t31 := k0_pay10 (F := Ideal) b.x0 b.x1 b.x4
def t32 := k0_pay11 (F := Ideal) b.x0 b.x1 b.x4
def t35 := k0_pay12 (F := Ideal) b.x0 b.x1 b.x4
def t37 := k0_pay13 (F := Ideal) b.x0 b.x1 b.x4
def t38 := k0_pay14 (F := Ideal) b.x0 b.x1 b.x4
def t39 := k0_pay15 (F := Ideal) b.x0 b.x1 b.x4
def t45 := k0_pay16 (F := Ideal) b.t39
def t46 := k0_pay17 (F := Ideal) b.t39
def t49 := k0_pay18 (F := Ideal) b.t39
def t51 := k0_pay19 (F := Ideal) b.t38 b.t39
def t52 := k0_pay20 (F := Ideal) b.t23
def t59 := k0_pay21 (F := Ideal) b.t23
def t60 := k0_pay22 (F := Ideal) b.t23
def t63 := k0_pay23 (F := Ideal) b.t23
def t65 := k0_pay24 (F := Ideal) b.t23
def t66 := k0_pay25 (F := Ideal) b.t23
def t73 := k0_pay26 (F := Ideal) b.t23
def t74 := k0_pay27 (F := Ideal) b.t23
def t77 := k0_pay28 (F := Ideal) b.t23
def t79 := k0_pay29 (F := Ideal) b.t23
def t81 := k0_pay31 (F := Ideal) b.t22
def t84 := k0_pay32 (F := Ideal) b.t22
def t85 (_ : Blk) := k0_pay33 (F := Ideal)
def t88 := k0_pay34 (F := Ideal) b.t84 b.t85
def t89 := k0_pay35 (F := Ideal) b.t84 b.t85
def t92 := k0_pay36 (F := Ideal) b.t84 b.t85
def t94 := k0_pay37 (F := Ideal) b.t81 b.t84 b.t85
def t95 := k0_pay38 (F := Ideal) b.t80
def t102 := k0_pay39 (F := Ideal) b.t80
def t103 := k0_pay40 (F := Ideal) b.t80
def t106 := k0_pay41 (F := Ideal) b.t80
def t108 := k0_pay42 (F := Ideal) b.t80
def t109 := k0_pay43 (F := Ideal) b.t80
def t116 := k0_pay44 (F := Ideal) b.t80
def t117 := k0_pay45 (F := Ideal) b.t80
def t120 := k0_pay46 (F := Ideal) b.t80
def t122 := k0_pay47 (F := Ideal) b.t80
def t123 := k0_pay48 (F := Ideal) b.t80
def t130 := k0_pay49 (F := Ideal) b.t80
def t131 := k0_pay50 (F := Ideal) b.t80
def t132 := k0_pay51 (F := Ideal) b.t80
def t142 := k0_pay53 (F := Ideal) b.x6
def t249 := k0_pay67 (F := Ideal) b.x5
def t143 := k0_pay54 (F := Ideal) b.x6
def t250 := k0_pay68 (F := Ideal) b.x5
def t144 := k0_pay55 (F := Ideal) b.x6
def t251 := k0_pay69 (F := Ideal) b.x5
def t145 := k0_pay56 (F := Ideal) b.x6
def t252 := k0_pay70 (F := Ideal) b.x5
def t171 := k0_pay58 (F := Ideal) b.t122 b.t123 b.t131 b.x6
def t223 := k0_pay63 (F := Ideal) b.t94 b.t108 b.t142 b.t143 b.t171
def t255 := k0_pay71 (F := Ideal) b.t79 b.x5
def t277 := k0_pay73 (F := Ideal) b.t65 b.x5
def t304 := k0_pay74 (F := Ideal) b.t51 b.t250 b.t255 b.t277
def t327 := k0_pay76 (F := Ideal) b.t37 b.t249
def t330 := k0_pay77 (F := Ideal) b.t304 b.t327
def t173 := k0_pay59 (F := Ideal) b.x3 b.x6
def t176 := k0_pay60 (F := Ideal) b.x3 b.t109 b.x6
def t177 := k0_pay61 (F := Ideal) b.t117
def t225 := k0_pay64 (F := Ideal) b.x3 b.t142
def t227 := k0_pay65 (F := Ideal) b.x3 b.t81 b.t142
def t167 := k0_pay57 (F := Ideal) b.x3 b.t123 b.t131 b.t132 b.x6
def t219 := k0_pay62 (F := Ideal) b.x3 b.t95 b.t103 b.t106 b.t109 b.t120 b.t143 b.t167 b.t173 b.t176 b.t177
def t274 := k0_pay72 (F := Ideal) b.x2 b.t66 b.t74 b.t77 b.x5
def t326 := k0_pay75 (F := Ideal) b.x2 b.t38 b.t46 b.t49 b.t52 b.t60 b.t63 b.t250 b.t251 b.t274
def t141 := k0_pay52 (F := Ideal) b.x7
def t248 := k0_pay66 (F := Ideal) b.t81 b.t89 b.t92 b.t141 b.t219 b.t225 b.t227
def t353 := k0_pay78 (F := Ideal) b.x2 b.t24 b.t32 b.t35 b.t248 b.t249 b.t326
def t355 := k0_pay79 (F := Ideal) b.x2 b.t5 b.t24 b.t32 b.t35 b.t248 b.t249 b.t326
def t358 := k0_pay80 (F := Ideal) b.x2 b.t20 b.t24 b.t32 b.t35 b.t248 b.t249 b.t326
def t361 := k0_pay81 (F := Ideal) b.x2 b.t5 b.t18 b.t24 b.t32 b.t35 b.t248 b.t249 b.t326
def t363 := k0_pay82 (F := Ideal) b.x1 b.x2 b.t5 b.t24 b.t32 b.t35 b.t248 b.t249 b.t326
def t374 := k0_pay83 (F := Ideal) b.x0 b.x1 b.x2 b.t5 b.t16 b.t24 b.t32 b.t35 b.t248 b.t249 b.t326
def t376 := k0_pay84 (F := Ideal) b.x0 b.x1 b.x2 b.t5 b.t13 b.t16 b.t24 b.t32 b.t35 b.t248 b.t249 b.t326
def t399 := k0_pay93 (F := Ideal) b.x0 b.t374 b.t376 b.x8

theorem fold12 : k0_pay2 (F := Ideal) b.x0 = b.t12 := rfl
theorem fold13 : k0_pay3 (F := Ideal) b.x0 = b.t13 := rfl
theorem fold18 : k0_pay5 (F := Ideal) b.x0 = b.t18 := rfl
theorem fold20 : k0_pay6 (F := Ideal) b.x0 b.x1 = b.t20 := rfl
theorem fold5 : k0_pay1 (F := Ideal) b.x4 = b.t5 := rfl
theorem fold22 : k0_pay7 (F := Ideal) b.x0 b.x1 b.x4 = b.t22 := rfl
theorem fold23 : k0_pay8 (F := Ideal) b.x0 b.x1 b.x4 = b.t23 := rfl
theorem fold80 : k0_pay30 (F := Ideal) b.t22 = b.t80 := rfl
theorem fold24 : k0_pay9 (F := Ideal) b.x0 b.x1 b.x4 = b.t24 := rfl
theorem fold31 : k0_pay10 (F := Ideal) b.x0 b.x1 b.x4 = b.t31 := rfl
theorem fold32 : k0_pay11 (F := Ideal) b.x0 b.x1 b.x4 = b.t32 := rfl
theorem fold38 : k0_pay14 (F := Ideal) b.x0 b.x1 b.x4 = b.t38 := rfl
theorem fold45 : k0_pay16 (F := Ideal) b.t39 = b.t45 := rfl
theorem fold46 : k0_pay17 (F := Ideal) b.t39 = b.t46 := rfl
theorem fold52 : k0_pay20 (F := Ideal) b.t23 = b.t52 := rfl
theorem fold59 : k0_pay21 (F := Ideal) b.t23 = b.t59 := rfl
theorem fold60 : k0_pay22 (F := Ideal) b.t23 = b.t60 := rfl
theorem fold66 : k0_pay25 (F := Ideal) b.t23 = b.t66 := rfl
theorem fold73 : k0_pay26 (F := Ideal) b.t23 = b.t73 := rfl
theorem fold74 : k0_pay27 (F := Ideal) b.t23 = b.t74 := rfl
theorem fold81 : k0_pay31 (F := Ideal) b.t22 = b.t81 := rfl
theorem fold88 : k0_pay34 (F := Ideal) b.t84 b.t85 = b.t88 := rfl
theorem fold89 : k0_pay35 (F := Ideal) b.t84 b.t85 = b.t89 := rfl
theorem fold95 : k0_pay38 (F := Ideal) b.t80 = b.t95 := rfl
theorem fold102 : k0_pay39 (F := Ideal) b.t80 = b.t102 := rfl
theorem fold103 : k0_pay40 (F := Ideal) b.t80 = b.t103 := rfl
theorem fold109 : k0_pay43 (F := Ideal) b.t80 = b.t109 := rfl
theorem fold116 : k0_pay44 (F := Ideal) b.t80 = b.t116 := rfl
theorem fold117 : k0_pay45 (F := Ideal) b.t80 = b.t117 := rfl
theorem fold123 : k0_pay48 (F := Ideal) b.t80 = b.t123 := rfl
theorem fold130 : k0_pay49 (F := Ideal) b.t80 = b.t130 := rfl
theorem fold131 : k0_pay50 (F := Ideal) b.t80 = b.t131 := rfl
theorem fold144 : k0_pay55 (F := Ideal) b.x6 = b.t144 := rfl
theorem fold251 : k0_pay69 (F := Ideal) b.x5 = b.t251 := rfl
theorem fold145 : k0_pay56 (F := Ideal) b.x6 = b.t145 := rfl
theorem fold252 : k0_pay70 (F := Ideal) b.x5 = b.t252 := rfl
theorem fold173 : k0_pay59 (F := Ideal) b.x3 b.x6 = b.t173 := rfl
theorem fold225 : k0_pay64 (F := Ideal) b.x3 b.t142 = b.t225 := rfl
theorem fold353 : k0_pay78 (F := Ideal) b.x2 b.t24 b.t32 b.t35 b.t248 b.t249 b.t326 = b.t353 := rfl
theorem fold355 : k0_pay79 (F := Ideal) b.x2 b.t5 b.t24 b.t32 b.t35 b.t248 b.t249 b.t326 = b.t355 := rfl
theorem fold363 : k0_pay82 (F := Ideal) b.x1 b.x2 b.t5 b.t24 b.t32 b.t35 b.t248 b.t249 b.t326 = b.t363 := rfl
theorem fold374 : k0_pay83 (F := Ideal) b.x0 b.x1 b.x2 b.t5 b.t16 b.t24 b.t32 b.t35 b.t248 b.t249 b.t326 = b.t374 := rfl

theorem at12 (p : Fin 320)(x : Fin 1) : b.t12 (ix2 p x) = ms n1024 (b.row p).h := by
  obtain rfl : x = 0 := Subsingleton.elim _ _
  pointwise [t12, k0_pay2, row_h, row_nw, row_qn, row_kn, row_w, row_dq, row_dk, row_dv, row_dh, ms]

theorem at13 (p : Fin 320)(x : Fin 1) : b.t13 (ix2 p x) = rinv n1024 (b.row p).h := by
  pointwise [t13, k0_pay3, fold12, at12, row_h, row_nw, row_qn, row_kn, row_w, row_dq, row_dk, row_dv, row_dh, rinv]

theorem at16 (p : Fin 320)(x : Fin 1) : b.t16 (ix2 p x) = co n1024 (b.row p).h := by
  pointwise [t16, k0_pay4, fold13, at13, fold12, at12, row_h, row_nw, row_qn, row_kn, row_w, row_dq, row_dk, row_dv, row_dh, co]

theorem at18 (p : Fin 320)(k : Fin 1024) : b.t18 (ix2 p k) = (b.row p).xh k := by
  pointwise [t18, k0_pay5, fold13, at13, row_h, row_nw, row_qn, row_kn, row_w, row_dq, row_dk, row_dv, row_dh, In.xh]

theorem at20 (p : Fin 320)(k : Fin 1024) : b.t20 (ix2 p k) = (b.row p).xn k := by
  pointwise [t20, k0_pay6, fold18, at18, row_h, row_nw, row_qn, row_kn, row_w, row_dq, row_dk, row_dv, row_dh, In.xn]

theorem at5 (k : Fin 1024)(m : Fin 1536) : b.t5 (ix2 k m) = b.x4 (ix2 k m) := by
  pointwise [t5, k0_pay1, row_h, row_nw, row_qn, row_kn, row_w, row_dq, row_dk, row_dv, row_dh]

theorem at22 (p : Fin 320)(m : Fin 1536) : b.t22 (ix2 p m) = (b.row p).raw m := by
  pointwise [t22, k0_pay7, fold20, at20, fold5, at5, row_h, row_nw, row_qn, row_kn, row_w, row_dq, row_dk, row_dv, row_dh, In.raw]

theorem at23 (p : Fin 320)(n : Fin 512) : b.t23 (ix2 p n) = (b.row p).raw (c3 0 n) := by
  pointwise [t23, k0_pay8, fold22, at22, row_h, row_nw, row_qn, row_kn, row_w, row_dq, row_dk, row_dv, row_dh, c30]

theorem at80 (p : Fin 320)(n : Fin 512) : b.t80 (ix2 p n) = (b.row p).raw (c3 1 n) := by
  pointwise [t80, k0_pay30, at22, row_h, row_nw, row_qn, row_kn, row_w, row_dq, row_dk, row_dv, row_dh, c31]

theorem at24 (p : Fin 320)(j : Fin 128) : b.t24 (ix2 p j) = (b.row p).qh 0 j := by
  pointwise [t24, k0_pay9, fold23, at23, row_h, row_nw, row_qn, row_kn, row_w, row_dq, row_dk, row_dv, row_dh, In.qh, cat0]

theorem at31 (p : Fin 320)(x : Fin 1) : b.t31 (ix2 p x) = ms n128 ((b.row p).qh 0) := by
  obtain rfl : x = 0 := Subsingleton.elim _ _
  pointwise [t31, k0_pay10, fold24, at24, row_h, row_nw, row_qn, row_kn, row_w, row_dq, row_dk, row_dv, row_dh, ms]

theorem at32 (p : Fin 320)(x : Fin 1) : b.t32 (ix2 p x) = rinv n128 ((b.row p).qh 0) := by
  pointwise [t32, k0_pay11, fold31, at31, row_h, row_nw, row_qn, row_kn, row_w, row_dq, row_dk, row_dv, row_dh, rinv]

theorem at35 (p : Fin 320)(x : Fin 1) : b.t35 (ix2 p x) = co n128 ((b.row p).qh 0) := by
  pointwise [t35, k0_pay12, fold32, at32, fold31, at31, row_h, row_nw, row_qn, row_kn, row_w, row_dq, row_dk, row_dv, row_dh, co]

theorem at37 (p : Fin 320)(j : Fin 128) : b.t37 (ix2 p j) = (b.row p).oq 0 j := by
  pointwise [t37, k0_pay13, fold32, at32, fold24, at24, row_h, row_nw, row_qn, row_kn, row_w, row_dq, row_dk, row_dv, row_dh, In.oq]

theorem at38 (p : Fin 320)(j : Fin 128) : b.t38 (ix2 p j) = (b.row p).qh 1 j := by
  pointwise [t38, k0_pay14, fold23, at23, row_h, row_nw, row_qn, row_kn, row_w, row_dq, row_dk, row_dv, row_dh, In.qh, cat1]

theorem at39 (p : Fin 320)(j : Fin 128) : b.t39 (ix2 p j) = (b.row p).qh 1 j * (b.row p).qh 1 j := by
  pointwise [t39, k0_pay15, fold38, at38, row_h, row_nw, row_qn, row_kn, row_w, row_dq, row_dk, row_dv, row_dh]

theorem at45 (p : Fin 320)(x : Fin 1) : b.t45 (ix2 p x) = ms n128 ((b.row p).qh 1) := by
  obtain rfl : x = 0 := Subsingleton.elim _ _
  pointwise [t45, k0_pay16, at39, row_h, row_nw, row_qn, row_kn, row_w, row_dq, row_dk, row_dv, row_dh, ms]

theorem at46 (p : Fin 320)(x : Fin 1) : b.t46 (ix2 p x) = rinv n128 ((b.row p).qh 1) := by
  pointwise [t46, k0_pay17, at39, fold45, at45, row_h, row_nw, row_qn, row_kn, row_w, row_dq, row_dk, row_dv, row_dh, rinv]

theorem at49 (p : Fin 320)(x : Fin 1) : b.t49 (ix2 p x) = co n128 ((b.row p).qh 1) := by
  pointwise [t49, k0_pay18, at39, fold46, at46, fold45, at45, row_h, row_nw, row_qn, row_kn, row_w, row_dq, row_dk, row_dv, row_dh, co]

theorem at51 (p : Fin 320)(j : Fin 128) : b.t51 (ix2 p j) = (b.row p).oq 1 j := by
  pointwise [t51, k0_pay19, at38, at39, fold46, at46, row_h, row_nw, row_qn, row_kn, row_w, row_dq, row_dk, row_dv, row_dh, In.oq]

theorem at52 (p : Fin 320)(j : Fin 128) : b.t52 (ix2 p j) = (b.row p).qh 2 j := by
  pointwise [t52, k0_pay20, at23, row_h, row_nw, row_qn, row_kn, row_w, row_dq, row_dk, row_dv, row_dh, In.qh, cat2]

theorem at59 (p : Fin 320)(x : Fin 1) : b.t59 (ix2 p x) = ms n128 ((b.row p).qh 2) := by
  obtain rfl : x = 0 := Subsingleton.elim _ _
  pointwise [t59, k0_pay21, at23, fold52, at52, row_h, row_nw, row_qn, row_kn, row_w, row_dq, row_dk, row_dv, row_dh, ms]

theorem at60 (p : Fin 320)(x : Fin 1) : b.t60 (ix2 p x) = rinv n128 ((b.row p).qh 2) := by
  pointwise [t60, k0_pay22, at23, fold59, at59, row_h, row_nw, row_qn, row_kn, row_w, row_dq, row_dk, row_dv, row_dh, rinv]

theorem at63 (p : Fin 320)(x : Fin 1) : b.t63 (ix2 p x) = co n128 ((b.row p).qh 2) := by
  pointwise [t63, k0_pay23, at23, fold60, at60, fold59, at59, row_h, row_nw, row_qn, row_kn, row_w, row_dq, row_dk, row_dv, row_dh, co]

theorem at65 (p : Fin 320)(j : Fin 128) : b.t65 (ix2 p j) = (b.row p).oq 2 j := by
  pointwise [t65, k0_pay24, at23, fold60, at60, fold52, at52, row_h, row_nw, row_qn, row_kn, row_w, row_dq, row_dk, row_dv, row_dh, In.oq]

theorem at66 (p : Fin 320)(j : Fin 128) : b.t66 (ix2 p j) = (b.row p).qh 3 j := by
  pointwise [t66, k0_pay25, at23, row_h, row_nw, row_qn, row_kn, row_w, row_dq, row_dk, row_dv, row_dh, In.qh, cat3]

theorem at73 (p : Fin 320)(x : Fin 1) : b.t73 (ix2 p x) = ms n128 ((b.row p).qh 3) := by
  obtain rfl : x = 0 := Subsingleton.elim _ _
  pointwise [t73, k0_pay26, at23, fold66, at66, row_h, row_nw, row_qn, row_kn, row_w, row_dq, row_dk, row_dv, row_dh, ms]

theorem at74 (p : Fin 320)(x : Fin 1) : b.t74 (ix2 p x) = rinv n128 ((b.row p).qh 3) := by
  pointwise [t74, k0_pay27, at23, fold73, at73, row_h, row_nw, row_qn, row_kn, row_w, row_dq, row_dk, row_dv, row_dh, rinv]

theorem at77 (p : Fin 320)(x : Fin 1) : b.t77 (ix2 p x) = co n128 ((b.row p).qh 3) := by
  pointwise [t77, k0_pay28, at23, fold74, at74, fold73, at73, row_h, row_nw, row_qn, row_kn, row_w, row_dq, row_dk, row_dv, row_dh, co]

theorem at79 (p : Fin 320)(j : Fin 128) : b.t79 (ix2 p j) = (b.row p).oq 3 j := by
  pointwise [t79, k0_pay29, at23, fold74, at74, fold66, at66, row_h, row_nw, row_qn, row_kn, row_w, row_dq, row_dk, row_dv, row_dh, In.oq]

theorem at81 (p : Fin 320)(j : Fin 128) : b.t81 (ix2 p j) = (b.row p).kh 0 j := by
  pointwise [t81, k0_pay31, at22, fold80, at80, row_h, row_nw, row_qn, row_kn, row_w, row_dq, row_dk, row_dv, row_dh, In.kh, cat0]

theorem at84 (p : Fin 320)(x : Fin 1) : b.t84 (ix2 p x) = ∑ j, (b.row p).kh 0 j * (b.row p).kh 0 j := by
  obtain rfl : x = 0 := Subsingleton.elim _ _
  pointwise [t84, k0_pay32, at22, fold81, at81, row_h, row_nw, row_qn, row_kn, row_w, row_dq, row_dk, row_dv, row_dh]

theorem at85 (p : Fin 320)(x : Fin 1) : b.t85 (ix2 p x) = n128 := by
  pointwise [t85, k0_pay33, row_h, row_nw, row_qn, row_kn, row_w, row_dq, row_dk, row_dv, row_dh]

theorem at88 (p : Fin 320)(x : Fin 1) : b.t88 (ix2 p x) = ms n128 ((b.row p).kh 0) := by
  obtain rfl : x = 0 := Subsingleton.elim _ _
  pointwise [t88, k0_pay34, at84, at85, row_h, row_nw, row_qn, row_kn, row_w, row_dq, row_dk, row_dv, row_dh, ms]

theorem at89 (p : Fin 320)(x : Fin 1) : b.t89 (ix2 p x) = rinv n128 ((b.row p).kh 0) := by
  pointwise [t89, k0_pay35, at84, at85, fold88, at88, row_h, row_nw, row_qn, row_kn, row_w, row_dq, row_dk, row_dv, row_dh, rinv]

theorem at92 (p : Fin 320)(x : Fin 1) : b.t92 (ix2 p x) = co n128 ((b.row p).kh 0) := by
  pointwise [t92, k0_pay36, at84, at85, fold89, at89, fold88, at88, row_h, row_nw, row_qn, row_kn, row_w, row_dq, row_dk, row_dv, row_dh, co]

theorem at94 (p : Fin 320)(j : Fin 128) : b.t94 (ix2 p j) = (b.row p).ok 0 j := by
  pointwise [t94, k0_pay37, at81, at84, at85, fold89, at89, row_h, row_nw, row_qn, row_kn, row_w, row_dq, row_dk, row_dv, row_dh, In.ok]

theorem at95 (p : Fin 320)(j : Fin 128) : b.t95 (ix2 p j) = (b.row p).kh 1 j := by
  pointwise [t95, k0_pay38, at80, row_h, row_nw, row_qn, row_kn, row_w, row_dq, row_dk, row_dv, row_dh, In.kh, cat1]

theorem at102 (p : Fin 320)(x : Fin 1) : b.t102 (ix2 p x) = ms n128 ((b.row p).kh 1) := by
  obtain rfl : x = 0 := Subsingleton.elim _ _
  pointwise [t102, k0_pay39, at80, fold95, at95, row_h, row_nw, row_qn, row_kn, row_w, row_dq, row_dk, row_dv, row_dh, ms]

theorem at103 (p : Fin 320)(x : Fin 1) : b.t103 (ix2 p x) = rinv n128 ((b.row p).kh 1) := by
  pointwise [t103, k0_pay40, at80, fold102, at102, row_h, row_nw, row_qn, row_kn, row_w, row_dq, row_dk, row_dv, row_dh, rinv]

theorem at106 (p : Fin 320)(x : Fin 1) : b.t106 (ix2 p x) = co n128 ((b.row p).kh 1) := by
  pointwise [t106, k0_pay41, at80, fold103, at103, fold102, at102, row_h, row_nw, row_qn, row_kn, row_w, row_dq, row_dk, row_dv, row_dh, co]

theorem at108 (p : Fin 320)(j : Fin 128) : b.t108 (ix2 p j) = (b.row p).ok 1 j := by
  pointwise [t108, k0_pay42, at80, fold103, at103, fold95, at95, row_h, row_nw, row_qn, row_kn, row_w, row_dq, row_dk, row_dv, row_dh, In.ok]

theorem at109 (p : Fin 320)(j : Fin 128) : b.t109 (ix2 p j) = (b.row p).kh 2 j := by
  pointwise [t109, k0_pay43, at80, row_h, row_nw, row_qn, row_kn, row_w, row_dq, row_dk, row_dv, row_dh, In.kh, cat2]

theorem at116 (p : Fin 320)(x : Fin 1) : b.t116 (ix2 p x) = ms n128 ((b.row p).kh 2) := by
  obtain rfl : x = 0 := Subsingleton.elim _ _
  pointwise [t116, k0_pay44, at80, fold109, at109, row_h, row_nw, row_qn, row_kn, row_w, row_dq, row_dk, row_dv, row_dh, ms]

theorem at117 (p : Fin 320)(x : Fin 1) : b.t117 (ix2 p x) = rinv n128 ((b.row p).kh 2) := by
  pointwise [t117, k0_pay45, at80, fold116, at116, row_h, row_nw, row_qn, row_kn, row_w, row_dq, row_dk, row_dv, row_dh, rinv]

theorem at120 (p : Fin 320)(x : Fin 1) : b.t120 (ix2 p x) = co n128 ((b.row p).kh 2) := by
  pointwise [t120, k0_pay46, at80, fold117, at117, fold116, at116, row_h, row_nw, row_qn, row_kn, row_w, row_dq, row_dk, row_dv, row_dh, co]

theorem at122 (p : Fin 320)(j : Fin 128) : b.t122 (ix2 p j) = (b.row p).ok 2 j := by
  pointwise [t122, k0_pay47, at80, fold117, at117, fold109, at109, row_h, row_nw, row_qn, row_kn, row_w, row_dq, row_dk, row_dv, row_dh, In.ok]

theorem at123 (p : Fin 320)(j : Fin 128) : b.t123 (ix2 p j) = (b.row p).kh 3 j := by
  pointwise [t123, k0_pay48, at80, row_h, row_nw, row_qn, row_kn, row_w, row_dq, row_dk, row_dv, row_dh, In.kh, cat3]

theorem at130 (p : Fin 320)(x : Fin 1) : b.t130 (ix2 p x) = ms n128 ((b.row p).kh 3) := by
  obtain rfl : x = 0 := Subsingleton.elim _ _
  pointwise [t130, k0_pay49, at80, fold123, at123, row_h, row_nw, row_qn, row_kn, row_w, row_dq, row_dk, row_dv, row_dh, ms]

theorem at131 (p : Fin 320)(x : Fin 1) : b.t131 (ix2 p x) = rinv n128 ((b.row p).kh 3) := by
  pointwise [t131, k0_pay50, at80, fold130, at130, row_h, row_nw, row_qn, row_kn, row_w, row_dq, row_dk, row_dv, row_dh, rinv]

theorem at132 (p : Fin 320)(x : Fin 1) : b.t132 (ix2 p x) = Ideal.div (rinv n128 ((b.row p).kh 3)) (ms n128 ((b.row p).kh 3)) := by
  pointwise [t132, k0_pay51, at80, fold131, at131, fold130, at130, row_h, row_nw, row_qn, row_kn, row_w, row_dq, row_dk, row_dv, row_dh]

theorem at142 (p : Fin 320)(j : Fin 128) : b.t142 (ix2 p j) = (b.row p).dk (cat 0 j) := by
  pointwise [t142, k0_pay53, row_h, row_nw, row_qn, row_kn, row_w, row_dq, row_dk, row_dv, row_dh, cat0]

theorem at249 (p : Fin 320)(j : Fin 128) : b.t249 (ix2 p j) = (b.row p).dq (cat 0 j) := by
  pointwise [t249, k0_pay67, row_h, row_nw, row_qn, row_kn, row_w, row_dq, row_dk, row_dv, row_dh, cat0]

theorem at143 (p : Fin 320)(j : Fin 128) : b.t143 (ix2 p j) = (b.row p).dk (cat 1 j) := by
  pointwise [t143, k0_pay54, row_h, row_nw, row_qn, row_kn, row_w, row_dq, row_dk, row_dv, row_dh, cat1]

theorem at250 (p : Fin 320)(j : Fin 128) : b.t250 (ix2 p j) = (b.row p).dq (cat 1 j) := by
  pointwise [t250, k0_pay68, row_h, row_nw, row_qn, row_kn, row_w, row_dq, row_dk, row_dv, row_dh, cat1]

theorem at144 (p : Fin 320)(j : Fin 128) : b.t144 (ix2 p j) = (b.row p).dk (cat 2 j) := by
  pointwise [t144, k0_pay55, row_h, row_nw, row_qn, row_kn, row_w, row_dq, row_dk, row_dv, row_dh, cat2]

theorem at251 (p : Fin 320)(j : Fin 128) : b.t251 (ix2 p j) = (b.row p).dq (cat 2 j) := by
  pointwise [t251, k0_pay69, row_h, row_nw, row_qn, row_kn, row_w, row_dq, row_dk, row_dv, row_dh, cat2]

theorem at145 (p : Fin 320)(j : Fin 128) : b.t145 (ix2 p j) = (b.row p).dk (cat 3 j) := by
  pointwise [t145, k0_pay56, row_h, row_nw, row_qn, row_kn, row_w, row_dq, row_dk, row_dv, row_dh, cat3]

theorem at252 (p : Fin 320)(j : Fin 128) : b.t252 (ix2 p j) = (b.row p).dq (cat 3 j) := by
  pointwise [t252, k0_pay70, row_h, row_nw, row_qn, row_kn, row_w, row_dq, row_dk, row_dv, row_dh, cat3]

theorem at171 (j : Fin 128) : b.t171 (ix2 0 j) = (∑ p, (b.row p).ok 3 j * (b.row p).dk (cat 3 j)) + ∑ p, (b.row p).ok 2 j * (b.row p).dk (cat 2 j) := by
  pointwise [t171, k0_pay58, at122, at123, at131, fold145, at145, fold144, at144, row_h, row_nw, row_qn, row_kn, row_w, row_dq, row_dk, row_dv, row_dh, In.ok]

theorem at223 (j : Fin 128) : b.t223 (ix2 0 j) = ∑ p, (b.row p).gkn j := by
  pointwise [t223, k0_pay63, at94, at108, at142, at143, at171, row_h, row_nw, row_qn, row_kn, row_w, row_dq, row_dk, row_dv, row_dh, In.gkn]
  simp only [Fin.sum_univ_four, Finset.sum_add_distrib]
  ac_nf
  exact (by intros; ac_rfl : ∀ a b c d : EReal, a + (b + (c + d)) = c + (d + (a + b))) _ _ _ _

theorem at255 (j : Fin 128) : b.t255 (ix2 0 j) = ∑ p, (b.row p).oq 3 j * (b.row p).dq (cat 3 j) := by
  pointwise [t255, k0_pay71, at79, fold252, at252, row_h, row_nw, row_qn, row_kn, row_w, row_dq, row_dk, row_dv, row_dh]

theorem at277 (j : Fin 128) : b.t277 (ix2 0 j) = ∑ p, (b.row p).oq 2 j * (b.row p).dq (cat 2 j) := by
  pointwise [t277, k0_pay73, at65, fold251, at251, row_h, row_nw, row_qn, row_kn, row_w, row_dq, row_dk, row_dv, row_dh]

theorem at304 (j : Fin 128) : b.t304 (ix2 0 j) = (∑ p, (b.row p).oq 3 j * (b.row p).dq (cat 3 j)) + (∑ p, (b.row p).oq 2 j * (b.row p).dq (cat 2 j)) + ∑ p, (b.row p).oq 1 j * (b.row p).dq (cat 1 j) := by
  pointwise [t304, k0_pay74, at51, at250, at255, at277, row_h, row_nw, row_qn, row_kn, row_w, row_dq, row_dk, row_dv, row_dh]

theorem at327 (p : Fin 320)(j : Fin 128) : b.t327 (ix2 p j) = (b.row p).oq 0 j * (b.row p).dq (cat 0 j) := by
  pointwise [t327, k0_pay76, at37, at249, row_h, row_nw, row_qn, row_kn, row_w, row_dq, row_dk, row_dv, row_dh]

theorem at330 (j : Fin 128) : b.t330 (ix2 0 j) = ∑ p, (b.row p).gqn j := by
  pointwise [t330, k0_pay77, at304, at327, row_h, row_nw, row_qn, row_kn, row_w, row_dq, row_dk, row_dv, row_dh, In.gqn]
  simp only [Fin.sum_univ_four, Finset.sum_add_distrib]
  ac_nf

theorem at173 (p : Fin 320)(j : Fin 128) : b.t173 (ix2 p j) = (b.row p).dk (cat 2 j) * (b.row p).kn j := by
  pointwise [t173, k0_pay59, fold144, at144, row_h, row_nw, row_qn, row_kn, row_w, row_dq, row_dk, row_dv, row_dh]

theorem at176 (p : Fin 320)(x : Fin 1) : b.t176 (ix2 p x) = ∑ j, (b.row p).kh 2 j * ((b.row p).dk (cat 2 j) * (b.row p).kn j) := by
  obtain rfl : x = 0 := Subsingleton.elim _ _
  pointwise [t176, k0_pay60, at109, fold173, at173, row_h, row_nw, row_qn, row_kn, row_w, row_dq, row_dk, row_dv, row_dh]

theorem at177 (p : Fin 320)(j : Fin 128) : b.t177 (ix2 p j) = rinv n128 ((b.row p).kh 2) := by
  pointwise [t177, k0_pay61, at117, row_h, row_nw, row_qn, row_kn, row_w, row_dq, row_dk, row_dv, row_dh]

theorem at225 (p : Fin 320)(j : Fin 128) : b.t225 (ix2 p j) = (b.row p).dk (cat 0 j) * (b.row p).kn j := by
  pointwise [t225, k0_pay64, at142, row_h, row_nw, row_qn, row_kn, row_w, row_dq, row_dk, row_dv, row_dh]

theorem at227 (p : Fin 320) : b.t227 (ix1 p) = ∑ j, (b.row p).kh 0 j * ((b.row p).dk (cat 0 j) * (b.row p).kn j) := by
  pointwise [t227, k0_pay65, at81, at142, fold225, at225, row_h, row_nw, row_qn, row_kn, row_w, row_dq, row_dk, row_dv, row_dh]

theorem at167 (p : Fin 320) (q : Fin 4) (j : Fin 128) : b.t167 (ix2 p (cat q j)) = if q = 3 then (b.row p).gk q j else 0 := by
  pointwise [t167, k0_pay57, at123, at131, at132, fold145, at145, row_h, row_nw, row_qn, row_kn, row_w, row_dq, row_dk, row_dv, row_dh, In.gk, back, pull, co]
  rcases four q with rfl | rfl | rfl | rfl
  all_goals
    try simp (disch := omega) only [cat0v, cat1v, cat2v, cat3v, dif_pos, dif_neg, Nat.sub_add_comm, Nat.reduceSub, Nat.sub_self, Nat.zero_add, Fin.eta, Fin.sum_univ_one, zero_add, add_zero, Fin.isValue, Fin.reduceEq, ite_true, ite_false, if_true, if_false]
    try simp only [In.gq, In.gk, back, pull, co, row_h, row_nw, row_qn, row_kn, row_w, row_dq, row_dk, row_dv, row_dh]
    try ac_nf

theorem at219 (p : Fin 320) (q : Fin 4) (j : Fin 128) : b.t219 (ix2 p (cat q j)) = if q = 0 then 0 else (b.row p).gk q j := by
  pointwise [t219, k0_pay62, at95, at103, at106, at109, at120, at143, at167, at173, at176, at177, row_h, row_nw, row_qn, row_kn, row_w, row_dq, row_dk, row_dv, row_dh, In.gk, back, pull, co]
  rcases four q with rfl | rfl | rfl | rfl
  all_goals
    try simp (disch := omega) only [cat0v, cat1v, cat2v, cat3v, dif_pos, dif_neg, Nat.sub_add_comm, Nat.reduceSub, Nat.sub_self, Nat.zero_add, Fin.eta, Fin.sum_univ_one, zero_add, add_zero, Fin.isValue, Fin.reduceEq, ite_true, ite_false, if_true, if_false]
    try simp only [In.gq, In.gk, back, pull, co, row_h, row_nw, row_qn, row_kn, row_w, row_dq, row_dk, row_dv, row_dh]
    try ac_nf

theorem at274 (p : Fin 320) (q : Fin 4) (j : Fin 128) : b.t274 (ix2 p (cat q j)) = if q = 3 then (b.row p).gq q j else 0 := by
  pointwise [t274, k0_pay72, at66, at74, at77, fold252, at252, row_h, row_nw, row_qn, row_kn, row_w, row_dq, row_dk, row_dv, row_dh, In.gq, back, pull, co]
  rcases four q with rfl | rfl | rfl | rfl
  all_goals
    try simp (disch := omega) only [cat0v, cat1v, cat2v, cat3v, dif_pos, dif_neg, Nat.sub_add_comm, Nat.reduceSub, Nat.sub_self, Nat.zero_add, Fin.eta, Fin.sum_univ_one, zero_add, add_zero, Fin.isValue, Fin.reduceEq, ite_true, ite_false, if_true, if_false]
    try simp only [In.gq, In.gk, back, pull, co, row_h, row_nw, row_qn, row_kn, row_w, row_dq, row_dk, row_dv, row_dh]
    try ac_nf

theorem at326 (p : Fin 320) (q : Fin 4) (j : Fin 128) : b.t326 (ix2 p (cat q j)) = if q = 0 then 0 else (b.row p).gq q j := by
  pointwise [t326, k0_pay75, at38, at46, at49, at52, at60, at63, at250, at251, at274, row_h, row_nw, row_qn, row_kn, row_w, row_dq, row_dk, row_dv, row_dh, In.gq, back, pull, co]
  rcases four q with rfl | rfl | rfl | rfl
  all_goals
    try simp (disch := omega) only [cat0v, cat1v, cat2v, cat3v, dif_pos, dif_neg, Nat.sub_add_comm, Nat.reduceSub, Nat.sub_self, Nat.zero_add, Fin.eta, Fin.sum_univ_one, zero_add, add_zero, Fin.isValue, Fin.reduceEq, ite_true, ite_false, if_true, if_false]
    try simp only [In.gq, In.gk, back, pull, co, row_h, row_nw, row_qn, row_kn, row_w, row_dq, row_dk, row_dv, row_dh]
    try ac_nf

theorem at141 (p : Fin 320) (s : Fin 3) (n : Fin 512) : b.t141 (ix2 p (c3 s n)) = pick s 0 0 (b.x7 (ix2 p n)) := by
  pointwise [t141, k0_pay52]
  rcases three s with rfl | rfl | rfl
  all_goals
    simp (disch := omega) only [c30v, c31v, c32v, pick0, pick1, pick2, dif_pos, dif_neg, Nat.add_sub_cancel_left, Fin.eta, zero_add, add_zero]

theorem at248 (p : Fin 320) (s : Fin 3) (q : Fin 4) (j : Fin 128) : b.t248 (ix2 p (c3 s (cat q j))) = pick s 0 ((b.row p).gk q j) (b.x7 (ix2 p (cat q j))) := by
  pointwise [t248, k0_pay66, at81, at89, at92, at141, at219, at225, at227, row_h, row_nw, row_qn, row_kn, row_w, row_dq, row_dk, row_dv, row_dh, In.gk, back, pull, co]
  rcases three s with rfl | rfl | rfl
  all_goals try simp (disch := omega) only [c30v, c31v, c32v, pick0, pick1, pick2, dif_pos, dif_neg, Nat.add_sub_cancel_left, Fin.eta, zero_add, add_zero]
  all_goals try simp only [at81, at89, at92, at141, at219, at225, at227]
  all_goals
    rcases four q with rfl | rfl | rfl | rfl
    all_goals
      try simp (disch := omega) only [cat0v, cat1v, cat2v, cat3v, dif_pos, dif_neg, Nat.sub_add_comm, Nat.reduceSub, Nat.sub_self, Nat.zero_add, Fin.eta, Fin.sum_univ_one, zero_add, add_zero, Fin.isValue, Fin.reduceEq, ite_true, ite_false, if_true, if_false]
      try simp only [In.gq, In.gk, back, pull, co, row_h, row_nw, row_qn, row_kn, row_w, row_dq, row_dk, row_dv, row_dh]
      try ac_nf

theorem at353 (p : Fin 320) (s : Fin 3) (q : Fin 4) (j : Fin 128) : b.t353 (ix2 p (c3 s (cat q j))) = pick s ((b.row p).gq q j) ((b.row p).gk q j) (b.x7 (ix2 p (cat q j))) := by
  pointwise [t353, k0_pay78, at24, at32, at35, at248, at249, at326, row_h, row_nw, row_qn, row_kn, row_w, row_dq, row_dk, row_dv, row_dh, In.gq, back, pull, co]
  rcases three s with rfl | rfl | rfl
  all_goals try simp (disch := omega) only [c30v, c31v, c32v, pick0, pick1, pick2, dif_pos, dif_neg, Nat.add_sub_cancel_left, Fin.eta, zero_add, add_zero]
  all_goals try simp only [at24, at32, at35, at248, at249, at326]
  all_goals
    rcases four q with rfl | rfl | rfl | rfl
    all_goals
      try simp (disch := omega) only [cat0v, cat1v, cat2v, cat3v, dif_pos, dif_neg, Nat.sub_add_comm, Nat.reduceSub, Nat.sub_self, Nat.zero_add, Fin.eta, Fin.sum_univ_one, zero_add, add_zero, Fin.isValue, Fin.reduceEq, ite_true, ite_false, if_true, if_false]
      try simp only [In.gq, In.gk, back, pull, co, row_h, row_nw, row_qn, row_kn, row_w, row_dq, row_dk, row_dv, row_dh]
      try ac_nf

theorem at353m (p : Fin 320) (m : Fin 1536) : b.t353 (ix2 p m) = (b.row p).draw m := by
  conv_lhs => rw [← c3_cs_cn m, ← cat_hq_hj (cn m)]
  rw [at353, cat_hq_hj]; rfl

theorem at355 (p : Fin 320)(k : Fin 1024) : b.t355 (ix2 p k) = (b.row p).dxn k := by
  pointwise [t355, k0_pay79, at5, at24, at32, at35, at248, at249, at326, fold353, at353m, row_h, row_nw, row_qn, row_kn, row_w, row_dq, row_dk, row_dv, row_dh, In.dxn]

theorem at358 (k : Fin 1024)(m : Fin 1536) : b.t358 (ix2 k m) = ∑ p, (b.row p).gw k m := by
  pointwise [t358, k0_pay80, at20, at24, at32, at35, at248, at249, at326, fold353, at353m, row_h, row_nw, row_qn, row_kn, row_w, row_dq, row_dk, row_dv, row_dh, In.gw]

theorem at361 (k : Fin 1024) : b.t361 (ix2 0 k) = ∑ p, (b.row p).gnw k := by
  pointwise [t361, k0_pay81, at5, at18, at24, at32, at35, at248, at249, at326, fold355, at355, row_h, row_nw, row_qn, row_kn, row_w, row_dq, row_dk, row_dv, row_dh, In.gnw]

theorem at363 (p : Fin 320)(k : Fin 1024) : b.t363 (ix2 p k) = (b.row p).dxn k * (b.row p).nw k := by
  pointwise [t363, k0_pay82, at5, at24, at32, at35, at248, at249, at326, fold355, at355, row_h, row_nw, row_qn, row_kn, row_w, row_dq, row_dk, row_dv, row_dh]

theorem at374 (p : Fin 320)(k : Fin 1024) : b.t374 (ix2 p k) = pull n1024 (b.row p).h (fun k => (b.row p).dxn k * (b.row p).nw k) := by
  pointwise [t374, k0_pay83, at5, at16, at24, at32, at35, at248, at249, at326, fold363, at363, row_h, row_nw, row_qn, row_kn, row_w, row_dq, row_dk, row_dv, row_dh, pull]
  simp only [Fin.sum_univ_one]

theorem at376 (p : Fin 320)(k : Fin 1024) : b.t376 (ix2 p k) = (b.row p).dxn k * (b.row p).nw k * rinv n1024 (b.row p).h + (b.row p).h k * pull n1024 (b.row p).h (fun k => (b.row p).dxn k * (b.row p).nw k) := by
  pointwise [t376, k0_pay84, at5, at13, at16, at24, at32, at35, at248, at249, at326, fold363, at363, fold374, at374, row_h, row_nw, row_qn, row_kn, row_w, row_dq, row_dk, row_dv, row_dh]

theorem at399 (p : Fin 320)(k : Fin 1024) : b.t399 (ix2 p k) = (b.row p).gh k := by
  pointwise [t399, k0_pay93, at374, at376, row_h, row_nw, row_qn, row_kn, row_w, row_dq, row_dk, row_dv, row_dh, In.gh, back]
  ac_nf
  exact (by intros; ac_rfl : ∀ a b c : EReal, a + (b + (c + b)) = a + (b + (b + c))) _ _ _

end Blk
end Cert.Proof.Attn
-- ==== Proof.AttnRows.lean ====
/- The reference's values, entry by entry: the row mathematics of `AttnSpec` on the rows of the reference's
   arguments, and each weight gradient the sum of the rows' shares. -/
module

public import proofs.«01_k».proof.Proof.AttnSpec
public import proofs.«01_k».proof.Proof.Gen.AttnRefIdeal.Run

@[expose] public section

set_option maxRecDepth 16384
noncomputable section
open Idealize.ShloMosaic Cert.Proof.Row Cert.AttnRefIdeal Cert.AttnRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.Attn

/-- The arguments of the reference. -/
structure Arr where
  a0 : FVec Ideal S8320x1024 .f32
  a1 : FVec Ideal S1x1024 .f32
  a2 : FVec Ideal S1x128 .f32
  a3 : FVec Ideal S1x128 .f32
  a4 : FVec Ideal S1024x1536 .f32
  a5 : FVec Ideal S8320x512 .f32
  a6 : FVec Ideal S8320x512 .f32
  a7 : FVec Ideal S8320x512 .f32
  a8 : FVec Ideal S8320x1024 .f32

namespace Arr
variable (r : Arr)

/-- Row `t` of the arguments. -/
def row (t : Fin 8320) : In where
  h k := r.a0 (ix2 t k)
  nw k := r.a1 (ix2 0 k)
  qn k := r.a2 (ix2 0 k)
  kn k := r.a3 (ix2 0 k)
  w k n := r.a4 (ix2 k n)
  dq k := r.a5 (ix2 t k)
  dk k := r.a6 (ix2 t k)
  dv k := r.a7 (ix2 t k)
  dh k := r.a8 (ix2 t k)

section
variable (t : Fin 8320)
theorem row_h (k : Fin 1024) : (r.row t).h k = r.a0 (ix2 t k) := rfl
theorem row_nw (k : Fin 1024) : (r.row t).nw k = r.a1 (ix2 0 k) := rfl
theorem row_qn (k : Fin 128) : (r.row t).qn k = r.a2 (ix2 0 k) := rfl
theorem row_kn (k : Fin 128) : (r.row t).kn k = r.a3 (ix2 0 k) := rfl
theorem row_w (k : Fin 1024) (n : Fin 1536) : (r.row t).w k n = r.a4 (ix2 k n) := rfl
theorem row_dq (k : Fin 512) : (r.row t).dq k = r.a5 (ix2 t k) := rfl
theorem row_dk (k : Fin 512) : (r.row t).dk k = r.a6 (ix2 t k) := rfl
theorem row_dv (k : Fin 512) : (r.row t).dv k = r.a7 (ix2 t k) := rfl
theorem row_dh (k : Fin 1024) : (r.row t).dh k = r.a8 (ix2 t k) := rfl
end

def rv6 : FVec Ideal S8320x1 .f32 :=
  addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))

def rv7 : FVec Ideal S8320x1 .f32 :=
  Host.rsqrt (r.rv6)

def rv10 : FVec Ideal S8320x1 .f32 :=
  mulf (broadcastInDim S8320x1 ![] bcast_S_S8320x1 (constant S_ .f32 0xBF000000#32)) (Host.divf (r.rv7) (r.rv6))

def rv12 : FVec Ideal S8320x1024 .f32 :=
  mulf r.a0 (broadcastInDim S8320x1024 ![0, 1] bcast_S8320x1_S8320x1024_0_1 (r.rv7))

def rv14 : FVec Ideal S8320x1024 .f32 :=
  mulf (r.rv12) (broadcastInDim S8320x1024 ![0, 1] bcast_S1x1024_S8320x1024_0_1 r.a1)

def rv15 : FVec Ideal S8320x1536 .f32 :=
  Host.dotGeneral dot_S8320x1024_S1024x1536_S8320x1536_1_0_0_1_n_n none (r.rv14) r.a4

def rv19 : FVec Ideal S8320x4x128 .f32 :=
  shapeCast S8320x4x128 (extractStridedSlice S8320x512 ![0, 0] (r.rv15) slices_S8320x1536_S8320x512_0_0) shapeCasts_S8320x512_S8320x4x128

def rv26 : FVec Ideal S8320x4x1 .f32 :=
  addf (Host.divf (broadcastInDim S8320x4x1 ![0, 1] bcast_S8320x4_S8320x4x1_0_1 (Host.reduceAdd (mulf (r.rv19) (r.rv19)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32))

def rv27 : FVec Ideal S8320x4x1 .f32 :=
  Host.rsqrt (r.rv26)

def rv30 : FVec Ideal S8320x4x1 .f32 :=
  mulf (broadcastInDim S8320x4x1 ![] bcast_S_S8320x4x1 (constant S_ .f32 0xBF000000#32)) (Host.divf (r.rv27) (r.rv26))

def rv32 : FVec Ideal S8320x4x128 .f32 :=
  mulf (r.rv19) (broadcastInDim S8320x4x128 ![0, 1, 2] bcast_S8320x4x1_S8320x4x128_0_1_2 (r.rv27))

def rv37 : FVec Ideal S8320x4x128 .f32 :=
  shapeCast S8320x4x128 (extractStridedSlice S8320x512 ![0, 512] (r.rv15) slices_S8320x1536_S8320x512_0_512) shapeCasts_S8320x512_S8320x4x128

def rv44 : FVec Ideal S8320x4x1 .f32 :=
  addf (Host.divf (broadcastInDim S8320x4x1 ![0, 1] bcast_S8320x4_S8320x4x1_0_1 (Host.reduceAdd (mulf (r.rv37) (r.rv37)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32))

def rv45 : FVec Ideal S8320x4x1 .f32 :=
  Host.rsqrt (r.rv44)

def rv48 : FVec Ideal S8320x4x1 .f32 :=
  mulf (broadcastInDim S8320x4x1 ![] bcast_S_S8320x4x1 (constant S_ .f32 0xBF000000#32)) (Host.divf (r.rv45) (r.rv44))

def rv50 : FVec Ideal S8320x4x128 .f32 :=
  mulf (r.rv37) (broadcastInDim S8320x4x128 ![0, 1, 2] bcast_S8320x4x1_S8320x4x128_0_1_2 (r.rv45))

def rv55 : FVec Ideal S8320x4x128 .f32 :=
  shapeCast S8320x4x128 r.a6 shapeCasts_S8320x512_S8320x4x128

def rv60 : FVec Ideal S8320x4x128 .f32 :=
  mulf (r.rv55) (broadcastInDim S8320x4x128 ![0, 1, 2] bcast_S1x1x128_S8320x4x128_0_1_2 (broadcastInDim S1x1x128 ![1, 2] bcast_S1x128_S1x1x128_1_2 r.a3))

def rv62 : FVec Ideal S1x128 .f32 :=
  broadcastInDim S1x128 ![1] bcast_S128_S1x128_1 (Host.reduceAdd (shapeCast S1x1x128 (Host.reduceAdd (mulf (r.rv50) (r.rv55)) (constant S_ .f32 0x00000000#32) reducesTo_S8320x4x128_S128_d0_1 h_S_) shapeCasts_S128_S1x1x128) (constant S_ .f32 0x00000000#32) reducesTo_S1x1x128_S128_d0_1 h_S_)

def rv72 : FVec Ideal S8320x4x128 .f32 :=
  broadcastInDim S8320x4x128 ![0, 1] bcast_S8320x4_S8320x4x128_0_1 (Host.reduceAdd (Host.divf (mulf (shapeCast S8320x4x1 (Host.reduceAdd (mulf (r.rv37) (r.rv60)) (constant S_ .f32 0x00000000#32) reducesTo_S8320x4x128_S8320x4_d2 h_S_) shapeCasts_S8320x4_S8320x4x1) (r.rv48)) (broadcastInDim S8320x4x1 ![] bcast_S_S8320x4x1 (constant S_ .f32 0x43000000#32))) (constant S_ .f32 0x00000000#32) reducesTo_S8320x4x1_S8320x4_d2 h_S_)

def rv77 : FVec Ideal S8320x512 .f32 :=
  shapeCast S8320x512 (addf (addf (mulf (r.rv60) (broadcastInDim S8320x4x128 ![0, 1, 2] bcast_S8320x4x1_S8320x4x128_0_1_2 (r.rv45))) (mulf (r.rv37) (r.rv72))) (mulf (r.rv72) (r.rv37))) shapeCasts_S8320x4x128_S8320x512

def rv78 : FVec Ideal S8320x4x128 .f32 :=
  shapeCast S8320x4x128 r.a5 shapeCasts_S8320x512_S8320x4x128

def rv83 : FVec Ideal S8320x4x128 .f32 :=
  mulf (r.rv78) (broadcastInDim S8320x4x128 ![0, 1, 2] bcast_S1x1x128_S8320x4x128_0_1_2 (broadcastInDim S1x1x128 ![1, 2] bcast_S1x128_S1x1x128_1_2 r.a2))

def rv85 : FVec Ideal S1x128 .f32 :=
  broadcastInDim S1x128 ![1] bcast_S128_S1x128_1 (Host.reduceAdd (shapeCast S1x1x128 (Host.reduceAdd (mulf (r.rv32) (r.rv78)) (constant S_ .f32 0x00000000#32) reducesTo_S8320x4x128_S128_d0_1 h_S_) shapeCasts_S128_S1x1x128) (constant S_ .f32 0x00000000#32) reducesTo_S1x1x128_S128_d0_1 h_S_)

def rv95 : FVec Ideal S8320x4x128 .f32 :=
  broadcastInDim S8320x4x128 ![0, 1] bcast_S8320x4_S8320x4x128_0_1 (Host.reduceAdd (Host.divf (mulf (shapeCast S8320x4x1 (Host.reduceAdd (mulf (r.rv19) (r.rv83)) (constant S_ .f32 0x00000000#32) reducesTo_S8320x4x128_S8320x4_d2 h_S_) shapeCasts_S8320x4_S8320x4x1) (r.rv30)) (broadcastInDim S8320x4x1 ![] bcast_S_S8320x4x1 (constant S_ .f32 0x43000000#32))) (constant S_ .f32 0x00000000#32) reducesTo_S8320x4x1_S8320x4_d2 h_S_)

def rv100 : FVec Ideal S8320x512 .f32 :=
  shapeCast S8320x512 (addf (addf (mulf (r.rv83) (broadcastInDim S8320x4x128 ![0, 1, 2] bcast_S8320x4x1_S8320x4x128_0_1_2 (r.rv27))) (mulf (r.rv19) (r.rv95))) (mulf (r.rv95) (r.rv19))) shapeCasts_S8320x4x128_S8320x512

def rv101 : FVec Ideal S8320x1536 .f32 :=
  (concatenate S8320x1536 1 [⟨S8320x512, ((r.rv100) : FVec Ideal S8320x512 .f32)⟩, ⟨S8320x512, ((r.rv77) : FVec Ideal S8320x512 .f32)⟩, ⟨S8320x512, (r.a7 : FVec Ideal S8320x512 .f32)⟩] concatenates_S8320x512_S8320x512_S8320x512_S8320x1536_d1 : FVec Ideal S8320x1536 .f32)

def rv103 : FVec Ideal S1024x1536 .f32 :=
  transpose S1024x1536 [1, 0] (Host.dotGeneral dot_S8320x1536_S8320x1024_S1536x1024_0_0_1_1_n_n none (r.rv101) (r.rv14)) transposes_S1536x1024_S1024x1536_1_0

def rv104 : FVec Ideal S8320x1024 .f32 :=
  Host.dotGeneral dot_S8320x1536_S1024x1536_S8320x1024_1_1_0_0_n_n none (r.rv101) r.a4

def rv107 : FVec Ideal S1x1024 .f32 :=
  shapeCast S1x1024 (Host.reduceAdd (mulf (r.rv12) (r.rv104)) (constant S_ .f32 0x00000000#32) reducesTo_S8320x1024_S1024_d0 h_S_) shapeCasts_S1024_S1x1024

def rv109 : FVec Ideal S8320x1024 .f32 :=
  mulf (r.rv104) (broadcastInDim S8320x1024 ![0, 1] bcast_S1x1024_S8320x1024_0_1 r.a1)

def rv120 : FVec Ideal S8320x1024 .f32 :=
  broadcastInDim S8320x1024 ![0] bcast_S8320_S8320x1024_0 (Host.reduceAdd (Host.divf (mulf (shapeCast S8320x1 (Host.reduceAdd (mulf r.a0 (r.rv109)) (constant S_ .f32 0x00000000#32) reducesTo_S8320x1024_S8320_d1 h_S_) shapeCasts_S8320_S8320x1) (r.rv10)) (broadcastInDim S8320x1 ![] bcast_S_S8320x1 (constant S_ .f32 0x44800000#32))) (constant S_ .f32 0x00000000#32) reducesTo_S8320x1_S8320_d1 h_S_)

def rv124 : FVec Ideal S8320x1024 .f32 :=
  addf (addf (addf r.a8 (mulf (r.rv109) (broadcastInDim S8320x1024 ![0, 1] bcast_S8320x1_S8320x1024_0_1 (r.rv7)))) (mulf r.a0 (r.rv120))) (mulf (r.rv120) r.a0)

theorem at6 (t : Fin 8320)(x : Fin 1) : r.rv6 (ix2 t x) = ms n1024 (r.row t).h := by
  obtain rfl : x = 0 := Subsingleton.elim _ _
  pointwise [rv6, row_h, row_nw, row_qn, row_kn, row_w, row_dq, row_dk, row_dv, row_dh, ms]

theorem at7 (t : Fin 8320)(x : Fin 1) : r.rv7 (ix2 t x) = rinv n1024 (r.row t).h := by
  pointwise [rv7, at6, row_h, row_nw, row_qn, row_kn, row_w, row_dq, row_dk, row_dv, row_dh, rinv]

theorem at10 (t : Fin 8320)(x : Fin 1) : r.rv10 (ix2 t x) = co n1024 (r.row t).h := by
  pointwise [rv10, at7, at6, row_h, row_nw, row_qn, row_kn, row_w, row_dq, row_dk, row_dv, row_dh, co]

theorem at12 (t : Fin 8320)(k : Fin 1024) : r.rv12 (ix2 t k) = (r.row t).xh k := by
  pointwise [rv12, at7, row_h, row_nw, row_qn, row_kn, row_w, row_dq, row_dk, row_dv, row_dh, In.xh]

theorem at14 (t : Fin 8320)(k : Fin 1024) : r.rv14 (ix2 t k) = (r.row t).xn k := by
  pointwise [rv14, at12, row_h, row_nw, row_qn, row_kn, row_w, row_dq, row_dk, row_dv, row_dh, In.xn]

theorem at15 (t : Fin 8320)(m : Fin 1536) : r.rv15 (ix2 t m) = (r.row t).raw m := by
  pointwise [rv15, at14, row_h, row_nw, row_qn, row_kn, row_w, row_dq, row_dk, row_dv, row_dh, In.raw]

theorem at19 (t : Fin 8320)(q : Fin 4)(j : Fin 128) : r.rv19 (ix3 t q j) = (r.row t).qh q j := by
  pointwise [rv19, at15, row_h, row_nw, row_qn, row_kn, row_w, row_dq, row_dk, row_dv, row_dh, In.qh, c30, cat]

theorem at26 (t : Fin 8320)(q : Fin 4)(x : Fin 1) : r.rv26 (ix3 t q x) = ms n128 ((r.row t).qh q) := by
  obtain rfl : x = 0 := Subsingleton.elim _ _
  pointwise [rv26, at19, row_h, row_nw, row_qn, row_kn, row_w, row_dq, row_dk, row_dv, row_dh, ms]

theorem at27 (t : Fin 8320)(q : Fin 4)(x : Fin 1) : r.rv27 (ix3 t q x) = rinv n128 ((r.row t).qh q) := by
  pointwise [rv27, at26, row_h, row_nw, row_qn, row_kn, row_w, row_dq, row_dk, row_dv, row_dh, rinv]

theorem at30 (t : Fin 8320)(q : Fin 4)(x : Fin 1) : r.rv30 (ix3 t q x) = co n128 ((r.row t).qh q) := by
  pointwise [rv30, at27, at26, row_h, row_nw, row_qn, row_kn, row_w, row_dq, row_dk, row_dv, row_dh, co]

theorem at32 (t : Fin 8320)(q : Fin 4)(j : Fin 128) : r.rv32 (ix3 t q j) = (r.row t).oq q j := by
  pointwise [rv32, at19, at27, row_h, row_nw, row_qn, row_kn, row_w, row_dq, row_dk, row_dv, row_dh, In.oq]

theorem at78 (t : Fin 8320)(q : Fin 4)(j : Fin 128) : r.rv78 (ix3 t q j) = (r.row t).dq (cat q j) := by
  pointwise [rv78, row_h, row_nw, row_qn, row_kn, row_w, row_dq, row_dk, row_dv, row_dh, cat]

theorem at83 (t : Fin 8320)(q : Fin 4)(j : Fin 128) : r.rv83 (ix3 t q j) = (r.row t).dq (cat q j) * (r.row t).qn j := by
  pointwise [rv83, at78, row_h, row_nw, row_qn, row_kn, row_w, row_dq, row_dk, row_dv, row_dh]

theorem at85 (j : Fin 128) : r.rv85 (ix2 0 j) = ∑ t, (r.row t).gqn j := by
  pointwise [rv85, at32, at78, row_h, row_nw, row_qn, row_kn, row_w, row_dq, row_dk, row_dv, row_dh, hostSum01, In.gqn]
  simp only [Fin.sum_univ_one]

theorem at95 (t : Fin 8320)(q : Fin 4)(j : Fin 128) : r.rv95 (ix3 t q j) = pull n128 ((r.row t).qh q) (fun j => (r.row t).dq (cat q j) * (r.row t).qn j) := by
  pointwise [rv95, at19, at83, at30, row_h, row_nw, row_qn, row_kn, row_w, row_dq, row_dk, row_dv, row_dh, pull]
  simp only [Fin.sum_univ_one]

theorem at100 (t : Fin 8320)(n : Fin 512) : r.rv100 (ix2 t n) = (r.row t).gqr n := by
  pointwise [rv100, at83, at27, at19, at95, row_h, row_nw, row_qn, row_kn, row_w, row_dq, row_dk, row_dv, row_dh, In.gqr, In.gq, back, hq, hj]
  ac_nf

theorem at37 (t : Fin 8320)(q : Fin 4)(j : Fin 128) : r.rv37 (ix3 t q j) = (r.row t).kh q j := by
  pointwise [rv37, at15, row_h, row_nw, row_qn, row_kn, row_w, row_dq, row_dk, row_dv, row_dh, In.kh, c31, cat]

theorem at44 (t : Fin 8320)(q : Fin 4)(x : Fin 1) : r.rv44 (ix3 t q x) = ms n128 ((r.row t).kh q) := by
  obtain rfl : x = 0 := Subsingleton.elim _ _
  pointwise [rv44, at37, row_h, row_nw, row_qn, row_kn, row_w, row_dq, row_dk, row_dv, row_dh, ms]

theorem at45 (t : Fin 8320)(q : Fin 4)(x : Fin 1) : r.rv45 (ix3 t q x) = rinv n128 ((r.row t).kh q) := by
  pointwise [rv45, at44, row_h, row_nw, row_qn, row_kn, row_w, row_dq, row_dk, row_dv, row_dh, rinv]

theorem at48 (t : Fin 8320)(q : Fin 4)(x : Fin 1) : r.rv48 (ix3 t q x) = co n128 ((r.row t).kh q) := by
  pointwise [rv48, at45, at44, row_h, row_nw, row_qn, row_kn, row_w, row_dq, row_dk, row_dv, row_dh, co]

theorem at50 (t : Fin 8320)(q : Fin 4)(j : Fin 128) : r.rv50 (ix3 t q j) = (r.row t).ok q j := by
  pointwise [rv50, at37, at45, row_h, row_nw, row_qn, row_kn, row_w, row_dq, row_dk, row_dv, row_dh, In.ok]

theorem at55 (t : Fin 8320)(q : Fin 4)(j : Fin 128) : r.rv55 (ix3 t q j) = (r.row t).dk (cat q j) := by
  pointwise [rv55, row_h, row_nw, row_qn, row_kn, row_w, row_dq, row_dk, row_dv, row_dh, cat]

theorem at60 (t : Fin 8320)(q : Fin 4)(j : Fin 128) : r.rv60 (ix3 t q j) = (r.row t).dk (cat q j) * (r.row t).kn j := by
  pointwise [rv60, at55, row_h, row_nw, row_qn, row_kn, row_w, row_dq, row_dk, row_dv, row_dh]

theorem at62 (j : Fin 128) : r.rv62 (ix2 0 j) = ∑ t, (r.row t).gkn j := by
  pointwise [rv62, at50, at55, row_h, row_nw, row_qn, row_kn, row_w, row_dq, row_dk, row_dv, row_dh, hostSum01, In.gkn]
  simp only [Fin.sum_univ_one]

theorem at72 (t : Fin 8320)(q : Fin 4)(j : Fin 128) : r.rv72 (ix3 t q j) = pull n128 ((r.row t).kh q) (fun j => (r.row t).dk (cat q j) * (r.row t).kn j) := by
  pointwise [rv72, at37, at60, at48, row_h, row_nw, row_qn, row_kn, row_w, row_dq, row_dk, row_dv, row_dh, pull]
  simp only [Fin.sum_univ_one]

theorem at77 (t : Fin 8320)(n : Fin 512) : r.rv77 (ix2 t n) = (r.row t).gkr n := by
  pointwise [rv77, at60, at45, at37, at72, row_h, row_nw, row_qn, row_kn, row_w, row_dq, row_dk, row_dv, row_dh, In.gkr, In.gk, back, hq, hj]
  ac_nf

theorem at101p (t : Fin 8320) (s : Fin 3) (n : Fin 512) : r.rv101 (ix2 t (c3 s n)) = pick s ((r.row t).gqr n) ((r.row t).gkr n) ((r.row t).dv n) := by
  pointwise [rv101, at100, at77, row_dv]
  rcases three s with rfl | rfl | rfl
  all_goals
    simp (disch := omega) only [c30v, c31v, c32v, pick0, pick1, pick2, dif_pos, dif_neg, Nat.sub_add_comm, Nat.reduceSub, Nat.sub_self, Nat.add_sub_cancel_left, Nat.zero_add, Fin.eta]

theorem at101 (t : Fin 8320) (m : Fin 1536) : r.rv101 (ix2 t m) = (r.row t).draw m := by
  conv_lhs => rw [← c3_cs_cn m]
  exact r.at101p t _ _

theorem at104 (t : Fin 8320)(k : Fin 1024) : r.rv104 (ix2 t k) = (r.row t).dxn k := by
  pointwise [rv104, at101, row_h, row_nw, row_qn, row_kn, row_w, row_dq, row_dk, row_dv, row_dh, In.dxn]

theorem at103 (k : Fin 1024)(m : Fin 1536) : r.rv103 (ix2 k m) = ∑ t, (r.row t).gw k m := by
  pointwise [rv103, at101, at14, row_h, row_nw, row_qn, row_kn, row_w, row_dq, row_dk, row_dv, row_dh, In.gw]
  <;> first | done | exact Finset.sum_congr rfl fun t _ => mul_comm _ _

theorem at107 (k : Fin 1024) : r.rv107 (ix2 0 k) = ∑ t, (r.row t).gnw k := by
  pointwise [rv107, at12, at104, row_h, row_nw, row_qn, row_kn, row_w, row_dq, row_dk, row_dv, row_dh, In.gnw]

theorem at109 (t : Fin 8320)(k : Fin 1024) : r.rv109 (ix2 t k) = (r.row t).dxn k * (r.row t).nw k := by
  pointwise [rv109, at104, row_h, row_nw, row_qn, row_kn, row_w, row_dq, row_dk, row_dv, row_dh]

theorem at120 (t : Fin 8320)(k : Fin 1024) : r.rv120 (ix2 t k) = pull n1024 (r.row t).h (fun k => (r.row t).dxn k * (r.row t).nw k) := by
  pointwise [rv120, at109, at10, row_h, row_nw, row_qn, row_kn, row_w, row_dq, row_dk, row_dv, row_dh, pull]
  simp only [Fin.sum_univ_one]

theorem at124 (t : Fin 8320)(k : Fin 1024) : r.rv124 (ix2 t k) = (r.row t).gh k := by
  pointwise [rv124, at109, at7, at120, row_h, row_nw, row_qn, row_kn, row_w, row_dq, row_dk, row_dv, row_dh, In.gh, back]
  ac_nf

end Arr
end Cert.Proof.Attn
-- ==== Proof.AttnArr.lean ====
/- The kernel's windows: which rows of the argument arrays a grid point reads. -/
module

public import proofs.«01_k».proof.Proof.AttnTile
public import proofs.«01_k».proof.Proof.AttnRows
public import proofs.«01_k».proof.Proof.Gen.AttnIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.AttnIdeal Cert.AttnIdeal.Gen
open scoped BigOperators
namespace Cert.Proof.Attn

variable (m : (ℓ : Loc nD τ sig) → Buf (Elt Ideal) ℓ) (c : Dev nD)

/-- Every window's block index at a grid point. -/
theorem idx : ∀ t : Fin cfg0.N, win0_0.index t = ![25 - t.val, 0]
    ∧ win0_1.index t = ![0, 0]
    ∧ win0_2.index t = ![0, 0]
    ∧ win0_3.index t = ![0, 0]
    ∧ win0_4.index t = ![0, 0]
    ∧ win0_5.index t = ![25 - t.val, 0]
    ∧ win0_6.index t = ![25 - t.val, 0]
    ∧ win0_7.index t = ![25 - t.val, 0]
    ∧ win0_8.index t = ![25 - t.val, 0]
    ∧ win0_9.index t = ![25 - t.val, 0]
    ∧ win0_10.index t = ![0, 0]
    ∧ win0_11.index t = ![0, 0]
    ∧ win0_12.index t = ![0, 0]
    ∧ win0_13.index t = ![0, 0] :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t, iblk m c 7 t, iblk m c 8 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-- The array row that grid point `s` reads as its row `p`. -/
def rowAt (s : Nat) (p : Fin 320) : Fin 8320 := ⟨(25 - s) * 320 + p.val, by omega⟩

theorem sum_rows (f : Fin 8320 → EReal) : ∑ s : Fin 26, ∑ p : Fin 320, f (rowAt s.val p) = ∑ t, f t := by
  rw [Fin.sum_univ_tiles 26 320 rfl f, ← Equiv.sum_comp Fin.revPerm]
  refine Finset.sum_congr rfl fun s _ => Finset.sum_congr rfl fun p _ => congrArg f (Fin.ext ?_)
  simp only [rowAt, Fin.revPerm_apply, Fin.val_rev]
  omega

theorem row_eq (t : Fin cfg0.N) (p : Fin 320) : (blk m c t).row p = (arr m c).row (rowAt t.val p) := by
  have h0 : ∀ k : Fin 1024, (blk m c t).x0 (ix2 p k) = (arr m c).a0 (ix2 (rowAt t.val p) k) := by
    intro k; simp only [blk, arr, rowAt]; blk_point [iblk, V, idx t]
  have h1 : ∀ k : Fin 1024, (blk m c t).x1 (ix2 0 k) = (arr m c).a1 (ix2 0 k) := by
    intro k; simp only [blk, arr]; blk_point [iblk, V, idx t]
  have h2 : ∀ k : Fin 128, (blk m c t).x2 (ix2 0 k) = (arr m c).a2 (ix2 0 k) := by
    intro k; simp only [blk, arr]; blk_point [iblk, V, idx t]
  have h3 : ∀ k : Fin 128, (blk m c t).x3 (ix2 0 k) = (arr m c).a3 (ix2 0 k) := by
    intro k; simp only [blk, arr]; blk_point [iblk, V, idx t]
  have h4 : ∀ (k : Fin 1024) (n : Fin 1536), (blk m c t).x4 (ix2 k n) = (arr m c).a4 (ix2 k n) := by
    intro k n; simp only [blk, arr]; blk_point [iblk, V, idx t]
  have h5 : ∀ k : Fin 512, (blk m c t).x5 (ix2 p k) = (arr m c).a5 (ix2 (rowAt t.val p) k) := by
    intro k; simp only [blk, arr, rowAt]; blk_point [iblk, V, idx t]
  have h6 : ∀ k : Fin 512, (blk m c t).x6 (ix2 p k) = (arr m c).a6 (ix2 (rowAt t.val p) k) := by
    intro k; simp only [blk, arr, rowAt]; blk_point [iblk, V, idx t]
  have h7 : ∀ k : Fin 512, (blk m c t).x7 (ix2 p k) = (arr m c).a7 (ix2 (rowAt t.val p) k) := by
    intro k; simp only [blk, arr, rowAt]; blk_point [iblk, V, idx t]
  have h8 : ∀ k : Fin 1024, (blk m c t).x8 (ix2 p k) = (arr m c).a8 (ix2 (rowAt t.val p) k) := by
    intro k; simp only [blk, arr, rowAt]; blk_point [iblk, V, idx t]
  simp only [Blk.row, Arr.row, h0, h1, h2, h3, h4, h5, h6, h7, h8]

end Cert.Proof.Attn
-- ==== Proof.AttnFin1.lean ====
/- Result arrays of the kernel after the run, entry by entry. -/
module

public import proofs.«01_k».proof.Proof.AttnArr

@[expose] public section

set_option maxRecDepth 16384
noncomputable section
open Idealize.ShloMosaic Idealize.ShloMosaic.TcCoe Idealize.SL.Sem
open Cert.Proof.Row Cert.AttnIdeal Cert.AttnIdeal.Gen
open scoped BigOperators
namespace Cert.Proof.Attn

variable (m : (ℓ : Loc nD τ sig) → Buf (Elt Ideal) ℓ) (c : Dev nD)

set_option maxHeartbeats 2000000 in
/-- The gradient of the residual stream. -/
theorem final_9 : (dats m 0 c).arrAt 9 (cfgs 0).N = (arr m c).rv124 := by
  refine (dats m 0 c).arrAt_eq_of_covers 9 _ (by decide +kernel) fun t hf y => ?_
  have key : ∀ (p : Fin 320) (k : Fin 1024), (blk m c t).t399 (ix2 p k) = (arr m c).rv124 (ix2 (rowAt t.val p) k) := by
    intro p k; rw [Blk.at399, Arr.at124, row_eq]
  have emb : ∀ (p : Fin 320) (k : Fin 1024), ((cfg0.win 9).blk t).view.emb (ix2 p k) = ix2 (rowAt t.val p) k := by
    intro p k; simp only [rowAt]; blk_ext [idx t]
  blk_simp; rw [after0_9]
  by_cases h : t.val % 26 = 0
  · rw [outsAt0_A m c t h]; frame_out
    idx_vars y
    exact (key y0 y1).trans (congrArg (arr m c).rv124 (emb y0 y1).symm)
  · rw [outsAt0_B m c t h]; frame_out
    idx_vars y
    exact (key y0 y1).trans (congrArg (arr m c).rv124 (emb y0 y1).symm)

end Cert.Proof.Attn
-- ==== Proof.AttnFin2.lean ====
/- Result arrays of the kernel after the run, entry by entry. -/
module

public import proofs.«01_k».proof.Proof.AttnArr

@[expose] public section

set_option maxRecDepth 16384
noncomputable section
open Idealize.ShloMosaic Idealize.ShloMosaic.TcCoe Idealize.SL.Sem
open Cert.Proof.Row Cert.AttnIdeal Cert.AttnIdeal.Gen
open scoped BigOperators
namespace Cert.Proof.Attn

variable (m : (ℓ : Loc nD τ sig) → Buf (Elt Ideal) ℓ) (c : Dev nD)

theorem hzero_10 (j : S1x1024.Idx) : k0_pay85 (F := Ideal) j = 0 := by pointwise! [k0_pay85]
theorem hpay_10 (v361 : FVec Ideal S1x1024 .f32) (v382 : Vec Ideal S1x1024 .f32) (j : S1x1024.Idx) :
    k0_pay89 v361 v382 j = v382 j + v361 j := by pointwise [k0_pay89]

set_option maxHeartbeats 2000000 in
/-- The gradient of the row norm's weights. -/
theorem final_10 : (dats m 0 c).arrAt 10 (cfgs 0).N = (arr m c).rv107 := by
  refine (dats m 0 c).arrAt_eq_of_covers 10 _ (by decide +kernel) fun t hf y => ?_
  have ht : t.val / 26 = 0 := Nat.div_eq_of_lt (lt_of_lt_of_eq t.isLt (by decide))
  have key : ∀ (k : Fin 1024), ∑ s : Fin 26, (blk m c ⟨26 * (t.val / 26) + s.val,
      Pipeline.run_point_lt_of_flush t ((flush0_10 t).mp hf) s⟩).t361 (ix2 0 k) = (arr m c).rv107 (ix2 0 k) := by
    intro k
    rw [Arr.at107, ← sum_rows]
    refine Finset.sum_congr rfl fun s _ => ?_
    rw [Blk.at361]
    refine Finset.sum_congr rfl fun p _ => ?_
    rw [row_eq]
    simp only [ht, Nat.mul_zero, Nat.zero_add]
  have emb : ∀ (k : Fin 1024), ((cfg0.win 10).blk t).view.emb (ix2 0 k) = (ix2 0 k) := by
    intro k; blk_ext [idx t]
  blk_simp
  rw [after0_10, Pipeline.eq_sum_fin_of_reset_step_apply_of_flush (fun n h => (outsAt0 m c n h).2.1) 26 (fun _ => 0)
    (fun t j => (blk m c t).t361 j)
    (fun t h j => by rw [outsAt0_A m c t h]; frame_out; rw [hpay_10, hzero_10]; rfl)
    (fun t h j => by rw [outsAt0_B m c t h]; frame_out; rw [hpay_10]; rfl)
    t ((flush0_10 t).mp hf) _, zero_add]
  idx_vars y
  obtain rfl : y0 = 0 := Subsingleton.elim _ _
  exact (key y1).trans (congrArg (arr m c).rv107 (emb y1).symm)

theorem hzero_11 (j : S1x128.Idx) : k0_pay86 (F := Ideal) j = 0 := by pointwise! [k0_pay86]
theorem hpay_11 (v330 : FVec Ideal S1x128 .f32) (v386 : Vec Ideal S1x128 .f32) (j : S1x128.Idx) :
    k0_pay90 v330 v386 j = v386 j + v330 j := by pointwise [k0_pay90]

set_option maxHeartbeats 2000000 in
/-- The gradient of the query norm's weights. -/
theorem final_11 : (dats m 0 c).arrAt 11 (cfgs 0).N = (arr m c).rv85 := by
  refine (dats m 0 c).arrAt_eq_of_covers 11 _ (by decide +kernel) fun t hf y => ?_
  have ht : t.val / 26 = 0 := Nat.div_eq_of_lt (lt_of_lt_of_eq t.isLt (by decide))
  have key : ∀ (k : Fin 128), ∑ s : Fin 26, (blk m c ⟨26 * (t.val / 26) + s.val,
      Pipeline.run_point_lt_of_flush t ((flush0_11 t).mp hf) s⟩).t330 (ix2 0 k) = (arr m c).rv85 (ix2 0 k) := by
    intro k
    rw [Arr.at85, ← sum_rows]
    refine Finset.sum_congr rfl fun s _ => ?_
    rw [Blk.at330]
    refine Finset.sum_congr rfl fun p _ => ?_
    rw [row_eq]
    simp only [ht, Nat.mul_zero, Nat.zero_add]
  have emb : ∀ (k : Fin 128), ((cfg0.win 11).blk t).view.emb (ix2 0 k) = (ix2 0 k) := by
    intro k; blk_ext [idx t]
  blk_simp
  rw [after0_11, Pipeline.eq_sum_fin_of_reset_step_apply_of_flush (fun n h => (outsAt0 m c n h).2.2.1) 26 (fun _ => 0)
    (fun t j => (blk m c t).t330 j)
    (fun t h j => by rw [outsAt0_A m c t h]; frame_out; rw [hpay_11, hzero_11]; rfl)
    (fun t h j => by rw [outsAt0_B m c t h]; frame_out; rw [hpay_11]; rfl)
    t ((flush0_11 t).mp hf) _, zero_add]
  idx_vars y
  obtain rfl : y0 = 0 := Subsingleton.elim _ _
  exact (key y1).trans (congrArg (arr m c).rv85 (emb y1).symm)

theorem hzero_12 (j : S1x128.Idx) : k0_pay87 (F := Ideal) j = 0 := by pointwise! [k0_pay87]
theorem hpay_12 (v223 : FVec Ideal S1x128 .f32) (v390 : Vec Ideal S1x128 .f32) (j : S1x128.Idx) :
    k0_pay91 v223 v390 j = v390 j + v223 j := by pointwise [k0_pay91]

set_option maxHeartbeats 2000000 in
/-- The gradient of the key norm's weights. -/
theorem final_12 : (dats m 0 c).arrAt 12 (cfgs 0).N = (arr m c).rv62 := by
  refine (dats m 0 c).arrAt_eq_of_covers 12 _ (by decide +kernel) fun t hf y => ?_
  have ht : t.val / 26 = 0 := Nat.div_eq_of_lt (lt_of_lt_of_eq t.isLt (by decide))
  have key : ∀ (k : Fin 128), ∑ s : Fin 26, (blk m c ⟨26 * (t.val / 26) + s.val,
      Pipeline.run_point_lt_of_flush t ((flush0_12 t).mp hf) s⟩).t223 (ix2 0 k) = (arr m c).rv62 (ix2 0 k) := by
    intro k
    rw [Arr.at62, ← sum_rows]
    refine Finset.sum_congr rfl fun s _ => ?_
    rw [Blk.at223]
    refine Finset.sum_congr rfl fun p _ => ?_
    rw [row_eq]
    simp only [ht, Nat.mul_zero, Nat.zero_add]
  have emb : ∀ (k : Fin 128), ((cfg0.win 12).blk t).view.emb (ix2 0 k) = (ix2 0 k) := by
    intro k; blk_ext [idx t]
  blk_simp
  rw [after0_12, Pipeline.eq_sum_fin_of_reset_step_apply_of_flush (fun n h => (outsAt0 m c n h).2.2.2.1) 26 (fun _ => 0)
    (fun t j => (blk m c t).t223 j)
    (fun t h j => by rw [outsAt0_A m c t h]; frame_out; rw [hpay_12, hzero_12]; rfl)
    (fun t h j => by rw [outsAt0_B m c t h]; frame_out; rw [hpay_12]; rfl)
    t ((flush0_12 t).mp hf) _, zero_add]
  idx_vars y
  obtain rfl : y0 = 0 := Subsingleton.elim _ _
  exact (key y1).trans (congrArg (arr m c).rv62 (emb y1).symm)

end Cert.Proof.Attn
-- ==== Proof.AttnFin3.lean ====
/- Result arrays of the kernel after the run, entry by entry. -/
module

public import proofs.«01_k».proof.Proof.AttnArr

@[expose] public section

set_option maxRecDepth 16384
noncomputable section
open Idealize.ShloMosaic Idealize.ShloMosaic.TcCoe Idealize.SL.Sem
open Cert.Proof.Row Cert.AttnIdeal Cert.AttnIdeal.Gen
open scoped BigOperators
namespace Cert.Proof.Attn

variable (m : (ℓ : Loc nD τ sig) → Buf (Elt Ideal) ℓ) (c : Dev nD)

theorem hzero_13 (j : S1024x1536.Idx) : k0_pay88 (F := Ideal) j = 0 := by pointwise! [k0_pay88]
theorem hpay_13 (v358 : FVec Ideal S1024x1536 .f32) (v394 : Vec Ideal S1024x1536 .f32) (j : S1024x1536.Idx) :
    k0_pay92 v358 v394 j = v394 j + v358 j := by pointwise [k0_pay92]

set_option maxHeartbeats 2000000 in
/-- The gradient of the projection's matrix. -/
theorem final_13 : (dats m 0 c).arrAt 13 (cfgs 0).N = (arr m c).rv103 := by
  refine (dats m 0 c).arrAt_eq_of_covers 13 _ (by decide +kernel) fun t hf y => ?_
  have ht : t.val / 26 = 0 := Nat.div_eq_of_lt (lt_of_lt_of_eq t.isLt (by decide))
  have key : ∀ (k : Fin 1024) (n : Fin 1536), ∑ s : Fin 26, (blk m c ⟨26 * (t.val / 26) + s.val,
      Pipeline.run_point_lt_of_flush t ((flush0_13 t).mp hf) s⟩).t358 (ix2 k n) = (arr m c).rv103 (ix2 k n) := by
    intro k n
    rw [Arr.at103, ← sum_rows]
    refine Finset.sum_congr rfl fun s _ => ?_
    rw [Blk.at358]
    refine Finset.sum_congr rfl fun p _ => ?_
    rw [row_eq]
    simp only [ht, Nat.mul_zero, Nat.zero_add]
  have emb : ∀ (k : Fin 1024) (n : Fin 1536), ((cfg0.win 13).blk t).view.emb (ix2 k n) = (ix2 k n) := by
    intro k n; blk_ext [idx t]
  blk_simp
  rw [after0_13, Pipeline.eq_sum_fin_of_reset_step_apply_of_flush (fun n h => (outsAt0 m c n h).2.2.2.2) 26 (fun _ => 0)
    (fun t j => (blk m c t).t358 j)
    (fun t h j => by rw [outsAt0_A m c t h]; frame_out; rw [hpay_13, hzero_13]; rfl)
    (fun t h j => by rw [outsAt0_B m c t h]; frame_out; rw [hpay_13]; rfl)
    t ((flush0_13 t).mp hf) _, zero_add]
  idx_vars y
  exact (key y0 y1).trans (congrArg (arr m c).rv103 (emb y0 y1).symm)

end Cert.Proof.Attn
-- ==== Proof.AttnClaim.lean ====
/- The claims about the backward pass of the attention layer's projections: the frames, and that its results are those of the reference. -/
module

public import proofs.«01_k».proof.Proof.AttnFin1
public import proofs.«01_k».proof.Proof.AttnFin2
public import proofs.«01_k».proof.Proof.AttnFin3
public import proofs.«01_k».proof.Defs
public import proofs.«01_k».proof.Proof.Gen.Attn.Frame

@[expose] public section

set_option maxRecDepth 16384
noncomputable section
open Idealize.ShloMosaic Idealize.ShloMosaic.TcCoe Idealize.SL.Sem
namespace Cert.Proof.Attn

section
open Cert.AttnRefIdeal Cert.AttnRefIdeal.Gen Cert.AttnRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

set_option maxHeartbeats 2000000 in
theorem res_124 : (addf (addf (addf (rarr m c).a8 (mulf (res_main_v109 (launchContents m c)) (broadcastInDim S8320x1024 ![0, 1] bcast_S8320x1_S8320x1024_0_1 (res_main_v7 (launchContents m c))))) (mulf (rarr m c).a0 (res_main_v120 (launchContents m c)))) (mulf (res_main_v120 (launchContents m c)) (rarr m c).a0) : FVec Ideal S8320x1024 .f32) = (rarr m c).rv124 := rfl
set_option maxHeartbeats 2000000 in
theorem res_107 : (shapeCast _ (Host.reduceAdd (mulf (res_main_v12 (launchContents m c)) (res_main_v104 (launchContents m c))) (constant S_ .f32 0x00000000#32) reducesTo_S8320x1024_S1024_d0 h_S_) shapeCasts_S1024_S1x1024 : FVec Ideal S1x1024 .f32) = (rarr m c).rv107 := rfl
set_option maxHeartbeats 2000000 in
theorem res_85 : (broadcastInDim S1x128 ![1] bcast_S128_S1x128_1 (Host.reduceAdd (shapeCast _ (Host.reduceAdd (mulf (res_main_v32 (launchContents m c)) (res_main_v78 (launchContents m c))) (constant S_ .f32 0x00000000#32) reducesTo_S8320x4x128_S128_d0_1 h_S_) shapeCasts_S128_S1x1x128) (constant S_ .f32 0x00000000#32) reducesTo_S1x1x128_S128_d0_1 h_S_) : FVec Ideal S1x128 .f32) = (rarr m c).rv85 := rfl
set_option maxHeartbeats 2000000 in
theorem res_62 : (broadcastInDim S1x128 ![1] bcast_S128_S1x128_1 (Host.reduceAdd (shapeCast _ (Host.reduceAdd (mulf (res_main_v50 (launchContents m c)) (res_main_v55 (launchContents m c))) (constant S_ .f32 0x00000000#32) reducesTo_S8320x4x128_S128_d0_1 h_S_) shapeCasts_S128_S1x1x128) (constant S_ .f32 0x00000000#32) reducesTo_S1x1x128_S128_d0_1 h_S_) : FVec Ideal S1x128 .f32) = (rarr m c).rv62 := rfl
set_option maxHeartbeats 2000000 in
theorem res_103 : (transpose S1024x1536 [1, 0] (Host.dotGeneral (φ₁ := .f32) (φ₂ := .f32) dot_S8320x1536_S8320x1024_S1536x1024_0_0_1_1_n_n none (res_main_v101 (launchContents m c)) (res_main_v14 (launchContents m c))) transposes_S1536x1024_S1024x1536_1_0 : FVec Ideal S1024x1536 .f32) = (rarr m c).rv103 := rfl
end

theorem frame_p : Cert.quiescent_Attn := fun m ρ _ => Cert.Attn.Gen.frame m ρ
theorem frame_pi : Cert.quiescent_AttnIdeal := fun m ρ _ => Cert.AttnIdeal.Gen.frame m ρ
theorem frame_ri : Cert.quiescent_AttnRefIdeal := fun m ρ _ =>
  (θ_run Cert.AttnRefIdeal.defs _ _).mono (fun r h => ⟨fun c => (h c).2.2.2.2.2,
      Idealize.ShloMosaic.sem_eq_zero_of_no_sems (by decide) r.2⟩)
    (Cert.AttnRefIdeal.Value.run (F := Ideal) m ρ)

theorem algebraic : Cert.algebraic_AttnIdeal_AttnRefIdeal := by
  intro m ρ m' ρ' _ hag
  have e : ∀ c, rarr m' c = arr m c := by
    intro c
    obtain ⟨h0, h1, h2, h3, h4, h5, h6, h7, h8⟩ := hag c
    simp only [rarr, arr]
    rw [h0, h1, h2, h3, h4, h5, h6, h7, h8]
  refine ⟨fun c => (arr m c).rv124, fun c => (arr m c).rv107, fun c => (arr m c).rv85, fun c => (arr m c).rv62, fun c => (arr m c).rv103, ?_, ?_⟩
  · refine (θ_run Cert.AttnIdeal.defs _ _).mono (fun r h c => ?_) (Cert.AttnIdeal.Value.run_blocks (F := Ideal) m ρ)
    obtain ⟨g9, g10, g11, g12, g13, g⟩ := h c
    exact ⟨g9.trans (final_9 m c), g10.trans (final_10 m c), g11.trans (final_11 m c), g12.trans (final_12 m c), g13.trans (final_13 m c), g⟩
  · refine (θ_run Cert.AttnRefIdeal.defs _ _).mono (fun r h c => ?_) (Cert.AttnRefIdeal.Value.run (F := Ideal) m' ρ')
    obtain ⟨g0, g1, g2, g3, g4, g⟩ := h c
    exact ⟨g0.trans ((res_124 m' c).trans (congrArg Arr.rv124 (e c))), g1.trans ((res_107 m' c).trans (congrArg Arr.rv107 (e c))), g2.trans ((res_85 m' c).trans (congrArg Arr.rv85 (e c))), g3.trans ((res_62 m' c).trans (congrArg Arr.rv62 (e c))), g4.trans ((res_103 m' c).trans (congrArg Arr.rv103 (e c))), g⟩

end Cert.Proof.Attn
-- ==== Proof.Mask.lean ====
/- The mask of the padding rows: one from row 112 on, zero before, in the two ways the programs convert the
   comparison to a number. -/
module

public import Idealize.ShloMosaic.Lib.Pointwise

@[expose] public section

noncomputable section
open Idealize.ShloMosaic
namespace Cert.Proof.Row

/-- Whether the row of number `w` counts, as a number: one from row 112 on and zero before. -/
def live (w : BitVec 32) : EReal := FloatOps.uitofp (F := Ideal) FTy.f32 (IntOp.cmpi .sge w 112#32)

theorem live_uitofp (w : BitVec 32) :
    FloatOps.uitofp (F := Ideal) FTy.f32 (IntOp.cmpi .sge w 112#32) = live w := rfl

/-- A one-bit number widened and read as signed is what it is read as unsigned. -/
theorem toInt_setWidth (b : BitVec 1) : (b.setWidth 32).toInt = (b.toNat : Int) := by
  revert b; decide

theorem live_sitofp (w : BitVec 32) :
    FloatOps.sitofp (F := Ideal) FTy.f32 (BitVec.setWidth 32 (IntOp.cmpi .sge w 112#32)) = live w := by
  show (((BitVec.setWidth 32 (IntOp.cmpi .sge w 112#32)).toInt : ℝ) : EReal) = (((IntOp.cmpi .sge w 112#32).toNat : ℝ) : EReal)
  rw [toInt_setWidth]; norm_cast

end Cert.Proof.Row
-- ==== Proof.HgrnSpec.lean ====
/- One row of the backward pass of the HGRN2 layer's projections, on plain functions over the extended reals. -/
module

public import proofs.«01_k».proof.Proof.Heads
public import proofs.«01_k».proof.Proof.Mask

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.Hgrn

/-- What a row of the stage reads. -/
structure In where
  h : Fin 1024 → EReal
  nw : Fin 1024 → EReal
  lb : Fin 512 → EReal
  w : Fin 1024 → Fin 1536 → EReal
  dq : Fin 512 → EReal
  dk : Fin 512 → EReal
  dv : Fin 512 → EReal
  dg : Fin 512 → EReal
  dh : Fin 1024 → EReal
  /-- One on the rows that count, zero on the padding before them. -/
  live : EReal

namespace In
variable (i : In)

def xh (k : Fin 1024) : EReal := i.h k * rinv n1024 i.h
def xn (k : Fin 1024) : EReal := i.xh k * i.nw k
/-- The projections: queries, forget gates and values side by side. -/
def raw (m : Fin 1536) : EReal := ∑ k, i.xn k * i.w k m
def q (n : Fin 512) : EReal := i.raw (c3 0 n)
def f (n : Fin 512) : EReal := i.raw (c3 1 n)
/-- The forget gate, whose logarithm the stage hands on, and the gradient of it. -/
def den (n : Fin 512) : EReal := i.lb n + (1 - i.lb n) * sg (i.f n)
@[inherit_doc den] def dden (n : Fin 512) : EReal := Ideal.div (i.dg n) (i.den n)
/-- The gradients of the three projections. -/
def gq (n : Fin 512) : EReal := i.dq n * sg (i.q n) + i.q n * i.dq n * dsg (i.q n)
@[inherit_doc gq] def gf (n : Fin 512) : EReal :=
  -((1 - i.lb n) * i.dk n * dsg (-i.f n)) + (1 - i.lb n) * i.dden n * dsg (i.f n)
@[inherit_doc gq] def gv (n : Fin 512) : EReal := i.dv n * i.live
/-- The gradient of the projections side by side. -/
def draw (m : Fin 1536) : EReal := pick (cs m) (i.gq (cn m)) (i.gf (cn m)) (i.gv (cn m))
def dxn (k : Fin 1024) : EReal := ∑ m, i.draw m * i.w k m
/-- The gradient of the row. -/
def gh (k : Fin 1024) : EReal := back n1024 i.h (fun k => i.dxn k * i.nw k) k + i.dh k
/-- What the row adds to the gradients of the weights. -/
def gnw (k : Fin 1024) : EReal := i.xh k * i.dxn k
@[inherit_doc gnw] def gw (k : Fin 1024) (m : Fin 1536) : EReal := i.xn k * i.draw m

end In
end Cert.Proof.Hgrn
-- ==== Proof.HgrnTile.lean ====
/- The kernel's block of 320 rows, entry by entry: the values of the body are the row mathematics of
   `HgrnSpec` on the block's rows. -/
module

public import proofs.«01_k».proof.Proof.HgrnSpec
public import proofs.«01_k».proof.Proof.Gen.HgrnIdeal.Skeleton

@[expose] public section

set_option maxRecDepth 16384
noncomputable section
open Idealize.ShloMosaic Cert.Proof.Row Cert.HgrnIdeal Cert.HgrnIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.Hgrn

/-- The blocks one grid point reads. -/
structure Blk where
  x0 : Vec Ideal S320x1024 .f32
  x1 : Vec Ideal S1x1024 .f32
  x2 : Vec Ideal S1x512 .f32
  x3 : Vec Ideal S1024x1536 .bf16
  x4 : Vec Ideal S320x512 .f32
  x5 : Vec Ideal S320x512 .f32
  x6 : Vec Ideal S320x512 .f32
  x7 : Vec Ideal S320x512 .f32
  x8 : Vec Ideal S320x1024 .f32
  num : BitVec 32

namespace Blk
variable (b : Blk)

/-- Row `p` of the blocks. -/
def row (p : Fin 320) : In where
  h k := b.x0 (ix2 p k)
  nw k := b.x1 (ix2 0 k)
  lb k := b.x2 (ix2 0 k)
  w k n := b.x3 (ix2 k n)
  dq k := b.x4 (ix2 p k)
  dk k := b.x5 (ix2 p k)
  dv k := b.x6 (ix2 p k)
  dg k := b.x7 (ix2 p k)
  dh k := b.x8 (ix2 p k)
  live := Row.live (IntOp.addi b.num (BitVec.ofNat 32 p.val))

section
variable (p : Fin 320)
theorem row_h (k : Fin 1024) : (b.row p).h k = b.x0 (ix2 p k) := rfl
theorem row_nw (k : Fin 1024) : (b.row p).nw k = b.x1 (ix2 0 k) := rfl
theorem row_lb (k : Fin 512) : (b.row p).lb k = b.x2 (ix2 0 k) := rfl
theorem row_w (k : Fin 1024) (n : Fin 1536) : (b.row p).w k n = b.x3 (ix2 k n) := rfl
theorem row_dq (k : Fin 512) : (b.row p).dq k = b.x4 (ix2 p k) := rfl
theorem row_dk (k : Fin 512) : (b.row p).dk k = b.x5 (ix2 p k) := rfl
theorem row_dv (k : Fin 512) : (b.row p).dv k = b.x6 (ix2 p k) := rfl
theorem row_dg (k : Fin 512) : (b.row p).dg k = b.x7 (ix2 p k) := rfl
theorem row_dh (k : Fin 1024) : (b.row p).dh k = b.x8 (ix2 p k) := rfl
theorem row_live : (b.row p).live = Row.live (IntOp.addi b.num (BitVec.ofNat 32 p.val)) := rfl
end

def t13 := k0_pay5 (F := Ideal) b.x0
def t14 := k0_pay6 (F := Ideal) b.x0
def t17 := k0_pay7 (F := Ideal) b.x0
def t19 := k0_pay8 (F := Ideal) b.x0
def t21 := k0_pay9 (F := Ideal) b.x0 b.x1
def t5 := k0_pay4 (F := Ideal) b.x3
def t23 := k0_pay10 (F := Ideal) b.x0 b.x1 b.x3
def t24 := k0_pay11 (F := Ideal) b.x0 b.x1 b.x3
def t37 := k0_pay15 (F := Ideal) b.x0 b.x1 b.x3
def t27 := k0_pay12 (F := Ideal) b.x0 b.x1 b.x3
def t32 := k0_pay13 (F := Ideal) b.x0 b.x1 b.x3
def t36 := k0_pay14 (F := Ideal) b.x0 b.x1 b.x3
def t39 := k0_pay16 (F := Ideal) b.x2 (Scalar.ofBits (F := Ideal) .f32 0x3F800000#32)
def t57 := k0_pay21 (F := Ideal) b.x2
def t42 := k0_pay17 (F := Ideal) b.t37
def t47 := k0_pay18 (F := Ideal) b.t37
def t51 := k0_pay19 (F := Ideal) b.t37
def t55 := k0_pay20 (F := Ideal) b.x2 b.t37 (Scalar.ofBits (F := Ideal) .f32 0x3F800000#32)
def t62 := k0_pay22 (F := Ideal) b.t37
def t67 := k0_pay23 (F := Ideal) b.t37
def t78 := k0_pay25 (F := Ideal) b.num
def t83 := k0_pay26 (F := Ideal) b.t55 b.x7
def t124 := k0_pay29 (F := Ideal) b.t24 b.x4
def t123 := k0_pay28 (F := Ideal) b.t39 b.t47 b.t55 b.t57 b.t67 b.t78 b.x5 b.x6 b.x7
def t134 := k0_pay30 (F := Ideal) b.t32 b.t36 b.x4 b.t123 b.t124
def t136 := k0_pay31 (F := Ideal) b.t5 b.t32 b.t36 b.x4 b.t123 b.t124
def t139 := k0_pay32 (F := Ideal) b.t21 b.t32 b.t36 b.x4 b.t123 b.t124
def t159 := k0_pay33 (F := Ideal) b.x0 b.x1 b.t5 b.t14 b.t17 b.t32 b.t36 b.x4 b.t123 b.t124
def t176 := k0_pay3 (F := Ideal) b.t159 b.x8

theorem fold13 : k0_pay5 (F := Ideal) b.x0 = b.t13 := rfl
theorem fold14 : k0_pay6 (F := Ideal) b.x0 = b.t14 := rfl
theorem fold19 : k0_pay8 (F := Ideal) b.x0 = b.t19 := rfl
theorem fold21 : k0_pay9 (F := Ideal) b.x0 b.x1 = b.t21 := rfl
theorem fold5 : k0_pay4 (F := Ideal) b.x3 = b.t5 := rfl
theorem fold23 : k0_pay10 (F := Ideal) b.x0 b.x1 b.x3 = b.t23 := rfl
theorem fold24 : k0_pay11 (F := Ideal) b.x0 b.x1 b.x3 = b.t24 := rfl
theorem fold27 : k0_pay12 (F := Ideal) b.x0 b.x1 b.x3 = b.t27 := rfl
theorem fold39 : k0_pay16 (F := Ideal) b.x2 (Scalar.ofBits (F := Ideal) .f32 0x3F800000#32) = b.t39 := rfl
theorem fold42 : k0_pay17 (F := Ideal) b.t37 = b.t42 := rfl
theorem fold51 : k0_pay19 (F := Ideal) b.t37 = b.t51 := rfl
theorem fold62 : k0_pay22 (F := Ideal) b.t37 = b.t62 := rfl
theorem fold83 : k0_pay26 (F := Ideal) b.t55 b.x7 = b.t83 := rfl
theorem fold134 : k0_pay30 (F := Ideal) b.t32 b.t36 b.x4 b.t123 b.t124 = b.t134 := rfl
theorem fold136 : k0_pay31 (F := Ideal) b.t5 b.t32 b.t36 b.x4 b.t123 b.t124 = b.t136 := rfl

theorem at13 (p : Fin 320)(x : Fin 1) : b.t13 (ix2 p x) = ms n1024 (b.row p).h := by
  obtain rfl : x = 0 := Subsingleton.elim _ _
  pointwise [t13, k0_pay5, row_h, row_nw, row_lb, row_w, row_dq, row_dk, row_dv, row_dg, row_dh, row_live, ms]

theorem at14 (p : Fin 320)(x : Fin 1) : b.t14 (ix2 p x) = rinv n1024 (b.row p).h := by
  pointwise [t14, k0_pay6, fold13, at13, row_h, row_nw, row_lb, row_w, row_dq, row_dk, row_dv, row_dg, row_dh, row_live, rinv]

theorem at17 (p : Fin 320)(x : Fin 1) : b.t17 (ix2 p x) = co n1024 (b.row p).h := by
  pointwise [t17, k0_pay7, fold14, at14, fold13, at13, row_h, row_nw, row_lb, row_w, row_dq, row_dk, row_dv, row_dg, row_dh, row_live, co]

theorem at19 (p : Fin 320)(k : Fin 1024) : b.t19 (ix2 p k) = (b.row p).xh k := by
  pointwise [t19, k0_pay8, fold14, at14, row_h, row_nw, row_lb, row_w, row_dq, row_dk, row_dv, row_dg, row_dh, row_live, In.xh]

theorem at21 (p : Fin 320)(k : Fin 1024) : b.t21 (ix2 p k) = (b.row p).xn k := by
  pointwise [t21, k0_pay9, fold19, at19, row_h, row_nw, row_lb, row_w, row_dq, row_dk, row_dv, row_dg, row_dh, row_live, In.xn]

theorem at5 (k : Fin 1024)(m : Fin 1536) : b.t5 (ix2 k m) = b.x3 (ix2 k m) := by
  pointwise [t5, k0_pay4, row_h, row_nw, row_lb, row_w, row_dq, row_dk, row_dv, row_dg, row_dh, row_live]

theorem at23 (p : Fin 320)(m : Fin 1536) : b.t23 (ix2 p m) = (b.row p).raw m := by
  pointwise [t23, k0_pay10, fold21, at21, fold5, at5, row_h, row_nw, row_lb, row_w, row_dq, row_dk, row_dv, row_dg, row_dh, row_live, In.raw]

theorem at24 (p : Fin 320)(n : Fin 512) : b.t24 (ix2 p n) = (b.row p).q n := by
  pointwise [t24, k0_pay11, fold23, at23, row_h, row_nw, row_lb, row_w, row_dq, row_dk, row_dv, row_dg, row_dh, row_live, In.q, c30]

theorem at37 (p : Fin 320)(n : Fin 512) : b.t37 (ix2 p n) = (b.row p).f n := by
  pointwise [t37, k0_pay15, fold23, at23, row_h, row_nw, row_lb, row_w, row_dq, row_dk, row_dv, row_dg, row_dh, row_live, In.f, c31]

theorem at27 (p : Fin 320)(n : Fin 512) : b.t27 (ix2 p n) = Ideal.tanh (half * (b.row p).q n) := by
  pointwise [t27, k0_pay12, fold24, at24, row_h, row_nw, row_lb, row_w, row_dq, row_dk, row_dv, row_dg, row_dh, row_live]

theorem at32 (p : Fin 320)(n : Fin 512) : b.t32 (ix2 p n) = (1 + Ideal.tanh (half * (b.row p).q n)) * (1 - Ideal.tanh (half * (b.row p).q n)) := by
  pointwise [t32, k0_pay13, fold27, at27, row_h, row_nw, row_lb, row_w, row_dq, row_dk, row_dv, row_dg, row_dh, row_live]

theorem at36 (p : Fin 320)(n : Fin 512) : b.t36 (ix2 p n) = sg ((b.row p).q n) := by
  pointwise [t36, k0_pay14, fold27, at27, row_h, row_nw, row_lb, row_w, row_dq, row_dk, row_dv, row_dg, row_dh, row_live, sg_tanh]

theorem at39 (x : Fin 1) (n : Fin 512) : b.t39 (ix2 x n) = 1 - b.x2 (ix2 0 n) := by
  obtain rfl : x = 0 := Subsingleton.elim _ _
  pointwise [t39, k0_pay16, row_h, row_nw, row_lb, row_w, row_dq, row_dk, row_dv, row_dg, row_dh, row_live]

theorem at57 (x : Fin 1) (n : Fin 512) : b.t57 (ix2 x n) = 1 - b.x2 (ix2 0 n) := by
  obtain rfl : x = 0 := Subsingleton.elim _ _
  pointwise [t57, k0_pay21, row_h, row_nw, row_lb, row_w, row_dq, row_dk, row_dv, row_dg, row_dh, row_live]

theorem at42 (p : Fin 320)(n : Fin 512) : b.t42 (ix2 p n) = Ideal.tanh (half * (b.row p).f n) := by
  pointwise [t42, k0_pay17, at37, row_h, row_nw, row_lb, row_w, row_dq, row_dk, row_dv, row_dg, row_dh, row_live]

theorem at47 (p : Fin 320)(n : Fin 512) : b.t47 (ix2 p n) = (1 + Ideal.tanh (half * (b.row p).f n)) * (1 - Ideal.tanh (half * (b.row p).f n)) := by
  pointwise [t47, k0_pay18, at37, fold42, at42, row_h, row_nw, row_lb, row_w, row_dq, row_dk, row_dv, row_dg, row_dh, row_live]

theorem at51 (p : Fin 320)(n : Fin 512) : b.t51 (ix2 p n) = sg ((b.row p).f n) := by
  pointwise [t51, k0_pay19, at37, fold42, at42, row_h, row_nw, row_lb, row_w, row_dq, row_dk, row_dv, row_dg, row_dh, row_live, sg_tanh]

theorem at55 (p : Fin 320)(n : Fin 512) : b.t55 (ix2 p n) = (b.row p).den n := by
  pointwise [t55, k0_pay20, at37, fold39, at39, fold51, at51, row_h, row_nw, row_lb, row_w, row_dq, row_dk, row_dv, row_dg, row_dh, row_live, In.den, k0_pay16]

theorem at62 (p : Fin 320)(n : Fin 512) : b.t62 (ix2 p n) = Ideal.tanh (half * (-(b.row p).f n)) := by
  pointwise [t62, k0_pay22, at37, row_h, row_nw, row_lb, row_w, row_dq, row_dk, row_dv, row_dg, row_dh, row_live, zero_sub]

theorem at67 (p : Fin 320)(n : Fin 512) : b.t67 (ix2 p n) = (1 + Ideal.tanh (half * (-(b.row p).f n))) * (1 - Ideal.tanh (half * (-(b.row p).f n))) := by
  pointwise [t67, k0_pay23, at37, fold62, at62, row_h, row_nw, row_lb, row_w, row_dq, row_dk, row_dv, row_dg, row_dh, row_live]

theorem at78 (p : Fin 320)(x : Fin 1) : b.t78 (ix2 p x) = (b.row p).live := by
  obtain rfl : x = 0 := Subsingleton.elim _ _
  pointwise [t78, k0_pay25, row_h, row_nw, row_lb, row_w, row_dq, row_dk, row_dv, row_dg, row_dh, row_live, live_sitofp]

theorem at83 (p : Fin 320)(n : Fin 512) : b.t83 (ix2 p n) = (b.row p).dden n := by
  pointwise [t83, k0_pay26, at55, row_h, row_nw, row_lb, row_w, row_dq, row_dk, row_dv, row_dg, row_dh, row_live, In.dden]

theorem at124 (p : Fin 320)(n : Fin 512) : b.t124 (ix2 p n) = (b.row p).q n * (b.row p).dq n := by
  pointwise [t124, k0_pay29, at24, row_h, row_nw, row_lb, row_w, row_dq, row_dk, row_dv, row_dg, row_dh, row_live]

theorem at123 (p : Fin 320) (s : Fin 3) (n : Fin 512) : b.t123 (ix2 p (c3 s n)) = pick s 0 ((b.row p).gf n) ((b.row p).gv n) := by
  pointwise [t123, k0_pay28, at39, at47, at55, at57, at67, at78, fold83, at83, row_h, row_nw, row_lb, row_w, row_dq, row_dk, row_dv, row_dg, row_dh, row_live]
  rcases three s with rfl | rfl | rfl
  all_goals try simp (disch := omega) only [c30v, c31v, c32v, pick0, pick1, pick2, dif_pos, dif_neg, Nat.sub_add_comm, Nat.reduceSub, Nat.sub_self, Nat.add_sub_cancel_left, Nat.zero_add, Fin.eta, zero_add, add_zero]
  all_goals try simp only [at39, at47, at55, at57, at67, at78, at83, row_h, row_nw, row_lb, row_w, row_dq, row_dk, row_dv, row_dg, row_dh, row_live, In.gf, In.gv, zero_sub, dsg_tanh, zero_add, add_zero]

theorem at134 (p : Fin 320) (s : Fin 3) (n : Fin 512) : b.t134 (ix2 p (c3 s n)) = pick s ((b.row p).gq n) ((b.row p).gf n) ((b.row p).gv n) := by
  pointwise [t134, k0_pay30, at32, at36, at123, at124, row_h, row_nw, row_lb, row_w, row_dq, row_dk, row_dv, row_dg, row_dh, row_live]
  rcases three s with rfl | rfl | rfl
  all_goals try simp (disch := omega) only [c30v, c31v, c32v, pick0, pick1, pick2, dif_pos, dif_neg, Nat.sub_add_comm, Nat.reduceSub, Nat.sub_self, Nat.add_sub_cancel_left, Nat.zero_add, Fin.eta, zero_add, add_zero]
  all_goals try simp only [at32, at36, at123, at124, row_h, row_nw, row_lb, row_w, row_dq, row_dk, row_dv, row_dg, row_dh, row_live, In.gq, dsg_tanh, zero_add, add_zero, pick0, pick1, pick2]

theorem at134m (p : Fin 320) (m : Fin 1536) : b.t134 (ix2 p m) = (b.row p).draw m := by
  conv_lhs => rw [← c3_cs_cn m]
  rw [at134]; rfl

theorem at136 (p : Fin 320)(k : Fin 1024) : b.t136 (ix2 p k) = (b.row p).dxn k := by
  pointwise [t136, k0_pay31, at5, at32, at36, at123, at124, fold134, at134m, row_h, row_nw, row_lb, row_w, row_dq, row_dk, row_dv, row_dg, row_dh, row_live, In.dxn]

theorem at139 (k : Fin 1024)(m : Fin 1536) : b.t139 (ix2 k m) = ∑ p, (b.row p).gw k m := by
  pointwise [t139, k0_pay32, at21, at32, at36, at123, at124, fold134, at134m, row_h, row_nw, row_lb, row_w, row_dq, row_dk, row_dv, row_dg, row_dh, row_live, In.gw]

theorem at176 (p : Fin 320)(k : Fin 1024) : b.t176 (ix2 p k) = (b.row p).gh k := by
  pointwise [t176, k0_pay3, t159, k0_pay33, at5, at14, at17, at32, at36, at123, at124, fold136, at136, row_h, row_nw, row_lb, row_w, row_dq, row_dk, row_dv, row_dg, row_dh, row_live, In.gh, back, pull]
  simp only [Fin.sum_univ_one]
  ac_nf

def c10 := k0_pay37 (F := Ideal) b.t5 b.t19 b.t32 b.t36 b.x4 b.t123 b.t124 (fun _ => 0)
theorem atc10 (k : Fin 1024) : b.c10 (ix2 0 k) = ∑ p, (b.row p).gnw k := by
  pointwise [c10, k0_pay37, fold136, at19, at136, In.gnw]

end Blk
end Cert.Proof.Hgrn
-- ==== Proof.HgrnRows.lean ====
/- The reference's values, entry by entry: the row mathematics of `HgrnSpec` on the rows of the reference's
   arguments, and each weight gradient the sum of the rows' shares. -/
module

public import proofs.«01_k».proof.Proof.HgrnSpec
public import proofs.«01_k».proof.Proof.Gen.HgrnRefIdeal.Run

@[expose] public section

set_option maxRecDepth 16384
noncomputable section
open Idealize.ShloMosaic Cert.Proof.Row Cert.HgrnRefIdeal Cert.HgrnRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.Hgrn

/-- The arguments of the reference. -/
structure Arr where
  a0 : FVec Ideal S8320x1024 .f32
  a1 : FVec Ideal S1x1024 .f32
  a2 : FVec Ideal S1x512 .f32
  a3 : FVec Ideal S1024x1536 .f32
  a4 : FVec Ideal S8320x512 .f32
  a5 : FVec Ideal S8320x512 .f32
  a6 : FVec Ideal S8320x512 .f32
  a7 : FVec Ideal S8320x512 .f32
  a8 : FVec Ideal S8320x1024 .f32

namespace Arr
variable (r : Arr)

/-- Row `t` of the arguments. -/
def row (t : Fin 8320) : In where
  h k := r.a0 (ix2 t k)
  nw k := r.a1 (ix2 0 k)
  lb k := r.a2 (ix2 0 k)
  w k n := r.a3 (ix2 k n)
  dq k := r.a4 (ix2 t k)
  dk k := r.a5 (ix2 t k)
  dv k := r.a6 (ix2 t k)
  dg k := r.a7 (ix2 t k)
  dh k := r.a8 (ix2 t k)
  live := Row.live (BitVec.ofNat 32 t.val)

section
variable (t : Fin 8320)
theorem row_h (k : Fin 1024) : (r.row t).h k = r.a0 (ix2 t k) := rfl
theorem row_nw (k : Fin 1024) : (r.row t).nw k = r.a1 (ix2 0 k) := rfl
theorem row_lb (k : Fin 512) : (r.row t).lb k = r.a2 (ix2 0 k) := rfl
theorem row_w (k : Fin 1024) (n : Fin 1536) : (r.row t).w k n = r.a3 (ix2 k n) := rfl
theorem row_dq (k : Fin 512) : (r.row t).dq k = r.a4 (ix2 t k) := rfl
theorem row_dk (k : Fin 512) : (r.row t).dk k = r.a5 (ix2 t k) := rfl
theorem row_dv (k : Fin 512) : (r.row t).dv k = r.a6 (ix2 t k) := rfl
theorem row_dg (k : Fin 512) : (r.row t).dg k = r.a7 (ix2 t k) := rfl
theorem row_dh (k : Fin 1024) : (r.row t).dh k = r.a8 (ix2 t k) := rfl
theorem row_live : (r.row t).live = Row.live (BitVec.ofNat 32 t.val) := rfl
end

def rv6 : FVec Ideal S8320x1 .f32 :=
  addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32))

def rv7 : FVec Ideal S8320x1 .f32 :=
  Host.rsqrt (r.rv6)

def rv10 : FVec Ideal S8320x1 .f32 :=
  mulf (broadcastInDim S8320x1 ![] bcast_S_S8320x1 (constant S_ .f32 0xBF000000#32)) (Host.divf (r.rv7) (r.rv6))

def rv12 : FVec Ideal S8320x1024 .f32 :=
  mulf r.a0 (broadcastInDim S8320x1024 ![0, 1] bcast_S8320x1_S8320x1024_0_1 (r.rv7))

def rv14 : FVec Ideal S8320x1024 .f32 :=
  mulf (r.rv12) (broadcastInDim S8320x1024 ![0, 1] bcast_S1x1024_S8320x1024_0_1 r.a1)

def rv15 : FVec Ideal S8320x1536 .f32 :=
  Host.dotGeneral dot_S8320x1024_S1024x1536_S8320x1536_1_0_0_1_n_n none (r.rv14) r.a3

def rv17 : FVec Ideal S8320x512 .f32 :=
  extractStridedSlice S8320x512 ![0, 512] (r.rv15) slices_S8320x1536_S8320x512_0_512

def rv23 (_ : Arr) : FVec Ideal S8320x1 .f32 :=
  uitofp .f32 (broadcastInDim S8320x1 ![0] bcast_S8320_S8320x1_0 (cmpi .sge (iotaInDim S8320 32 0) (broadcastInDim S8320 ![] bcast_S_S8320 (constantI S_ 32 112#32))))

def rv31 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (r.rv17))))

def rv34 : FVec Ideal S8320x512 .f32 :=
  mulf (r.rv31) (subf (broadcastInDim S8320x512 ![] bcast_S_S8320x512 (constant S_ .f32 0x3F800000#32)) (r.rv31))

def rv38 : FVec Ideal S8320x512 .f32 :=
  addf (broadcastInDim S8320x512 ![0, 1] bcast_S1x512_S8320x512_0_1 r.a2) (mulf (broadcastInDim S8320x512 ![0, 1] bcast_S1x512_S8320x512_0_1 (subf (broadcastInDim S1x512 ![] bcast_S_S1x512 (constant S_ .f32 0x3F800000#32)) r.a2)) (r.rv31))

def rv47 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (Host.negf (r.rv17)))))

def rv50 : FVec Ideal S8320x512 .f32 :=
  mulf (r.rv47) (subf (broadcastInDim S8320x512 ![] bcast_S_S8320x512 (constant S_ .f32 0x3F800000#32)) (r.rv47))

def rv53_2 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (extractStridedSlice S8320x512 ![0, 0] (r.rv15) slices_S8320x1536_S8320x512_0_0))))

def rv53_1 : FVec Ideal S8320x512 .f32 :=
  mulf (r.rv53_2) (subf (broadcastInDim S8320x512 ![] bcast_S_S8320x512 (constant S_ .f32 0x3F800000#32)) (r.rv53_2))

def rv57 : FVec Ideal S8320x512 .f32 :=
  Host.divf r.a7 (r.rv38)

def rv59 : FVec Ideal S8320x512 .f32 :=
  mulf r.a6 (broadcastInDim S8320x512 ![0, 1] bcast_S8320x1_S8320x512_0_1 (r.rv23))

def rv60 : FVec Ideal S8320x512 .f32 :=
  addf (mulf r.a4 (r.rv53_2)) (mulf (mulf (extractStridedSlice S8320x512 ![0, 0] (r.rv15) slices_S8320x1536_S8320x512_0_0) r.a4) (r.rv53_1))

def rv78 : FVec Ideal S8320x512 .f32 :=
  addf (Host.negf (mulf (mulf (broadcastInDim S8320x512 ![0, 1] bcast_S1x512_S8320x512_0_1 (subf (broadcastInDim S1x512 ![] bcast_S_S1x512 (constant S_ .f32 0x3F800000#32)) r.a2)) r.a5) (r.rv50))) (mulf (mulf (broadcastInDim S8320x512 ![0, 1] bcast_S1x512_S8320x512_0_1 (subf (broadcastInDim S1x512 ![] bcast_S_S1x512 (constant S_ .f32 0x3F800000#32)) r.a2)) (r.rv57)) (r.rv34))

def rv81 : FVec Ideal S8320x1536 .f32 :=
  (concatenate S8320x1536 1 [⟨S8320x512, ((r.rv60) : FVec Ideal S8320x512 .f32)⟩, ⟨S8320x512, ((r.rv78) : FVec Ideal S8320x512 .f32)⟩, ⟨S8320x512, ((r.rv59) : FVec Ideal S8320x512 .f32)⟩] concatenates_S8320x512_S8320x512_S8320x512_S8320x1536_d1 : FVec Ideal S8320x1536 .f32)

def rv83 : FVec Ideal S1024x1536 .f32 :=
  transpose S1024x1536 [1, 0] (Host.dotGeneral dot_S8320x1536_S8320x1024_S1536x1024_0_0_1_1_n_n none (r.rv81) (r.rv14)) transposes_S1536x1024_S1024x1536_1_0

def rv84 : FVec Ideal S8320x1024 .f32 :=
  Host.dotGeneral dot_S8320x1536_S1024x1536_S8320x1024_1_1_0_0_n_n none (r.rv81) r.a3

def rv87 : FVec Ideal S1x1024 .f32 :=
  shapeCast S1x1024 (Host.reduceAdd (mulf (r.rv12) (r.rv84)) (constant S_ .f32 0x00000000#32) reducesTo_S8320x1024_S1024_d0 h_S_) shapeCasts_S1024_S1x1024

def rv89 : FVec Ideal S8320x1024 .f32 :=
  mulf (r.rv84) (broadcastInDim S8320x1024 ![0, 1] bcast_S1x1024_S8320x1024_0_1 r.a1)

def rv100 : FVec Ideal S8320x1024 .f32 :=
  broadcastInDim S8320x1024 ![0] bcast_S8320_S8320x1024_0 (Host.reduceAdd (Host.divf (mulf (shapeCast S8320x1 (Host.reduceAdd (mulf r.a0 (r.rv89)) (constant S_ .f32 0x00000000#32) reducesTo_S8320x1024_S8320_d1 h_S_) shapeCasts_S8320_S8320x1) (r.rv10)) (broadcastInDim S8320x1 ![] bcast_S_S8320x1 (constant S_ .f32 0x44800000#32))) (constant S_ .f32 0x00000000#32) reducesTo_S8320x1_S8320_d1 h_S_)

def rv104 : FVec Ideal S8320x1024 .f32 :=
  addf (addf (addf r.a8 (mulf (r.rv89) (broadcastInDim S8320x1024 ![0, 1] bcast_S8320x1_S8320x1024_0_1 (r.rv7)))) (mulf r.a0 (r.rv100))) (mulf (r.rv100) r.a0)

theorem at6 (t : Fin 8320)(x : Fin 1) : r.rv6 (ix2 t x) = ms n1024 (r.row t).h := by
  obtain rfl : x = 0 := Subsingleton.elim _ _
  pointwise [rv6, row_h, row_nw, row_lb, row_w, row_dq, row_dk, row_dv, row_dg, row_dh, row_live, ms]

theorem at7 (t : Fin 8320)(x : Fin 1) : r.rv7 (ix2 t x) = rinv n1024 (r.row t).h := by
  pointwise [rv7, at6, row_h, row_nw, row_lb, row_w, row_dq, row_dk, row_dv, row_dg, row_dh, row_live, rinv]

theorem at10 (t : Fin 8320)(x : Fin 1) : r.rv10 (ix2 t x) = co n1024 (r.row t).h := by
  pointwise [rv10, at7, at6, row_h, row_nw, row_lb, row_w, row_dq, row_dk, row_dv, row_dg, row_dh, row_live, co]

theorem at12 (t : Fin 8320)(k : Fin 1024) : r.rv12 (ix2 t k) = (r.row t).xh k := by
  pointwise [rv12, at7, row_h, row_nw, row_lb, row_w, row_dq, row_dk, row_dv, row_dg, row_dh, row_live, In.xh]

theorem at14 (t : Fin 8320)(k : Fin 1024) : r.rv14 (ix2 t k) = (r.row t).xn k := by
  pointwise [rv14, at12, row_h, row_nw, row_lb, row_w, row_dq, row_dk, row_dv, row_dg, row_dh, row_live, In.xn]

theorem at15 (t : Fin 8320)(m : Fin 1536) : r.rv15 (ix2 t m) = (r.row t).raw m := by
  pointwise [rv15, at14, row_h, row_nw, row_lb, row_w, row_dq, row_dk, row_dv, row_dg, row_dh, row_live, In.raw]

theorem at17 (t : Fin 8320)(n : Fin 512) : r.rv17 (ix2 t n) = (r.row t).f n := by
  pointwise [rv17, at15, row_h, row_nw, row_lb, row_w, row_dq, row_dk, row_dv, row_dg, row_dh, row_live, In.f, c31]

theorem at23 (t : Fin 8320)(x : Fin 1) : r.rv23 (ix2 t x) = (r.row t).live := by
  pointwise [rv23, row_h, row_nw, row_lb, row_w, row_dq, row_dk, row_dv, row_dg, row_dh, row_live, live_uitofp]

theorem at31 (t : Fin 8320)(n : Fin 512) : r.rv31 (ix2 t n) = sg ((r.row t).f n) := by
  pointwise [rv31, at17, row_h, row_nw, row_lb, row_w, row_dq, row_dk, row_dv, row_dg, row_dh, row_live, sg]

theorem at34 (t : Fin 8320)(n : Fin 512) : r.rv34 (ix2 t n) = dsg ((r.row t).f n) := by
  pointwise [rv34, at31, row_h, row_nw, row_lb, row_w, row_dq, row_dk, row_dv, row_dg, row_dh, row_live, dsg]

theorem at38 (t : Fin 8320)(n : Fin 512) : r.rv38 (ix2 t n) = (r.row t).den n := by
  pointwise [rv38, at31, row_h, row_nw, row_lb, row_w, row_dq, row_dk, row_dv, row_dg, row_dh, row_live, In.den]

theorem at47 (t : Fin 8320)(n : Fin 512) : r.rv47 (ix2 t n) = sg (-(r.row t).f n) := by
  pointwise [rv47, at17, row_h, row_nw, row_lb, row_w, row_dq, row_dk, row_dv, row_dg, row_dh, row_live, sg]

theorem at50 (t : Fin 8320)(n : Fin 512) : r.rv50 (ix2 t n) = dsg (-(r.row t).f n) := by
  pointwise [rv50, at47, row_h, row_nw, row_lb, row_w, row_dq, row_dk, row_dv, row_dg, row_dh, row_live, dsg]

theorem at53_2 (t : Fin 8320)(n : Fin 512) : r.rv53_2 (ix2 t n) = sg ((r.row t).q n) := by
  pointwise [rv53_2, at15, row_h, row_nw, row_lb, row_w, row_dq, row_dk, row_dv, row_dg, row_dh, row_live, sg, In.q, c30]

theorem at53_1 (t : Fin 8320)(n : Fin 512) : r.rv53_1 (ix2 t n) = dsg ((r.row t).q n) := by
  pointwise [rv53_1, at53_2, row_h, row_nw, row_lb, row_w, row_dq, row_dk, row_dv, row_dg, row_dh, row_live, dsg]

theorem at57 (t : Fin 8320)(n : Fin 512) : r.rv57 (ix2 t n) = (r.row t).dden n := by
  pointwise [rv57, at38, row_h, row_nw, row_lb, row_w, row_dq, row_dk, row_dv, row_dg, row_dh, row_live, In.dden]

theorem at59 (t : Fin 8320)(n : Fin 512) : r.rv59 (ix2 t n) = (r.row t).gv n := by
  pointwise [rv59, at23, row_h, row_nw, row_lb, row_w, row_dq, row_dk, row_dv, row_dg, row_dh, row_live, In.gv]

theorem at60 (t : Fin 8320)(n : Fin 512) : r.rv60 (ix2 t n) = (r.row t).gq n := by
  pointwise [rv60, at53_2, at15, at53_1, row_h, row_nw, row_lb, row_w, row_dq, row_dk, row_dv, row_dg, row_dh, row_live, In.gq, In.q, c30]

theorem at78 (t : Fin 8320)(n : Fin 512) : r.rv78 (ix2 t n) = (r.row t).gf n := by
  pointwise [rv78, at50, at57, at34, row_h, row_nw, row_lb, row_w, row_dq, row_dk, row_dv, row_dg, row_dh, row_live, In.gf]

theorem at81p (t : Fin 8320) (s : Fin 3) (n : Fin 512) : r.rv81 (ix2 t (c3 s n)) = pick s ((r.row t).gq n) ((r.row t).gf n) ((r.row t).gv n) := by
  pointwise [rv81, at60, at78, at59]
  rcases three s with rfl | rfl | rfl
  all_goals
    simp (disch := omega) only [c30v, c31v, c32v, pick0, pick1, pick2, dif_pos, dif_neg, Nat.sub_add_comm, Nat.reduceSub, Nat.sub_self, Nat.add_sub_cancel_left, Nat.zero_add, Fin.eta]

theorem at81 (t : Fin 8320) (m : Fin 1536) : r.rv81 (ix2 t m) = (r.row t).draw m := by
  conv_lhs => rw [← c3_cs_cn m]
  exact r.at81p t _ _

theorem at84 (t : Fin 8320)(k : Fin 1024) : r.rv84 (ix2 t k) = (r.row t).dxn k := by
  pointwise [rv84, at81, row_h, row_nw, row_lb, row_w, row_dq, row_dk, row_dv, row_dg, row_dh, row_live, In.dxn]

theorem at83 (k : Fin 1024)(m : Fin 1536) : r.rv83 (ix2 k m) = ∑ t, (r.row t).gw k m := by
  pointwise [rv83, at81, at14, row_h, row_nw, row_lb, row_w, row_dq, row_dk, row_dv, row_dg, row_dh, row_live, In.gw]
  <;> first | done | exact Finset.sum_congr rfl fun t _ => mul_comm _ _

theorem at87 (k : Fin 1024) : r.rv87 (ix2 0 k) = ∑ t, (r.row t).gnw k := by
  pointwise [rv87, at12, at84, row_h, row_nw, row_lb, row_w, row_dq, row_dk, row_dv, row_dg, row_dh, row_live, In.gnw]

theorem at89 (t : Fin 8320)(k : Fin 1024) : r.rv89 (ix2 t k) = (r.row t).dxn k * (r.row t).nw k := by
  pointwise [rv89, at84, row_h, row_nw, row_lb, row_w, row_dq, row_dk, row_dv, row_dg, row_dh, row_live]

theorem at100 (t : Fin 8320)(k : Fin 1024) : r.rv100 (ix2 t k) = pull n1024 (r.row t).h (fun k => (r.row t).dxn k * (r.row t).nw k) := by
  pointwise [rv100, at89, at10, row_h, row_nw, row_lb, row_w, row_dq, row_dk, row_dv, row_dg, row_dh, row_live, pull]
  simp only [Fin.sum_univ_one]

theorem at104 (t : Fin 8320)(k : Fin 1024) : r.rv104 (ix2 t k) = (r.row t).gh k := by
  pointwise [rv104, at89, at7, at100, row_h, row_nw, row_lb, row_w, row_dq, row_dk, row_dv, row_dg, row_dh, row_live, In.gh, back]
  ac_nf

end Arr
end Cert.Proof.Hgrn
-- ==== Proof.HgrnArr.lean ====
/- The kernel's windows: which rows of the argument arrays a grid point reads. -/
module

public import proofs.«01_k».proof.Proof.HgrnTile
public import proofs.«01_k».proof.Proof.HgrnRows
public import proofs.«01_k».proof.Proof.Gen.HgrnIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.HgrnIdeal Cert.HgrnIdeal.Gen
open scoped BigOperators
namespace Cert.Proof.Hgrn

variable (m : (ℓ : Loc nD τ sig) → Buf (Elt Ideal) ℓ) (c : Dev nD)

/-- Every window's block index at a grid point. -/
theorem idx : ∀ t : Fin cfg0.N, win0_0.index t = ![25 - t.val, 0]
    ∧ win0_1.index t = ![0, 0]
    ∧ win0_2.index t = ![0, 0]
    ∧ win0_3.index t = ![0, 0]
    ∧ win0_4.index t = ![25 - t.val, 0]
    ∧ win0_5.index t = ![25 - t.val, 0]
    ∧ win0_6.index t = ![25 - t.val, 0]
    ∧ win0_7.index t = ![25 - t.val, 0]
    ∧ win0_8.index t = ![25 - t.val, 0]
    ∧ win0_9.index t = ![25 - t.val, 0]
    ∧ win0_10.index t = ![0, 0]
    ∧ win0_11.index t = ![0, 0]
    ∧ win0_12.index t = ![0, 0] :=
  (by decide +kernel : ∀ t : Fin grid0.N, _)

/-- The number of the first row of grid point `t`. -/
theorem num : ∀ t : Fin cfg0.N, Scalar.muli (Scalar.subi 25#32 (BitVec.ofNat 32 ((grid0.coords t) 0).val)) 320#32 = BitVec.ofNat 32 ((25 - t.val) * 320) :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t, iblk m c 7 t, iblk m c 8 t, Scalar.muli (Scalar.subi 25#32 (BitVec.ofNat 32 ((grid0.coords t) 0).val)) 320#32⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

/-- The array row that grid point `s` reads as its row `p`. -/
def rowAt (s : Nat) (p : Fin 320) : Fin 8320 := ⟨(25 - s) * 320 + p.val, by omega⟩

theorem sum_rows (f : Fin 8320 → EReal) : ∑ s : Fin 26, ∑ p : Fin 320, f (rowAt s.val p) = ∑ t, f t := by
  rw [Fin.sum_univ_tiles 26 320 rfl f, ← Equiv.sum_comp Fin.revPerm]
  refine Finset.sum_congr rfl fun s _ => Finset.sum_congr rfl fun p _ => congrArg f (Fin.ext ?_)
  simp only [rowAt, Fin.revPerm_apply, Fin.val_rev]
  omega

theorem row_eq (t : Fin cfg0.N) (p : Fin 320) : (blk m c t).row p = (arr m c).row (rowAt t.val p) := by
  have h0 : ∀ k : Fin 1024, (blk m c t).x0 (ix2 p k) = (arr m c).a0 (ix2 (rowAt t.val p) k) := by
    intro k; simp only [blk, arr, rowAt]; blk_point [iblk, V, idx t]
  have h1 : ∀ k : Fin 1024, (blk m c t).x1 (ix2 0 k) = (arr m c).a1 (ix2 0 k) := by
    intro k; simp only [blk, arr]; blk_point [iblk, V, idx t]
  have h2 : ∀ k : Fin 512, (blk m c t).x2 (ix2 0 k) = (arr m c).a2 (ix2 0 k) := by
    intro k; simp only [blk, arr]; blk_point [iblk, V, idx t]
  have h3 : ∀ (k : Fin 1024) (n : Fin 1536), (blk m c t).x3 (ix2 k n) = (arr m c).a3 (ix2 k n) := by
    intro k n; simp only [blk, arr]; blk_point [iblk, V, idx t]
  have h4 : ∀ k : Fin 512, (blk m c t).x4 (ix2 p k) = (arr m c).a4 (ix2 (rowAt t.val p) k) := by
    intro k; simp only [blk, arr, rowAt]; blk_point [iblk, V, idx t]
  have h5 : ∀ k : Fin 512, (blk m c t).x5 (ix2 p k) = (arr m c).a5 (ix2 (rowAt t.val p) k) := by
    intro k; simp only [blk, arr, rowAt]; blk_point [iblk, V, idx t]
  have h6 : ∀ k : Fin 512, (blk m c t).x6 (ix2 p k) = (arr m c).a6 (ix2 (rowAt t.val p) k) := by
    intro k; simp only [blk, arr, rowAt]; blk_point [iblk, V, idx t]
  have h7 : ∀ k : Fin 512, (blk m c t).x7 (ix2 p k) = (arr m c).a7 (ix2 (rowAt t.val p) k) := by
    intro k; simp only [blk, arr, rowAt]; blk_point [iblk, V, idx t]
  have h8 : ∀ k : Fin 1024, (blk m c t).x8 (ix2 p k) = (arr m c).a8 (ix2 (rowAt t.val p) k) := by
    intro k; simp only [blk, arr, rowAt]; blk_point [iblk, V, idx t]
  have hm : Row.live (IntOp.addi (blk m c t).num (BitVec.ofNat 32 p.val)) = Row.live (BitVec.ofNat 32 (rowAt t.val p).val) := by
    simp only [blk, num t, rowAt, BitVec.ofNat_add]; rfl
  simp only [Blk.row, Arr.row, h0, h1, h2, h3, h4, h5, h6, h7, h8, hm]

end Cert.Proof.Hgrn
-- ==== Proof.HgrnFin1.lean ====
/- Result arrays of the kernel after the run, entry by entry. -/
module

public import proofs.«01_k».proof.Proof.HgrnArr

@[expose] public section

set_option maxRecDepth 16384
noncomputable section
open Idealize.ShloMosaic Idealize.ShloMosaic.TcCoe Idealize.SL.Sem
open Cert.Proof.Row Cert.HgrnIdeal Cert.HgrnIdeal.Gen
open scoped BigOperators
namespace Cert.Proof.Hgrn

variable (m : (ℓ : Loc nD τ sig) → Buf (Elt Ideal) ℓ) (c : Dev nD)

set_option maxHeartbeats 2000000 in
/-- The gradient of the residual stream. -/
theorem final_9 : (dats m 0 c).arrAt 9 (cfgs 0).N = (arr m c).rv104 := by
  refine (dats m 0 c).arrAt_eq_of_covers 9 _ (by decide +kernel) fun t hf y => ?_
  have key : ∀ (p : Fin 320) (k : Fin 1024), (blk m c t).t176 (ix2 p k) = (arr m c).rv104 (ix2 (rowAt t.val p) k) := by
    intro p k; rw [Blk.at176, Arr.at104, row_eq]
  have emb : ∀ (p : Fin 320) (k : Fin 1024), ((cfg0.win 9).blk t).view.emb (ix2 p k) = ix2 (rowAt t.val p) k := by
    intro p k; simp only [rowAt]; blk_ext [idx t]
  blk_simp; rw [after0_9]
  by_cases h : t.val % 26 = 0
  · rw [outsAt0_A m c t h]; frame_out
    idx_vars y
    exact (key y0 y1).trans (congrArg (arr m c).rv104 (emb y0 y1).symm)
  · rw [outsAt0_B m c t h]; frame_out
    idx_vars y
    exact (key y0 y1).trans (congrArg (arr m c).rv104 (emb y0 y1).symm)

end Cert.Proof.Hgrn
-- ==== Proof.HgrnFin2.lean ====
/- Result arrays of the kernel after the run, entry by entry. -/
module

public import proofs.«01_k».proof.Proof.HgrnArr

@[expose] public section

set_option maxRecDepth 16384
noncomputable section
open Idealize.ShloMosaic Idealize.ShloMosaic.TcCoe Idealize.SL.Sem
open Cert.Proof.Row Cert.HgrnIdeal Cert.HgrnIdeal.Gen
open scoped BigOperators
namespace Cert.Proof.Hgrn

variable (m : (ℓ : Loc nD τ sig) → Buf (Elt Ideal) ℓ) (c : Dev nD)

theorem hzero_10 (j : S1x1024.Idx) : k0_pay34 (F := Ideal) j = 0 := by pointwise! [k0_pay34]
theorem hpay_10 (v5 : FVec Ideal S1024x1536 .bf16) (v19 : FVec Ideal S320x1024 .f32) (v32 : FVec Ideal S320x512 .f32) (v36 : FVec Ideal S320x512 .f32) (v79 : Vec Ideal S320x512 .f32) (v123 : FVec Ideal S320x1536 .f32) (v124 : FVec Ideal S320x512 .f32) (v163 : Vec Ideal S1x1024 .f32) (j : S1x1024.Idx) :
    k0_pay37 v5 v19 v32 v36 v79 v123 v124 v163 j = v163 j + k0_pay37 v5 v19 v32 v36 v79 v123 v124 (fun _ => 0) j := by pointwise [k0_pay37]

set_option maxHeartbeats 2000000 in
/-- The gradient of the row norm's weights. -/
theorem final_10 : (dats m 0 c).arrAt 10 (cfgs 0).N = (arr m c).rv87 := by
  refine (dats m 0 c).arrAt_eq_of_covers 10 _ (by decide +kernel) fun t hf y => ?_
  have ht : t.val / 26 = 0 := Nat.div_eq_of_lt (lt_of_lt_of_eq t.isLt (by decide))
  have key : ∀ (k : Fin 1024), ∑ s : Fin 26, (blk m c ⟨26 * (t.val / 26) + s.val,
      Pipeline.run_point_lt_of_flush t ((flush0_10 t).mp hf) s⟩).c10 (ix2 0 k) = (arr m c).rv87 (ix2 0 k) := by
    intro k
    rw [Arr.at87, ← sum_rows]
    refine Finset.sum_congr rfl fun s _ => ?_
    rw [Blk.atc10]
    refine Finset.sum_congr rfl fun p _ => ?_
    rw [row_eq]
    simp only [ht, Nat.mul_zero, Nat.zero_add]
  have emb : ∀ (k : Fin 1024), ((cfg0.win 10).blk t).view.emb (ix2 0 k) = (ix2 0 k) := by
    intro k; blk_ext [idx t]
  blk_simp
  rw [after0_10, Pipeline.eq_sum_fin_of_reset_step_apply_of_flush (fun n h => (outsAt0 m c n h).2.1) 26 (fun _ => 0)
    (fun t j => (blk m c t).c10 j)
    (fun t h j => by rw [outsAt0_A m c t h]; frame_out; rw [hpay_10, hzero_10]; rfl)
    (fun t h j => by rw [outsAt0_B m c t h]; frame_out; rw [hpay_10]; rfl)
    t ((flush0_10 t).mp hf) _, zero_add]
  idx_vars y
  obtain rfl : y0 = 0 := Subsingleton.elim _ _
  exact (key y1).trans (congrArg (arr m c).rv87 (emb y1).symm)

theorem hzero_12 (j : S1024x1536.Idx) : k0_pay36 (F := Ideal) j = 0 := by pointwise! [k0_pay36]
theorem hpay_12 (v139 : FVec Ideal S1024x1536 .f32) (v171 : Vec Ideal S1024x1536 .f32) (j : S1024x1536.Idx) :
    k0_pay2 v139 v171 j = v171 j + v139 j := by pointwise [k0_pay2]

set_option maxHeartbeats 2000000 in
/-- The gradient of the projection's matrix. -/
theorem final_12 : (dats m 0 c).arrAt 12 (cfgs 0).N = (arr m c).rv83 := by
  refine (dats m 0 c).arrAt_eq_of_covers 12 _ (by decide +kernel) fun t hf y => ?_
  have ht : t.val / 26 = 0 := Nat.div_eq_of_lt (lt_of_lt_of_eq t.isLt (by decide))
  have key : ∀ (k : Fin 1024) (n : Fin 1536), ∑ s : Fin 26, (blk m c ⟨26 * (t.val / 26) + s.val,
      Pipeline.run_point_lt_of_flush t ((flush0_12 t).mp hf) s⟩).t139 (ix2 k n) = (arr m c).rv83 (ix2 k n) := by
    intro k n
    rw [Arr.at83, ← sum_rows]
    refine Finset.sum_congr rfl fun s _ => ?_
    rw [Blk.at139]
    refine Finset.sum_congr rfl fun p _ => ?_
    rw [row_eq]
    simp only [ht, Nat.mul_zero, Nat.zero_add]
  have emb : ∀ (k : Fin 1024) (n : Fin 1536), ((cfg0.win 12).blk t).view.emb (ix2 k n) = (ix2 k n) := by
    intro k n; blk_ext [idx t]
  blk_simp
  rw [after0_12, Pipeline.eq_sum_fin_of_reset_step_apply_of_flush (fun n h => (outsAt0 m c n h).2.2.2) 26 (fun _ => 0)
    (fun t j => (blk m c t).t139 j)
    (fun t h j => by rw [outsAt0_A m c t h]; frame_out; rw [hpay_12, hzero_12]; rfl)
    (fun t h j => by rw [outsAt0_B m c t h]; frame_out; rw [hpay_12]; rfl)
    t ((flush0_12 t).mp hf) _, zero_add]
  idx_vars y
  exact (key y0 y1).trans (congrArg (arr m c).rv83 (emb y0 y1).symm)

end Cert.Proof.Hgrn
-- ==== Proof.HgrnClaim.lean ====
/- The claims about the backward pass of the HGRN2 layer's projections: the frames, and that its results are those of the reference. -/
module

public import proofs.«01_k».proof.Proof.HgrnFin1
public import proofs.«01_k».proof.Proof.HgrnFin2
public import proofs.«01_k».proof.Defs
public import proofs.«01_k».proof.Proof.Gen.Hgrn.Frame

@[expose] public section

set_option maxRecDepth 16384
noncomputable section
open Idealize.ShloMosaic Idealize.ShloMosaic.TcCoe Idealize.SL.Sem
namespace Cert.Proof.Hgrn

section
open Cert.HgrnRefIdeal Cert.HgrnRefIdeal.Gen Cert.HgrnRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)

set_option maxHeartbeats 2000000 in
theorem res_104 : Cert.HgrnRefIdeal.Value.res_main_v104 m c = (rarr m c).rv104 := rfl
set_option maxHeartbeats 2000000 in
theorem res_87 : Cert.HgrnRefIdeal.Value.res_main_v87 m c = (rarr m c).rv87 := rfl
set_option maxHeartbeats 2000000 in
theorem res_83 : Cert.HgrnRefIdeal.Value.res_main_v83 m c = (rarr m c).rv83 := rfl
end

theorem frame_p : Cert.quiescent_Hgrn := fun m ρ _ => Cert.Hgrn.Gen.frame m ρ
theorem frame_pi : Cert.quiescent_HgrnIdeal := fun m ρ _ => Cert.HgrnIdeal.Gen.frame m ρ
theorem frame_ri : Cert.quiescent_HgrnRefIdeal := fun m ρ _ =>
  (θ_run Cert.HgrnRefIdeal.defs _ _).mono (fun r h => ⟨fun c => (h c).2.2.2,
      Idealize.ShloMosaic.sem_eq_zero_of_no_sems (by decide) r.2⟩)
    (Cert.HgrnRefIdeal.Value.run (F := Ideal) m ρ)

theorem algebraic : Cert.algebraic_HgrnIdeal_HgrnRefIdeal := by
  intro m ρ m' ρ' _ hag
  have e : ∀ c, rarr m' c = arr m c := by
    intro c
    obtain ⟨h0, h1, h2, h3, h4, h5, h6, h7, h8⟩ := hag c
    simp only [rarr, arr]
    rw [h0, h1, h2, h3, h4, h5, h6, h7, h8]
  refine ⟨fun c => (arr m c).rv104, fun c => (arr m c).rv87, fun c => (arr m c).rv83, ?_, ?_⟩
  · refine (θ_run Cert.HgrnIdeal.defs _ _).mono (fun r h c => ?_) (Cert.HgrnIdeal.Value.run_blocks (F := Ideal) m ρ)
    obtain ⟨g9, g10, _, g12, g⟩ := h c
    exact ⟨g9.trans (final_9 m c), g10.trans (final_10 m c), g12.trans (final_12 m c), g⟩
  · refine (θ_run Cert.HgrnRefIdeal.defs _ _).mono (fun r h c => ?_) (Cert.HgrnRefIdeal.Value.run (F := Ideal) m' ρ')
    obtain ⟨g0, g1, g2, g⟩ := h c
    exact ⟨g0.trans ((res_104 m' c).trans (congrArg Arr.rv104 (e c))), g1.trans ((res_87 m' c).trans (congrArg Arr.rv87 (e c))), g2.trans ((res_83 m' c).trans (congrArg Arr.rv83 (e c))), g⟩

end Cert.Proof.Hgrn
-- ==== Proof.OutSpec.lean ====
/- One row of the backward pass of the output projection, on plain functions over the extended reals. -/
module

public import proofs.«01_k».proof.Proof.GateSpec

@[expose] public section

set_option maxRecDepth 16384
noncomputable section
open Idealize.ShloMosaic Cert.Proof.Row
open Cert.Proof.Gate (n1024 n128 cat hq hj cat_hq_hj)
open scoped BigOperators
namespace Cert.Proof.Out

/-- What a row of the stage reads. -/
structure In where
  h : Fin 1024 → EReal
  y : Fin 1024 → EReal
  w : Fin 1024 → Fin 1024 → EReal
  dout : Fin 1024 → EReal

namespace In
variable (i : In)

/-- The gradient of the row. -/
def gy (d : Fin 1024) : EReal := ∑ e, i.dout e * i.w d e
/-- What the row adds to the gradient of the matrix. -/
def gw (d e : Fin 1024) : EReal := i.y d * i.dout e

end In
end Cert.Proof.Out
-- ==== Proof.OutTile.lean ====
/- The kernel's block of 320 rows, entry by entry: the values of the body are the row mathematics of
   `OutSpec` on the block's rows. -/
module

public import proofs.«01_k».proof.Proof.OutSpec
public import proofs.«01_k».proof.Proof.Gen.OutIdeal.Skeleton

@[expose] public section

set_option maxRecDepth 16384
noncomputable section
open Idealize.ShloMosaic Cert.Proof.Row Cert.OutIdeal Cert.OutIdeal.Gen
open Cert.Proof.Gate (n1024 n128 cat hq hj cat_hq_hj)
open scoped BigOperators
namespace Cert.Proof.Out

/-- The blocks one grid point reads. -/
structure Blk where
  x0 : Vec Ideal S320x1024 .f32
  x1 : Vec Ideal S320x1024 .f32
  x2 : Vec Ideal S1024x1024 .bf16
  x3 : Vec Ideal S320x1024 .f32

namespace Blk
variable (b : Blk)

/-- Row `p` of the blocks. -/
def row (p : Fin 320) : In where
  h k := b.x0 (ix2 p k)
  y k := b.x1 (ix2 p k)
  w k n := b.x2 (ix2 k n)
  dout k := b.x3 (ix2 p k)

section
variable (p : Fin 320)
theorem row_h (k : Fin 1024) : (b.row p).h k = b.x0 (ix2 p k) := rfl
theorem row_y (k : Fin 1024) : (b.row p).y k = b.x1 (ix2 p k) := rfl
theorem row_w (k : Fin 1024) (n : Fin 1024) : (b.row p).w k n = b.x2 (ix2 k n) := rfl
theorem row_dout (k : Fin 1024) : (b.row p).dout k = b.x3 (ix2 p k) := rfl
end

def t5 := k0_pay1 (F := Ideal) b.x2 b.x3

theorem at5 (p : Fin 320)(d : Fin 1024) : b.t5 (ix2 p d) = (b.row p).gy d := by
  pointwise [t5, k0_pay1, row_h, row_y, row_w, row_dout, In.gy]

def c5 := k0_pay3 (F := Ideal) b.x1 b.x3 (fun _ => 0)
theorem atc5 (d e : Fin 1024) : b.c5 (ix2 d e) = ∑ p, (b.row p).gw d e := by
  pointwise [c5, k0_pay3, In.gw, row_y, row_dout]

end Blk
end Cert.Proof.Out
-- ==== Proof.OutRows.lean ====
/- The reference's values, entry by entry: the row mathematics of `OutSpec` on the rows of the reference's
   arguments, and each weight gradient the sum of the rows' shares. -/
module

public import proofs.«01_k».proof.Proof.OutSpec
public import proofs.«01_k».proof.Proof.Gen.OutRefIdeal.Run

@[expose] public section

set_option maxRecDepth 16384
noncomputable section
open Idealize.ShloMosaic Cert.Proof.Row Cert.OutRefIdeal Cert.OutRefIdeal.Gen
open Cert.Proof.Gate (n1024 n128 cat hq hj cat_hq_hj)
open scoped BigOperators
namespace Cert.Proof.Out

/-- The arguments of the reference. -/
structure Arr where
  a0 : FVec Ideal S8320x1024 .f32
  a1 : FVec Ideal S8320x1024 .f32
  a2 : FVec Ideal S1024x1024 .f32
  a3 : FVec Ideal S8320x1024 .f32

namespace Arr
variable (r : Arr)

/-- Row `t` of the arguments. -/
def row (t : Fin 8320) : In where
  h k := r.a0 (ix2 t k)
  y k := r.a1 (ix2 t k)
  w k n := r.a2 (ix2 k n)
  dout k := r.a3 (ix2 t k)

section
variable (t : Fin 8320)
theorem row_h (k : Fin 1024) : (r.row t).h k = r.a0 (ix2 t k) := rfl
theorem row_y (k : Fin 1024) : (r.row t).y k = r.a1 (ix2 t k) := rfl
theorem row_w (k : Fin 1024) (n : Fin 1024) : (r.row t).w k n = r.a2 (ix2 k n) := rfl
theorem row_dout (k : Fin 1024) : (r.row t).dout k = r.a3 (ix2 t k) := rfl
end

def rv2 : FVec Ideal S1024x1024 .f32 :=
  transpose S1024x1024 [1, 0] (Host.dotGeneral dot_S8320x1024_S8320x1024_S1024x1024_0_0_1_1_n_n none r.a3 r.a1) transposes_S1024x1024_S1024x1024_1_0

def rv3 : FVec Ideal S8320x1024 .f32 :=
  Host.dotGeneral dot_S8320x1024_S1024x1024_S8320x1024_1_1_0_0_n_n none r.a3 r.a2

theorem at3 (t : Fin 8320)(d : Fin 1024) : r.rv3 (ix2 t d) = (r.row t).gy d := by
  pointwise [rv3, row_h, row_y, row_w, row_dout, In.gy]

theorem at2 (d e : Fin 1024) : r.rv2 (ix2 d e) = ∑ t, (r.row t).gw d e := by
  pointwise [rv2, row_h, row_y, row_w, row_dout, In.gw]
  <;> first | done | exact Finset.sum_congr rfl fun t _ => mul_comm _ _

end Arr
end Cert.Proof.Out
-- ==== Proof.OutArr.lean ====
/- The kernel's windows: which rows of the argument arrays a grid point reads. -/
module

public import proofs.«01_k».proof.Proof.OutTile
public import proofs.«01_k».proof.Proof.OutRows
public import proofs.«01_k».proof.Proof.Gen.OutIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.OutIdeal Cert.OutIdeal.Gen
open scoped BigOperators
namespace Cert.Proof.Out

variable (m : (ℓ : Loc nD τ sig) → Buf (Elt Ideal) ℓ) (c : Dev nD)

/-- Every window's block index at a grid point. -/
theorem idx : ∀ t : Fin cfg0.N, win0_0.index t = ![25 - t.val, 0]
    ∧ win0_1.index t = ![25 - t.val, 0]
    ∧ win0_2.index t = ![0, 0]
    ∧ win0_3.index t = ![25 - t.val, 0]
    ∧ win0_4.index t = ![25 - t.val, 0]
    ∧ win0_5.index t = ![0, 0] :=
  (by decide +kernel : ∀ t : Fin grid0.N, _)

/-- The blocks grid point `t` reads. -/
def blk (t : Fin cfg0.N) : Blk :=
  ⟨iblk m c 0 t, iblk m c 1 t, iblk m c 2 t, iblk m c 3 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)

/-- The array row that grid point `s` reads as its row `p`. -/
def rowAt (s : Nat) (p : Fin 320) : Fin 8320 := ⟨(25 - s) * 320 + p.val, by omega⟩

theorem sum_rows (f : Fin 8320 → EReal) : ∑ s : Fin 26, ∑ p : Fin 320, f (rowAt s.val p) = ∑ t, f t := by
  rw [Fin.sum_univ_tiles 26 320 rfl f, ← Equiv.sum_comp Fin.revPerm]
  refine Finset.sum_congr rfl fun s _ => Finset.sum_congr rfl fun p _ => congrArg f (Fin.ext ?_)
  simp only [rowAt, Fin.revPerm_apply, Fin.val_rev]
  omega

theorem row_eq (t : Fin cfg0.N) (p : Fin 320) : (blk m c t).row p = (arr m c).row (rowAt t.val p) := by
  have h0 : ∀ k : Fin 1024, (blk m c t).x0 (ix2 p k) = (arr m c).a0 (ix2 (rowAt t.val p) k) := by
    intro k; simp only [blk, arr, rowAt]; blk_point [iblk, V, idx t]
  have h1 : ∀ k : Fin 1024, (blk m c t).x1 (ix2 p k) = (arr m c).a1 (ix2 (rowAt t.val p) k) := by
    intro k; simp only [blk, arr, rowAt]; blk_point [iblk, V, idx t]
  have h2 : ∀ (k : Fin 1024) (n : Fin 1024), (blk m c t).x2 (ix2 k n) = (arr m c).a2 (ix2 k n) := by
    intro k n; simp only [blk, arr]; blk_point [iblk, V, idx t]
  have h3 : ∀ k : Fin 1024, (blk m c t).x3 (ix2 p k) = (arr m c).a3 (ix2 (rowAt t.val p) k) := by
    intro k; simp only [blk, arr, rowAt]; blk_point [iblk, V, idx t]
  simp only [Blk.row, Arr.row, h0, h1, h2, h3]

end Cert.Proof.Out
-- ==== Proof.OutFin1.lean ====
/- Result arrays of the kernel after the run, entry by entry. -/
module

public import proofs.«01_k».proof.Proof.OutArr

@[expose] public section

set_option maxRecDepth 16384
noncomputable section
open Idealize.ShloMosaic Idealize.ShloMosaic.TcCoe Idealize.SL.Sem
open Cert.Proof.Row Cert.OutIdeal Cert.OutIdeal.Gen
open scoped BigOperators
namespace Cert.Proof.Out

variable (m : (ℓ : Loc nD τ sig) → Buf (Elt Ideal) ℓ) (c : Dev nD)

set_option maxHeartbeats 2000000 in
/-- The gradient of the projection's input. -/
theorem final_4 : (dats m 0 c).arrAt 4 (cfgs 0).N = (arr m c).rv3 := by
  refine (dats m 0 c).arrAt_eq_of_covers 4 _ (by decide +kernel) fun t hf y => ?_
  have key : ∀ (p : Fin 320) (k : Fin 1024), (blk m c t).t5 (ix2 p k) = (arr m c).rv3 (ix2 (rowAt t.val p) k) := by
    intro p k; rw [Blk.at5, Arr.at3, row_eq]
  have emb : ∀ (p : Fin 320) (k : Fin 1024), ((cfg0.win 4).blk t).view.emb (ix2 p k) = ix2 (rowAt t.val p) k := by
    intro p k; simp only [rowAt]; blk_ext [idx t]
  blk_simp; rw [after0_4]
  by_cases h : t.val % 26 = 0
  · rw [outsAt0_A m c t h]; frame_out
    idx_vars y
    exact (key y0 y1).trans (congrArg (arr m c).rv3 (emb y0 y1).symm)
  · rw [outsAt0_B m c t h]; frame_out
    idx_vars y
    exact (key y0 y1).trans (congrArg (arr m c).rv3 (emb y0 y1).symm)

theorem hzero_5 (j : S1024x1024.Idx) : k0_pay2 (F := Ideal) j = 0 := by pointwise! [k0_pay2]
theorem hpay_5 (v0 : Vec Ideal S320x1024 .f32) (v3 : Vec Ideal S320x1024 .f32) (v12 : Vec Ideal S1024x1024 .f32) (j : S1024x1024.Idx) :
    k0_pay3 v0 v3 v12 j = v12 j + k0_pay3 v0 v3 (fun _ => 0) j := by pointwise [k0_pay3]

set_option maxHeartbeats 2000000 in
/-- The gradient of the projection's matrix. -/
theorem final_5 : (dats m 0 c).arrAt 5 (cfgs 0).N = (arr m c).rv2 := by
  refine (dats m 0 c).arrAt_eq_of_covers 5 _ (by decide +kernel) fun t hf y => ?_
  have ht : t.val / 26 = 0 := Nat.div_eq_of_lt (lt_of_lt_of_eq t.isLt (by decide))
  have key : ∀ (k : Fin 1024) (n : Fin 1024), ∑ s : Fin 26, (blk m c ⟨26 * (t.val / 26) + s.val,
      Pipeline.run_point_lt_of_flush t ((flush0_5 t).mp hf) s⟩).c5 (ix2 k n) = (arr m c).rv2 (ix2 k n) := by
    intro k n
    rw [Arr.at2, ← sum_rows]
    refine Finset.sum_congr rfl fun s _ => ?_
    rw [Blk.atc5]
    refine Finset.sum_congr rfl fun p _ => ?_
    rw [row_eq]
    simp only [ht, Nat.mul_zero, Nat.zero_add]
  have emb : ∀ (k : Fin 1024) (n : Fin 1024), ((cfg0.win 5).blk t).view.emb (ix2 k n) = (ix2 k n) := by
    intro k n; blk_ext [idx t]
  blk_simp
  rw [after0_5, Pipeline.eq_sum_fin_of_reset_step_apply_of_flush (fun n h => (outsAt0 m c n h).2) 26 (fun _ => 0)
    (fun t j => (blk m c t).c5 j)
    (fun t h j => by rw [outsAt0_A m c t h]; frame_out; rw [hpay_5, hzero_5]; rfl)
    (fun t h j => by rw [outsAt0_B m c t h]; frame_out; rw [hpay_5]; rfl)
    t ((flush0_5 t).mp hf) _, zero_add]
  idx_vars y
  exact (key y0 y1).trans (congrArg (arr m c).rv2 (emb y0 y1).symm)

end Cert.Proof.Out
-- ==== Proof.OutClaim.lean ====
/- The claims about the backward pass of the output projection: the frames, and that its results are those of the reference. -/
module

public import proofs.«01_k».proof.Proof.OutFin1
public import proofs.«01_k».proof.Defs
public import proofs.«01_k».proof.Proof.Gen.Out.Frame

@[expose] public section

set_option maxRecDepth 16384
noncomputable section
open Idealize.ShloMosaic Idealize.ShloMosaic.TcCoe Idealize.SL.Sem
namespace Cert.Proof.Out

section
open Cert.OutRefIdeal Cert.OutRefIdeal.Gen
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)

set_option maxHeartbeats 2000000 in
theorem res_3 : (Host.dotGeneral dot_S8320x1024_S1024x1024_S8320x1024_1_1_0_0_n_n none (rarr m c).a3 (rarr m c).a2 : FVec Ideal S8320x1024 .f32) = (rarr m c).rv3 := rfl
set_option maxHeartbeats 2000000 in
theorem res_2 : (transpose S1024x1024 [1, 0] (Host.dotGeneral dot_S8320x1024_S8320x1024_S1024x1024_0_0_1_1_n_n none (rarr m c).a3 (rarr m c).a1) transposes_S1024x1024_S1024x1024_1_0 : FVec Ideal S1024x1024 .f32) = (rarr m c).rv2 := rfl
end

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

theorem algebraic : Cert.algebraic_OutIdeal_OutRefIdeal := by
  intro m ρ m' ρ' _ hag
  have e : ∀ c, rarr m' c = arr m c := by
    intro c
    obtain ⟨h0, h1, h2, h3⟩ := hag c
    simp only [rarr, arr]
    rw [h0, h1, h2, h3]
  refine ⟨fun c => (arr m c).rv3, fun c => (arr m c).rv2, ?_, ?_⟩
  · refine (θ_run Cert.OutIdeal.defs _ _).mono (fun r h c => ?_) (Cert.OutIdeal.Value.run_blocks (F := Ideal) m ρ)
    obtain ⟨g4, g5, g⟩ := h c
    exact ⟨g4.trans (final_4 m c), g5.trans (final_5 m c), g⟩
  · refine (θ_run Cert.OutRefIdeal.defs _ _).mono (fun r h c => ?_) (Cert.OutRefIdeal.Value.run (F := Ideal) m' ρ')
    obtain ⟨g0, g1, g⟩ := h c
    exact ⟨g0.trans ((res_3 m' c).trans (congrArg Arr.rv3 (e c))), g1.trans ((res_2 m' c).trans (congrArg Arr.rv2 (e c))), g⟩

end Cert.Proof.Out
-- ==== Proof.GateFSpec.lean ====
/- One row of a merge stage with an output norm, on plain functions over the extended reals. -/
module

public import proofs.«01_k».proof.Proof.Heads

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.GateF

/-- What a row of the stage reads. -/
structure In where
  h : Fin 1024 → EReal
  o : Fin 512 → EReal
  y : Fin 1024 → EReal
  nw : Fin 1024 → EReal
  ow : Fin 128 → EReal
  wz : Fin 1024 → Fin 512 → EReal
  wm : Fin 1024 → Fin 1024 → EReal
  wb : Fin 512 → Fin 1024 → EReal

namespace In
variable (i : In)

def xn (k : Fin 1024) : EReal := i.h k * rinv n1024 i.h * i.nw k
def z (n : Fin 512) : EReal := ∑ k, i.xn k * i.wz k n
def mix (d : Fin 1024) : EReal := ∑ k, i.xn k * i.wm k d
/-- Head `q` of the branch's output, and the same normalised. -/
def hd (q : Fin 4) (j : Fin 128) : EReal := i.o (cat q j)
@[inherit_doc hd] def oh (q : Fin 4) (j : Fin 128) : EReal := i.hd q j * rinv n128 (i.hd q) * i.ow j
def on (n : Fin 512) : EReal := i.oh (hq n) (hj n)
/-- The gated branch. -/
def gb (n : Fin 512) : EReal := i.on n * (i.z n * sg (i.z n))
/-- The stage's output: what was there and the branch through the merge gate. -/
def out (d : Fin 1024) : EReal := i.y d + sg (i.mix d) * ∑ n, i.gb n * i.wb n d

end In
end Cert.Proof.GateF
-- ==== Proof.GateFTile.lean ====
/- The kernel's block of 320 rows, entry by entry: the values of the body are the row mathematics of
   `GateFSpec` on the block's rows. -/
module

public import proofs.«01_k».proof.Proof.GateFSpec
public import proofs.«01_k».proof.Proof.Gen.GateFIdeal.Skeleton

@[expose] public section

set_option maxRecDepth 16384
noncomputable section
open Idealize.ShloMosaic Cert.Proof.Row Cert.GateFIdeal Cert.GateFIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.GateF

/-- The blocks one grid point reads. -/
structure Blk where
  x0 : Vec Ideal S320x1024 .f32
  x1 : Vec Ideal S320x512 .f32
  x2 : Vec Ideal S320x1024 .f32
  x3 : Vec Ideal S1x1024 .f32
  x4 : Vec Ideal S1x128 .f32
  x5 : Vec Ideal S1024x512 .bf16
  x6 : Vec Ideal S1024x1024 .bf16
  x7 : Vec Ideal S512x1024 .bf16

namespace Blk
variable (b : Blk)

/-- Row `p` of the blocks. -/
def row (p : Fin 320) : In where
  h k := b.x0 (ix2 p k)
  o k := b.x1 (ix2 p k)
  y k := b.x2 (ix2 p k)
  nw k := b.x3 (ix2 0 k)
  ow k := b.x4 (ix2 0 k)
  wz k n := b.x5 (ix2 k n)
  wm k n := b.x6 (ix2 k n)
  wb k n := b.x7 (ix2 k n)

section
variable (p : Fin 320)
theorem row_h (k : Fin 1024) : (b.row p).h k = b.x0 (ix2 p k) := rfl
theorem row_o (k : Fin 512) : (b.row p).o k = b.x1 (ix2 p k) := rfl
theorem row_y (k : Fin 1024) : (b.row p).y k = b.x2 (ix2 p k) := rfl
theorem row_nw (k : Fin 1024) : (b.row p).nw k = b.x3 (ix2 0 k) := rfl
theorem row_ow (k : Fin 128) : (b.row p).ow k = b.x4 (ix2 0 k) := rfl
theorem row_wz (k : Fin 1024) (n : Fin 512) : (b.row p).wz k n = b.x5 (ix2 k n) := rfl
theorem row_wm (k : Fin 1024) (n : Fin 1024) : (b.row p).wm k n = b.x6 (ix2 k n) := rfl
theorem row_wb (k : Fin 512) (n : Fin 1024) : (b.row p).wb k n = b.x7 (ix2 k n) := rfl
end

def t22 := k0_pay3 (F := Ideal) b.x0 b.x3
def t10 := k0_pay2 (F := Ideal) b.x7
def t24 := k0_pay4 (F := Ideal) b.x0 b.x3 b.x5
def t26 := k0_pay5 (F := Ideal) b.x0 b.x3 b.x6
def t27 := k0_pay6 (F := Ideal) b.x1
def t34 := k0_pay7 (F := Ideal) b.x1
def t79 := k0_pay8 (F := Ideal) b.x1 b.x4 b.t27 b.t34
def t82 := k0_pay9 (F := Ideal) b.t26
def t83 (_ : Blk) := k0_pay10 (F := Ideal)
def t99 := k0_pay1 (F := Ideal) b.x2 b.t10 b.t24 b.t79 b.t82 b.t83

theorem fold22 : k0_pay3 (F := Ideal) b.x0 b.x3 = b.t22 := rfl
theorem fold27 : k0_pay6 (F := Ideal) b.x1 = b.t27 := rfl

theorem at22 (p : Fin 320)(k : Fin 1024) : b.t22 (ix2 p k) = (b.row p).xn k := by
  pointwise [t22, k0_pay3, row_h, row_o, row_y, row_nw, row_ow, row_wz, row_wm, row_wb, In.xn, rinv, ms]

theorem at10 (n : Fin 512)(d : Fin 1024) : b.t10 (ix2 n d) = b.x7 (ix2 n d) := by
  pointwise [t10, k0_pay2, row_h, row_o, row_y, row_nw, row_ow, row_wz, row_wm, row_wb]

theorem at24 (p : Fin 320)(n : Fin 512) : b.t24 (ix2 p n) = (b.row p).z n := by
  pointwise [t24, k0_pay4, fold22, at22, row_h, row_o, row_y, row_nw, row_ow, row_wz, row_wm, row_wb, In.z]

theorem at26 (p : Fin 320)(d : Fin 1024) : b.t26 (ix2 p d) = (b.row p).mix d := by
  pointwise [t26, k0_pay5, fold22, at22, row_h, row_o, row_y, row_nw, row_ow, row_wz, row_wm, row_wb, In.mix]

theorem at27 (p : Fin 320)(j : Fin 128) : b.t27 (ix2 p j) = (b.row p).hd 0 j := by
  pointwise [t27, k0_pay6, row_h, row_o, row_y, row_nw, row_ow, row_wz, row_wm, row_wb, In.hd, cat0]

theorem at34 (p : Fin 320)(x : Fin 1) : b.t34 (ix2 p x) = ms n128 ((b.row p).hd 0) := by
  obtain rfl : x = 0 := Subsingleton.elim _ _
  pointwise [t34, k0_pay7, fold27, at27, row_h, row_o, row_y, row_nw, row_ow, row_wz, row_wm, row_wb, ms]

theorem at79q (p : Fin 320) (q : Fin 4) (j : Fin 128) : b.t79 (ix2 p (cat q j)) = (b.row p).oh q j := by
  pointwise [t79, k0_pay8, at27, at34, row_h, row_o, row_y, row_nw, row_ow, row_wz, row_wm, row_wb]
  rcases four q with rfl | rfl | rfl | rfl
  all_goals
    simp (disch := omega) only [cat0v, cat1v, cat2v, cat3v, dif_pos, dif_neg, Nat.sub_add_comm, Nat.reduceSub, Nat.sub_self, Nat.zero_add, Fin.eta]
    simp only [In.oh, In.hd, rinv, ms, cat0, cat1, cat2, cat3, row_h, row_o, row_y, row_nw, row_ow, row_wz, row_wm, row_wb]

theorem at79 (p : Fin 320) (n : Fin 512) : b.t79 (ix2 p n) = (b.row p).on n := by
  conv_lhs => rw [← cat_hq_hj n]
  exact b.at79q p _ _

theorem at82 (p : Fin 320)(d : Fin 1024) : b.t82 (ix2 p d) = Ideal.tanh (half * (b.row p).mix d) := by
  pointwise [t82, k0_pay9, at26, row_h, row_o, row_y, row_nw, row_ow, row_wz, row_wm, row_wb]

theorem at83 (p : Fin 320)(d : Fin 1024) : b.t83 (ix2 p d) = 1 := by
  pointwise [t83, k0_pay10, row_h, row_o, row_y, row_nw, row_ow, row_wz, row_wm, row_wb]

theorem at99 (p : Fin 320)(d : Fin 1024) : b.t99 (ix2 p d) = (b.row p).out d := by
  pointwise [t99, k0_pay1, at10, at24, at79, at82, at83, row_h, row_o, row_y, row_nw, row_ow, row_wz, row_wm, row_wb, In.out, In.gb, sg_tanh]

end Blk
end Cert.Proof.GateF
-- ==== Proof.GateFRows.lean ====
/- The reference's values, entry by entry: the row mathematics of `GateFSpec` on the rows of the reference's
   arguments, and each weight gradient the sum of the rows' shares. -/
module

public import proofs.«01_k».proof.Proof.GateFSpec
public import proofs.«01_k».proof.Proof.Gen.GateFRefIdeal.Run

@[expose] public section

set_option maxRecDepth 16384
noncomputable section
open Idealize.ShloMosaic Cert.Proof.Row Cert.GateFRefIdeal Cert.GateFRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.GateF

/-- The arguments of the reference. -/
structure Arr where
  a0 : FVec Ideal S8320x1024 .f32
  a1 : FVec Ideal S8320x512 .f32
  a2 : FVec Ideal S8320x1024 .f32
  a3 : FVec Ideal S1x1024 .f32
  a4 : FVec Ideal S1x128 .f32
  a5 : FVec Ideal S1024x512 .f32
  a6 : FVec Ideal S1024x1024 .f32
  a7 : FVec Ideal S512x1024 .f32

namespace Arr
variable (r : Arr)

/-- Row `t` of the arguments. -/
def row (t : Fin 8320) : In where
  h k := r.a0 (ix2 t k)
  o k := r.a1 (ix2 t k)
  y k := r.a2 (ix2 t k)
  nw k := r.a3 (ix2 0 k)
  ow k := r.a4 (ix2 0 k)
  wz k n := r.a5 (ix2 k n)
  wm k n := r.a6 (ix2 k n)
  wb k n := r.a7 (ix2 k n)

section
variable (t : Fin 8320)
theorem row_h (k : Fin 1024) : (r.row t).h k = r.a0 (ix2 t k) := rfl
theorem row_o (k : Fin 512) : (r.row t).o k = r.a1 (ix2 t k) := rfl
theorem row_y (k : Fin 1024) : (r.row t).y k = r.a2 (ix2 t k) := rfl
theorem row_nw (k : Fin 1024) : (r.row t).nw k = r.a3 (ix2 0 k) := rfl
theorem row_ow (k : Fin 128) : (r.row t).ow k = r.a4 (ix2 0 k) := rfl
theorem row_wz (k : Fin 1024) (n : Fin 512) : (r.row t).wz k n = r.a5 (ix2 k n) := rfl
theorem row_wm (k : Fin 1024) (n : Fin 1024) : (r.row t).wm k n = r.a6 (ix2 k n) := rfl
theorem row_wb (k : Fin 512) (n : Fin 1024) : (r.row t).wb k n = r.a7 (ix2 k n) := rfl
end

def rv7 : FVec Ideal S8320x1 .f32 :=
  Host.rsqrt (addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))

def rv11 : FVec Ideal S8320x1024 .f32 :=
  mulf (mulf r.a0 (broadcastInDim S8320x1024 ![0, 1] bcast_S8320x1_S8320x1024_0_1 (r.rv7))) (broadcastInDim S8320x1024 ![0, 1] bcast_S1x1024_S8320x1024_0_1 r.a3)

def rv12 : FVec Ideal S8320x512 .f32 :=
  Host.dotGeneral dot_S8320x1024_S1024x512_S8320x512_1_0_0_1_n_n none (r.rv11) r.a5

def rv13 : FVec Ideal S8320x1024 .f32 :=
  Host.dotGeneral dot_S8320x1024_S1024x1024_S8320x1024_1_0_0_1_n_n none (r.rv11) r.a6

def rv14 : FVec Ideal S8320x4x128 .f32 :=
  shapeCast S8320x4x128 r.a1 shapeCasts_S8320x512_S8320x4x128

def rv22 : FVec Ideal S8320x4x1 .f32 :=
  Host.rsqrt (addf (Host.divf (broadcastInDim S8320x4x1 ![0, 1] bcast_S8320x4_S8320x4x1_0_1 (Host.reduceAdd (mulf (r.rv14) (r.rv14)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))

def rv28 : FVec Ideal S8320x512 .f32 :=
  shapeCast S8320x512 (mulf (mulf (r.rv14) (broadcastInDim S8320x4x128 ![0, 1, 2] bcast_S8320x4x1_S8320x4x128_0_1_2 (r.rv22))) (broadcastInDim S8320x4x128 ![0, 1, 2] bcast_S1x1x128_S8320x4x128_0_1_2 (broadcastInDim S1x1x128 ![1, 2] bcast_S1x128_S1x1x128_1_2 r.a4))) shapeCasts_S8320x4x128_S8320x512

def rv29 : FVec Ideal S8320x512 .f32 :=
  mulf (r.rv12) (Host.divf (broadcastInDim S8320x512 ![] bcast_S_S8320x512 (constant S_ .f32 0x3F800000#32)) (addf (broadcastInDim S8320x512 ![] bcast_S_S8320x512 (constant S_ .f32 0x3F800000#32)) (Host.exp (Host.negf (r.rv12)))))

def rv30 : FVec Ideal S8320x512 .f32 :=
  mulf (r.rv28) (r.rv29)

def rv39 : FVec Ideal S8320x1024 .f32 :=
  addf r.a2 (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (r.rv13))))) (Host.dotGeneral dot_S8320x512_S512x1024_S8320x1024_1_0_0_1_n_n none (r.rv30) r.a7))

theorem at7 (t : Fin 8320)(x : Fin 1) : r.rv7 (ix2 t x) = rinv n1024 (r.row t).h := by
  obtain rfl : x = 0 := Subsingleton.elim _ _
  pointwise [rv7, row_h, row_o, row_y, row_nw, row_ow, row_wz, row_wm, row_wb, rinv, ms]

theorem at11 (t : Fin 8320)(k : Fin 1024) : r.rv11 (ix2 t k) = (r.row t).xn k := by
  pointwise [rv11, at7, row_h, row_o, row_y, row_nw, row_ow, row_wz, row_wm, row_wb, In.xn]

theorem at12 (t : Fin 8320)(n : Fin 512) : r.rv12 (ix2 t n) = (r.row t).z n := by
  pointwise [rv12, at11, row_h, row_o, row_y, row_nw, row_ow, row_wz, row_wm, row_wb, In.z]

theorem at13 (t : Fin 8320)(d : Fin 1024) : r.rv13 (ix2 t d) = (r.row t).mix d := by
  pointwise [rv13, at11, row_h, row_o, row_y, row_nw, row_ow, row_wz, row_wm, row_wb, In.mix]

theorem at14 (t : Fin 8320)(q : Fin 4)(j : Fin 128) : r.rv14 (ix3 t q j) = (r.row t).hd q j := by
  pointwise [rv14, row_h, row_o, row_y, row_nw, row_ow, row_wz, row_wm, row_wb, In.hd, cat]

theorem at22 (t : Fin 8320)(q : Fin 4)(x : Fin 1) : r.rv22 (ix3 t q x) = rinv n128 ((r.row t).hd q) := by
  obtain rfl : x = 0 := Subsingleton.elim _ _
  pointwise [rv22, at14, row_h, row_o, row_y, row_nw, row_ow, row_wz, row_wm, row_wb, rinv, ms]

theorem at28 (t : Fin 8320)(n : Fin 512) : r.rv28 (ix2 t n) = (r.row t).on n := by
  pointwise [rv28, at14, at22, row_h, row_o, row_y, row_nw, row_ow, row_wz, row_wm, row_wb, In.on, In.oh, hq, hj]

theorem at29 (t : Fin 8320)(n : Fin 512) : r.rv29 (ix2 t n) = (r.row t).z n * sg ((r.row t).z n) := by
  pointwise [rv29, at12, row_h, row_o, row_y, row_nw, row_ow, row_wz, row_wm, row_wb, sg]

theorem at30 (t : Fin 8320)(n : Fin 512) : r.rv30 (ix2 t n) = (r.row t).gb n := by
  pointwise [rv30, at28, at29, row_h, row_o, row_y, row_nw, row_ow, row_wz, row_wm, row_wb, In.gb]

theorem at39 (t : Fin 8320)(d : Fin 1024) : r.rv39 (ix2 t d) = (r.row t).out d := by
  pointwise [rv39, at13, at30, row_h, row_o, row_y, row_nw, row_ow, row_wz, row_wm, row_wb, In.out, sg]

end Arr
end Cert.Proof.GateF
-- ==== Proof.GateFArr.lean ====
/- The kernel's windows: which rows of the argument arrays a grid point reads. -/
module

public import proofs.«01_k».proof.Proof.GateFTile
public import proofs.«01_k».proof.Proof.GateFRows
public import proofs.«01_k».proof.Proof.Gen.GateFIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.GateFIdeal Cert.GateFIdeal.Gen
open scoped BigOperators
namespace Cert.Proof.GateF

variable (m : (ℓ : Loc nD τ sig) → Buf (Elt Ideal) ℓ) (c : Dev nD)

/-- Every window's block index at a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t, iblk m c 7 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)

/-- The array row that grid point `t` reads as its row `p`. -/
def rowAt (t : Fin cfg0.N) (p : Fin 320) : Fin 8320 :=
  ⟨t.val * 320 + p.val, by have : t.val < 26 := lt_of_lt_of_eq t.isLt (by decide); omega⟩

theorem row_eq (t : Fin cfg0.N) (p : Fin 320) : (blk m c t).row p = (arr m c).row (rowAt t p) := by
  have h0 : ∀ k : Fin 1024, (blk m c t).x0 (ix2 p k) = (arr m c).a0 (ix2 (rowAt t p) k) := by
    intro k; simp only [blk, arr, rowAt]; blk_point [iblk, V, idx t]
  have h1 : ∀ k : Fin 512, (blk m c t).x1 (ix2 p k) = (arr m c).a1 (ix2 (rowAt t p) k) := by
    intro k; simp only [blk, arr, rowAt]; blk_point [iblk, V, idx t]
  have h2 : ∀ k : Fin 1024, (blk m c t).x2 (ix2 p k) = (arr m c).a2 (ix2 (rowAt t p) k) := by
    intro k; simp only [blk, arr, rowAt]; blk_point [iblk, V, idx t]
  have h3 : ∀ k : Fin 1024, (blk m c t).x3 (ix2 0 k) = (arr m c).a3 (ix2 0 k) := by
    intro k; simp only [blk, arr]; blk_point [iblk, V, idx t]
  have h4 : ∀ k : Fin 128, (blk m c t).x4 (ix2 0 k) = (arr m c).a4 (ix2 0 k) := by
    intro k; simp only [blk, arr]; blk_point [iblk, V, idx t]
  have h5 : ∀ (k : Fin 1024) (n : Fin 512), (blk m c t).x5 (ix2 k n) = (arr m c).a5 (ix2 k n) := by
    intro k n; simp only [blk, arr]; blk_point [iblk, V, idx t]
  have h6 : ∀ (k : Fin 1024) (n : Fin 1024), (blk m c t).x6 (ix2 k n) = (arr m c).a6 (ix2 k n) := by
    intro k n; simp only [blk, arr]; blk_point [iblk, V, idx t]
  have h7 : ∀ (k : Fin 512) (n : Fin 1024), (blk m c t).x7 (ix2 k n) = (arr m c).a7 (ix2 k n) := by
    intro k n; simp only [blk, arr]; blk_point [iblk, V, idx t]
  simp only [Blk.row, Arr.row, h0, h1, h2, h3, h4, h5, h6, h7]

end Cert.Proof.GateF
-- ==== Proof.GateFFin1.lean ====
/- Result arrays of the kernel after the run, entry by entry. -/
module

public import proofs.«01_k».proof.Proof.GateFArr

@[expose] public section

set_option maxRecDepth 16384
noncomputable section
open Idealize.ShloMosaic Idealize.ShloMosaic.TcCoe Idealize.SL.Sem
open Cert.Proof.Row Cert.GateFIdeal Cert.GateFIdeal.Gen
open scoped BigOperators
namespace Cert.Proof.GateF

variable (m : (ℓ : Loc nD τ sig) → Buf (Elt Ideal) ℓ) (c : Dev nD)

set_option maxHeartbeats 2000000 in
/-- The merged branches. -/
theorem final_8 : (dats m 0 c).arrAt 8 (cfgs 0).N = (arr m c).rv39 := by
  refine (dats m 0 c).arrAt_eq_of_covers 8 _ (by decide +kernel) fun t hf y => ?_
  have key : ∀ (p : Fin 320) (k : Fin 1024), (blk m c t).t99 (ix2 p k) = (arr m c).rv39 (ix2 (rowAt t p) k) := by
    intro p k; rw [Blk.at99, Arr.at39, row_eq]
  have emb : ∀ (p : Fin 320) (k : Fin 1024), ((cfg0.win 8).blk t).view.emb (ix2 p k) = ix2 (rowAt t p) k := by
    intro p k; simp only [rowAt]; blk_ext [idx t]
  blk_simp; rw [after0_8]; unfold out0_8; frame_out
  idx_vars y
  exact (key y0 y1).trans (congrArg (arr m c).rv39 (emb y0 y1).symm)

end Cert.Proof.GateF
-- ==== Proof.GateFClaim.lean ====
/- The claims about a merge stage with an output norm: the frames, and that its results are those of the reference. -/
module

public import proofs.«01_k».proof.Proof.GateFFin1
public import proofs.«01_k».proof.Defs
public import proofs.«01_k».proof.Proof.Gen.GateF.Frame

@[expose] public section

set_option maxRecDepth 16384
noncomputable section
open Idealize.ShloMosaic Idealize.ShloMosaic.TcCoe Idealize.SL.Sem
namespace Cert.Proof.GateF

section
open Cert.GateFRefIdeal Cert.GateFRefIdeal.Gen Cert.GateFRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)

set_option maxHeartbeats 2000000 in
theorem res_39 : (addf (rarr m c).a2 (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral (φ₁ := .f32) (φ₂ := .f32) dot_S8320x1024_S1024x1024_S8320x1024_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a3)) (rarr m c).a6))))) (Host.dotGeneral (φ₁ := .f32) (φ₂ := .f32) dot_S8320x512_S512x1024_S8320x1024_1_0_0_1_n_n none (mulf (shapeCast _ (mulf (mulf (shapeCast _ (rarr m c).a1 shapeCasts_S8320x512_S8320x4x128) (broadcastInDim S8320x4x128 ![0, 1, 2] bcast_S8320x4x1_S8320x4x128_0_1_2 (Host.rsqrt (addf (Host.divf (broadcastInDim S8320x4x1 ![0, 1] bcast_S8320x4_S8320x4x1_0_1 (Host.reduceAdd (mulf (shapeCast _ (rarr m c).a1 shapeCasts_S8320x512_S8320x4x128) (shapeCast _ (rarr m c).a1 shapeCasts_S8320x512_S8320x4x128)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))))) (broadcastInDim S8320x4x128 ![0, 1, 2] bcast_S1x1x128_S8320x4x128_0_1_2 (broadcastInDim S1x1x128 ![1, 2] bcast_S1x128_S1x1x128_1_2 (rarr m c).a4))) shapeCasts_S8320x4x128_S8320x512) (mulf (Host.dotGeneral (φ₁ := .f32) (φ₂ := .f32) dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a3)) (rarr m c).a5) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral (φ₁ := .f32) (φ₂ := .f32) dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a3)) (rarr m c).a5))))))) (rarr m c).a7)) : FVec Ideal S8320x1024 .f32) = (rarr m c).rv39 := rfl
end

theorem frame_p : Cert.quiescent_GateF := fun m ρ _ => Cert.GateF.Gen.frame m ρ
theorem frame_pi : Cert.quiescent_GateFIdeal := fun m ρ _ => Cert.GateFIdeal.Gen.frame m ρ
theorem frame_ri : Cert.quiescent_GateFRefIdeal := fun m ρ _ =>
  (θ_run Cert.GateFRefIdeal.defs _ _).mono (fun r h => ⟨fun c => (h c).2,
      Idealize.ShloMosaic.sem_eq_zero_of_no_sems (by decide) r.2⟩)
    (Cert.GateFRefIdeal.Value.run (F := Ideal) m ρ)

theorem algebraic : Cert.algebraic_GateFIdeal_GateFRefIdeal := by
  intro m ρ m' ρ' _ hag
  have e : ∀ c, rarr m' c = arr m c := by
    intro c
    obtain ⟨h0, h1, h2, h3, h4, h5, h6, h7⟩ := hag c
    simp only [rarr, arr]
    rw [h0, h1, h2, h3, h4, h5, h6, h7]
  refine ⟨fun c => (arr m c).rv39, ?_, ?_⟩
  · refine (θ_run Cert.GateFIdeal.defs _ _).mono (fun r h c => ?_) (Cert.GateFIdeal.Value.run_blocks (F := Ideal) m ρ)
    obtain ⟨g8, g⟩ := h c
    exact ⟨g8.trans (final_8 m c), g⟩
  · refine (θ_run Cert.GateFRefIdeal.defs _ _).mono (fun r h c => ?_) (Cert.GateFRefIdeal.Value.run (F := Ideal) m' ρ')
    obtain ⟨g0, g⟩ := h c
    exact ⟨g0.trans ((res_39 m' c).trans (congrArg Arr.rv39 (e c))), g⟩

end Cert.Proof.GateF
-- ==== Proof.PlainFSpec.lean ====
/- One row of a merge stage without an output norm, on plain functions over the extended reals. -/
module

public import proofs.«01_k».proof.Proof.Heads

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.PlainF

/-- What a row of the stage reads. -/
structure In where
  h : Fin 1024 → EReal
  o : Fin 512 → EReal
  nw : Fin 1024 → EReal
  wz : Fin 1024 → Fin 512 → EReal
  wm : Fin 1024 → Fin 1024 → EReal
  wb : Fin 512 → Fin 1024 → EReal

namespace In
variable (i : In)

def xn (k : Fin 1024) : EReal := i.h k * rinv n1024 i.h * i.nw k
def z (n : Fin 512) : EReal := ∑ k, i.xn k * i.wz k n
def mix (d : Fin 1024) : EReal := ∑ k, i.xn k * i.wm k d
/-- The gated branch. -/
def gb (n : Fin 512) : EReal := i.o n * (i.z n * sg (i.z n))
/-- The stage's output: the branch through the merge gate. -/
def out (d : Fin 1024) : EReal := sg (i.mix d) * ∑ n, i.gb n * i.wb n d

end In
end Cert.Proof.PlainF
-- ==== Proof.PlainFTile.lean ====
/- The kernel's block of 320 rows, entry by entry: the values of the body are the row mathematics of
   `PlainFSpec` on the block's rows. -/
module

public import proofs.«01_k».proof.Proof.PlainFSpec
public import proofs.«01_k».proof.Proof.Gen.PlainFIdeal.Skeleton

@[expose] public section

set_option maxRecDepth 16384
noncomputable section
open Idealize.ShloMosaic Cert.Proof.Row Cert.PlainFIdeal Cert.PlainFIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.PlainF

/-- The blocks one grid point reads. -/
structure Blk where
  x0 : Vec Ideal S320x1024 .f32
  x1 : Vec Ideal S320x512 .f32
  x2 : Vec Ideal S1x1024 .f32
  x3 : Vec Ideal S1x128 .f32
  x4 : Vec Ideal S1024x512 .bf16
  x5 : Vec Ideal S1024x1024 .bf16
  x6 : Vec Ideal S512x1024 .bf16

namespace Blk
variable (b : Blk)

/-- Row `p` of the blocks. -/
def row (p : Fin 320) : In where
  h k := b.x0 (ix2 p k)
  o k := b.x1 (ix2 p k)
  nw k := b.x2 (ix2 0 k)
  wz k n := b.x4 (ix2 k n)
  wm k n := b.x5 (ix2 k n)
  wb k n := b.x6 (ix2 k n)

section
variable (p : Fin 320)
theorem row_h (k : Fin 1024) : (b.row p).h k = b.x0 (ix2 p k) := rfl
theorem row_o (k : Fin 512) : (b.row p).o k = b.x1 (ix2 p k) := rfl
theorem row_nw (k : Fin 1024) : (b.row p).nw k = b.x2 (ix2 0 k) := rfl
theorem row_wz (k : Fin 1024) (n : Fin 512) : (b.row p).wz k n = b.x4 (ix2 k n) := rfl
theorem row_wm (k : Fin 1024) (n : Fin 1024) : (b.row p).wm k n = b.x5 (ix2 k n) := rfl
theorem row_wb (k : Fin 512) (n : Fin 1024) : (b.row p).wb k n = b.x6 (ix2 k n) := rfl
end

def t20 := k0_pay3 (F := Ideal) b.x0 b.x2
def t8 := k0_pay2 (F := Ideal) b.x6
def t22 := k0_pay4 (F := Ideal) b.x0 b.x2 b.x4
def t31 := k0_pay5 (F := Ideal) b.x0 b.x2 b.x5
def t36 := k0_pay6 (F := Ideal) b.x0 b.x2 b.x4
def t43 := k0_pay1 (F := Ideal) b.x1 b.t8 b.t22 b.t31 b.t36

theorem fold20 : k0_pay3 (F := Ideal) b.x0 b.x2 = b.t20 := rfl
theorem fold22 : k0_pay4 (F := Ideal) b.x0 b.x2 b.x4 = b.t22 := rfl

theorem at20 (p : Fin 320)(k : Fin 1024) : b.t20 (ix2 p k) = (b.row p).xn k := by
  pointwise [t20, k0_pay3, row_h, row_o, row_nw, row_wz, row_wm, row_wb, In.xn, rinv, ms]

theorem at8 (n : Fin 512)(d : Fin 1024) : b.t8 (ix2 n d) = b.x6 (ix2 n d) := by
  pointwise [t8, k0_pay2, row_h, row_o, row_nw, row_wz, row_wm, row_wb]

theorem at22 (p : Fin 320)(n : Fin 512) : b.t22 (ix2 p n) = (b.row p).z n := by
  pointwise [t22, k0_pay4, fold20, at20, row_h, row_o, row_nw, row_wz, row_wm, row_wb, In.z]

theorem at31 (p : Fin 320)(d : Fin 1024) : b.t31 (ix2 p d) = sg ((b.row p).mix d) := by
  pointwise [t31, k0_pay5, fold20, at20, row_h, row_o, row_nw, row_wz, row_wm, row_wb, In.mix, sg_tanh]

theorem at36 (p : Fin 320)(n : Fin 512) : b.t36 (ix2 p n) = Ideal.tanh (half * (b.row p).z n) + 1 := by
  pointwise [t36, k0_pay6, fold22, at22, row_h, row_o, row_nw, row_wz, row_wm, row_wb]

theorem at43 (p : Fin 320)(d : Fin 1024) : b.t43 (ix2 p d) = (b.row p).out d := by
  pointwise [t43, k0_pay1, at8, at22, at31, at36, row_h, row_o, row_nw, row_wz, row_wm, row_wb, In.out, In.gb, sg_tanh]

end Blk
end Cert.Proof.PlainF
-- ==== Proof.PlainFRows.lean ====
/- The reference's values, entry by entry: the row mathematics of `PlainFSpec` on the rows of the reference's
   arguments, and each weight gradient the sum of the rows' shares. -/
module

public import proofs.«01_k».proof.Proof.PlainFSpec
public import proofs.«01_k».proof.Proof.Gen.PlainFRefIdeal.Run

@[expose] public section

set_option maxRecDepth 16384
noncomputable section
open Idealize.ShloMosaic Cert.Proof.Row Cert.PlainFRefIdeal Cert.PlainFRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.PlainF

/-- The arguments of the reference. -/
structure Arr where
  a0 : FVec Ideal S8320x1024 .f32
  a1 : FVec Ideal S8320x512 .f32
  a2 : FVec Ideal S1x1024 .f32
  a3 : FVec Ideal S1x128 .f32
  a4 : FVec Ideal S1024x512 .f32
  a5 : FVec Ideal S1024x1024 .f32
  a6 : FVec Ideal S512x1024 .f32

namespace Arr
variable (r : Arr)

/-- Row `t` of the arguments. -/
def row (t : Fin 8320) : In where
  h k := r.a0 (ix2 t k)
  o k := r.a1 (ix2 t k)
  nw k := r.a2 (ix2 0 k)
  wz k n := r.a4 (ix2 k n)
  wm k n := r.a5 (ix2 k n)
  wb k n := r.a6 (ix2 k n)

section
variable (t : Fin 8320)
theorem row_h (k : Fin 1024) : (r.row t).h k = r.a0 (ix2 t k) := rfl
theorem row_o (k : Fin 512) : (r.row t).o k = r.a1 (ix2 t k) := rfl
theorem row_nw (k : Fin 1024) : (r.row t).nw k = r.a2 (ix2 0 k) := rfl
theorem row_wz (k : Fin 1024) (n : Fin 512) : (r.row t).wz k n = r.a4 (ix2 k n) := rfl
theorem row_wm (k : Fin 1024) (n : Fin 1024) : (r.row t).wm k n = r.a5 (ix2 k n) := rfl
theorem row_wb (k : Fin 512) (n : Fin 1024) : (r.row t).wb k n = r.a6 (ix2 k n) := rfl
end

def rv7 : FVec Ideal S8320x1 .f32 :=
  Host.rsqrt (addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))

def rv11 : FVec Ideal S8320x1024 .f32 :=
  mulf (mulf r.a0 (broadcastInDim S8320x1024 ![0, 1] bcast_S8320x1_S8320x1024_0_1 (r.rv7))) (broadcastInDim S8320x1024 ![0, 1] bcast_S1x1024_S8320x1024_0_1 r.a2)

def rv12 : FVec Ideal S8320x512 .f32 :=
  Host.dotGeneral dot_S8320x1024_S1024x512_S8320x512_1_0_0_1_n_n none (r.rv11) r.a4

def rv13 : FVec Ideal S8320x1024 .f32 :=
  Host.dotGeneral dot_S8320x1024_S1024x1024_S8320x1024_1_0_0_1_n_n none (r.rv11) r.a5

def rv20 : FVec Ideal S8320x512 .f32 :=
  mulf (r.rv12) (Host.divf (broadcastInDim S8320x512 ![] bcast_S_S8320x512 (constant S_ .f32 0x3F800000#32)) (addf (broadcastInDim S8320x512 ![] bcast_S_S8320x512 (constant S_ .f32 0x3F800000#32)) (Host.exp (Host.negf (r.rv12)))))

def rv21 : FVec Ideal S8320x512 .f32 :=
  mulf r.a1 (r.rv20)

def rv23 : FVec Ideal S8320x1024 .f32 :=
  mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (r.rv13))))) (Host.dotGeneral dot_S8320x512_S512x1024_S8320x1024_1_0_0_1_n_n none (r.rv21) r.a6)

theorem at7 (t : Fin 8320)(x : Fin 1) : r.rv7 (ix2 t x) = rinv n1024 (r.row t).h := by
  obtain rfl : x = 0 := Subsingleton.elim _ _
  pointwise [rv7, row_h, row_o, row_nw, row_wz, row_wm, row_wb, rinv, ms]

theorem at11 (t : Fin 8320)(k : Fin 1024) : r.rv11 (ix2 t k) = (r.row t).xn k := by
  pointwise [rv11, at7, row_h, row_o, row_nw, row_wz, row_wm, row_wb, In.xn]

theorem at12 (t : Fin 8320)(n : Fin 512) : r.rv12 (ix2 t n) = (r.row t).z n := by
  pointwise [rv12, at11, row_h, row_o, row_nw, row_wz, row_wm, row_wb, In.z]

theorem at13 (t : Fin 8320)(d : Fin 1024) : r.rv13 (ix2 t d) = (r.row t).mix d := by
  pointwise [rv13, at11, row_h, row_o, row_nw, row_wz, row_wm, row_wb, In.mix]

theorem at20 (t : Fin 8320)(n : Fin 512) : r.rv20 (ix2 t n) = (r.row t).z n * sg ((r.row t).z n) := by
  pointwise [rv20, at12, row_h, row_o, row_nw, row_wz, row_wm, row_wb, sg]

theorem at21 (t : Fin 8320)(n : Fin 512) : r.rv21 (ix2 t n) = (r.row t).gb n := by
  pointwise [rv21, at20, row_h, row_o, row_nw, row_wz, row_wm, row_wb, In.gb]

theorem at23 (t : Fin 8320)(d : Fin 1024) : r.rv23 (ix2 t d) = (r.row t).out d := by
  pointwise [rv23, at13, at21, row_h, row_o, row_nw, row_wz, row_wm, row_wb, In.out, sg]

end Arr
end Cert.Proof.PlainF
-- ==== Proof.PlainFArr.lean ====
/- The kernel's windows: which rows of the argument arrays a grid point reads. -/
module

public import proofs.«01_k».proof.Proof.PlainFTile
public import proofs.«01_k».proof.Proof.PlainFRows
public import proofs.«01_k».proof.Proof.Gen.PlainFIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.PlainFIdeal Cert.PlainFIdeal.Gen
open scoped BigOperators
namespace Cert.Proof.PlainF

variable (m : (ℓ : Loc nD τ sig) → Buf (Elt Ideal) ℓ) (c : Dev nD)

/-- Every window's block index at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0] :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)

/-- The array row that grid point `t` reads as its row `p`. -/
def rowAt (t : Fin cfg0.N) (p : Fin 320) : Fin 8320 :=
  ⟨t.val * 320 + p.val, by have : t.val < 26 := lt_of_lt_of_eq t.isLt (by decide); omega⟩

theorem row_eq (t : Fin cfg0.N) (p : Fin 320) : (blk m c t).row p = (arr m c).row (rowAt t p) := by
  have h0 : ∀ k : Fin 1024, (blk m c t).x0 (ix2 p k) = (arr m c).a0 (ix2 (rowAt t p) k) := by
    intro k; simp only [blk, arr, rowAt]; blk_point [iblk, V, idx t]
  have h1 : ∀ k : Fin 512, (blk m c t).x1 (ix2 p k) = (arr m c).a1 (ix2 (rowAt t p) k) := by
    intro k; simp only [blk, arr, rowAt]; blk_point [iblk, V, idx t]
  have h2 : ∀ k : Fin 1024, (blk m c t).x2 (ix2 0 k) = (arr m c).a2 (ix2 0 k) := by
    intro k; simp only [blk, arr]; blk_point [iblk, V, idx t]
  have h4 : ∀ (k : Fin 1024) (n : Fin 512), (blk m c t).x4 (ix2 k n) = (arr m c).a4 (ix2 k n) := by
    intro k n; simp only [blk, arr]; blk_point [iblk, V, idx t]
  have h5 : ∀ (k : Fin 1024) (n : Fin 1024), (blk m c t).x5 (ix2 k n) = (arr m c).a5 (ix2 k n) := by
    intro k n; simp only [blk, arr]; blk_point [iblk, V, idx t]
  have h6 : ∀ (k : Fin 512) (n : Fin 1024), (blk m c t).x6 (ix2 k n) = (arr m c).a6 (ix2 k n) := by
    intro k n; simp only [blk, arr]; blk_point [iblk, V, idx t]
  simp only [Blk.row, Arr.row, h0, h1, h2, h4, h5, h6]

end Cert.Proof.PlainF
-- ==== Proof.PlainFFin1.lean ====
/- Result arrays of the kernel after the run, entry by entry. -/
module

public import proofs.«01_k».proof.Proof.PlainFArr

@[expose] public section

set_option maxRecDepth 16384
noncomputable section
open Idealize.ShloMosaic Idealize.ShloMosaic.TcCoe Idealize.SL.Sem
open Cert.Proof.Row Cert.PlainFIdeal Cert.PlainFIdeal.Gen
open scoped BigOperators
namespace Cert.Proof.PlainF

variable (m : (ℓ : Loc nD τ sig) → Buf (Elt Ideal) ℓ) (c : Dev nD)

set_option maxHeartbeats 2000000 in
/-- The branch after the merge gate. -/
theorem final_7 : (dats m 0 c).arrAt 7 (cfgs 0).N = (arr m c).rv23 := by
  refine (dats m 0 c).arrAt_eq_of_covers 7 _ (by decide +kernel) fun t hf y => ?_
  have key : ∀ (p : Fin 320) (k : Fin 1024), (blk m c t).t43 (ix2 p k) = (arr m c).rv23 (ix2 (rowAt t p) k) := by
    intro p k; rw [Blk.at43, Arr.at23, row_eq]
  have emb : ∀ (p : Fin 320) (k : Fin 1024), ((cfg0.win 7).blk t).view.emb (ix2 p k) = ix2 (rowAt t p) k := by
    intro p k; simp only [rowAt]; blk_ext [idx t]
  blk_simp; rw [after0_7]; unfold out0_7; frame_out
  idx_vars y
  exact (key y0 y1).trans (congrArg (arr m c).rv23 (emb y0 y1).symm)

end Cert.Proof.PlainF
-- ==== Proof.PlainFClaim.lean ====
/- The claims about a merge stage without an output norm: the frames, and that its results are those of the reference. -/
module

public import proofs.«01_k».proof.Proof.PlainFFin1
public import proofs.«01_k».proof.Defs
public import proofs.«01_k».proof.Proof.Gen.PlainF.Frame

@[expose] public section

set_option maxRecDepth 16384
noncomputable section
open Idealize.ShloMosaic Idealize.ShloMosaic.TcCoe Idealize.SL.Sem
namespace Cert.Proof.PlainF

section
open Cert.PlainFRefIdeal Cert.PlainFRefIdeal.Gen Cert.PlainFRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)

set_option maxHeartbeats 2000000 in
theorem res_23 : (mulf (Host.divf (broadcastInDim S8320x1024 ![] bcast_S_S8320x1024 (constant S_ .f32 0x3F800000#32)) (addf (broadcastInDim S8320x1024 ![] bcast_S_S8320x1024 (constant S_ .f32 0x3F800000#32)) (Host.exp (Host.negf (Host.dotGeneral (φ₁ := .f32) (φ₂ := .f32) dot_S8320x1024_S1024x1024_S8320x1024_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a5))))) (Host.dotGeneral (φ₁ := .f32) (φ₂ := .f32) dot_S8320x512_S512x1024_S8320x1024_1_0_0_1_n_n none (mulf (rarr m c).a1 (mulf (Host.dotGeneral (φ₁ := .f32) (φ₂ := .f32) dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4) (Host.divf (broadcastInDim S8320x512 ![] bcast_S_S8320x512 (constant S_ .f32 0x3F800000#32)) (addf (broadcastInDim S8320x512 ![] bcast_S_S8320x512 (constant S_ .f32 0x3F800000#32)) (Host.exp (Host.negf (Host.dotGeneral (φ₁ := .f32) (φ₂ := .f32) dot_S8320x1024_S1024x512_S8320x512_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a2)) (rarr m c).a4))))))) (rarr m c).a6) : FVec Ideal S8320x1024 .f32) = (rarr m c).rv23 := rfl
end

theorem frame_p : Cert.quiescent_PlainF := fun m ρ _ => Cert.PlainF.Gen.frame m ρ
theorem frame_pi : Cert.quiescent_PlainFIdeal := fun m ρ _ => Cert.PlainFIdeal.Gen.frame m ρ
theorem frame_ri : Cert.quiescent_PlainFRefIdeal := fun m ρ _ =>
  (θ_run Cert.PlainFRefIdeal.defs _ _).mono (fun r h => ⟨fun c => (h c).2,
      Idealize.ShloMosaic.sem_eq_zero_of_no_sems (by decide) r.2⟩)
    (Cert.PlainFRefIdeal.Value.run (F := Ideal) m ρ)

theorem algebraic : Cert.algebraic_PlainFIdeal_PlainFRefIdeal := by
  intro m ρ m' ρ' _ hag
  have e : ∀ c, rarr m' c = arr m c := by
    intro c
    obtain ⟨h0, h1, h2, h3, h4, h5, h6⟩ := hag c
    simp only [rarr, arr]
    rw [h0, h1, h2, h3, h4, h5, h6]
  refine ⟨fun c => (arr m c).rv23, ?_, ?_⟩
  · refine (θ_run Cert.PlainFIdeal.defs _ _).mono (fun r h c => ?_) (Cert.PlainFIdeal.Value.run_blocks (F := Ideal) m ρ)
    obtain ⟨g7, g⟩ := h c
    exact ⟨g7.trans (final_7 m c), g⟩
  · refine (θ_run Cert.PlainFRefIdeal.defs _ _).mono (fun r h c => ?_) (Cert.PlainFRefIdeal.Value.run (F := Ideal) m' ρ')
    obtain ⟨g0, g⟩ := h c
    exact ⟨g0.trans ((res_23 m' c).trans (congrArg Arr.rv23 (e c))), g⟩

end Cert.Proof.PlainF
-- ==== Proof.AttnFSpec.lean ====
/- One row of the attention layer's projections, on plain functions over the extended reals. -/
module

public import proofs.«01_k».proof.Proof.Heads

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.AttnF

/-- What a row of the stage reads. -/
structure In where
  h : Fin 1024 → EReal
  nw : Fin 1024 → EReal
  qn : Fin 128 → EReal
  kn : Fin 128 → EReal
  w : Fin 1024 → Fin 1536 → EReal

namespace In
variable (i : In)

def xn (k : Fin 1024) : EReal := i.h k * rinv n1024 i.h * i.nw k
/-- The projections, before the head norms: queries, keys and values side by side. -/
def raw (m : Fin 1536) : EReal := ∑ k, i.xn k * i.w k m
/-- Head `q` of the queries and of the keys, and the same after their norms. -/
def qh (q : Fin 4) (j : Fin 128) : EReal := i.raw (c3 0 (cat q j))
@[inherit_doc qh] def kh (q : Fin 4) (j : Fin 128) : EReal := i.raw (c3 1 (cat q j))
@[inherit_doc qh] def oq (q : Fin 4) (j : Fin 128) : EReal := i.qh q j * rinv n128 (i.qh q) * i.qn j
@[inherit_doc qh] def ok (q : Fin 4) (j : Fin 128) : EReal := i.kh q j * rinv n128 (i.kh q) * i.kn j
/-- The queries, keys and values the stage hands on. -/
def qo (n : Fin 512) : EReal := i.oq (hq n) (hj n)
@[inherit_doc qo] def ko (n : Fin 512) : EReal := i.ok (hq n) (hj n)
@[inherit_doc qo] def vo (n : Fin 512) : EReal := i.raw (c3 2 n)

end In
end Cert.Proof.AttnF
-- ==== Proof.AttnFTile.lean ====
/- The kernel's block of 320 rows, entry by entry: the values of the body are the row mathematics of
   `AttnFSpec` on the block's rows. -/
module

public import proofs.«01_k».proof.Proof.AttnFSpec
public import proofs.«01_k».proof.Proof.Gen.AttnFIdeal.Skeleton

@[expose] public section

set_option maxRecDepth 16384
noncomputable section
open Idealize.ShloMosaic Cert.Proof.Row Cert.AttnFIdeal Cert.AttnFIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.AttnF

/-- The blocks one grid point reads. -/
structure Blk where
  x0 : Vec Ideal S320x1024 .f32
  x1 : Vec Ideal S1x1024 .f32
  x2 : Vec Ideal S1x128 .f32
  x3 : Vec Ideal S1x128 .f32
  x4 : Vec Ideal S1024x1536 .bf16

namespace Blk
variable (b : Blk)

/-- Row `p` of the blocks. -/
def row (p : Fin 320) : In where
  h k := b.x0 (ix2 p k)
  nw k := b.x1 (ix2 0 k)
  qn k := b.x2 (ix2 0 k)
  kn k := b.x3 (ix2 0 k)
  w k n := b.x4 (ix2 k n)

section
variable (p : Fin 320)
theorem row_h (k : Fin 1024) : (b.row p).h k = b.x0 (ix2 p k) := rfl
theorem row_nw (k : Fin 1024) : (b.row p).nw k = b.x1 (ix2 0 k) := rfl
theorem row_qn (k : Fin 128) : (b.row p).qn k = b.x2 (ix2 0 k) := rfl
theorem row_kn (k : Fin 128) : (b.row p).kn k = b.x3 (ix2 0 k) := rfl
theorem row_w (k : Fin 1024) (n : Fin 1536) : (b.row p).w k n = b.x4 (ix2 k n) := rfl
end

def t19 := k0_pay1 (F := Ideal) b.x0 b.x1 b.x4
def t20 := k0_pay2 (F := Ideal) b.x0 b.x1 b.x4
def t33 := k0_pay3 (F := Ideal) b.x0 b.x1 b.x2 b.x4
def t34 := k0_pay4 (F := Ideal) b.x0 b.x1 b.x4
def t39 := k0_pay5 (F := Ideal) b.x0 b.x1 b.x4
def t74 := k0_pay7 (F := Ideal) b.t19
def t87 := k0_pay8 (F := Ideal) b.x3 b.t19
def t88 := k0_pay9 (F := Ideal) b.t19
def t89 := k0_pay10 (F := Ideal) b.t19
def t73 := k0_pay6 (F := Ideal) b.x2 b.t20 b.t33 b.t34 b.t39
def t127 := k0_pay11 (F := Ideal) b.x3 b.t74 b.t87 b.t88 b.t89
def t128 := k0_pay12 (F := Ideal) b.t19

theorem fold19 : k0_pay1 (F := Ideal) b.x0 b.x1 b.x4 = b.t19 := rfl
theorem fold20 : k0_pay2 (F := Ideal) b.x0 b.x1 b.x4 = b.t20 := rfl
theorem fold34 : k0_pay4 (F := Ideal) b.x0 b.x1 b.x4 = b.t34 := rfl
theorem fold74 : k0_pay7 (F := Ideal) b.t19 = b.t74 := rfl
theorem fold88 : k0_pay9 (F := Ideal) b.t19 = b.t88 := rfl

theorem at19 (p : Fin 320)(m : Fin 1536) : b.t19 (ix2 p m) = (b.row p).raw m := by
  pointwise [t19, k0_pay1, row_h, row_nw, row_qn, row_kn, row_w, In.raw, In.xn, rinv, ms]

theorem at20 (p : Fin 320)(n : Fin 512) : b.t20 (ix2 p n) = (b.row p).raw (c3 0 n) := by
  pointwise [t20, k0_pay2, fold19, at19, row_h, row_nw, row_qn, row_kn, row_w, c30]

theorem at33 (p : Fin 320)(j : Fin 128) : b.t33 (ix2 p j) = (b.row p).oq 0 j := by
  pointwise [t33, k0_pay3, fold20, at20, row_h, row_nw, row_qn, row_kn, row_w, In.oq, In.qh, cat0, rinv, ms]

theorem at34 (p : Fin 320)(j : Fin 128) : b.t34 (ix2 p j) = (b.row p).qh 1 j := by
  pointwise [t34, k0_pay4, fold20, at20, row_h, row_nw, row_qn, row_kn, row_w, In.qh, cat1]

theorem at39 (p : Fin 320)(x : Fin 1) : b.t39 (ix2 p x) = Ideal.div (∑ j, (b.row p).qh 1 j * (b.row p).qh 1 j) n128 := by
  obtain rfl : x = 0 := Subsingleton.elim _ _
  pointwise [t39, k0_pay5, fold34, at34, row_h, row_nw, row_qn, row_kn, row_w]

theorem at74 (p : Fin 320)(n : Fin 512) : b.t74 (ix2 p n) = (b.row p).raw (c3 1 n) := by
  pointwise [t74, k0_pay7, at19, row_h, row_nw, row_qn, row_kn, row_w, c31]

theorem at87 (p : Fin 320)(j : Fin 128) : b.t87 (ix2 p j) = (b.row p).ok 0 j := by
  pointwise [t87, k0_pay8, at19, fold74, at74, row_h, row_nw, row_qn, row_kn, row_w, In.ok, In.kh, cat0, rinv, ms]

theorem at88 (p : Fin 320)(j : Fin 128) : b.t88 (ix2 p j) = (b.row p).kh 1 j := by
  pointwise [t88, k0_pay9, at19, fold74, at74, row_h, row_nw, row_qn, row_kn, row_w, In.kh, cat1]

theorem at89 (p : Fin 320)(j : Fin 128) : b.t89 (ix2 p j) = (b.row p).kh 1 j * (b.row p).kh 1 j := by
  pointwise [t89, k0_pay10, at19, fold88, at88, row_h, row_nw, row_qn, row_kn, row_w]

theorem atv73q (p : Fin 320) (q : Fin 4) (j : Fin 128) : b.t73 (ix2 p (cat q j)) = (b.row p).oq q j := by
  pointwise [t73, k0_pay6, at20, at33, at34, at39, row_h, row_nw, row_qn, row_kn, row_w]
  rcases four q with rfl | rfl | rfl | rfl
  all_goals
    try simp (disch := omega) only [cat0v, cat1v, cat2v, cat3v, dif_pos, dif_neg, Nat.sub_add_comm, Nat.reduceSub, Nat.sub_self, Nat.zero_add, Fin.eta]
    try simp only [In.oq, In.qh, rinv, ms, cat0, cat1, cat2, cat3, row_h, row_nw, row_qn, row_kn, row_w]

theorem at73 (p : Fin 320) (n : Fin 512) : b.t73 (ix2 p n) = (b.row p).qo n := by
  conv_lhs => rw [← cat_hq_hj n]
  exact b.atv73q p _ _

theorem atv127q (p : Fin 320) (q : Fin 4) (j : Fin 128) : b.t127 (ix2 p (cat q j)) = (b.row p).ok q j := by
  pointwise [t127, k0_pay11, at74, at87, at88, at89, row_h, row_nw, row_qn, row_kn, row_w]
  rcases four q with rfl | rfl | rfl | rfl
  all_goals
    try simp (disch := omega) only [cat0v, cat1v, cat2v, cat3v, dif_pos, dif_neg, Nat.sub_add_comm, Nat.reduceSub, Nat.sub_self, Nat.zero_add, Fin.eta]
    try simp only [In.ok, In.kh, rinv, ms, cat0, cat1, cat2, cat3, row_h, row_nw, row_qn, row_kn, row_w]

theorem at127 (p : Fin 320) (n : Fin 512) : b.t127 (ix2 p n) = (b.row p).ko n := by
  conv_lhs => rw [← cat_hq_hj n]
  exact b.atv127q p _ _

theorem at128 (p : Fin 320)(n : Fin 512) : b.t128 (ix2 p n) = (b.row p).vo n := by
  pointwise [t128, k0_pay12, at19, row_h, row_nw, row_qn, row_kn, row_w, In.vo, c32]

end Blk
end Cert.Proof.AttnF
-- ==== Proof.AttnFRows.lean ====
/- The reference's values, entry by entry: the row mathematics of `AttnFSpec` on the rows of the reference's
   arguments, and each weight gradient the sum of the rows' shares. -/
module

public import proofs.«01_k».proof.Proof.AttnFSpec
public import proofs.«01_k».proof.Proof.Gen.AttnFRefIdeal.Run

@[expose] public section

set_option maxRecDepth 16384
noncomputable section
open Idealize.ShloMosaic Cert.Proof.Row Cert.AttnFRefIdeal Cert.AttnFRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.AttnF

/-- The arguments of the reference. -/
structure Arr where
  a0 : FVec Ideal S8320x1024 .f32
  a1 : FVec Ideal S1x1024 .f32
  a2 : FVec Ideal S1x128 .f32
  a3 : FVec Ideal S1x128 .f32
  a4 : FVec Ideal S1024x1536 .f32

namespace Arr
variable (r : Arr)

/-- Row `t` of the arguments. -/
def row (t : Fin 8320) : In where
  h k := r.a0 (ix2 t k)
  nw k := r.a1 (ix2 0 k)
  qn k := r.a2 (ix2 0 k)
  kn k := r.a3 (ix2 0 k)
  w k n := r.a4 (ix2 k n)

section
variable (t : Fin 8320)
theorem row_h (k : Fin 1024) : (r.row t).h k = r.a0 (ix2 t k) := rfl
theorem row_nw (k : Fin 1024) : (r.row t).nw k = r.a1 (ix2 0 k) := rfl
theorem row_qn (k : Fin 128) : (r.row t).qn k = r.a2 (ix2 0 k) := rfl
theorem row_kn (k : Fin 128) : (r.row t).kn k = r.a3 (ix2 0 k) := rfl
theorem row_w (k : Fin 1024) (n : Fin 1536) : (r.row t).w k n = r.a4 (ix2 k n) := rfl
end

def rv7 : FVec Ideal S8320x1 .f32 :=
  Host.rsqrt (addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))

def rv11 : FVec Ideal S8320x1024 .f32 :=
  mulf (mulf r.a0 (broadcastInDim S8320x1024 ![0, 1] bcast_S8320x1_S8320x1024_0_1 (r.rv7))) (broadcastInDim S8320x1024 ![0, 1] bcast_S1x1024_S8320x1024_0_1 r.a1)

def rv12 : FVec Ideal S8320x1536 .f32 :=
  Host.dotGeneral dot_S8320x1024_S1024x1536_S8320x1536_1_0_0_1_n_n none (r.rv11) r.a4

def rv15 : FVec Ideal S8320x512 .f32 :=
  extractStridedSlice S8320x512 ![0, 1024] (r.rv12) slices_S8320x1536_S8320x512_0_1024

def rv16 : FVec Ideal S8320x4x128 .f32 :=
  shapeCast S8320x4x128 (extractStridedSlice S8320x512 ![0, 0] (r.rv12) slices_S8320x1536_S8320x512_0_0) shapeCasts_S8320x512_S8320x4x128

def rv24 : FVec Ideal S8320x4x1 .f32 :=
  Host.rsqrt (addf (Host.divf (broadcastInDim S8320x4x1 ![0, 1] bcast_S8320x4_S8320x4x1_0_1 (Host.reduceAdd (mulf (r.rv16) (r.rv16)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))

def rv30 : FVec Ideal S8320x512 .f32 :=
  shapeCast S8320x512 (mulf (mulf (r.rv16) (broadcastInDim S8320x4x128 ![0, 1, 2] bcast_S8320x4x1_S8320x4x128_0_1_2 (r.rv24))) (broadcastInDim S8320x4x128 ![0, 1, 2] bcast_S1x1x128_S8320x4x128_0_1_2 (broadcastInDim S1x1x128 ![1, 2] bcast_S1x128_S1x1x128_1_2 r.a2))) shapeCasts_S8320x4x128_S8320x512

def rv31 : FVec Ideal S8320x4x128 .f32 :=
  shapeCast S8320x4x128 (extractStridedSlice S8320x512 ![0, 512] (r.rv12) slices_S8320x1536_S8320x512_0_512) shapeCasts_S8320x512_S8320x4x128

def rv39 : FVec Ideal S8320x4x1 .f32 :=
  Host.rsqrt (addf (Host.divf (broadcastInDim S8320x4x1 ![0, 1] bcast_S8320x4_S8320x4x1_0_1 (Host.reduceAdd (mulf (r.rv31) (r.rv31)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))

def rv45 : FVec Ideal S8320x512 .f32 :=
  shapeCast S8320x512 (mulf (mulf (r.rv31) (broadcastInDim S8320x4x128 ![0, 1, 2] bcast_S8320x4x1_S8320x4x128_0_1_2 (r.rv39))) (broadcastInDim S8320x4x128 ![0, 1, 2] bcast_S1x1x128_S8320x4x128_0_1_2 (broadcastInDim S1x1x128 ![1, 2] bcast_S1x128_S1x1x128_1_2 r.a3))) shapeCasts_S8320x4x128_S8320x512

theorem at7 (t : Fin 8320)(x : Fin 1) : r.rv7 (ix2 t x) = rinv n1024 (r.row t).h := by
  obtain rfl : x = 0 := Subsingleton.elim _ _
  pointwise [rv7, row_h, row_nw, row_qn, row_kn, row_w, rinv, ms]

theorem at11 (t : Fin 8320)(k : Fin 1024) : r.rv11 (ix2 t k) = (r.row t).xn k := by
  pointwise [rv11, at7, row_h, row_nw, row_qn, row_kn, row_w, In.xn]

theorem at12 (t : Fin 8320)(m : Fin 1536) : r.rv12 (ix2 t m) = (r.row t).raw m := by
  pointwise [rv12, at11, row_h, row_nw, row_qn, row_kn, row_w, In.raw]

theorem at16 (t : Fin 8320)(q : Fin 4)(j : Fin 128) : r.rv16 (ix3 t q j) = (r.row t).qh q j := by
  pointwise [rv16, at12, row_h, row_nw, row_qn, row_kn, row_w, In.qh, c30, cat]

theorem at24 (t : Fin 8320)(q : Fin 4)(x : Fin 1) : r.rv24 (ix3 t q x) = rinv n128 ((r.row t).qh q) := by
  obtain rfl : x = 0 := Subsingleton.elim _ _
  pointwise [rv24, at16, row_h, row_nw, row_qn, row_kn, row_w, rinv, ms]

theorem at30 (t : Fin 8320)(n : Fin 512) : r.rv30 (ix2 t n) = (r.row t).qo n := by
  pointwise [rv30, at16, at24, row_h, row_nw, row_qn, row_kn, row_w, In.qo, In.oq, hq, hj]

theorem at31 (t : Fin 8320)(q : Fin 4)(j : Fin 128) : r.rv31 (ix3 t q j) = (r.row t).kh q j := by
  pointwise [rv31, at12, row_h, row_nw, row_qn, row_kn, row_w, In.kh, c31, cat]

theorem at39 (t : Fin 8320)(q : Fin 4)(x : Fin 1) : r.rv39 (ix3 t q x) = rinv n128 ((r.row t).kh q) := by
  obtain rfl : x = 0 := Subsingleton.elim _ _
  pointwise [rv39, at31, row_h, row_nw, row_qn, row_kn, row_w, rinv, ms]

theorem at45 (t : Fin 8320)(n : Fin 512) : r.rv45 (ix2 t n) = (r.row t).ko n := by
  pointwise [rv45, at31, at39, row_h, row_nw, row_qn, row_kn, row_w, In.ko, In.ok, hq, hj]

theorem at15 (t : Fin 8320)(n : Fin 512) : r.rv15 (ix2 t n) = (r.row t).vo n := by
  pointwise [rv15, at12, row_h, row_nw, row_qn, row_kn, row_w, In.vo, c32]

end Arr
end Cert.Proof.AttnF
-- ==== Proof.AttnFArr.lean ====
/- The kernel's windows: which rows of the argument arrays a grid point reads. -/
module

public import proofs.«01_k».proof.Proof.AttnFTile
public import proofs.«01_k».proof.Proof.AttnFRows
public import proofs.«01_k».proof.Proof.Gen.AttnFIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.AttnFIdeal Cert.AttnFIdeal.Gen
open scoped BigOperators
namespace Cert.Proof.AttnF

variable (m : (ℓ : Loc nD τ sig) → Buf (Elt Ideal) ℓ) (c : Dev nD)

/-- Every window's block index at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0] :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)

/-- The array row that grid point `t` reads as its row `p`. -/
def rowAt (t : Fin cfg0.N) (p : Fin 320) : Fin 8320 :=
  ⟨t.val * 320 + p.val, by have : t.val < 26 := lt_of_lt_of_eq t.isLt (by decide); omega⟩

theorem row_eq (t : Fin cfg0.N) (p : Fin 320) : (blk m c t).row p = (arr m c).row (rowAt t p) := by
  have h0 : ∀ k : Fin 1024, (blk m c t).x0 (ix2 p k) = (arr m c).a0 (ix2 (rowAt t p) k) := by
    intro k; simp only [blk, arr, rowAt]; blk_point [iblk, V, idx t]
  have h1 : ∀ k : Fin 1024, (blk m c t).x1 (ix2 0 k) = (arr m c).a1 (ix2 0 k) := by
    intro k; simp only [blk, arr]; blk_point [iblk, V, idx t]
  have h2 : ∀ k : Fin 128, (blk m c t).x2 (ix2 0 k) = (arr m c).a2 (ix2 0 k) := by
    intro k; simp only [blk, arr]; blk_point [iblk, V, idx t]
  have h3 : ∀ k : Fin 128, (blk m c t).x3 (ix2 0 k) = (arr m c).a3 (ix2 0 k) := by
    intro k; simp only [blk, arr]; blk_point [iblk, V, idx t]
  have h4 : ∀ (k : Fin 1024) (n : Fin 1536), (blk m c t).x4 (ix2 k n) = (arr m c).a4 (ix2 k n) := by
    intro k n; simp only [blk, arr]; blk_point [iblk, V, idx t]
  simp only [Blk.row, Arr.row, h0, h1, h2, h3, h4]

end Cert.Proof.AttnF
-- ==== Proof.AttnFFin1.lean ====
/- Result arrays of the kernel after the run, entry by entry. -/
module

public import proofs.«01_k».proof.Proof.AttnFArr

@[expose] public section

set_option maxRecDepth 16384
noncomputable section
open Idealize.ShloMosaic Idealize.ShloMosaic.TcCoe Idealize.SL.Sem
open Cert.Proof.Row Cert.AttnFIdeal Cert.AttnFIdeal.Gen
open scoped BigOperators
namespace Cert.Proof.AttnF

variable (m : (ℓ : Loc nD τ sig) → Buf (Elt Ideal) ℓ) (c : Dev nD)

set_option maxHeartbeats 2000000 in
/-- The queries. -/
theorem final_5 : (dats m 0 c).arrAt 5 (cfgs 0).N = (arr m c).rv30 := by
  refine (dats m 0 c).arrAt_eq_of_covers 5 _ (by decide +kernel) fun t hf y => ?_
  have key : ∀ (p : Fin 320) (k : Fin 512), (blk m c t).t73 (ix2 p k) = (arr m c).rv30 (ix2 (rowAt t p) k) := by
    intro p k; rw [Blk.at73, Arr.at30, row_eq]
  have emb : ∀ (p : Fin 320) (k : Fin 512), ((cfg0.win 5).blk t).view.emb (ix2 p k) = ix2 (rowAt t p) k := by
    intro p k; simp only [rowAt]; blk_ext [idx t]
  blk_simp; rw [after0_5]; unfold out0_5; frame_out
  idx_vars y
  exact (key y0 y1).trans (congrArg (arr m c).rv30 (emb y0 y1).symm)

set_option maxHeartbeats 2000000 in
/-- The keys. -/
theorem final_6 : (dats m 0 c).arrAt 6 (cfgs 0).N = (arr m c).rv45 := by
  refine (dats m 0 c).arrAt_eq_of_covers 6 _ (by decide +kernel) fun t hf y => ?_
  have key : ∀ (p : Fin 320) (k : Fin 512), (blk m c t).t127 (ix2 p k) = (arr m c).rv45 (ix2 (rowAt t p) k) := by
    intro p k; rw [Blk.at127, Arr.at45, row_eq]
  have emb : ∀ (p : Fin 320) (k : Fin 512), ((cfg0.win 6).blk t).view.emb (ix2 p k) = ix2 (rowAt t p) k := by
    intro p k; simp only [rowAt]; blk_ext [idx t]
  blk_simp; rw [after0_6]; unfold out0_6 k0_pay13; frame_out
  idx_vars y
  exact (key y0 y1).trans (congrArg (arr m c).rv45 (emb y0 y1).symm)

set_option maxHeartbeats 2000000 in
/-- The values. -/
theorem final_7 : (dats m 0 c).arrAt 7 (cfgs 0).N = (arr m c).rv15 := by
  refine (dats m 0 c).arrAt_eq_of_covers 7 _ (by decide +kernel) fun t hf y => ?_
  have key : ∀ (p : Fin 320) (k : Fin 512), (blk m c t).t128 (ix2 p k) = (arr m c).rv15 (ix2 (rowAt t p) k) := by
    intro p k; rw [Blk.at128, Arr.at15, row_eq]
  have emb : ∀ (p : Fin 320) (k : Fin 512), ((cfg0.win 7).blk t).view.emb (ix2 p k) = ix2 (rowAt t p) k := by
    intro p k; simp only [rowAt]; blk_ext [idx t]
  blk_simp; rw [after0_7]; unfold out0_7 k0_pay13; frame_out
  idx_vars y
  exact (key y0 y1).trans (congrArg (arr m c).rv15 (emb y0 y1).symm)

end Cert.Proof.AttnF
-- ==== Proof.AttnFClaim.lean ====
/- The claims about the attention layer's projections: the frames, and that its results are those of the reference. -/
module

public import proofs.«01_k».proof.Proof.AttnFFin1
public import proofs.«01_k».proof.Defs
public import proofs.«01_k».proof.Proof.Gen.AttnF.Frame

@[expose] public section

set_option maxRecDepth 16384
noncomputable section
open Idealize.ShloMosaic Idealize.ShloMosaic.TcCoe Idealize.SL.Sem
namespace Cert.Proof.AttnF

section
open Cert.AttnFRefIdeal Cert.AttnFRefIdeal.Gen Cert.AttnFRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)

set_option maxHeartbeats 2000000 in
theorem res_30 : (shapeCast _ (mulf (mulf (shapeCast _ (extractStridedSlice S8320x512 ![0, 0] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_0) shapeCasts_S8320x512_S8320x4x128) (broadcastInDim S8320x4x128 ![0, 1, 2] bcast_S8320x4x1_S8320x4x128_0_1_2 (Host.rsqrt (addf (Host.divf (broadcastInDim S8320x4x1 ![0, 1] bcast_S8320x4_S8320x4x1_0_1 (Host.reduceAdd (mulf (shapeCast _ (extractStridedSlice S8320x512 ![0, 0] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_0) shapeCasts_S8320x512_S8320x4x128) (shapeCast _ (extractStridedSlice S8320x512 ![0, 0] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_0) shapeCasts_S8320x512_S8320x4x128)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))))) (broadcastInDim S8320x4x128 ![0, 1, 2] bcast_S1x1x128_S8320x4x128_0_1_2 (broadcastInDim S1x1x128 ![1, 2] bcast_S1x128_S1x1x128_1_2 (rarr m c).a2))) shapeCasts_S8320x4x128_S8320x512 : FVec Ideal S8320x512 .f32) = (rarr m c).rv30 := rfl
set_option maxHeartbeats 2000000 in
theorem res_45 : (shapeCast _ (mulf (mulf (shapeCast _ (extractStridedSlice S8320x512 ![0, 512] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_512) shapeCasts_S8320x512_S8320x4x128) (broadcastInDim S8320x4x128 ![0, 1, 2] bcast_S8320x4x1_S8320x4x128_0_1_2 (Host.rsqrt (addf (Host.divf (broadcastInDim S8320x4x1 ![0, 1] bcast_S8320x4_S8320x4x1_0_1 (Host.reduceAdd (mulf (shapeCast _ (extractStridedSlice S8320x512 ![0, 512] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_512) shapeCasts_S8320x512_S8320x4x128) (shapeCast _ (extractStridedSlice S8320x512 ![0, 512] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_512) shapeCasts_S8320x512_S8320x4x128)) (constant S_ .f32 0x00000000#32) reducesTo_S8320x4x128_S8320x4_d2 h_S_)) (broadcastInDim S8320x4x1 ![] bcast_S_S8320x4x1 (constant S_ .f32 0x43000000#32))) (broadcastInDim S8320x4x1 ![] bcast_S_S8320x4x1 (constant S_ .f32 0x358637BD#32)))))) (broadcastInDim S8320x4x128 ![0, 1, 2] bcast_S1x1x128_S8320x4x128_0_1_2 (broadcastInDim S1x1x128 ![1, 2] bcast_S1x128_S1x1x128_1_2 (rarr m c).a3))) shapeCasts_S8320x4x128_S8320x512 : FVec Ideal S8320x512 .f32) = (rarr m c).rv45 := rfl
set_option maxHeartbeats 2000000 in
theorem res_15 : (extractStridedSlice S8320x512 ![0, 1024] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a4) slices_S8320x1536_S8320x512_0_1024 : FVec Ideal S8320x512 .f32) = (rarr m c).rv15 := rfl
end

theorem frame_p : Cert.quiescent_AttnF := fun m ρ _ => Cert.AttnF.Gen.frame m ρ
theorem frame_pi : Cert.quiescent_AttnFIdeal := fun m ρ _ => Cert.AttnFIdeal.Gen.frame m ρ
theorem frame_ri : Cert.quiescent_AttnFRefIdeal := fun m ρ _ =>
  (θ_run Cert.AttnFRefIdeal.defs _ _).mono (fun r h => ⟨fun c => (h c).2.2.2,
      Idealize.ShloMosaic.sem_eq_zero_of_no_sems (by decide) r.2⟩)
    (Cert.AttnFRefIdeal.Value.run (F := Ideal) m ρ)

theorem algebraic : Cert.algebraic_AttnFIdeal_AttnFRefIdeal := by
  intro m ρ m' ρ' _ hag
  have e : ∀ c, rarr m' c = arr m c := by
    intro c
    obtain ⟨h0, h1, h2, h3, h4⟩ := hag c
    simp only [rarr, arr]
    rw [h0, h1, h2, h3, h4]
  refine ⟨fun c => (arr m c).rv30, fun c => (arr m c).rv45, fun c => (arr m c).rv15, ?_, ?_⟩
  · refine (θ_run Cert.AttnFIdeal.defs _ _).mono (fun r h c => ?_) (Cert.AttnFIdeal.Value.run_blocks (F := Ideal) m ρ)
    obtain ⟨g5, g6, g7, g⟩ := h c
    exact ⟨g5.trans (final_5 m c), g6.trans (final_6 m c), g7.trans (final_7 m c), g⟩
  · refine (θ_run Cert.AttnFRefIdeal.defs _ _).mono (fun r h c => ?_) (Cert.AttnFRefIdeal.Value.run (F := Ideal) m' ρ')
    obtain ⟨g0, g1, g2, g⟩ := h c
    exact ⟨g0.trans ((res_30 m' c).trans (congrArg Arr.rv30 (e c))), g1.trans ((res_45 m' c).trans (congrArg Arr.rv45 (e c))), g2.trans ((res_15 m' c).trans (congrArg Arr.rv15 (e c))), g⟩

end Cert.Proof.AttnF
-- ==== Proof.HgrnFSpec.lean ====
/- One row of the HGRN2 layer's projections, on plain functions over the extended reals. -/
module

public import proofs.«01_k».proof.Proof.Heads
public import proofs.«01_k».proof.Proof.Mask

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.HgrnF

/-- What a row of the stage reads. -/
structure In where
  h : Fin 1024 → EReal
  nw : Fin 1024 → EReal
  lb : Fin 512 → EReal
  w : Fin 1024 → Fin 1536 → EReal
  /-- One on the rows that count, zero on the padding before them. -/
  live : EReal

namespace In
variable (i : In)

def xn (k : Fin 1024) : EReal := i.h k * rinv n1024 i.h * i.nw k
/-- The projections: queries, forget gates and values side by side. -/
def raw (m : Fin 1536) : EReal := ∑ k, i.xn k * i.w k m
def f (n : Fin 512) : EReal := i.raw (c3 1 n)
/-- The queries, keys, values and logarithms of the gates the stage hands on. -/
def qo (n : Fin 512) : EReal := i.raw (c3 0 n) * sg (i.raw (c3 0 n))
@[inherit_doc qo] def ko (n : Fin 512) : EReal := (1 - i.lb n) * sg (-i.f n)
@[inherit_doc qo] def vo (n : Fin 512) : EReal := i.raw (c3 2 n) * i.live
@[inherit_doc qo] def go (n : Fin 512) : EReal := Ideal.log (i.lb n + (1 - i.lb n) * sg (i.f n))

end In
end Cert.Proof.HgrnF
-- ==== Proof.HgrnFTile.lean ====
/- The kernel's block of 320 rows, entry by entry: the values of the body are the row mathematics of
   `HgrnFSpec` on the block's rows. -/
module

public import proofs.«01_k».proof.Proof.HgrnFSpec
public import proofs.«01_k».proof.Proof.Gen.HgrnFIdeal.Skeleton

@[expose] public section

set_option maxRecDepth 16384
noncomputable section
open Idealize.ShloMosaic Cert.Proof.Row Cert.HgrnFIdeal Cert.HgrnFIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.HgrnF

/-- The blocks one grid point reads. -/
structure Blk where
  x0 : Vec Ideal S320x1024 .f32
  x1 : Vec Ideal S1x1024 .f32
  x2 : Vec Ideal S1x512 .f32
  x3 : Vec Ideal S1024x1536 .bf16
  num : BitVec 32

namespace Blk
variable (b : Blk)

/-- Row `p` of the blocks. -/
def row (p : Fin 320) : In where
  h k := b.x0 (ix2 p k)
  nw k := b.x1 (ix2 0 k)
  lb k := b.x2 (ix2 0 k)
  w k n := b.x3 (ix2 k n)
  live := Row.live (IntOp.addi b.num (BitVec.ofNat 32 p.val))

section
variable (p : Fin 320)
theorem row_h (k : Fin 1024) : (b.row p).h k = b.x0 (ix2 p k) := rfl
theorem row_nw (k : Fin 1024) : (b.row p).nw k = b.x1 (ix2 0 k) := rfl
theorem row_lb (k : Fin 512) : (b.row p).lb k = b.x2 (ix2 0 k) := rfl
theorem row_w (k : Fin 1024) (n : Fin 1536) : (b.row p).w k n = b.x3 (ix2 k n) := rfl
theorem row_live : (b.row p).live = Row.live (IntOp.addi b.num (BitVec.ofNat 32 p.val)) := rfl
end

def t19 := k0_pay4 (F := Ideal) b.x0 b.x1 b.x3
def t28 := k0_pay5 (F := Ideal) b.x0 b.x1 b.x3
def t29 := k0_pay6 (F := Ideal) b.x0 b.x1 b.x3
def t31 := k0_pay7 (F := Ideal) b.x2
def t38 := k0_pay8 (F := Ideal) b.x0 b.x1 b.x3
def t55 := k0_pay1 (F := Ideal) b.x2 b.t29
def t65 := k0_pay2 (F := Ideal) b.num b.t19
def t66 := k0_pay3 (F := Ideal) b.x2 b.t31 b.t38

theorem fold19 : k0_pay4 (F := Ideal) b.x0 b.x1 b.x3 = b.t19 := rfl
theorem fold29 : k0_pay6 (F := Ideal) b.x0 b.x1 b.x3 = b.t29 := rfl

theorem at19 (p : Fin 320)(m : Fin 1536) : b.t19 (ix2 p m) = (b.row p).raw m := by
  pointwise [t19, k0_pay4, row_h, row_nw, row_lb, row_w, row_live, In.raw, In.xn, rinv, ms]

theorem at28 (p : Fin 320)(n : Fin 512) : b.t28 (ix2 p n) = (b.row p).qo n := by
  pointwise [t28, k0_pay5, fold19, at19, row_h, row_nw, row_lb, row_w, row_live, In.qo, c30, sg_tanh]

theorem at29 (p : Fin 320)(n : Fin 512) : b.t29 (ix2 p n) = (b.row p).f n := by
  pointwise [t29, k0_pay6, fold19, at19, row_h, row_nw, row_lb, row_w, row_live, In.f, c31]

theorem at31 (x : Fin 1) (n : Fin 512) : b.t31 (ix2 x n) = 1 - b.x2 (ix2 0 n) := by
  obtain rfl : x = 0 := Subsingleton.elim _ _
  pointwise [t31, k0_pay7, row_h, row_nw, row_lb, row_w, row_live]

theorem at38 (p : Fin 320)(n : Fin 512) : b.t38 (ix2 p n) = sg ((b.row p).f n) := by
  pointwise [t38, k0_pay8, fold29, at29, row_h, row_nw, row_lb, row_w, row_live, sg_tanh]

theorem at55 (p : Fin 320)(n : Fin 512) : b.t55 (ix2 p n) = (b.row p).ko n := by
  pointwise [t55, k0_pay1, at29, row_h, row_nw, row_lb, row_w, row_live, In.ko, zero_sub, sg_tanh]

theorem at65 (p : Fin 320)(n : Fin 512) : b.t65 (ix2 p n) = (b.row p).vo n := by
  pointwise [t65, k0_pay2, at19, row_h, row_nw, row_lb, row_w, row_live, In.vo, c32, live_sitofp]

theorem at66 (p : Fin 320)(n : Fin 512) : b.t66 (ix2 p n) = (b.row p).go n := by
  pointwise [t66, k0_pay3, at31, at38, row_h, row_nw, row_lb, row_w, row_live, In.go]

end Blk
end Cert.Proof.HgrnF
-- ==== Proof.HgrnFRows.lean ====
/- The reference's values, entry by entry: the row mathematics of `HgrnFSpec` on the rows of the reference's
   arguments, and each weight gradient the sum of the rows' shares. -/
module

public import proofs.«01_k».proof.Proof.HgrnFSpec
public import proofs.«01_k».proof.Proof.Gen.HgrnFRefIdeal.Run

@[expose] public section

set_option maxRecDepth 16384
noncomputable section
open Idealize.ShloMosaic Cert.Proof.Row Cert.HgrnFRefIdeal Cert.HgrnFRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.HgrnF

/-- The arguments of the reference. -/
structure Arr where
  a0 : FVec Ideal S8320x1024 .f32
  a1 : FVec Ideal S1x1024 .f32
  a2 : FVec Ideal S1x512 .f32
  a3 : FVec Ideal S1024x1536 .f32

namespace Arr
variable (r : Arr)

/-- Row `t` of the arguments. -/
def row (t : Fin 8320) : In where
  h k := r.a0 (ix2 t k)
  nw k := r.a1 (ix2 0 k)
  lb k := r.a2 (ix2 0 k)
  w k n := r.a3 (ix2 k n)
  live := Row.live (BitVec.ofNat 32 t.val)

section
variable (t : Fin 8320)
theorem row_h (k : Fin 1024) : (r.row t).h k = r.a0 (ix2 t k) := rfl
theorem row_nw (k : Fin 1024) : (r.row t).nw k = r.a1 (ix2 0 k) := rfl
theorem row_lb (k : Fin 512) : (r.row t).lb k = r.a2 (ix2 0 k) := rfl
theorem row_w (k : Fin 1024) (n : Fin 1536) : (r.row t).w k n = r.a3 (ix2 k n) := rfl
theorem row_live : (r.row t).live = Row.live (BitVec.ofNat 32 t.val) := rfl
end

def rv7 : FVec Ideal S8320x1 .f32 :=
  Host.rsqrt (addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))

def rv11 : FVec Ideal S8320x1024 .f32 :=
  mulf (mulf r.a0 (broadcastInDim S8320x1024 ![0, 1] bcast_S8320x1_S8320x1024_0_1 (r.rv7))) (broadcastInDim S8320x1024 ![0, 1] bcast_S1x1024_S8320x1024_0_1 r.a1)

def rv12 : FVec Ideal S8320x1536 .f32 :=
  Host.dotGeneral dot_S8320x1024_S1024x1536_S8320x1536_1_0_0_1_n_n none (r.rv11) r.a3

def rv14 : FVec Ideal S8320x512 .f32 :=
  extractStridedSlice S8320x512 ![0, 512] (r.rv12) slices_S8320x1536_S8320x512_0_512

def rv20 (_ : Arr) : FVec Ideal S8320x1 .f32 :=
  uitofp .f32 (broadcastInDim S8320x1 ![0] bcast_S8320_S8320x1_0 (cmpi .sge (iotaInDim S8320 32 0) (broadcastInDim S8320 ![] bcast_S_S8320 (constantI S_ 32 112#32))))

def rv28 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (r.rv14))))

def rv41 : FVec Ideal S8320x512 .f32 :=
  Host.divf (broadcastInDim S8320x512 ![] bcast_S_S8320x512 (constant S_ .f32 0x3F800000#32)) (addf (broadcastInDim S8320x512 ![] bcast_S_S8320x512 (constant S_ .f32 0x3F800000#32)) (Host.exp (Host.negf (Host.negf (r.rv14)))))

def rv43 : FVec Ideal S8320x512 .f32 :=
  mulf (broadcastInDim S8320x512 ![0, 1] bcast_S1x512_S8320x512_0_1 (subf (broadcastInDim S1x512 ![] bcast_S_S1x512 (constant S_ .f32 0x3F800000#32)) r.a2)) (r.rv41)

def rv44 : FVec Ideal S8320x512 .f32 :=
  mulf (extractStridedSlice S8320x512 ![0, 0] (r.rv12) slices_S8320x1536_S8320x512_0_0) (Host.divf (broadcastInDim S8320x512 ![] bcast_S_S8320x512 (constant S_ .f32 0x3F800000#32)) (addf (broadcastInDim S8320x512 ![] bcast_S_S8320x512 (constant S_ .f32 0x3F800000#32)) (Host.exp (Host.negf (extractStridedSlice S8320x512 ![0, 0] (r.rv12) slices_S8320x1536_S8320x512_0_0)))))

def rv46 : FVec Ideal S8320x512 .f32 :=
  mulf (extractStridedSlice S8320x512 ![0, 1024] (r.rv12) slices_S8320x1536_S8320x512_0_1024) (broadcastInDim S8320x512 ![0, 1] bcast_S8320x1_S8320x512_0_1 (r.rv20))

def rv47 : FVec Ideal S8320x512 .f32 :=
  Host.log (addf (broadcastInDim S8320x512 ![0, 1] bcast_S1x512_S8320x512_0_1 r.a2) (mulf (broadcastInDim S8320x512 ![0, 1] bcast_S1x512_S8320x512_0_1 (subf (broadcastInDim S1x512 ![] bcast_S_S1x512 (constant S_ .f32 0x3F800000#32)) r.a2)) (r.rv28)))

theorem at7 (t : Fin 8320)(x : Fin 1) : r.rv7 (ix2 t x) = rinv n1024 (r.row t).h := by
  obtain rfl : x = 0 := Subsingleton.elim _ _
  pointwise [rv7, row_h, row_nw, row_lb, row_w, row_live, rinv, ms]

theorem at11 (t : Fin 8320)(k : Fin 1024) : r.rv11 (ix2 t k) = (r.row t).xn k := by
  pointwise [rv11, at7, row_h, row_nw, row_lb, row_w, row_live, In.xn]

theorem at12 (t : Fin 8320)(m : Fin 1536) : r.rv12 (ix2 t m) = (r.row t).raw m := by
  pointwise [rv12, at11, row_h, row_nw, row_lb, row_w, row_live, In.raw]

theorem at14 (t : Fin 8320)(n : Fin 512) : r.rv14 (ix2 t n) = (r.row t).f n := by
  pointwise [rv14, at12, row_h, row_nw, row_lb, row_w, row_live, In.f, c31]

theorem at20 (t : Fin 8320)(x : Fin 1) : r.rv20 (ix2 t x) = (r.row t).live := by
  pointwise [rv20, row_h, row_nw, row_lb, row_w, row_live, live_uitofp]

theorem at28 (t : Fin 8320)(n : Fin 512) : r.rv28 (ix2 t n) = sg ((r.row t).f n) := by
  pointwise [rv28, at14, row_h, row_nw, row_lb, row_w, row_live, sg]

theorem at41 (t : Fin 8320)(n : Fin 512) : r.rv41 (ix2 t n) = sg (-(r.row t).f n) := by
  pointwise [rv41, at14, row_h, row_nw, row_lb, row_w, row_live, sg]

theorem at43 (t : Fin 8320)(n : Fin 512) : r.rv43 (ix2 t n) = (r.row t).ko n := by
  pointwise [rv43, at41, row_h, row_nw, row_lb, row_w, row_live, In.ko]

theorem at44 (t : Fin 8320)(n : Fin 512) : r.rv44 (ix2 t n) = (r.row t).qo n := by
  pointwise [rv44, at12, row_h, row_nw, row_lb, row_w, row_live, In.qo, c30, sg]

theorem at46 (t : Fin 8320)(n : Fin 512) : r.rv46 (ix2 t n) = (r.row t).vo n := by
  pointwise [rv46, at12, at20, row_h, row_nw, row_lb, row_w, row_live, In.vo, c32]

theorem at47 (t : Fin 8320)(n : Fin 512) : r.rv47 (ix2 t n) = (r.row t).go n := by
  pointwise [rv47, at28, row_h, row_nw, row_lb, row_w, row_live, In.go]

end Arr
end Cert.Proof.HgrnF
-- ==== Proof.HgrnFArr.lean ====
/- The kernel's windows: which rows of the argument arrays a grid point reads. -/
module

public import proofs.«01_k».proof.Proof.HgrnFTile
public import proofs.«01_k».proof.Proof.HgrnFRows
public import proofs.«01_k».proof.Proof.Gen.HgrnFIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.HgrnFIdeal Cert.HgrnFIdeal.Gen
open scoped BigOperators
namespace Cert.Proof.HgrnF

variable (m : (ℓ : Loc nD τ sig) → Buf (Elt Ideal) ℓ) (c : Dev nD)

/-- Every window's block index at a grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The number of the first row of grid point `t`. -/
theorem num : ∀ t : Fin cfg0.N, Scalar.muli (BitVec.ofNat 32 ((grid0.coords t) 0).val) 320#32 = BitVec.ofNat 32 ((t.val) * 320) :=
  (by decide +kernel : ∀ t : Fin grid0.N, _)

/-- The blocks grid point `t` reads. -/
def blk (t : Fin cfg0.N) : Blk :=
  ⟨iblk m c 0 t, iblk m c 1 t, iblk m c 2 t, iblk m c 3 t, Scalar.muli (BitVec.ofNat 32 ((grid0.coords t) 0).val) 320#32⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)

/-- The array row that grid point `t` reads as its row `p`. -/
def rowAt (t : Fin cfg0.N) (p : Fin 320) : Fin 8320 :=
  ⟨t.val * 320 + p.val, by have : t.val < 26 := lt_of_lt_of_eq t.isLt (by decide); omega⟩

theorem row_eq (t : Fin cfg0.N) (p : Fin 320) : (blk m c t).row p = (arr m c).row (rowAt t p) := by
  have h0 : ∀ k : Fin 1024, (blk m c t).x0 (ix2 p k) = (arr m c).a0 (ix2 (rowAt t p) k) := by
    intro k; simp only [blk, arr, rowAt]; blk_point [iblk, V, idx t]
  have h1 : ∀ k : Fin 1024, (blk m c t).x1 (ix2 0 k) = (arr m c).a1 (ix2 0 k) := by
    intro k; simp only [blk, arr]; blk_point [iblk, V, idx t]
  have h2 : ∀ k : Fin 512, (blk m c t).x2 (ix2 0 k) = (arr m c).a2 (ix2 0 k) := by
    intro k; simp only [blk, arr]; blk_point [iblk, V, idx t]
  have h3 : ∀ (k : Fin 1024) (n : Fin 1536), (blk m c t).x3 (ix2 k n) = (arr m c).a3 (ix2 k n) := by
    intro k n; simp only [blk, arr]; blk_point [iblk, V, idx t]
  have hm : Row.live (IntOp.addi (blk m c t).num (BitVec.ofNat 32 p.val)) = Row.live (BitVec.ofNat 32 (rowAt t p).val) := by
    simp only [blk, num t, rowAt, BitVec.ofNat_add]; rfl
  simp only [Blk.row, Arr.row, h0, h1, h2, h3, hm]

end Cert.Proof.HgrnF
-- ==== Proof.HgrnFFin1.lean ====
/- Result arrays of the kernel after the run, entry by entry. -/
module

public import proofs.«01_k».proof.Proof.HgrnFArr

@[expose] public section

set_option maxRecDepth 16384
noncomputable section
open Idealize.ShloMosaic Idealize.ShloMosaic.TcCoe Idealize.SL.Sem
open Cert.Proof.Row Cert.HgrnFIdeal Cert.HgrnFIdeal.Gen
open scoped BigOperators
namespace Cert.Proof.HgrnF

variable (m : (ℓ : Loc nD τ sig) → Buf (Elt Ideal) ℓ) (c : Dev nD)

set_option maxHeartbeats 2000000 in
/-- The queries. -/
theorem final_4 : (dats m 0 c).arrAt 4 (cfgs 0).N = (arr m c).rv44 := by
  refine (dats m 0 c).arrAt_eq_of_covers 4 _ (by decide +kernel) fun t hf y => ?_
  have key : ∀ (p : Fin 320) (k : Fin 512), (blk m c t).t28 (ix2 p k) = (arr m c).rv44 (ix2 (rowAt t p) k) := by
    intro p k; rw [Blk.at28, Arr.at44, row_eq]
  have emb : ∀ (p : Fin 320) (k : Fin 512), ((cfg0.win 4).blk t).view.emb (ix2 p k) = ix2 (rowAt t p) k := by
    intro p k; simp only [rowAt]; blk_ext [idx t]
  blk_simp; rw [after0_4]; unfold out0_4; frame_out
  idx_vars y
  exact (key y0 y1).trans (congrArg (arr m c).rv44 (emb y0 y1).symm)

set_option maxHeartbeats 2000000 in
/-- The keys. -/
theorem final_5 : (dats m 0 c).arrAt 5 (cfgs 0).N = (arr m c).rv43 := by
  refine (dats m 0 c).arrAt_eq_of_covers 5 _ (by decide +kernel) fun t hf y => ?_
  have key : ∀ (p : Fin 320) (k : Fin 512), (blk m c t).t55 (ix2 p k) = (arr m c).rv43 (ix2 (rowAt t p) k) := by
    intro p k; rw [Blk.at55, Arr.at43, row_eq]
  have emb : ∀ (p : Fin 320) (k : Fin 512), ((cfg0.win 5).blk t).view.emb (ix2 p k) = ix2 (rowAt t p) k := by
    intro p k; simp only [rowAt]; blk_ext [idx t]
  blk_simp; rw [after0_5]; unfold out0_5; frame_out
  idx_vars y
  exact (key y0 y1).trans (congrArg (arr m c).rv43 (emb y0 y1).symm)

set_option maxHeartbeats 2000000 in
/-- The values. -/
theorem final_6 : (dats m 0 c).arrAt 6 (cfgs 0).N = (arr m c).rv46 := by
  refine (dats m 0 c).arrAt_eq_of_covers 6 _ (by decide +kernel) fun t hf y => ?_
  have key : ∀ (p : Fin 320) (k : Fin 512), (blk m c t).t65 (ix2 p k) = (arr m c).rv46 (ix2 (rowAt t p) k) := by
    intro p k; rw [Blk.at65, Arr.at46, row_eq]
  have emb : ∀ (p : Fin 320) (k : Fin 512), ((cfg0.win 6).blk t).view.emb (ix2 p k) = ix2 (rowAt t p) k := by
    intro p k; simp only [rowAt]; blk_ext [idx t]
  blk_simp; rw [after0_6]; unfold out0_6; frame_out
  idx_vars y
  exact (key y0 y1).trans (congrArg (arr m c).rv46 (emb y0 y1).symm)

set_option maxHeartbeats 2000000 in
/-- The logarithms of the gates. -/
theorem final_7 : (dats m 0 c).arrAt 7 (cfgs 0).N = (arr m c).rv47 := by
  refine (dats m 0 c).arrAt_eq_of_covers 7 _ (by decide +kernel) fun t hf y => ?_
  have key : ∀ (p : Fin 320) (k : Fin 512), (blk m c t).t66 (ix2 p k) = (arr m c).rv47 (ix2 (rowAt t p) k) := by
    intro p k; rw [Blk.at66, Arr.at47, row_eq]
  have emb : ∀ (p : Fin 320) (k : Fin 512), ((cfg0.win 7).blk t).view.emb (ix2 p k) = ix2 (rowAt t p) k := by
    intro p k; simp only [rowAt]; blk_ext [idx t]
  blk_simp; rw [after0_7]; unfold out0_7; frame_out
  idx_vars y
  exact (key y0 y1).trans (congrArg (arr m c).rv47 (emb y0 y1).symm)

end Cert.Proof.HgrnF
-- ==== Proof.HgrnFClaim.lean ====
/- The claims about the HGRN2 layer's projections: the frames, and that its results are those of the reference. -/
module

public import proofs.«01_k».proof.Proof.HgrnFFin1
public import proofs.«01_k».proof.Defs
public import proofs.«01_k».proof.Proof.Gen.HgrnF.Frame

@[expose] public section

set_option maxRecDepth 16384
noncomputable section
open Idealize.ShloMosaic Idealize.ShloMosaic.TcCoe Idealize.SL.Sem
namespace Cert.Proof.HgrnF

section
open Cert.HgrnFRefIdeal Cert.HgrnFRefIdeal.Gen Cert.HgrnFRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)

set_option maxHeartbeats 2000000 in
theorem res_44 : (mulf (extractStridedSlice S8320x512 ![0, 0] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a3) slices_S8320x1536_S8320x512_0_0) (Host.divf (broadcastInDim S8320x512 ![] bcast_S_S8320x512 (constant S_ .f32 0x3F800000#32)) (addf (broadcastInDim S8320x512 ![] bcast_S_S8320x512 (constant S_ .f32 0x3F800000#32)) (Host.exp (Host.negf (extractStridedSlice S8320x512 ![0, 0] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a3) slices_S8320x1536_S8320x512_0_0))))) : FVec Ideal S8320x512 .f32) = (rarr m c).rv44 := rfl
set_option maxHeartbeats 2000000 in
theorem res_43 : (mulf (broadcastInDim S8320x512 ![0, 1] bcast_S1x512_S8320x512_0_1 (subf (broadcastInDim S1x512 ![] bcast_S_S1x512 (constant S_ .f32 0x3F800000#32)) (rarr m c).a2)) (Host.divf (broadcastInDim S8320x512 ![] bcast_S_S8320x512 (constant S_ .f32 0x3F800000#32)) (addf (broadcastInDim S8320x512 ![] bcast_S_S8320x512 (constant S_ .f32 0x3F800000#32)) (Host.exp (Host.negf (Host.negf (extractStridedSlice S8320x512 ![0, 512] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a3) slices_S8320x1536_S8320x512_0_512)))))) : FVec Ideal S8320x512 .f32) = (rarr m c).rv43 := rfl
set_option maxHeartbeats 2000000 in
theorem res_46 : (mulf (extractStridedSlice S8320x512 ![0, 1024] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a3) slices_S8320x1536_S8320x512_0_1024) (broadcastInDim S8320x512 ![0, 1] bcast_S8320x1_S8320x512_0_1 (uitofp .f32 (broadcastInDim S8320x1 ![0] bcast_S8320_S8320x1_0 (cmpi .sge (iotaInDim S8320 32 0) (broadcastInDim S8320 ![] bcast_S_S8320 (constantI S_ 32 112#32)))))) : FVec Ideal S8320x512 .f32) = (rarr m c).rv46 := rfl
set_option maxHeartbeats 2000000 in
theorem res_47 : (Host.log (addf (broadcastInDim S8320x512 ![0, 1] bcast_S1x512_S8320x512_0_1 (rarr m c).a2) (mulf (broadcastInDim S8320x512 ![0, 1] bcast_S1x512_S8320x512_0_1 (subf (broadcastInDim S1x512 ![] bcast_S_S1x512 (constant S_ .f32 0x3F800000#32)) (rarr m c).a2)) (Host.divf (broadcastInDim S8320x512 ![] bcast_S_S8320x512 (constant S_ .f32 0x3F800000#32)) (addf (broadcastInDim S8320x512 ![] bcast_S_S8320x512 (constant S_ .f32 0x3F800000#32)) (Host.exp (Host.negf (extractStridedSlice S8320x512 ![0, 512] (Host.dotGeneral (φ₁ := .f32) (φ₂ := .f32) dot_S8320x1024_S1024x1536_S8320x1536_1_0_0_1_n_n none (mulf (mulf (rarr m c).a0 (broadcastInDim S8320x1024 ![0, 1] bcast_S8320x1_S8320x1024_0_1 (Host.rsqrt (addf (Host.divf (broadcastInDim S8320x1 ![0] bcast_S8320_S8320x1_0 (Host.reduceAdd (mulf (rarr m c).a0 (rarr m c).a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 (rarr m c).a1)) (rarr m c).a3) slices_S8320x1536_S8320x512_0_512))))))) : FVec Ideal S8320x512 .f32) = (rarr m c).rv47 := rfl
end

theorem frame_p : Cert.quiescent_HgrnF := fun m ρ _ => Cert.HgrnF.Gen.frame m ρ
theorem frame_pi : Cert.quiescent_HgrnFIdeal := fun m ρ _ => Cert.HgrnFIdeal.Gen.frame m ρ
theorem frame_ri : Cert.quiescent_HgrnFRefIdeal := fun m ρ _ =>
  (θ_run Cert.HgrnFRefIdeal.defs _ _).mono (fun r h => ⟨fun c => (h c).2.2.2.2,
      Idealize.ShloMosaic.sem_eq_zero_of_no_sems (by decide) r.2⟩)
    (Cert.HgrnFRefIdeal.Value.run (F := Ideal) m ρ)

theorem algebraic : Cert.algebraic_HgrnFIdeal_HgrnFRefIdeal := by
  intro m ρ m' ρ' _ hag
  have e : ∀ c, rarr m' c = arr m c := by
    intro c
    obtain ⟨h0, h1, h2, h3⟩ := hag c
    simp only [rarr, arr]
    rw [h0, h1, h2, h3]
  refine ⟨fun c => (arr m c).rv44, fun c => (arr m c).rv43, fun c => (arr m c).rv46, fun c => (arr m c).rv47, ?_, ?_⟩
  · refine (θ_run Cert.HgrnFIdeal.defs _ _).mono (fun r h c => ?_) (Cert.HgrnFIdeal.Value.run_blocks (F := Ideal) m ρ)
    obtain ⟨g4, g5, g6, g7, g⟩ := h c
    exact ⟨g4.trans (final_4 m c), g5.trans (final_5 m c), g6.trans (final_6 m c), g7.trans (final_7 m c), g⟩
  · refine (θ_run Cert.HgrnFRefIdeal.defs _ _).mono (fun r h c => ?_) (Cert.HgrnFRefIdeal.Value.run (F := Ideal) m' ρ')
    obtain ⟨g0, g1, g2, g3, g⟩ := h c
    exact ⟨g0.trans ((res_44 m' c).trans (congrArg Arr.rv44 (e c))), g1.trans ((res_43 m' c).trans (congrArg Arr.rv43 (e c))), g2.trans ((res_46 m' c).trans (congrArg Arr.rv46 (e c))), g3.trans ((res_47 m' c).trans (congrArg Arr.rv47 (e c))), g⟩

end Cert.Proof.HgrnF
-- ==== Proof.OutFSpec.lean ====
/- One row of the output projection, on plain functions over the extended reals. -/
module

public import proofs.«01_k».proof.Proof.Heads

@[expose] public section

set_option maxRecDepth 16384
noncomputable section
open Idealize.ShloMosaic Cert.Proof.Row
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.OutF

/-- What a row of the stage reads. -/
structure In where
  h : Fin 1024 → EReal
  y : Fin 1024 → EReal
  w : Fin 1024 → Fin 1024 → EReal

namespace In
variable (i : In)

/-- The row of the residual stream after the projection. -/
def out (e : Fin 1024) : EReal := i.h e + ∑ d, i.y d * i.w d e

end In
end Cert.Proof.OutF
-- ==== Proof.OutFTile.lean ====
/- The kernel's block of 320 rows, entry by entry: the values of the body are the row mathematics of
   `OutFSpec` on the block's rows. -/
module

public import proofs.«01_k».proof.Proof.OutFSpec
public import proofs.«01_k».proof.Proof.Gen.OutFIdeal.Skeleton

@[expose] public section

set_option maxRecDepth 16384
noncomputable section
open Idealize.ShloMosaic Cert.Proof.Row Cert.OutFIdeal Cert.OutFIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.OutF

/-- The blocks one grid point reads. -/
structure Blk where
  x0 : Vec Ideal S320x1024 .f32
  x1 : Vec Ideal S320x1024 .f32
  x2 : Vec Ideal S1024x1024 .bf16

namespace Blk
variable (b : Blk)

/-- Row `p` of the blocks. -/
def row (p : Fin 320) : In where
  h k := b.x0 (ix2 p k)
  y k := b.x1 (ix2 p k)
  w k n := b.x2 (ix2 k n)

section
variable (p : Fin 320)
theorem row_h (k : Fin 1024) : (b.row p).h k = b.x0 (ix2 p k) := rfl
theorem row_y (k : Fin 1024) : (b.row p).y k = b.x1 (ix2 p k) := rfl
theorem row_w (k : Fin 1024) (n : Fin 1024) : (b.row p).w k n = b.x2 (ix2 k n) := rfl
end

def t6 := k0_pay1 (F := Ideal) b.x0 b.x1 b.x2

theorem at6 (p : Fin 320)(d : Fin 1024) : b.t6 (ix2 p d) = (b.row p).out d := by
  pointwise [t6, k0_pay1, row_h, row_y, row_w, In.out]

end Blk
end Cert.Proof.OutF
-- ==== Proof.OutFRows.lean ====
/- The reference's values, entry by entry: the row mathematics of `OutFSpec` on the rows of the reference's
   arguments, and each weight gradient the sum of the rows' shares. -/
module

public import proofs.«01_k».proof.Proof.OutFSpec
public import proofs.«01_k».proof.Proof.Gen.OutFRefIdeal.Run

@[expose] public section

set_option maxRecDepth 16384
noncomputable section
open Idealize.ShloMosaic Cert.Proof.Row Cert.OutFRefIdeal Cert.OutFRefIdeal.Gen
open Cert.Proof.Gate (n1024 n128 cat hq hj cat_hq_hj hostSum01 c3 cs cn c3_cs_cn cs_c3 cn_c3 c30 c31 c32 cat0 cat1 cat2 cat3 c30v c31v c32v
  cat0v cat1v cat2v cat3v three four pick pick0 pick1 pick2)
open scoped BigOperators
namespace Cert.Proof.OutF

/-- The arguments of the reference. -/
structure Arr where
  a0 : FVec Ideal S8320x1024 .f32
  a1 : FVec Ideal S8320x1024 .f32
  a2 : FVec Ideal S1024x1024 .f32

namespace Arr
variable (r : Arr)

/-- Row `t` of the arguments. -/
def row (t : Fin 8320) : In where
  h k := r.a0 (ix2 t k)
  y k := r.a1 (ix2 t k)
  w k n := r.a2 (ix2 k n)

section
variable (t : Fin 8320)
theorem row_h (k : Fin 1024) : (r.row t).h k = r.a0 (ix2 t k) := rfl
theorem row_y (k : Fin 1024) : (r.row t).y k = r.a1 (ix2 t k) := rfl
theorem row_w (k : Fin 1024) (n : Fin 1024) : (r.row t).w k n = r.a2 (ix2 k n) := rfl
end

def rv1 : FVec Ideal S8320x1024 .f32 :=
  addf r.a0 (Host.dotGeneral dot_S8320x1024_S1024x1024_S8320x1024_1_0_0_1_n_n none r.a1 r.a2)

theorem at1 (t : Fin 8320)(d : Fin 1024) : r.rv1 (ix2 t d) = (r.row t).out d := by
  pointwise [rv1, row_h, row_y, row_w, In.out]

end Arr
end Cert.Proof.OutF
-- ==== Proof.OutFArr.lean ====
/- The kernel's windows: which rows of the argument arrays a grid point reads. -/
module

public import proofs.«01_k».proof.Proof.OutFTile
public import proofs.«01_k».proof.Proof.OutFRows
public import proofs.«01_k».proof.Proof.Gen.OutFIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.OutFIdeal Cert.OutFIdeal.Gen
open scoped BigOperators
namespace Cert.Proof.OutF

variable (m : (ℓ : Loc nD τ sig) → Buf (Elt Ideal) ℓ) (c : Dev nD)

/-- Every window's block index at a grid point. -/
theorem idx : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The blocks grid point `t` reads. -/
def blk (t : Fin cfg0.N) : Blk :=
  ⟨iblk m c 0 t, iblk m c 1 t, iblk m c 2 t⟩

/-- The argument arrays. -/
def arr : Arr where
  a0 := m ((c : Thread nD τ).loc main_arg0)
  a1 := m ((c : Thread nD τ).loc main_arg1)
  a2 := m ((c : Thread nD τ).loc main_arg2)

/-- The array row that grid point `t` reads as its row `p`. -/
def rowAt (t : Fin cfg0.N) (p : Fin 320) : Fin 8320 :=
  ⟨t.val * 320 + p.val, by have : t.val < 26 := lt_of_lt_of_eq t.isLt (by decide); omega⟩

theorem row_eq (t : Fin cfg0.N) (p : Fin 320) : (blk m c t).row p = (arr m c).row (rowAt t p) := by
  have h0 : ∀ k : Fin 1024, (blk m c t).x0 (ix2 p k) = (arr m c).a0 (ix2 (rowAt t p) k) := by
    intro k; simp only [blk, arr, rowAt]; blk_point [iblk, V, idx t]
  have h1 : ∀ k : Fin 1024, (blk m c t).x1 (ix2 p k) = (arr m c).a1 (ix2 (rowAt t p) k) := by
    intro k; simp only [blk, arr, rowAt]; blk_point [iblk, V, idx t]
  have h2 : ∀ (k : Fin 1024) (n : Fin 1024), (blk m c t).x2 (ix2 k n) = (arr m c).a2 (ix2 k n) := by
    intro k n; simp only [blk, arr]; blk_point [iblk, V, idx t]
  simp only [Blk.row, Arr.row, h0, h1, h2]

end Cert.Proof.OutF
-- ==== Proof.OutFFin1.lean ====
/- Result arrays of the kernel after the run, entry by entry. -/
module

public import proofs.«01_k».proof.Proof.OutFArr

@[expose] public section

set_option maxRecDepth 16384
noncomputable section
open Idealize.ShloMosaic Idealize.ShloMosaic.TcCoe Idealize.SL.Sem
open Cert.Proof.Row Cert.OutFIdeal Cert.OutFIdeal.Gen
open scoped BigOperators
namespace Cert.Proof.OutF

variable (m : (ℓ : Loc nD τ sig) → Buf (Elt Ideal) ℓ) (c : Dev nD)

set_option maxHeartbeats 2000000 in
/-- The residual stream after the projection. -/
theorem final_3 : (dats m 0 c).arrAt 3 (cfgs 0).N = (arr m c).rv1 := by
  refine (dats m 0 c).arrAt_eq_of_covers 3 _ (by decide +kernel) fun t hf y => ?_
  have key : ∀ (p : Fin 320) (k : Fin 1024), (blk m c t).t6 (ix2 p k) = (arr m c).rv1 (ix2 (rowAt t p) k) := by
    intro p k; rw [Blk.at6, Arr.at1, row_eq]
  have emb : ∀ (p : Fin 320) (k : Fin 1024), ((cfg0.win 3).blk t).view.emb (ix2 p k) = ix2 (rowAt t p) k := by
    intro p k; simp only [rowAt]; blk_ext [idx t]
  blk_simp; rw [after0_3]; unfold out0_3; frame_out
  idx_vars y
  exact (key y0 y1).trans (congrArg (arr m c).rv1 (emb y0 y1).symm)

end Cert.Proof.OutF
-- ==== Proof.OutFClaim.lean ====
/- The claims about the output projection: the frames, and that its results are those of the reference. -/
module

public import proofs.«01_k».proof.Proof.OutFFin1
public import proofs.«01_k».proof.Defs
public import proofs.«01_k».proof.Proof.Gen.OutF.Frame

@[expose] public section

set_option maxRecDepth 16384
noncomputable section
open Idealize.ShloMosaic Idealize.ShloMosaic.TcCoe Idealize.SL.Sem
namespace Cert.Proof.OutF

section
open Cert.OutFRefIdeal Cert.OutFRefIdeal.Gen Cert.OutFRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)

set_option maxHeartbeats 2000000 in
theorem res_1 : (addf (rarr m c).a0 (Host.dotGeneral (φ₁ := .f32) (φ₂ := .f32) dot_S8320x1024_S1024x1024_S8320x1024_1_0_0_1_n_n none (rarr m c).a1 (rarr m c).a2) : FVec Ideal S8320x1024 .f32) = (rarr m c).rv1 := rfl
end

theorem frame_p : Cert.quiescent_OutF := fun m ρ _ => Cert.OutF.Gen.frame m ρ
theorem frame_pi : Cert.quiescent_OutFIdeal := fun m ρ _ => Cert.OutFIdeal.Gen.frame m ρ
theorem frame_ri : Cert.quiescent_OutFRefIdeal := fun m ρ _ =>
  (θ_run Cert.OutFRefIdeal.defs _ _).mono (fun r h => ⟨fun c => (h c).2,
      Idealize.ShloMosaic.sem_eq_zero_of_no_sems (by decide) r.2⟩)
    (Cert.OutFRefIdeal.Value.run (F := Ideal) m ρ)

theorem algebraic : Cert.algebraic_OutFIdeal_OutFRefIdeal := by
  intro m ρ m' ρ' _ hag
  have e : ∀ c, rarr m' c = arr m c := by
    intro c
    obtain ⟨h0, h1, h2⟩ := hag c
    simp only [rarr, arr]
    rw [h0, h1, h2]
  refine ⟨fun c => (arr m c).rv1, ?_, ?_⟩
  · refine (θ_run Cert.OutFIdeal.defs _ _).mono (fun r h c => ?_) (Cert.OutFIdeal.Value.run_blocks (F := Ideal) m ρ)
    obtain ⟨g3, g⟩ := h c
    exact ⟨g3.trans (final_3 m c), g⟩
  · refine (θ_run Cert.OutFRefIdeal.defs _ _).mono (fun r h c => ?_) (Cert.OutFRefIdeal.Value.run (F := Ideal) m' ρ')
    obtain ⟨g0, g⟩ := h c
    exact ⟨g0.trans ((res_1 m' c).trans (congrArg Arr.rv1 (e c))), g⟩

end Cert.Proof.OutF
-- ==== Proof.GdnFSpec.lean ====
/- One row of the gated delta rule's first stage, on plain functions over the extended reals. -/
module

public import proofs.«01_k».proof.Proof.Heads
public import proofs.«01_k».proof.Proof.Mask

@[expose] public section

set_option maxRecDepth 16384
noncomputable section
open Idealize.ShloMosaic Cert.Proof.Row
open Cert.Proof.Gate (n1024 cat hq hj cat_hq_hj c3 c30 c31 c32 cat0 cat1 cat2 cat3 c30v c31v c32v
  cat0v cat1v cat2v cat3v four)
open scoped BigOperators
namespace Cert.Proof.GdnF

/-- The normalised row `x` through the projection. -/
def proj (nw : Fin 1024 → EReal) (w : Fin 1024 → Fin 1664 → EReal) (x : Fin 1024 → EReal) (n : Fin 1664) : EReal :=
  ∑ k, x k * rinv n1024 x * nw k * w k n

theorem proj_zero (nw : Fin 1024 → EReal) (w : Fin 1024 → Fin 1664 → EReal) (n : Fin 1664) :
    proj nw w (fun _ => 0) n = 0 := by simp [proj]

/-- The factor that makes a head's row one of length one. -/
def l2 (x : Fin 128 → EReal) : EReal := Ideal.rsqrt ((∑ k, x k * x k) + Ideal.ofBits .f32 0x358637BD#32)

/-- The logarithm of one plus the exponential, written so that it does not overflow. -/
def sp (x : EReal) : EReal := max x 0 + Ideal.log (1 + Ideal.exp (-(max x (-x))))

/-- A column of the convolved part, among the projection's. -/
def up (n : Fin 1536) : Fin 1664 := ⟨n.val, by omega⟩
/-- A column of the gates' part, among the projection's. -/
def gcol (j : Fin 128) : Fin 1664 := ⟨1536 + j.val, by omega⟩

/-- What a row of the stage reads: `hs s` is the row `s` places before (zero before the sequence begins). -/
structure In where
  hs : Fin 4 → Fin 1024 → EReal
  nw : Fin 1024 → EReal
  cw : Fin 4 → Fin 1536 → EReal
  al : Fin 128 → EReal
  dt : Fin 128 → EReal
  w : Fin 1024 → Fin 1664 → EReal
  /-- One on the rows that count, zero on the padding before them. -/
  live : EReal

namespace In
variable (i : In)

/-- The projection of the row `s` places before. -/
def raw (s : Fin 4) (n : Fin 1664) : EReal := proj i.nw i.w (i.hs s) n
/-- The convolution along the sequence, over this row and the three before it. -/
def conv (n : Fin 1536) : EReal :=
  i.cw 3 n * i.raw 0 (up n) + i.cw 0 n * i.raw 3 (up n) + i.cw 1 n * i.raw 2 (up n) + i.cw 2 n * i.raw 1 (up n)
def act (n : Fin 1536) : EReal := i.conv n * sg (i.conv n)
/-- Heads of the queries and of the keys. -/
def qh (q : Fin 4) (j : Fin 128) : EReal := i.act (c3 0 (cat q j))
@[inherit_doc qh] def kh (q : Fin 4) (j : Fin 128) : EReal := i.act (c3 1 (cat q j))
/-- The queries, of length one and scaled. -/
def qo (n : Fin 512) : EReal := i.qh (hq n) (hj n) * l2 (i.qh (hq n)) * Ideal.ofBits .f32 0x3DB504F3#32
/-- The keys, of length one. -/
def ko (n : Fin 512) : EReal := i.kh (hq n) (hj n) * l2 (i.kh (hq n))
def vo (n : Fin 512) : EReal := i.act (c3 2 n)
/-- The write strengths in columns 0 to 3, the logarithms of the decay in columns 4 to 7, zero in the rest. -/
def bg (j : Fin 128) : EReal :=
  if j.val < 4 then sg (i.raw 0 (gcol j)) * i.live
  else if j.val < 8 then -(Ideal.exp (i.al j)) * sp (i.raw 0 (gcol j) + i.dt j) else 0

end In
end Cert.Proof.GdnF
-- ==== Proof.GdnFTile.lean ====
/- The kernel's block of 320 rows, entry by entry: the values of the body are the row mathematics of
   `GdnFSpec` on the block's rows. -/
module

public import proofs.«01_k».proof.Proof.GdnFSpec
public import proofs.«01_k».proof.Proof.Gen.GdnFIdeal.Skeleton

@[expose] public section

set_option maxRecDepth 16384
noncomputable section
open Idealize.ShloMosaic Cert.Proof.Row Cert.GdnFIdeal Cert.GdnFIdeal.Gen
open Cert.Proof.Gate (n1024 cat hq hj cat_hq_hj c3 c30 c31 c32 cat0 cat1 cat2 cat3 c30v c31v c32v
  cat0v cat1v cat2v cat3v four)
open scoped BigOperators
namespace Cert.Proof.GdnF

/-- The blocks one grid point reads, the grid point, and the number of its first row. -/
structure Blk where
  x0 : Vec Ideal S8x1024 .f32
  x1 : Vec Ideal S320x1024 .f32
  x2 : Vec Ideal S1x1024 .f32
  x3 : Vec Ideal S4x1536 .f32
  x4 : Vec Ideal S1x128 .f32
  x5 : Vec Ideal S1x128 .f32
  x6 : Vec Ideal S1024x1664 .bf16
  pt : grid0.Coords
  num : BitVec 32

/-- Whether the grid point is the first. -/
def first (i : grid0.Coords) : BitVec 1 := Scalar.cmpi .eq (BitVec.ofNat 32 (i 0).val) 0#32

namespace Blk
variable (b : Blk)

/-- The eight rows before the tile (zero before the sequence begins) and then the tile's. -/
def ext (u : Fin 328) (k : Fin 1024) : EReal :=
  if h : u.val < 8 then Scalar.select (first b.pt) 0 (b.x0 (ix2 ⟨u.val, h⟩ k)) else b.x1 (ix2 ⟨u.val - 8, by omega⟩ k)

/-- Row `p` of the tile is row `8 + p` of those; the row `s` places before it. -/
def at8 (p : Fin 320) (s : Fin 4) : Fin 328 := ⟨8 + p.val - s.val, by omega⟩

/-- Row `p` of the blocks. -/
def row (p : Fin 320) : In where
  hs s := b.ext (at8 p s)
  nw k := b.x2 (ix2 0 k)
  cw s n := b.x3 (ix2 s n)
  al j := b.x4 (ix2 0 j)
  dt j := b.x5 (ix2 0 j)
  w k n := b.x6 (ix2 k n)
  live := Row.live (IntOp.addi b.num (BitVec.ofNat 32 p.val))

def t26 := k0_pay1 (F := Ideal) b.pt b.x1 b.x0 b.x2 b.x6
def t27 := k0_pay2 (F := Ideal) b.pt b.x1 b.x0 b.x2 b.x6
def t35 := k0_pay3 (F := Ideal) b.pt b.x1 b.x0 b.x2 b.x3 b.x6
def t36 := k0_pay4 (F := Ideal) b.x3
def t54 := k0_pay5 (F := Ideal) b.x3 b.t27 b.t35 b.t36
def t55 := k0_pay6 (F := Ideal) b.x3 b.t27 b.t35 b.t36
def t64 := k0_pay7 (F := Ideal) b.x3 b.t27 b.t35 b.t36
def t73 := k0_pay8 (F := Ideal) b.x3 b.t27 b.t35 b.t36
def t82 := k0_pay9 (F := Ideal) b.x3 b.t27 b.t35 b.t36
def t83 := k0_pay10 (F := Ideal) b.x3 b.t27 b.t35 b.t36
def t84 := k0_pay11 (F := Ideal) b.x3 b.t27 b.t35 b.t36
def t94 := k0_pay12 (F := Ideal) b.t64 b.t73 b.t82 b.t83 b.t84
def t132 := k0_pay13 (F := Ideal) b.t54
def t133 := k0_pay14 (F := Ideal) b.t54
def t134 := k0_pay15 (F := Ideal) b.t26
def t179 := k0_pay16 (F := Ideal) b.x4 b.x5 b.num b.t134

theorem fold26 : k0_pay1 (F := Ideal) b.pt b.x1 b.x0 b.x2 b.x6 = b.t26 := rfl
theorem fold27 : k0_pay2 (F := Ideal) b.pt b.x1 b.x0 b.x2 b.x6 = b.t27 := rfl
theorem fold54 : k0_pay5 (F := Ideal) b.x3 b.t27 b.t35 b.t36 = b.t54 := rfl
theorem fold55 : k0_pay6 (F := Ideal) b.x3 b.t27 b.t35 b.t36 = b.t55 := rfl
theorem fold83 : k0_pay10 (F := Ideal) b.x3 b.t27 b.t35 b.t36 = b.t83 := rfl

theorem at26 (u : Fin 328) (n : Fin 1664) :
    b.t26 (ix2 u n) = proj (fun k => b.x2 (ix2 0 k)) (fun k n => b.x6 (ix2 k n)) (b.ext u) n := by
  pointwise [t26, k0_pay1, proj, rinv, ms, ext, first]

theorem at27 (u : Fin 328) (n : Fin 1536) :
    b.t27 (ix2 u n) = proj (fun k => b.x2 (ix2 0 k)) (fun k n => b.x6 (ix2 k n)) (b.ext u) (up n) := by
  pointwise [t27, k0_pay2, fold26, at26, up]

/-- The rows moved down by `s` places: below the first eight, the row `s` places before. -/
theorem at27s (p : Fin 320) (s : Fin 4) (n : Fin 1536) (u : Fin 328) (hu : u.val = 8 + p.val - s.val) :
    b.t27 (ix2 u n) = (b.row p).raw s (up n) := by
  obtain rfl : u = at8 p s := Fin.ext hu
  rw [at27]; rfl

theorem at36 (x : Fin 1) (n : Fin 1536) : b.t36 (ix2 x n) = b.x3 (ix2 1 n) := by
  obtain rfl : x = 0 := Subsingleton.elim _ _
  pointwise [t36, k0_pay4]

theorem at35 (p : Fin 320) (n : Fin 1536) (u : Fin 328) (hu : u.val = 8 + p.val) : b.t35 (ix2 u n)
    = (b.row p).cw 3 n * (b.row p).raw 0 (up n) + (b.row p).cw 0 n * (b.row p).raw 3 (up n) := by
  pointwise [t35, k0_pay3, fold27]
  rw [b.at27s p 0 n _ (by simp [hu]), b.at27s p 3 n _ (by simp [hu]; omega)]
  rfl

def conv : FVec Ideal S320x1536 .f32 :=
  extractStridedSlice S320x1536 ![8, 0] (addf (addf b.t35 (mulf (broadcastTo S328x1536 b.t36 broadcasts_S1x1536_S328x1536)
    (dynamicRotate 0 2#32 none b.t27 rotates_S328x1536_d0))) (mulf (broadcastTo S328x1536
      (extractStridedSlice S1x1536 ![2, 0] b.x3 slices_S4x1536_o2_0_S1x1536) broadcasts_S1x1536_S328x1536)
        (dynamicRotate 0 1#32 none b.t27 rotates_S328x1536_d0))) slices_S328x1536_o8_0_S320x1536

theorem at46 (p : Fin 320) (n : Fin 1536) : b.conv (ix2 p n) = (b.row p).conv n := by
  pointwise [conv, at36]
  rw [b.at35 p n _ rfl, b.at27s p 2 n _ (by simp; omega), b.at27s p 1 n _ (by simp; omega)]
  rfl

theorem fold46 : k0_pay5 (F := Ideal) b.x3 b.t27 b.t35 b.t36 = mulf b.conv (mulf (broadcast S320x1536 (Scalar.ofBits .f32 0x3F000000#32))
    (addf (tanh (mulf (broadcast S320x1536 (Scalar.ofBits .f32 0x3F000000#32)) b.conv)) (broadcast S320x1536 (Scalar.ofBits .f32 0x3F800000#32)))) := rfl

theorem at54 (p : Fin 320) (n : Fin 1536) : b.t54 (ix2 p n) = (b.row p).act n := by
  pointwise [t54, fold46, at46, In.act, sg_tanh]

theorem at55 (p : Fin 320) (n : Fin 512) : b.t55 (ix2 p n) = (b.row p).act (c3 0 n) := by
  pointwise [t55, k0_pay6, fold54, at54, c30]

theorem at64 (p : Fin 320) (j : Fin 128) : b.t64 (ix2 p j) = (b.row p).qh 0 j * l2 ((b.row p).qh 0) := by
  pointwise [t64, k0_pay7, fold55, at55, In.qh, l2, cat0]

theorem at73 (p : Fin 320) (j : Fin 128) : b.t73 (ix2 p j) = (b.row p).qh 1 j * l2 ((b.row p).qh 1) := by
  pointwise [t73, k0_pay8, fold55, at55, In.qh, l2, cat1]

theorem at82 (p : Fin 320) (j : Fin 128) : b.t82 (ix2 p j) = (b.row p).qh 2 j * l2 ((b.row p).qh 2) := by
  pointwise [t82, k0_pay9, fold55, at55, In.qh, l2, cat2]

theorem at83 (p : Fin 320) (j : Fin 128) : b.t83 (ix2 p j) = (b.row p).qh 3 j := by
  pointwise [t83, k0_pay10, fold55, at55, In.qh, cat3]

theorem at94q (p : Fin 320) (q : Fin 4) (j : Fin 128) :
    b.t94 (ix2 p (cat q j)) = (b.row p).qh q j * l2 ((b.row p).qh q) * Ideal.ofBits .f32 0x3DB504F3#32 := by
  pointwise [t94, k0_pay12, t84, k0_pay11, fold83, at64, at73, at82, at83]
  rcases four q with rfl | rfl | rfl | rfl
  all_goals
    simp (disch := omega) only [cat0v, cat1v, cat2v, cat3v, dif_pos, dif_neg, Nat.sub_add_comm, Nat.reduceSub, Nat.sub_self, Nat.zero_add, Fin.eta]
    try simp only [l2]

theorem at94 (p : Fin 320) (n : Fin 512) : b.t94 (ix2 p n) = (b.row p).qo n := by
  conv_lhs => rw [← cat_hq_hj n]
  exact b.at94q p _ _

theorem at132q (p : Fin 320) (q : Fin 4) (j : Fin 128) :
    b.t132 (ix2 p (cat q j)) = (b.row p).kh q j * l2 ((b.row p).kh q) := by
  pointwise [t132, k0_pay13, at54]
  rcases four q with rfl | rfl | rfl | rfl
  all_goals
    simp (disch := omega) only [cat0v, cat1v, cat2v, cat3v, dif_pos, dif_neg, Nat.sub_add_comm, Nat.reduceSub, Nat.sub_self, Nat.zero_add, Fin.eta]
    simp only [l2, In.kh, cat0, cat1, cat2, cat3, c31, Nat.add_assoc, Nat.reduceAdd]

theorem at132 (p : Fin 320) (n : Fin 512) : b.t132 (ix2 p n) = (b.row p).ko n := by
  conv_lhs => rw [← cat_hq_hj n]
  exact b.at132q p _ _

theorem at133 (p : Fin 320) (n : Fin 512) : b.t133 (ix2 p n) = (b.row p).vo n := by
  pointwise [t133, k0_pay14, at54, In.vo, c32]

theorem at134 (p : Fin 320) (j : Fin 128) : b.t134 (ix2 p j) = (b.row p).raw 0 (gcol j) := by
  pointwise [t134, k0_pay15, at26]
  rfl

theorem lt4 : ∀ j : Fin 128, IntOp.cmpi .slt (BitVec.ofNat 32 j.val) 4#32 = BitVec.ofBool (decide (j.val < 4)) := by decide +kernel
theorem lt8 : ∀ j : Fin 128, IntOp.cmpi .slt (BitVec.ofNat 32 j.val) 8#32 = BitVec.ofBool (decide (j.val < 8)) := by decide +kernel

theorem at179 (p : Fin 320) (j : Fin 128) : b.t179 (ix2 p j) = (b.row p).bg j := by
  pointwise [t179, k0_pay16, at134, In.bg, sp, sg_tanh, lt4, lt8, live_sitofp]
  simp only [zero_sub]
  rfl

end Blk
end Cert.Proof.GdnF
-- ==== Proof.GdnFRows.lean ====
/- The reference's values, entry by entry: the row mathematics of `GdnFSpec` on the rows of the reference's
   arguments, and each weight gradient the sum of the rows' shares. -/
module

public import proofs.«01_k».proof.Proof.GdnFSpec
public import proofs.«01_k».proof.Proof.Gen.GdnFRefIdeal.Run

@[expose] public section

set_option maxRecDepth 16384
noncomputable section
open Idealize.ShloMosaic Cert.Proof.Row Cert.GdnFRefIdeal Cert.GdnFRefIdeal.Gen
open Cert.Proof.Gate (n1024 cat hq hj cat_hq_hj c3 c30 c31 c32 cat0 cat1 cat2 cat3 c30v c31v c32v
  cat0v cat1v cat2v cat3v four)
open scoped BigOperators
namespace Cert.Proof.GdnF

/-- The arguments of the reference. -/
structure Arr where
  a0 : FVec Ideal S8320x1024 .f32
  a1 : FVec Ideal S1x1024 .f32
  a2 : FVec Ideal S4x1536 .f32
  a3 : FVec Ideal S1x128 .f32
  a4 : FVec Ideal S1x128 .f32
  a5 : FVec Ideal S1024x1664 .f32

namespace Arr
variable (r : Arr)

/-- Row `t` of the arguments. -/
def row (t : Fin 8320) : In where
  hs s k := if h : s.val ≤ t.val then r.a0 (ix2 ⟨t.val - s.val, by omega⟩ k) else 0
  nw k := r.a1 (ix2 0 k)
  cw s n := r.a2 (ix2 s n)
  al j := r.a3 (ix2 0 j)
  dt j := r.a4 (ix2 0 j)
  w k n := r.a5 (ix2 k n)
  live := Row.live (BitVec.ofNat 32 t.val)

theorem row_cw (t : Fin 8320) (s : Fin 4) (n : Fin 1536) : (r.row t).cw s n = r.a2 (ix2 s n) := rfl

def rv12 : FVec Ideal S8320x1664 .f32 :=
  Host.dotGeneral dot_S8320x1024_S1024x1664_S8320x1664_1_0_0_1_n_n none (mulf (mulf r.a0 (broadcastInDim S8320x1024 ![0, 1] bcast_S8320x1_S8320x1024_0_1 (Host.rsqrt (addf (Host.divf (broadcastInDim S8320x1 ![0] bcast_S8320_S8320x1_0 (Host.reduceAdd (mulf r.a0 r.a0) (constant S_ .f32 0x00000000#32) reducesTo_S8320x1024_S8320_d1 h_S_)) (broadcastInDim S8320x1 ![] bcast_S_S8320x1 (constant S_ .f32 0x44800000#32))) (broadcastInDim S8320x1 ![] bcast_S_S8320x1 (constant S_ .f32 0x358637BD#32)))))) (broadcastInDim S8320x1024 ![0, 1] bcast_S1x1024_S8320x1024_0_1 r.a1)) r.a5

def rv17 : FVec Ideal S8323x1536 .f32 :=
  pad S8323x1536 ![3, 0] ![0, 0] ![0, 0] (extractStridedSlice S8320x1536 ![0, 0] (r.rv12) slices_S8320x1664_S8320x1536_0_0) (sitofp .f32 (constantI S_ 32 0#32)) pads_S8320x1536_S8323x1536_300_000 h_S_

def rv18 : FVec Ideal S8320x1536 .f32 :=
  extractStridedSlice S8320x1536 ![0, 0] (r.rv17) slices_S8323x1536_S8320x1536_0_0

def rv24 : FVec Ideal S8320x1536 .f32 :=
  extractStridedSlice S8320x1536 ![1, 0] (r.rv17) slices_S8323x1536_S8320x1536_1_0

def rv31 : FVec Ideal S8320x1536 .f32 :=
  extractStridedSlice S8320x1536 ![2, 0] (r.rv17) slices_S8323x1536_S8320x1536_2_0

def rv38 : FVec Ideal S8320x1536 .f32 :=
  extractStridedSlice S8320x1536 ![3, 0] (r.rv17) slices_S8323x1536_S8320x1536_3_0

def rv44 : FVec Ideal S8320x1536 .f32 :=
  addf (addf (addf (mulf (r.rv18) (broadcastInDim S8320x1536 ![0, 1] bcast_S1x1536_S8320x1536_0_1 (broadcastInDim S1x1536 ![1] bcast_S1536_S1x1536_1 (shapeCast S1536 (extractStridedSlice S1x1536 ![0, 0] r.a2 slices_S4x1536_S1x1536_0_0) shapeCasts_S1x1536_S1536)))) (mulf (r.rv24) (broadcastInDim S8320x1536 ![0, 1] bcast_S1x1536_S8320x1536_0_1 (broadcastInDim S1x1536 ![1] bcast_S1536_S1x1536_1 (shapeCast S1536 (extractStridedSlice S1x1536 ![1, 0] r.a2 slices_S4x1536_S1x1536_1_0) shapeCasts_S1x1536_S1536))))) (mulf (r.rv31) (broadcastInDim S8320x1536 ![0, 1] bcast_S1x1536_S8320x1536_0_1 (broadcastInDim S1x1536 ![1] bcast_S1536_S1x1536_1 (shapeCast S1536 (extractStridedSlice S1x1536 ![2, 0] r.a2 slices_S4x1536_S1x1536_2_0) shapeCasts_S1x1536_S1536))))) (mulf (r.rv38) (broadcastInDim S8320x1536 ![0, 1] bcast_S1x1536_S8320x1536_0_1 (broadcastInDim S1x1536 ![1] bcast_S1536_S1x1536_1 (shapeCast S1536 (extractStridedSlice S1x1536 ![3, 0] r.a2 slices_S4x1536_S1x1536_3_0) shapeCasts_S1x1536_S1536))))

def rv45 : FVec Ideal S8320x1536 .f32 :=
  mulf (r.rv44) (Host.divf (broadcastInDim S8320x1536 ![] bcast_S_S8320x1536 (constant S_ .f32 0x3F800000#32)) (addf (broadcastInDim S8320x1536 ![] bcast_S_S8320x1536 (constant S_ .f32 0x3F800000#32)) (Host.exp (Host.negf (r.rv44)))))

def rv46 : FVec Ideal S8320x512 .f32 :=
  extractStridedSlice S8320x512 ![0, 0] (r.rv45) slices_S8320x1536_S8320x512_0_0

def rv47 : FVec Ideal S8320x512 .f32 :=
  extractStridedSlice S8320x512 ![0, 512] (r.rv45) slices_S8320x1536_S8320x512_0_512

def rv48 : FVec Ideal S8320x512 .f32 :=
  extractStridedSlice S8320x512 ![0, 1024] (r.rv45) slices_S8320x1536_S8320x512_0_1024

def rv53 (_ : Arr) : FVec Ideal S8320x1 .f32 :=
  uitofp .f32 (broadcastInDim S8320x1 ![0] bcast_S8320_S8320x1_0 (cmpi .sge (iotaInDim S8320 32 0) (broadcastInDim S8320 ![] bcast_S_S8320 (constantI S_ 32 112#32))))

def rv61 : FVec Ideal S8320x4 .f32 :=
  mulf (Host.divf (broadcastInDim S8320x4 ![] bcast_S_S8320x4 (constant S_ .f32 0x3F800000#32)) (addf (broadcastInDim S8320x4 ![] bcast_S_S8320x4 (constant S_ .f32 0x3F800000#32)) (Host.exp (Host.negf (extractStridedSlice S8320x4 ![0, 1536] (r.rv12) slices_S8320x1664_S8320x4_0_1536))))) (broadcastInDim S8320x4 ![0, 1] bcast_S8320x1_S8320x4_0_1 (r.rv53))

def rv67 : FVec Ideal S8320x4 .f32 :=
  addf (extractStridedSlice S8320x4 ![0, 1540] (r.rv12) slices_S8320x1664_S8320x4_0_1540) (broadcastInDim S8320x4 ![0, 1] bcast_S1x4_S8320x4_0_1 (extractStridedSlice S1x4 ![0, 4] r.a4 slices_S1x128_S1x4_0_4))

def rv68 : FVec Ideal S8320x4 .f32 :=
  select (cmpf .une (subf (r.rv67) (broadcastInDim S8320x4 ![] bcast_S_S8320x4 (constant S_ .f32 0x00000000#32))) (subf (r.rv67) (broadcastInDim S8320x4 ![] bcast_S_S8320x4 (constant S_ .f32 0x00000000#32)))) (addf (r.rv67) (broadcastInDim S8320x4 ![] bcast_S_S8320x4 (constant S_ .f32 0x00000000#32))) (addf (maximumf (r.rv67) (broadcastInDim S8320x4 ![] bcast_S_S8320x4 (constant S_ .f32 0x00000000#32))) (Host.log1p (Host.exp (Host.negf (Host.absf (subf (r.rv67) (broadcastInDim S8320x4 ![] bcast_S_S8320x4 (constant S_ .f32 0x00000000#32))))))))

def rv70 : FVec Ideal S8320x4 .f32 :=
  mulf (broadcastInDim S8320x4 ![0, 1] bcast_S1x4_S8320x4_0_1 (Host.negf (Host.exp (extractStridedSlice S1x4 ![0, 4] r.a3 slices_S1x128_S1x4_0_4)))) (r.rv68)

def rv71 : FVec Ideal S8320x4x128 .f32 :=
  shapeCast S8320x4x128 (r.rv46) shapeCasts_S8320x512_S8320x4x128

def rv82 : FVec Ideal S8320x512 .f32 :=
  shapeCast S8320x512 (mulf (mulf (r.rv71) (broadcastInDim S8320x4x128 ![0, 1, 2] bcast_S8320x4x1_S8320x4x128_0_1_2 (Host.rsqrt (addf (broadcastInDim S8320x4x1 ![0, 1] bcast_S8320x4_S8320x4x1_0_1 (Host.reduceAdd (mulf (r.rv71) (r.rv71)) (constant S_ .f32 0x00000000#32) reducesTo_S8320x4x128_S8320x4_d2 h_S_)) (broadcastInDim S8320x4x1 ![] bcast_S_S8320x4x1 (constant S_ .f32 0x358637BD#32)))))) (broadcastInDim S8320x4x128 ![] bcast_S_S8320x4x128 (constant S_ .f32 0x3DB504F3#32))) shapeCasts_S8320x4x128_S8320x512

def rv92 : FVec Ideal S8320x512 .f32 :=
  shapeCast S8320x512 (mulf (shapeCast S8320x4x128 (r.rv47) shapeCasts_S8320x512_S8320x4x128) (broadcastInDim S8320x4x128 ![0, 1, 2] bcast_S8320x4x1_S8320x4x128_0_1_2 (Host.rsqrt (addf (broadcastInDim S8320x4x1 ![0, 1] bcast_S8320x4_S8320x4x1_0_1 (Host.reduceAdd (mulf (shapeCast S8320x4x128 (r.rv47) shapeCasts_S8320x512_S8320x4x128) (shapeCast S8320x4x128 (r.rv47) shapeCasts_S8320x512_S8320x4x128)) (constant S_ .f32 0x00000000#32) reducesTo_S8320x4x128_S8320x4_d2 h_S_)) (broadcastInDim S8320x4x1 ![] bcast_S_S8320x4x1 (constant S_ .f32 0x358637BD#32)))))) shapeCasts_S8320x4x128_S8320x512

def rv94 : FVec Ideal S8320x128 .f32 :=
  (concatenate S8320x128 1 [⟨S8320x4, ((r.rv61) : FVec Ideal S8320x4 .f32)⟩, ⟨S8320x4, ((r.rv70) : FVec Ideal S8320x4 .f32)⟩, ⟨S8320x120, ((broadcastInDim S8320x120 ![] bcast_S_S8320x120 (constant S_ .f32 0x00000000#32)) : FVec Ideal S8320x120 .f32)⟩] concatenates_S8320x4_S8320x4_S8320x120_S8320x128_d1 : FVec Ideal S8320x128 .f32)

theorem at12 (t : Fin 8320) (n : Fin 1664) : r.rv12 (ix2 t n)
    = proj (fun k => r.a1 (ix2 0 k)) (fun k n => r.a5 (ix2 k n)) (fun k => r.a0 (ix2 t k)) n := by
  pointwise [rv12, proj, rinv, ms]

theorem at12r (t : Fin 8320) (n : Fin 1664) : r.rv12 (ix2 t n) = (r.row t).raw 0 n := by
  rw [at12]; simp [In.raw, row]

theorem at17 (t : Fin 8320) (s : Fin 4) (n : Fin 1536) (u : Fin 8323) (hu : u.val + s.val = t.val + 3) :
    r.rv17 (ix2 u n) = (r.row t).raw s (up n) := by
  by_cases h : s.val ≤ t.val
  · have e : (r.row t).raw s (up n) = r.rv12 (ix2 ⟨t.val - s.val, by omega⟩ (up n)) := by
      rw [at12]; simp [In.raw, row, h]
    rw [e]
    have hu3 : u.val - 3 = t.val - s.val := by omega
    have h3 : 3 ≤ u.val := by omega
    have h4 : t.val - s.val < 8320 := by omega
    pointwise [rv17]
    simp [h3, h4, hu3, up]
  · have e : (r.row t).raw s (up n) = 0 := by
      rw [← proj_zero (r.row t).nw (r.row t).w (up n)]; simp [In.raw, row, h]
    rw [e]
    have h3 : ¬ 3 ≤ u.val := by omega
    pointwise [rv17]
    simp only [h3]
    show ((((0#32 : BitVec 32).toInt : ℤ) : ℝ) : EReal) = 0
    simp

theorem at18 (t : Fin 8320) (n : Fin 1536) : r.rv18 (ix2 t n) = (r.row t).raw 3 (up n) := by
  pointwise [rv18]
  exact r.at17 t 3 n _ (by simp; try omega)

theorem at24 (t : Fin 8320) (n : Fin 1536) : r.rv24 (ix2 t n) = (r.row t).raw 2 (up n) := by
  pointwise [rv24]
  exact r.at17 t 2 n _ (by simp; try omega)

theorem at31 (t : Fin 8320) (n : Fin 1536) : r.rv31 (ix2 t n) = (r.row t).raw 1 (up n) := by
  pointwise [rv31]
  exact r.at17 t 1 n _ (by simp; try omega)

theorem at38 (t : Fin 8320) (n : Fin 1536) : r.rv38 (ix2 t n) = (r.row t).raw 0 (up n) := by
  pointwise [rv38]
  exact r.at17 t 0 n _ (by simp; try omega)

theorem at44 (t : Fin 8320)(n : Fin 1536) : r.rv44 (ix2 t n) = (r.row t).conv n := by
  pointwise [rv44, at18, at24, at31, at38, row_cw, In.conv]
  simp only [mul_comm ((r.row t).raw _ _)]
  abel

theorem at45 (t : Fin 8320)(n : Fin 1536) : r.rv45 (ix2 t n) = (r.row t).act n := by
  pointwise [rv45, at44, row_cw, In.act, sg]

theorem at46 (t : Fin 8320)(n : Fin 512) : r.rv46 (ix2 t n) = (r.row t).act (c3 0 n) := by
  pointwise [rv46, at45, row_cw, c30]

theorem at47 (t : Fin 8320)(n : Fin 512) : r.rv47 (ix2 t n) = (r.row t).act (c3 1 n) := by
  pointwise [rv47, at45, row_cw, c31]

theorem at48 (t : Fin 8320)(n : Fin 512) : r.rv48 (ix2 t n) = (r.row t).vo n := by
  pointwise [rv48, at45, row_cw, In.vo, c32]

theorem at71 (t : Fin 8320)(q : Fin 4)(j : Fin 128) : r.rv71 (ix3 t q j) = (r.row t).qh q j := by
  pointwise [rv71, at46, row_cw, In.qh, cat]

theorem at82 (t : Fin 8320)(n : Fin 512) : r.rv82 (ix2 t n) = (r.row t).qo n := by
  pointwise [rv82, at71, row_cw, In.qo, l2, hq, hj]

theorem at92 (t : Fin 8320)(n : Fin 512) : r.rv92 (ix2 t n) = (r.row t).ko n := by
  pointwise [rv92, at47, row_cw, In.ko, In.kh, l2, hq, hj, cat, Nat.div_add_mod', Fin.eta]

theorem at53 (t : Fin 8320)(x : Fin 1) : r.rv53 (ix2 t x) = (r.row t).live := by
  obtain rfl : x = 0 := Subsingleton.elim _ _
  pointwise [rv53, row_cw, live_uitofp]
  rfl

theorem at61 (t : Fin 8320) (j : Fin 4) : r.rv61 (ix2 t j) = sg ((r.row t).raw 0 (gcol ⟨j.val, by omega⟩)) * (r.row t).live := by
  pointwise [rv61, at53, at12r, sg]
  rfl

theorem at67 (t : Fin 8320) (j : Fin 4) :
    r.rv67 (ix2 t j) = (r.row t).raw 0 (gcol ⟨4 + j.val, by omega⟩) + (r.row t).dt ⟨4 + j.val, by omega⟩ := by
  pointwise [rv67, at12r]
  have e : gcol ⟨4 + j.val, by omega⟩ = ⟨1540 + j.val, by omega⟩ := Fin.ext (by simp only [gcol]; omega)
  rw [e]; rfl

theorem at68 (t : Fin 8320) (j : Fin 4) : r.rv68 (ix2 t j) = sp (r.rv67 (ix2 t j)) := by
  pointwise [rv68, sp]
  rw [if_neg (fun h => h rfl)]
  rfl

theorem at70 (t : Fin 8320) (j : Fin 4) : r.rv70 (ix2 t j) = -(Ideal.exp ((r.row t).al ⟨4 + j.val, by omega⟩))
    * sp ((r.row t).raw 0 (gcol ⟨4 + j.val, by omega⟩) + (r.row t).dt ⟨4 + j.val, by omega⟩) := by
  pointwise [rv70, at68, at67]
  rfl

theorem at94 (t : Fin 8320) (j : Fin 128) : r.rv94 (ix2 t j) = (r.row t).bg j := by
  pointwise [rv94, at61, at70, In.bg]
  by_cases h4 : j.val < 4
  · simp only [h4, dif_pos, if_pos]
  · by_cases h8 : j.val < 8
    · have h : j.val - 4 < 4 := by omega
      have e : 4 + (j.val - 4) = j.val := by omega
      simp only [h4, h8, h, e, dif_pos, dif_neg, if_pos, if_neg, not_false_eq_true, Fin.eta]
    · have h : ¬ j.val - 4 < 4 := by omega
      simp only [h4, h8, h, dif_neg, if_neg, not_false_eq_true]

end Arr
end Cert.Proof.GdnF
-- ==== Proof.GdnFArr.lean ====
/- The kernel's windows: which rows of the argument arrays a grid point reads. -/
module

public import proofs.«01_k».proof.Proof.GdnFTile
public import proofs.«01_k».proof.Proof.GdnFRows
public import proofs.«01_k».proof.Proof.Gen.GdnFIdeal.Value
public import Idealize.ShloMosaic.Lib.Pipeline.ValueKit

@[expose] public section

set_option maxRecDepth 16384
noncomputable section
open Idealize.ShloMosaic Idealize.ShloMosaic.TcCoe Idealize.SL.Sem
open Cert.Proof.Row Cert.GdnFIdeal Cert.GdnFIdeal.Gen
open scoped BigOperators
namespace Cert.Proof.GdnF

variable (m : (ℓ : Loc nD τ sig) → Buf (Elt Ideal) ℓ) (c : Dev nD)

/-- Every window's block index at a grid point. -/
theorem idx : ∀ t : Fin cfg0.N, win0_0.index t = ![t.val * 40 - 1, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

/-- The number of the first row of grid point `t`. -/
theorem num : ∀ t : Fin cfg0.N, Scalar.muli (BitVec.ofNat 32 ((grid0.coords t) 0).val) 320#32 = BitVec.ofNat 32 (t.val * 320) :=
  (by decide +kernel : ∀ t : Fin grid0.N, _)

theorem first_eq : ∀ t : Fin cfg0.N, first (grid0.coords t) = BitVec.ofBool (decide (t.val = 0)) :=
  (by decide +kernel : ∀ t : Fin grid0.N, _)

/-- The blocks grid point `t` reads. -/
def blk (t : Fin cfg0.N) : Blk :=
  ⟨iblk m c 0 t, iblk m c 1 t, iblk m c 2 t, iblk m c 3 t, iblk m c 4 t, iblk m c 5 t, iblk m c 6 t, grid0.coords t,
    Scalar.muli (BitVec.ofNat 32 ((grid0.coords t) 0).val) 320#32⟩

/-- The argument arrays. -/
def arr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)

/-- The array row that grid point `t` reads as its row `p`. -/
def rowAt (t : Fin cfg0.N) (p : Fin 320) : Fin 8320 :=
  ⟨t.val * 320 + p.val, by have : t.val < 26 := lt_of_lt_of_eq t.isLt (by decide); omega⟩

theorem ext_eq (t : Fin cfg0.N) (p : Fin 320) (s : Fin 4) (k : Fin 1024) : (blk m c t).ext (Blk.at8 p s) k
    = if h : s.val ≤ (rowAt t p).val then (arr m c).a0 (ix2 ⟨(rowAt t p).val - s.val, by omega⟩ k) else 0 := by
  have h26 : t.val < 26 := lt_of_lt_of_eq t.isLt (by decide)
  have hf : (blk m c t).pt = grid0.coords t := rfl
  unfold Blk.ext
  by_cases hp : (Blk.at8 p s).val < 8
  · rw [dif_pos hp, hf, first_eq]
    simp only [Blk.at8] at hp
    by_cases h0 : t.val = 0
    · have hn : ¬ s.val ≤ (rowAt t p).val := by simp only [rowAt]; omega
      rw [dif_neg hn, decide_eq_true h0]; rfl
    · have hn : s.val ≤ (rowAt t p).val := by simp only [rowAt]; omega
      rw [dif_pos hn, decide_eq_false h0]
      show (blk m c t).x0 _ = _
      have e : ∀ (u : Fin 8) (v : Fin 8320), (t.val * 40 - 1) * 8 + u.val = v.val →
          (blk m c t).x0 (ix2 u k) = (arr m c).a0 (ix2 v k) := by
        intro u ⟨v, hv⟩ huv
        dsimp only at huv
        subst huv
        simp only [blk, arr]; blk_point [iblk, V, idx t]
      exact e _ _ (by simp only [Blk.at8, rowAt]; omega)
  · have hn : s.val ≤ (rowAt t p).val := by simp only [Blk.at8] at hp; simp only [rowAt]; omega
    rw [dif_neg hp, dif_pos hn]
    have e : ∀ (u : Fin 320) (v : Fin 8320), t.val * 320 + u.val = v.val →
        (blk m c t).x1 (ix2 u k) = (arr m c).a0 (ix2 v k) := by
      intro u ⟨v, hv⟩ huv
      dsimp only at huv
      subst huv
      simp only [blk, arr]; blk_point [iblk, V, idx t]
    exact e _ _ (by simp only [Blk.at8] at hp; simp only [Blk.at8, rowAt]; omega)

theorem row_eq (t : Fin cfg0.N) (p : Fin 320) : (blk m c t).row p = (arr m c).row (rowAt t p) := by
  have h0 : ∀ s : Fin 4, (blk m c t).ext (Blk.at8 p s) = fun k => if h : s.val ≤ (rowAt t p).val then
      (arr m c).a0 (ix2 ⟨(rowAt t p).val - s.val, by omega⟩ k) else 0 := fun s => funext fun k => ext_eq m c t p s k
  have h2 : ∀ k : Fin 1024, (blk m c t).x2 (ix2 0 k) = (arr m c).a1 (ix2 0 k) := by
    intro k; simp only [blk, arr]; blk_point [iblk, V, idx t]
  have h3 : ∀ (k : Fin 4) (n : Fin 1536), (blk m c t).x3 (ix2 k n) = (arr m c).a2 (ix2 k n) := by
    intro k n; simp only [blk, arr]; blk_point [iblk, V, idx t]
  have h4 : ∀ k : Fin 128, (blk m c t).x4 (ix2 0 k) = (arr m c).a3 (ix2 0 k) := by
    intro k; simp only [blk, arr]; blk_point [iblk, V, idx t]
  have h5 : ∀ k : Fin 128, (blk m c t).x5 (ix2 0 k) = (arr m c).a4 (ix2 0 k) := by
    intro k; simp only [blk, arr]; blk_point [iblk, V, idx t]
  have h6 : ∀ (k : Fin 1024) (n : Fin 1664), (blk m c t).x6 (ix2 k n) = (arr m c).a5 (ix2 k n) := by
    intro k n; simp only [blk, arr]; blk_point [iblk, V, idx t]
  have hm : Row.live (IntOp.addi (blk m c t).num (BitVec.ofNat 32 p.val)) = Row.live (BitVec.ofNat 32 (rowAt t p).val) := by
    simp only [blk, num t, rowAt, BitVec.ofNat_add]; rfl
  simp only [Blk.row, Arr.row, h0, h2, h3, h4, h5, h6, hm]

end Cert.Proof.GdnF
-- ==== Proof.GdnFFin1.lean ====
/- Result arrays of the kernel after the run, entry by entry. -/
module

public import proofs.«01_k».proof.Proof.GdnFArr

@[expose] public section

set_option maxRecDepth 16384
noncomputable section
open Idealize.ShloMosaic Idealize.ShloMosaic.TcCoe Idealize.SL.Sem
open Cert.Proof.Row Cert.GdnFIdeal Cert.GdnFIdeal.Gen
open scoped BigOperators
namespace Cert.Proof.GdnF

variable (m : (ℓ : Loc nD τ sig) → Buf (Elt Ideal) ℓ) (c : Dev nD)

set_option maxHeartbeats 2000000 in
/-- The queries. -/
theorem final_7 : (dats m 0 c).arrAt 7 (cfgs 0).N = (arr m c).rv82 := by
  refine (dats m 0 c).arrAt_eq_of_covers 7 _ (by decide +kernel) fun t hf y => ?_
  have key : ∀ (p : Fin 320) (k : Fin 512), (blk m c t).t94 (ix2 p k) = (arr m c).rv82 (ix2 (rowAt t p) k) := by
    intro p k; rw [Blk.at94, Arr.at82, row_eq]
  have emb : ∀ (p : Fin 320) (k : Fin 512), ((cfg0.win 7).blk t).view.emb (ix2 p k) = ix2 (rowAt t p) k := by
    intro p k; simp only [rowAt]; blk_ext [idx t]
  blk_simp; rw [after0_7]; unfold out0_7 k0_pay19 k0_pay18 k0_pay17; frame_out
  idx_vars y
  exact (key y0 y1).trans (congrArg (arr m c).rv82 (emb y0 y1).symm)

set_option maxHeartbeats 2000000 in
/-- The keys. -/
theorem final_8 : (dats m 0 c).arrAt 8 (cfgs 0).N = (arr m c).rv92 := by
  refine (dats m 0 c).arrAt_eq_of_covers 8 _ (by decide +kernel) fun t hf y => ?_
  have key : ∀ (p : Fin 320) (k : Fin 512), (blk m c t).t132 (ix2 p k) = (arr m c).rv92 (ix2 (rowAt t p) k) := by
    intro p k; rw [Blk.at132, Arr.at92, row_eq]
  have emb : ∀ (p : Fin 320) (k : Fin 512), ((cfg0.win 8).blk t).view.emb (ix2 p k) = ix2 (rowAt t p) k := by
    intro p k; simp only [rowAt]; blk_ext [idx t]
  blk_simp; rw [after0_8]; unfold out0_8 k0_pay20 k0_pay19 k0_pay18 k0_pay17; frame_out
  idx_vars y
  exact (key y0 y1).trans (congrArg (arr m c).rv92 (emb y0 y1).symm)

set_option maxHeartbeats 2000000 in
/-- The values. -/
theorem final_9 : (dats m 0 c).arrAt 9 (cfgs 0).N = (arr m c).rv48 := by
  refine (dats m 0 c).arrAt_eq_of_covers 9 _ (by decide +kernel) fun t hf y => ?_
  have key : ∀ (p : Fin 320) (k : Fin 512), (blk m c t).t133 (ix2 p k) = (arr m c).rv48 (ix2 (rowAt t p) k) := by
    intro p k; rw [Blk.at133, Arr.at48, row_eq]
  have emb : ∀ (p : Fin 320) (k : Fin 512), ((cfg0.win 9).blk t).view.emb (ix2 p k) = ix2 (rowAt t p) k := by
    intro p k; simp only [rowAt]; blk_ext [idx t]
  blk_simp; rw [after0_9]; unfold out0_9 k0_pay20 k0_pay19 k0_pay18 k0_pay17; frame_out
  idx_vars y
  exact (key y0 y1).trans (congrArg (arr m c).rv48 (emb y0 y1).symm)

set_option maxHeartbeats 2000000 in
/-- The write strengths and decays. -/
theorem final_10 : (dats m 0 c).arrAt 10 (cfgs 0).N = (arr m c).rv94 := by
  refine (dats m 0 c).arrAt_eq_of_covers 10 _ (by decide +kernel) fun t hf y => ?_
  have key : ∀ (p : Fin 320) (k : Fin 128), (blk m c t).t179 (ix2 p k) = (arr m c).rv94 (ix2 (rowAt t p) k) := by
    intro p k; rw [Blk.at179, Arr.at94, row_eq]
  have emb : ∀ (p : Fin 320) (k : Fin 128), ((cfg0.win 10).blk t).view.emb (ix2 p k) = ix2 (rowAt t p) k := by
    intro p k; simp only [rowAt]; blk_ext [idx t]
  blk_simp; rw [after0_10]; unfold out0_10; frame_out
  idx_vars y
  exact (key y0 y1).trans (congrArg (arr m c).rv94 (emb y0 y1).symm)

end Cert.Proof.GdnF
-- ==== Proof.GdnFClaim.lean ====
/- The claims about the gated delta rule's first stage: the frames, and that its results are those of the reference. -/
module

public import proofs.«01_k».proof.Proof.GdnFFin1
public import proofs.«01_k».proof.Defs
public import proofs.«01_k».proof.Proof.Gen.GdnF.Frame

@[expose] public section

set_option maxRecDepth 16384
noncomputable section
open Idealize.ShloMosaic Idealize.ShloMosaic.TcCoe Idealize.SL.Sem
namespace Cert.Proof.GdnF

section
open Cert.GdnFRefIdeal Cert.GdnFRefIdeal.Gen Cert.GdnFRefIdeal.Value Idealize.ShloMosaic.StableHlo
variable (m : (ℓ : Loc nD τ sig) → Buf (Elt Ideal) ℓ) (c : Dev nD)

/-- The reference's argument arrays. -/
def rarr : Arr where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)

set_option maxHeartbeats 2000000 in
theorem res_82 : Cert.GdnFRefIdeal.Value.res_main_v82 m c = (rarr m c).rv82 := rfl
set_option maxHeartbeats 2000000 in
theorem res_92 : Cert.GdnFRefIdeal.Value.res_main_v92 m c = (rarr m c).rv92 := rfl
set_option maxHeartbeats 2000000 in
theorem res_48 : Cert.GdnFRefIdeal.Value.res_main_v48 m c = (rarr m c).rv48 := rfl
set_option maxHeartbeats 2000000 in
theorem res_94 : Cert.GdnFRefIdeal.Value.res_main_v94 m c = (rarr m c).rv94 := rfl
end

theorem frame_p : Cert.quiescent_GdnF := fun m ρ _ => Cert.GdnF.Gen.frame m ρ
theorem frame_pi : Cert.quiescent_GdnFIdeal := fun m ρ _ => Cert.GdnFIdeal.Gen.frame m ρ
theorem frame_ri : Cert.quiescent_GdnFRefIdeal := fun m ρ _ =>
  (θ_run Cert.GdnFRefIdeal.defs _ _).mono (fun r h => ⟨fun c => (h c).2.2.2.2,
      Idealize.ShloMosaic.sem_eq_zero_of_no_sems (by decide) r.2⟩)
    (Cert.GdnFRefIdeal.Value.run (F := Ideal) m ρ)

theorem algebraic : Cert.algebraic_GdnFIdeal_GdnFRefIdeal := by
  intro m ρ m' ρ' _ hag
  have e : ∀ c, rarr m' c = arr m c := by
    intro c
    obtain ⟨h0, h1, h2, h3, h4, h5⟩ := hag c
    simp only [rarr, arr]
    rw [h0, h1, h2, h3, h4, h5]
  refine ⟨fun c => (arr m c).rv82, fun c => (arr m c).rv92, fun c => (arr m c).rv48, fun c => (arr m c).rv94, ?_, ?_⟩
  · refine (θ_run Cert.GdnFIdeal.defs _ _).mono (fun r h c => ?_) (Cert.GdnFIdeal.Value.run_blocks (F := Ideal) m ρ)
    obtain ⟨g7, g8, g9, g10, g⟩ := h c
    exact ⟨g7.trans (final_7 m c), g8.trans (final_8 m c), g9.trans (final_9 m c), g10.trans (final_10 m c), g⟩
  · refine (θ_run Cert.GdnFRefIdeal.defs _ _).mono (fun r h c => ?_) (Cert.GdnFRefIdeal.Value.run (F := Ideal) m' ρ')
    obtain ⟨g0, g1, g2, g3, g⟩ := h c
    exact ⟨g0.trans ((res_82 m' c).trans (congrArg Arr.rv82 (e c))), g1.trans ((res_92 m' c).trans (congrArg Arr.rv92 (e c))), g2.trans ((res_48 m' c).trans (congrArg Arr.rv48 (e c))), g3.trans ((res_94 m' c).trans (congrArg Arr.rv94 (e c))), g⟩

end Cert.Proof.GdnF
-- ==== Proof.AdamInClaim.lean ====
/- The claims about the AdamW update of the in-projection matrices: the frames, and that its results are those of the
   reference. The kernel and the reference apply the same operations to every entry. -/
module

public import proofs.«01_k».proof.Defs
public import proofs.«01_k».proof.Proof.Gen.AdamInIdeal.Value
public import proofs.«01_k».proof.Proof.Gen.AdamInRefIdeal.Run
public import proofs.«01_k».proof.Proof.Gen.AdamIn.Frame

@[expose] public section

set_option maxRecDepth 16384
noncomputable section
open Idealize.ShloMosaic Idealize.ShloMosaic.TcCoe Idealize.SL.Sem
namespace Cert.Proof.AdamIn

theorem frame_p : Cert.quiescent_AdamIn := fun m ρ _ => Cert.AdamIn.Gen.frame m ρ
theorem frame_pi : Cert.quiescent_AdamInIdeal := fun m ρ _ => Cert.AdamInIdeal.Gen.frame m ρ
theorem frame_ri : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

section
open Cert.AdamInIdeal Cert.AdamInIdeal.Value

set_option maxHeartbeats 2000000 in
theorem algebraic : Cert.algebraic_AdamInIdeal_AdamInRefIdeal := by
  intro m ρ m' ρ' _ hag
  refine ⟨fun c => G5 (m ((c : Thread nD τ).loc main_arg0)) (m ((c : Thread nD τ).loc main_arg1)),
      fun c => G6 (m ((c : Thread nD τ).loc main_arg0)) (m ((c : Thread nD τ).loc main_arg1)) (m ((c : Thread nD τ).loc main_arg3)) (m ((c : Thread nD τ).loc main_arg4)) (m ((c : Thread nD τ).loc main_arg2)),
      fun c => G7 (m ((c : Thread nD τ).loc main_arg0)) (m ((c : Thread nD τ).loc main_arg1)) (m ((c : Thread nD τ).loc main_arg3)),
      fun c => G8 (m ((c : Thread nD τ).loc main_arg0)) (m ((c : Thread nD τ).loc main_arg1)) (m ((c : Thread nD τ).loc main_arg4)), ?_, ?_⟩
  · exact Cert.AdamInIdeal.Value.run (F := Ideal) m ρ
  · refine (θ_run Cert.AdamInRefIdeal.defs _ _).mono (fun r h c => ?_) (Cert.AdamInRefIdeal.Value.run (F := Ideal) m' ρ')
    obtain ⟨h0, h1, h2, h3, h4⟩ := hag c
    obtain ⟨g0, g1, g2, g3, g⟩ := h c
    simp only [h0, h1, h2, h3, h4] at g0 g1 g2 g3
    exact ⟨g0.trans rfl, g1.trans rfl, g2.trans rfl, g3.trans rfl, g⟩
end

end Cert.Proof.AdamIn
-- ==== Proof.AdamBranchClaim.lean ====
/- The claims about the AdamW update of the branch projections: the frames, and that its results are those of the
   reference. The kernel and the reference apply the same operations to every entry. -/
module

public import proofs.«01_k».proof.Defs
public import proofs.«01_k».proof.Proof.Gen.AdamBranchIdeal.Value
public import proofs.«01_k».proof.Proof.Gen.AdamBranchRefIdeal.Run
public import proofs.«01_k».proof.Proof.Gen.AdamBranch.Frame

@[expose] public section

set_option maxRecDepth 16384
noncomputable section
open Idealize.ShloMosaic Idealize.ShloMosaic.TcCoe Idealize.SL.Sem
namespace Cert.Proof.AdamBranch

theorem frame_p : Cert.quiescent_AdamBranch := fun m ρ _ => Cert.AdamBranch.Gen.frame m ρ
theorem frame_pi : Cert.quiescent_AdamBranchIdeal := fun m ρ _ => Cert.AdamBranchIdeal.Gen.frame m ρ
theorem frame_ri : Cert.quiescent_AdamBranchRefIdeal := fun m ρ _ =>
  (θ_run Cert.AdamBranchRefIdeal.defs _ _).mono (fun r h => ⟨fun c => (h c).2.2.2.2,
      Idealize.ShloMosaic.sem_eq_zero_of_no_sems (by decide) r.2⟩)
    (Cert.AdamBranchRefIdeal.Value.run (F := Ideal) m ρ)

section
open Cert.AdamBranchIdeal Cert.AdamBranchIdeal.Value

set_option maxHeartbeats 2000000 in
theorem algebraic : Cert.algebraic_AdamBranchIdeal_AdamBranchRefIdeal := by
  intro m ρ m' ρ' _ hag
  refine ⟨fun c => G5 (m ((c : Thread nD τ).loc main_arg0)) (m ((c : Thread nD τ).loc main_arg1)),
      fun c => G6 (m ((c : Thread nD τ).loc main_arg0)) (m ((c : Thread nD τ).loc main_arg1)) (m ((c : Thread nD τ).loc main_arg3)) (m ((c : Thread nD τ).loc main_arg4)) (m ((c : Thread nD τ).loc main_arg2)),
      fun c => G7 (m ((c : Thread nD τ).loc main_arg0)) (m ((c : Thread nD τ).loc main_arg1)) (m ((c : Thread nD τ).loc main_arg3)),
      fun c => G8 (m ((c : Thread nD τ).loc main_arg0)) (m ((c : Thread nD τ).loc main_arg1)) (m ((c : Thread nD τ).loc main_arg4)), ?_, ?_⟩
  · exact Cert.AdamBranchIdeal.Value.run (F := Ideal) m ρ
  · refine (θ_run Cert.AdamBranchRefIdeal.defs _ _).mono (fun r h c => ?_) (Cert.AdamBranchRefIdeal.Value.run (F := Ideal) m' ρ')
    obtain ⟨h0, h1, h2, h3, h4⟩ := hag c
    obtain ⟨g0, g1, g2, g3, g⟩ := h c
    simp only [h0, h1, h2, h3, h4] at g0 g1 g2 g3
    exact ⟨g0.trans rfl, g1.trans rfl, g2.trans rfl, g3.trans rfl, g⟩
end

end Cert.Proof.AdamBranch
-- ==== Proof.AdamOutClaim.lean ====
/- The claims about the AdamW update of the out-projection matrices: the frames, and that its results are those of the
   reference. The kernel and the reference apply the same operations to every entry. -/
module

public import proofs.«01_k».proof.Defs
public import proofs.«01_k».proof.Proof.Gen.AdamOutIdeal.Value
public import proofs.«01_k».proof.Proof.Gen.AdamOutRefIdeal.Run
public import proofs.«01_k».proof.Proof.Gen.AdamOut.Frame

@[expose] public section

set_option maxRecDepth 16384
noncomputable section
open Idealize.ShloMosaic Idealize.ShloMosaic.TcCoe Idealize.SL.Sem
namespace Cert.Proof.AdamOut

theorem frame_p : Cert.quiescent_AdamOut := fun m ρ _ => Cert.AdamOut.Gen.frame m ρ
theorem frame_pi : Cert.quiescent_AdamOutIdeal := fun m ρ _ => Cert.AdamOutIdeal.Gen.frame m ρ
theorem frame_ri : Cert.quiescent_AdamOutRefIdeal := fun m ρ _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m ρ)

section
open Cert.AdamOutIdeal Cert.AdamOutIdeal.Value

set_option maxHeartbeats 2000000 in
theorem algebraic : Cert.algebraic_AdamOutIdeal_AdamOutRefIdeal := by
  intro m ρ m' ρ' _ hag
  refine ⟨fun c => G5 (m ((c : Thread nD τ).loc main_arg0)) (m ((c : Thread nD τ).loc main_arg1)),
      fun c => G6 (m ((c : Thread nD τ).loc main_arg0)) (m ((c : Thread nD τ).loc main_arg1)) (m ((c : Thread nD τ).loc main_arg3)) (m ((c : Thread nD τ).loc main_arg4)) (m ((c : Thread nD τ).loc main_arg2)),
      fun c => G7 (m ((c : Thread nD τ).loc main_arg0)) (m ((c : Thread nD τ).loc main_arg1)) (m ((c : Thread nD τ).loc main_arg3)),
      fun c => G8 (m ((c : Thread nD τ).loc main_arg0)) (m ((c : Thread nD τ).loc main_arg1)) (m ((c : Thread nD τ).loc main_arg4)), ?_, ?_⟩
  · exact Cert.AdamOutIdeal.Value.run (F := Ideal) m ρ
  · refine (θ_run Cert.AdamOutRefIdeal.defs _ _).mono (fun r h c => ?_) (Cert.AdamOutRefIdeal.Value.run (F := Ideal) m' ρ')
    obtain ⟨h0, h1, h2, h3, h4⟩ := hag c
    obtain ⟨g0, g1, g2, g3, g⟩ := h c
    simp only [h0, h1, h2, h3, h4] at g0 g1 g2 g3
    exact ⟨g0.trans rfl, g1.trans rfl, g2.trans rfl, g3.trans rfl, g⟩
end

end Cert.Proof.AdamOut
-- ==== Proof.AdamConvClaim.lean ====
/- The claims about the AdamW update of the convolution filters: the frames, and that its results are those of the
   reference. The kernel and the reference apply the same operations to every entry. -/
module

public import proofs.«01_k».proof.Defs
public import proofs.«01_k».proof.Proof.Gen.AdamConvIdeal.Value
public import proofs.«01_k».proof.Proof.Gen.AdamConvRefIdeal.Run
public import proofs.«01_k».proof.Proof.Gen.AdamConv.Frame

@[expose] public section

set_option maxRecDepth 16384
noncomputable section
open Idealize.ShloMosaic Idealize.ShloMosaic.TcCoe Idealize.SL.Sem
namespace Cert.Proof.AdamConv

theorem frame_p : Cert.quiescent_AdamConv := fun m ρ _ => Cert.AdamConv.Gen.frame m ρ
theorem frame_pi : Cert.quiescent_AdamConvIdeal := fun m ρ _ => Cert.AdamConvIdeal.Gen.frame m ρ
theorem frame_ri : Cert.quiescent_AdamConvRefIdeal := fun m ρ _ =>
  (θ_run Cert.AdamConvRefIdeal.defs _ _).mono (fun r h => ⟨fun c => (h c).2.2.2.2,
      Idealize.ShloMosaic.sem_eq_zero_of_no_sems (by decide) r.2⟩)
    (Cert.AdamConvRefIdeal.Value.run (F := Ideal) m ρ)

section
open Cert.AdamConvIdeal Cert.AdamConvIdeal.Value

set_option maxHeartbeats 2000000 in
theorem algebraic : Cert.algebraic_AdamConvIdeal_AdamConvRefIdeal := by
  intro m ρ m' ρ' _ hag
  refine ⟨fun c => G5 (m ((c : Thread nD τ).loc main_arg0)) (m ((c : Thread nD τ).loc main_arg1)),
      fun c => G6 (m ((c : Thread nD τ).loc main_arg0)) (m ((c : Thread nD τ).loc main_arg1)) (m ((c : Thread nD τ).loc main_arg3)) (m ((c : Thread nD τ).loc main_arg4)) (m ((c : Thread nD τ).loc main_arg2)),
      fun c => G7 (m ((c : Thread nD τ).loc main_arg0)) (m ((c : Thread nD τ).loc main_arg1)) (m ((c : Thread nD τ).loc main_arg3)),
      fun c => G8 (m ((c : Thread nD τ).loc main_arg0)) (m ((c : Thread nD τ).loc main_arg1)) (m ((c : Thread nD τ).loc main_arg4)), ?_, ?_⟩
  · exact Cert.AdamConvIdeal.Value.run (F := Ideal) m ρ
  · refine (θ_run Cert.AdamConvRefIdeal.defs _ _).mono (fun r h c => ?_) (Cert.AdamConvRefIdeal.Value.run (F := Ideal) m' ρ')
    obtain ⟨h0, h1, h2, h3, h4⟩ := hag c
    obtain ⟨g0, g1, g2, g3, g⟩ := h c
    simp only [h0, h1, h2, h3, h4] at g0 g1 g2 g3
    exact ⟨g0.trans rfl, g1.trans rfl, g2.trans rfl, g3.trans rfl, g⟩
end

end Cert.Proof.AdamConv
-- ==== Proof.AdamMetaClaim.lean ====
/- The claims about the AdamW update of the meta tokens: the frames, and that its results are those of the
   reference. The kernel and the reference apply the same operations to every entry. -/
module

public import proofs.«01_k».proof.Defs
public import proofs.«01_k».proof.Proof.Gen.AdamMetaIdeal.Value
public import proofs.«01_k».proof.Proof.Gen.AdamMetaRefIdeal.Run
public import proofs.«01_k».proof.Proof.Gen.AdamMeta.Frame

@[expose] public section

set_option maxRecDepth 16384
noncomputable section
open Idealize.ShloMosaic Idealize.ShloMosaic.TcCoe Idealize.SL.Sem
namespace Cert.Proof.AdamMeta

theorem frame_p : Cert.quiescent_AdamMeta := fun m ρ _ => Cert.AdamMeta.Gen.frame m ρ
theorem frame_pi : Cert.quiescent_AdamMetaIdeal := fun m ρ _ => Cert.AdamMetaIdeal.Gen.frame m ρ
theorem frame_ri : Cert.quiescent_AdamMetaRefIdeal := fun m ρ _ =>
  (θ_run Cert.AdamMetaRefIdeal.defs _ _).mono (fun r h => ⟨fun c => (h c).2.2.2.2,
      Idealize.ShloMosaic.sem_eq_zero_of_no_sems (by decide) r.2⟩)
    (Cert.AdamMetaRefIdeal.Value.run (F := Ideal) m ρ)

section
open Cert.AdamMetaIdeal Cert.AdamMetaIdeal.Value

set_option maxHeartbeats 2000000 in
theorem algebraic : Cert.algebraic_AdamMetaIdeal_AdamMetaRefIdeal := by
  intro m ρ m' ρ' _ hag
  refine ⟨fun c => G5 (m ((c : Thread nD τ).loc main_arg0)) (m ((c : Thread nD τ).loc main_arg1)),
      fun c => G6 (m ((c : Thread nD τ).loc main_arg0)) (m ((c : Thread nD τ).loc main_arg1)) (m ((c : Thread nD τ).loc main_arg3)) (m ((c : Thread nD τ).loc main_arg4)) (m ((c : Thread nD τ).loc main_arg2)),
      fun c => G7 (m ((c : Thread nD τ).loc main_arg0)) (m ((c : Thread nD τ).loc main_arg1)) (m ((c : Thread nD τ).loc main_arg3)),
      fun c => G8 (m ((c : Thread nD τ).loc main_arg0)) (m ((c : Thread nD τ).loc main_arg1)) (m ((c : Thread nD τ).loc main_arg4)), ?_, ?_⟩
  · exact Cert.AdamMetaIdeal.Value.run (F := Ideal) m ρ
  · refine (θ_run Cert.AdamMetaRefIdeal.defs _ _).mono (fun r h c => ?_) (Cert.AdamMetaRefIdeal.Value.run (F := Ideal) m' ρ')
    obtain ⟨h0, h1, h2, h3, h4⟩ := hag c
    obtain ⟨g0, g1, g2, g3, g⟩ := h c
    simp only [h0, h1, h2, h3, h4] at g0 g1 g2 g3
    exact ⟨g0.trans rfl, g1.trans rfl, g2.trans rfl, g3.trans rfl, g⟩
end

end Cert.Proof.AdamMeta
-- ==== Proof.AdamSmallClaim.lean ====
/- The claims about the AdamW update of the packed small parameters: the frames, and that its results are those of the
   reference. The kernel and the reference apply the same operations to every entry. -/
module

public import proofs.«01_k».proof.Defs
public import proofs.«01_k».proof.Proof.Gen.AdamSmallIdeal.Value
public import proofs.«01_k».proof.Proof.Gen.AdamSmallRefIdeal.Run
public import proofs.«01_k».proof.Proof.Gen.AdamSmall.Frame

@[expose] public section

set_option maxRecDepth 16384
noncomputable section
open Idealize.ShloMosaic Idealize.ShloMosaic.TcCoe Idealize.SL.Sem
namespace Cert.Proof.AdamSmall

theorem frame_p : Cert.quiescent_AdamSmall := fun m ρ _ => Cert.AdamSmall.Gen.frame m ρ
theorem frame_pi : Cert.quiescent_AdamSmallIdeal := fun m ρ _ => Cert.AdamSmallIdeal.Gen.frame m ρ
theorem frame_ri : Cert.quiescent_AdamSmallRefIdeal := fun m ρ _ =>
  (θ_run Cert.AdamSmallRefIdeal.defs _ _).mono (fun r h => ⟨fun c => (h c).2.2.2.2,
      Idealize.ShloMosaic.sem_eq_zero_of_no_sems (by decide) r.2⟩)
    (Cert.AdamSmallRefIdeal.Value.run (F := Ideal) m ρ)

section
open Cert.AdamSmallIdeal Cert.AdamSmallIdeal.Value

set_option maxHeartbeats 2000000 in
theorem algebraic : Cert.algebraic_AdamSmallIdeal_AdamSmallRefIdeal := by
  intro m ρ m' ρ' _ hag
  refine ⟨fun c => G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)),
      fun c => G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)),
      fun c => G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)),
      fun c => G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)), ?_, ?_⟩
  · exact Cert.AdamSmallIdeal.Value.run (F := Ideal) m ρ
  · refine (θ_run Cert.AdamSmallRefIdeal.defs _ _).mono (fun r h c => ?_) (Cert.AdamSmallRefIdeal.Value.run (F := Ideal) m' ρ')
    obtain ⟨h0, h1, h2, h3, h4, h5, h6, h7, h8, h9, h10⟩ := hag c
    obtain ⟨g0, g1, g2, g3, g⟩ := h c
    simp only [h0, h1, h2, h3, h4, h5, h6, h7, h8, h9, h10] at g0 g1 g2 g3
    exact ⟨g0.trans rfl, g1.trans rfl, g2.trans rfl, g3.trans rfl, g⟩
end

end Cert.Proof.AdamSmall
-- ==== Proof.LossArr.lean ====
/- The loss head: the squared error summed over all entries and the gradient of the mean-squared loss,
   entry by entry, from the kernel's blocks. -/
module

public import proofs.«01_k».proof.Proof.Heads
public import proofs.«01_k».proof.Proof.Gen.LossIdeal.Value
public import Idealize.ShloMosaic.Lib.Pipeline.ValueKit

@[expose] public section

set_option maxRecDepth 16384
noncomputable section
open Idealize.ShloMosaic Idealize.ShloMosaic.TcCoe Idealize.SL.Sem
open Cert.LossIdeal Cert.LossIdeal.Gen
open scoped BigOperators
namespace Cert.Proof.Loss

/-- Row `t` of the target is compared with row `128 + t` of the residual stream. -/
def late (t : Fin 8192) : Fin 8320 := ⟨128 + t.val, by omega⟩

/-- The error at an entry. -/
def err (h : Vec Ideal S8320x1024 .f32) (y : Vec Ideal S8192x1024 .f32) (t : Fin 8192) (k : Fin 1024) : EReal :=
  h (ix2 (late t) k) - y (ix2 t k)

/-- The sum of the squared errors, as a one by one array. -/
def sq (h : Vec Ideal S8320x1024 .f32) (y : Vec Ideal S8192x1024 .f32) : Vec Ideal S1x1 .f32 :=
  fun _ => ∑ t, ∑ k, err h y t k * err h y t k

/-- The gradient of the loss with respect to the compared rows. -/
def dy (h : Vec Ideal S8320x1024 .f32) (y : Vec Ideal S8192x1024 .f32) : Vec Ideal S8192x1024 .f32 :=
  fun i => err h y (i 0) (i 1) * Ideal.ofBits .f32 0x3A800000#32

variable (m : (ℓ : Loc nD τ sig) → Buf (Elt Ideal) ℓ) (c : Dev nD)

/-- The argument arrays. -/
abbrev hh : Vec Ideal S8320x1024 .f32 := m ((c : Thread nD τ).loc main_arg0)
@[inherit_doc hh] abbrev yy : Vec Ideal S8192x1024 .f32 := m ((c : Thread nD τ).loc main_arg1)

/-- Every window's block index at a grid point. -/
theorem idx : ∀ t : Fin cfg0.N, win0_0.index t = ![t.val + 1, 0]
    ∧ win0_1.index t = ![t.val, 0]
    ∧ win0_2.index t = ![0, 0]
    ∧ win0_3.index t = ![t.val, 0] :=
  (by decide +kernel : ∀ t : Fin grid0.N, _)

/-- The target row that grid point `s` reads as its row `p`. -/
def rowAt (s : Fin 64) (p : Fin 128) : Fin 8192 := ⟨s.val * 128 + p.val, by omega⟩

theorem sum_rows (f : Fin 8192 → EReal) : ∑ s : Fin 64, ∑ p : Fin 128, f (rowAt s p) = ∑ t, f t := by
  rw [Fin.sum_univ_tiles 64 128 rfl f]; rfl

/-- A grid point as a number below 64. -/
def pt (t : Fin cfg0.N) : Fin 64 := ⟨t.val, lt_of_lt_of_eq t.isLt (by decide)⟩

/-- The blocks grid point `t` reads. -/
def bh (t : Fin cfg0.N) : Vec Ideal S128x1024 .f32 := iblk m c 0 t
@[inherit_doc bh] def bt (t : Fin cfg0.N) : Vec Ideal S128x1024 .f32 := iblk m c 1 t

theorem blk_err (t : Fin cfg0.N) (p : Fin 128) (k : Fin 1024) :
    bh m c t (ix2 p k) - bt m c t (ix2 p k)
      = err (hh m c) (yy m c) (rowAt (pt t) p) k := by
  have h0 : bh m c t (ix2 p k) = hh m c (ix2 (late (rowAt (pt t) p)) k) := by
    simp only [bh, late, rowAt, pt]; blk_point [iblk, V, idx t]
  have h1 : bt m c t (ix2 p k) = yy m c (ix2 (rowAt (pt t) p) k) := by
    simp only [bt, rowAt, pt]; blk_point [iblk, V, idx t]
  rw [h0, h1]; rfl

theorem pay4 (x y : Vec Ideal S128x1024 .f32) (p : Fin 128) (k : Fin 1024) :
    k0_pay4 x y (ix2 p k) = (x (ix2 p k) - y (ix2 p k)) * Ideal.ofBits .f32 0x3A800000#32 := by
  pointwise! [k0_pay4, k0_pay2]

theorem pay1 (j : S1x1.Idx) : k0_pay1 (F := Ideal) j = 0 := by pointwise! [k0_pay1]

theorem pay3 (x y : Vec Ideal S128x1024 .f32) (z : Vec Ideal S1x1 .f32) (j : S1x1.Idx) :
    k0_pay3 x y z j = z j + ∑ p : Fin 128, ∑ k : Fin 1024,
      (x (ix2 p k) - y (ix2 p k)) * (x (ix2 p k) - y (ix2 p k)) := by
  pointwise! [k0_pay3, k0_pay2]

/-- A grid point's share of the sum of squares. -/
def share (t : Fin cfg0.N) : EReal :=
  ∑ p : Fin 128, ∑ k : Fin 1024,
    (bh m c t (ix2 p k) - bt m c t (ix2 p k))
      * (bh m c t (ix2 p k) - bt m c t (ix2 p k))

set_option maxHeartbeats 2000000 in
/-- The gradient. -/
theorem final_3 : (dats m 0 c).arrAt 3 (cfgs 0).N = dy (hh m c) (yy m c) := by
  refine (dats m 0 c).arrAt_eq_of_covers 3 _ (by decide +kernel) fun t hf y => ?_
  have key : ∀ (p : Fin 128) (k : Fin 1024), k0_pay4 (bh m c t) (bt m c t) (ix2 p k)
      = dy (hh m c) (yy m c) (ix2 (rowAt (pt t) p) k) := by
    intro p k; rw [pay4, blk_err]; rfl
  have emb : ∀ (p : Fin 128) (k : Fin 1024), ((cfg0.win 3).blk t).view.emb (ix2 p k) = ix2 (rowAt (pt t) p) k := by
    intro p k; simp only [rowAt, pt]; blk_ext [idx t]
  blk_simp; rw [after0_3]
  by_cases h : t.val % 64 = 0
  · rw [outsAt0_A m c t h]; frame_out
    idx_vars y
    exact (key y0 y1).trans (congrArg (dy (hh m c) (yy m c)) (emb y0 y1).symm)
  · rw [outsAt0_B m c t h]; frame_out
    idx_vars y
    exact (key y0 y1).trans (congrArg (dy (hh m c) (yy m c)) (emb y0 y1).symm)

set_option maxHeartbeats 2000000 in
/-- The sum of squares. -/
theorem final_2 : (dats m 0 c).arrAt 2 (cfgs 0).N = sq (hh m c) (yy m c) := by
  refine (dats m 0 c).arrAt_eq_of_covers 2 _ (by decide +kernel) fun t hf y => ?_
  have ht : t.val / 64 = 0 := Nat.div_eq_of_lt (lt_of_lt_of_eq t.isLt (by decide))
  have key : ∑ s : Fin 64, share m c ⟨64 * (t.val / 64) + s.val,
      Pipeline.run_point_lt_of_flush t ((flush0_2 t).mp hf) s⟩
      = ∑ t, ∑ k, err (hh m c) (yy m c) t k * err (hh m c) (yy m c) t k := by
    rw [← sum_rows]
    refine Finset.sum_congr rfl fun s _ => ?_
    unfold share
    refine Finset.sum_congr rfl fun p _ => Finset.sum_congr rfl fun k _ => ?_
    rw [blk_err]
    simp only [pt, ht, Nat.mul_zero, Nat.zero_add]
  blk_simp
  rw [after0_2, Pipeline.eq_sum_fin_of_reset_step_apply_of_flush (fun n h => (outsAt0 m c n h).1) 64 (fun _ => 0)
    (fun t _ => share m c t)
    (fun t h j => by rw [outsAt0_A m c t h]; frame_out; rw [pay3, pay1]; rfl)
    (fun t h j => by rw [outsAt0_B m c t h]; frame_out; rw [pay3]; rfl)
    t ((flush0_2 t).mp hf) _, zero_add]
  exact key

end Cert.Proof.Loss
-- ==== Proof.LossClaim.lean ====
/- The claims about the loss head: the frames, and that its results are those of the reference. -/
module

public import proofs.«01_k».proof.Proof.LossArr
public import proofs.«01_k».proof.Defs
public import proofs.«01_k».proof.Proof.Gen.LossRefIdeal.Run
public import proofs.«01_k».proof.Proof.Gen.Loss.Frame

@[expose] public section

set_option maxRecDepth 16384
noncomputable section
open Idealize.ShloMosaic Idealize.ShloMosaic.TcCoe Idealize.SL.Sem
open scoped BigOperators
namespace Cert.Proof.Loss

/-- One half, over 1024, times two, is one over 1024. -/
theorem scale_eq (x : EReal) :
    Ideal.div (Ideal.ofBits .f32 0x3F000000#32 * Ideal.ofBits .f32 0x3F800000#32) (Ideal.ofBits .f32 0x44800000#32)
      * (Ideal.ofBits .f32 0x40000000#32 * x) = x * Ideal.ofBits .f32 0x3A800000#32 := by
  rw [← mul_assoc, mul_comm x]
  congr 1
  have e1 : Ideal.ofBits .f32 0x3F000000#32 = ((1 / 2 : ℝ) : EReal) := by
    simp [Ideal.ofBits, Ideal.ieee, -EReal.coe_mul]; norm_num
  have e2 : Ideal.ofBits .f32 0x3F800000#32 = ((1 : ℝ) : EReal) := by
    simp [Ideal.ofBits, Ideal.ieee, -EReal.coe_mul]; try norm_num
  have e3 : Ideal.ofBits .f32 0x44800000#32 = ((1024 : ℝ) : EReal) := by
    simp [Ideal.ofBits, Ideal.ieee, -EReal.coe_mul]; try norm_num
  have e4 : Ideal.ofBits .f32 0x40000000#32 = ((2 : ℝ) : EReal) := by
    simp [Ideal.ofBits, Ideal.ieee, -EReal.coe_mul]; try norm_num
  have e5 : Ideal.ofBits .f32 0x3A800000#32 = ((1 / 1024 : ℝ) : EReal) := by
    simp [Ideal.ofBits, Ideal.ieee, -EReal.coe_mul]; try norm_num
  rw [e1, e2, e3, e4, e5, ← EReal.coe_mul, Ideal.div_coe (y := 1024) (by norm_num), ← EReal.coe_mul, ← EReal.coe_mul]
  exact congrArg _ (by norm_num)

section
open Cert.LossRefIdeal Cert.LossRefIdeal.Gen Cert.LossRefIdeal.Value Idealize.ShloMosaic.StableHlo

/-- The reference's gradient. -/
theorem ref_dy (h : FVec Ideal S8320x1024 .f32) (y : FVec Ideal S8192x1024 .f32) :
    (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (extractStridedSlice S8192x1024 ![128, 0] h slices_S8320x1024_S8192x1024_128_0) y)) : FVec Ideal S8192x1024 .f32)
      = dy h y := by
  funext i
  idx_vars i
  refine Eq.trans ?_ (scale_eq (err h y i0 i1))
  pointwise [err, late]

/-- The reference's sum of squares. -/
theorem ref_sq (h : FVec Ideal S8320x1024 .f32) (y : FVec Ideal S8192x1024 .f32) :
    (shapeCast S1x1 (Host.reduceAdd (mulf (subf (extractStridedSlice S8192x1024 ![128, 0] h slices_S8320x1024_S8192x1024_128_0) y) (subf (extractStridedSlice S8192x1024 ![128, 0] h slices_S8320x1024_S8192x1024_128_0) y)) (constant S_ .f32 0x00000000#32) reducesTo_S8192x1024_S_d0_1 h_S_) shapeCasts_S_S1x1 : FVec Ideal S1x1 .f32)
      = sq h y := by
  funext i
  pointwise! [sq, err, late]
end

theorem frame_p : Cert.quiescent_Loss := fun m ρ _ => Cert.Loss.Gen.frame m ρ
theorem frame_pi : Cert.quiescent_LossIdeal := fun m ρ _ => Cert.LossIdeal.Gen.frame m ρ
theorem frame_ri : Cert.quiescent_LossRefIdeal := fun m ρ _ =>
  (θ_run Cert.LossRefIdeal.defs _ _).mono (fun r h => ⟨fun c => (h c).2.2,
      Idealize.ShloMosaic.sem_eq_zero_of_no_sems (by decide) r.2⟩)
    (Cert.LossRefIdeal.Value.run (F := Ideal) m ρ)

theorem algebraic : Cert.algebraic_LossIdeal_LossRefIdeal := by
  intro m ρ m' ρ' _ hag
  refine ⟨fun c => sq (hh m c) (yy m c), fun c => dy (hh m c) (yy m c), ?_, ?_⟩
  · refine (θ_run Cert.LossIdeal.defs _ _).mono (fun r h c => ?_) (Cert.LossIdeal.Value.run_blocks (F := Ideal) m ρ)
    obtain ⟨g2, g3, g⟩ := h c
    exact ⟨g2.trans (final_2 m c), g3.trans (final_3 m c), g⟩
  · refine (θ_run Cert.LossRefIdeal.defs _ _).mono (fun r h c => ?_) (Cert.LossRefIdeal.Value.run (F := Ideal) m' ρ')
    obtain ⟨h0, h1⟩ := hag c
    obtain ⟨g0, g1, g⟩ := h c
    refine ⟨g0.trans ((ref_sq _ _).trans ?_), g1.trans ((ref_dy _ _).trans ?_), g⟩
    · rw [h0, h1]
    · rw [h0, h1]

end Cert.Proof.Loss
-- ==== Proof.lean ====
/- The claims: each of the programs runs to its end without fault, leaves its arguments and its counters as they
   were, and each kernel and its reference give the same results over the extended reals. -/
module

public import proofs.«01_k».proof.Proof.GateClaim
public import proofs.«01_k».proof.Proof.Gen.GateIdeal.Value
public import proofs.«01_k».proof.Proof.Gen.GateRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.PlainClaim
public import proofs.«01_k».proof.Proof.Gen.PlainIdeal.Value
public import proofs.«01_k».proof.Proof.Gen.PlainRefIdeal.Run
public import proofs.«01_k».proof.Proof.Gen.Plain
public import proofs.«01_k».proof.Proof.Gen.Plain.Frame
public import proofs.«01_k».proof.Proof.Gen.PlainIdeal
public import proofs.«01_k».proof.Proof.Gen.PlainIdeal.Frame
public import proofs.«01_k».proof.Proof.Gen.PlainRefIdeal
public import proofs.«01_k».proof.Proof.AttnClaim
public import proofs.«01_k».proof.Proof.Gen.AttnIdeal.Value
public import proofs.«01_k».proof.Proof.Gen.AttnRefIdeal.Run
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.HgrnClaim
public import proofs.«01_k».proof.Proof.Gen.HgrnIdeal.Value
public import proofs.«01_k».proof.Proof.Gen.HgrnRefIdeal.Run
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnRefIdeal
public import proofs.«01_k».proof.Proof.OutClaim
public import proofs.«01_k».proof.Proof.Gen.OutIdeal.Value
public import proofs.«01_k».proof.Proof.Gen.OutRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.GateFClaim
public import proofs.«01_k».proof.Proof.Gen.GateFIdeal.Value
public import proofs.«01_k».proof.Proof.Gen.GateFRefIdeal.Run
public import proofs.«01_k».proof.Proof.Gen.GateF
public import proofs.«01_k».proof.Proof.Gen.GateF.Frame
public import proofs.«01_k».proof.Proof.Gen.GateFIdeal
public import proofs.«01_k».proof.Proof.Gen.GateFIdeal.Frame
public import proofs.«01_k».proof.Proof.Gen.GateFRefIdeal
public import proofs.«01_k».proof.Proof.PlainFClaim
public import proofs.«01_k».proof.Proof.Gen.PlainFIdeal.Value
public import proofs.«01_k».proof.Proof.Gen.PlainFRefIdeal.Run
public import proofs.«01_k».proof.Proof.Gen.PlainF
public import proofs.«01_k».proof.Proof.Gen.PlainF.Frame
public import proofs.«01_k».proof.Proof.Gen.PlainFIdeal
public import proofs.«01_k».proof.Proof.Gen.PlainFIdeal.Frame
public import proofs.«01_k».proof.Proof.Gen.PlainFRefIdeal
public import proofs.«01_k».proof.Proof.AttnFClaim
public import proofs.«01_k».proof.Proof.Gen.AttnFIdeal.Value
public import proofs.«01_k».proof.Proof.Gen.AttnFRefIdeal.Run
public import proofs.«01_k».proof.Proof.Gen.AttnF
public import proofs.«01_k».proof.Proof.Gen.AttnF.Frame
public import proofs.«01_k».proof.Proof.Gen.AttnFIdeal
public import proofs.«01_k».proof.Proof.Gen.AttnFIdeal.Frame
public import proofs.«01_k».proof.Proof.Gen.AttnFRefIdeal
public import proofs.«01_k».proof.Proof.HgrnFClaim
public import proofs.«01_k».proof.Proof.Gen.HgrnFIdeal.Value
public import proofs.«01_k».proof.Proof.Gen.HgrnFRefIdeal.Run
public import proofs.«01_k».proof.Proof.Gen.HgrnF
public import proofs.«01_k».proof.Proof.Gen.HgrnF.Frame
public import proofs.«01_k».proof.Proof.Gen.HgrnFIdeal
public import proofs.«01_k».proof.Proof.Gen.HgrnFIdeal.Frame
public import proofs.«01_k».proof.Proof.Gen.HgrnFRefIdeal
public import proofs.«01_k».proof.Proof.OutFClaim
public import proofs.«01_k».proof.Proof.Gen.OutFIdeal.Value
public import proofs.«01_k».proof.Proof.Gen.OutFRefIdeal.Run
public import proofs.«01_k».proof.Proof.Gen.OutF
public import proofs.«01_k».proof.Proof.Gen.OutF.Frame
public import proofs.«01_k».proof.Proof.Gen.OutFIdeal
public import proofs.«01_k».proof.Proof.Gen.OutFIdeal.Frame
public import proofs.«01_k».proof.Proof.Gen.OutFRefIdeal
public import proofs.«01_k».proof.Proof.GdnFClaim
public import proofs.«01_k».proof.Proof.Gen.GdnFIdeal.Value
public import proofs.«01_k».proof.Proof.Gen.GdnFRefIdeal.Run
public import proofs.«01_k».proof.Proof.Gen.GdnF
public import proofs.«01_k».proof.Proof.Gen.GdnF.Frame
public import proofs.«01_k».proof.Proof.Gen.GdnFIdeal
public import proofs.«01_k».proof.Proof.Gen.GdnFIdeal.Frame
public import proofs.«01_k».proof.Proof.Gen.GdnFRefIdeal
public import proofs.«01_k».proof.Proof.AdamInClaim
public import proofs.«01_k».proof.Proof.Gen.AdamInIdeal.Value
public import proofs.«01_k».proof.Proof.Gen.AdamInRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.AdamBranchClaim
public import proofs.«01_k».proof.Proof.Gen.AdamBranchIdeal.Value
public import proofs.«01_k».proof.Proof.Gen.AdamBranchRefIdeal.Run
public import proofs.«01_k».proof.Proof.Gen.AdamBranch
public import proofs.«01_k».proof.Proof.Gen.AdamBranch.Frame
public import proofs.«01_k».proof.Proof.Gen.AdamBranchIdeal
public import proofs.«01_k».proof.Proof.Gen.AdamBranchIdeal.Frame
public import proofs.«01_k».proof.Proof.Gen.AdamBranchRefIdeal
public import proofs.«01_k».proof.Proof.AdamOutClaim
public import proofs.«01_k».proof.Proof.Gen.AdamOutIdeal.Value
public import proofs.«01_k».proof.Proof.Gen.AdamOutRefIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.AdamConvClaim
public import proofs.«01_k».proof.Proof.Gen.AdamConvIdeal.Value
public import proofs.«01_k».proof.Proof.Gen.AdamConvRefIdeal.Run
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvRefIdeal
public import proofs.«01_k».proof.Proof.AdamMetaClaim
public import proofs.«01_k».proof.Proof.Gen.AdamMetaIdeal.Value
public import proofs.«01_k».proof.Proof.Gen.AdamMetaRefIdeal.Run
public import proofs.«01_k».proof.Proof.Gen.AdamMeta
public import proofs.«01_k».proof.Proof.Gen.AdamMeta.Frame
public import proofs.«01_k».proof.Proof.Gen.AdamMetaIdeal
public import proofs.«01_k».proof.Proof.Gen.AdamMetaIdeal.Frame
public import proofs.«01_k».proof.Proof.Gen.AdamMetaRefIdeal
public import proofs.«01_k».proof.Proof.AdamSmallClaim
public import proofs.«01_k».proof.Proof.Gen.AdamSmallIdeal.Value
public import proofs.«01_k».proof.Proof.Gen.AdamSmallRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.LossClaim
public import proofs.«01_k».proof.Proof.Gen.LossIdeal.Value
public import proofs.«01_k».proof.Proof.Gen.LossRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Defs

@[expose] public section

noncomputable section

namespace Cert.Proof

theorem claim : Cert.Claim :=
  ⟨Cert.Gate.Gen.facts, Cert.GateIdeal.Gen.facts, Cert.GateRefIdeal.Gen.facts,
    Cert.Plain.Gen.facts, Cert.PlainIdeal.Gen.facts, Cert.PlainRefIdeal.Gen.facts,
    Cert.Attn.Gen.facts, Cert.AttnIdeal.Gen.facts, Cert.AttnRefIdeal.Gen.facts,
    Cert.Hgrn.Gen.facts, Cert.HgrnIdeal.Gen.facts, Cert.HgrnRefIdeal.Gen.facts,
    Cert.Out.Gen.facts, Cert.OutIdeal.Gen.facts, Cert.OutRefIdeal.Gen.facts,
    Cert.GateF.Gen.facts, Cert.GateFIdeal.Gen.facts, Cert.GateFRefIdeal.Gen.facts,
    Cert.PlainF.Gen.facts, Cert.PlainFIdeal.Gen.facts, Cert.PlainFRefIdeal.Gen.facts,
    Cert.AttnF.Gen.facts, Cert.AttnFIdeal.Gen.facts, Cert.AttnFRefIdeal.Gen.facts,
    Cert.HgrnF.Gen.facts, Cert.HgrnFIdeal.Gen.facts, Cert.HgrnFRefIdeal.Gen.facts,
    Cert.OutF.Gen.facts, Cert.OutFIdeal.Gen.facts, Cert.OutFRefIdeal.Gen.facts,
    Cert.GdnF.Gen.facts, Cert.GdnFIdeal.Gen.facts, Cert.GdnFRefIdeal.Gen.facts,
    Cert.AdamIn.Gen.facts, Cert.AdamInIdeal.Gen.facts, Cert.AdamInRefIdeal.Gen.facts,
    Cert.AdamBranch.Gen.facts, Cert.AdamBranchIdeal.Gen.facts, Cert.AdamBranchRefIdeal.Gen.facts,
    Cert.AdamOut.Gen.facts, Cert.AdamOutIdeal.Gen.facts, Cert.AdamOutRefIdeal.Gen.facts,
    Cert.AdamConv.Gen.facts, Cert.AdamConvIdeal.Gen.facts, Cert.AdamConvRefIdeal.Gen.facts,
    Cert.AdamMeta.Gen.facts, Cert.AdamMetaIdeal.Gen.facts, Cert.AdamMetaRefIdeal.Gen.facts,
    Cert.AdamSmall.Gen.facts, Cert.AdamSmallIdeal.Gen.facts, Cert.AdamSmallRefIdeal.Gen.facts,
    Cert.Loss.Gen.facts, Cert.LossIdeal.Gen.facts, Cert.LossRefIdeal.Gen.facts,
    Gate.frame_p, Gate.frame_pi, Gate.frame_ri,
    Plain.frame_p, Plain.frame_pi, Plain.frame_ri,
    Attn.frame_p, Attn.frame_pi, Attn.frame_ri,
    Hgrn.frame_p, Hgrn.frame_pi, Hgrn.frame_ri,
    Out.frame_p, Out.frame_pi, Out.frame_ri,
    GateF.frame_p, GateF.frame_pi, GateF.frame_ri,
    PlainF.frame_p, PlainF.frame_pi, PlainF.frame_ri,
    AttnF.frame_p, AttnF.frame_pi, AttnF.frame_ri,
    HgrnF.frame_p, HgrnF.frame_pi, HgrnF.frame_ri,
    OutF.frame_p, OutF.frame_pi, OutF.frame_ri,
    GdnF.frame_p, GdnF.frame_pi, GdnF.frame_ri,
    AdamIn.frame_p, AdamIn.frame_pi, AdamIn.frame_ri,
    AdamBranch.frame_p, AdamBranch.frame_pi, AdamBranch.frame_ri,
    AdamOut.frame_p, AdamOut.frame_pi, AdamOut.frame_ri,
    AdamConv.frame_p, AdamConv.frame_pi, AdamConv.frame_ri,
    AdamMeta.frame_p, AdamMeta.frame_pi, AdamMeta.frame_ri,
    AdamSmall.frame_p, AdamSmall.frame_pi, AdamSmall.frame_ri,
    Loss.frame_p, Loss.frame_pi, Loss.frame_ri,
    trivial, Gate.algebraic, trivial, Plain.algebraic, trivial, Attn.algebraic, trivial, Hgrn.algebraic, trivial, Out.algebraic, trivial, GateF.algebraic, trivial, PlainF.algebraic, trivial, AttnF.algebraic, trivial, HgrnF.algebraic, trivial, OutF.algebraic, trivial, GdnF.algebraic, trivial, AdamIn.algebraic, trivial, AdamBranch.algebraic, trivial, AdamOut.algebraic, trivial, AdamConv.algebraic, trivial, AdamMeta.algebraic, trivial, AdamSmall.algebraic, trivial, Loss.algebraic⟩

end Cert.Proof

end
